-- ==== Defs.lean ====
def Pre_Attn (m : (ℓ : Loc Cert.Attn.nD Cert.Attn.τ Cert.Attn.sig) → Buf (Elt Bits) ℓ) : Prop :=
  True

def Pre_AttnIdeal (m : (ℓ : Loc Cert.AttnIdeal.nD Cert.AttnIdeal.τ Cert.AttnIdeal.sig) → Buf (Elt Ideal) ℓ) : Prop :=
  True

def Pre_AttnIdeal_scores_finite [hPre_scores_finite : Cert.Pre_scores_finite.Facts] (m : (ℓ : Loc Cert.AttnIdeal.nD Cert.AttnIdeal.τ Cert.AttnIdeal.sig) → Buf (Elt Ideal) ℓ) : Prop :=
  ∀ c : Dev Cert.AttnIdeal.nD,
    (Cert.Pre_scores_finite.fn (F := Ideal) (m ((c.tc : Thread Cert.AttnIdeal.nD Cert.AttnIdeal.τ).loc Cert.AttnIdeal.main_arg0)) (m ((c.tc : Thread Cert.AttnIdeal.nD Cert.AttnIdeal.τ).loc Cert.AttnIdeal.main_arg1)) (m ((c.tc : Thread Cert.AttnIdeal.nD Cert.AttnIdeal.τ).loc Cert.AttnIdeal.main_arg2)) (m ((c.tc : Thread Cert.AttnIdeal.nD Cert.AttnIdeal.τ).loc Cert.AttnIdeal.main_arg3)) (m ((c.tc : Thread Cert.AttnIdeal.nD Cert.AttnIdeal.τ).loc Cert.AttnIdeal.main_arg4)) (m ((c.tc : Thread Cert.AttnIdeal.nD Cert.AttnIdeal.τ).loc Cert.AttnIdeal.main_arg5))).1 = (fun _ => 1#1)
    ∧ (Cert.Pre_scores_finite.fn (F := Ideal) (m ((c.tc : Thread Cert.AttnIdeal.nD Cert.AttnIdeal.τ).loc Cert.AttnIdeal.main_arg0)) (m ((c.tc : Thread Cert.AttnIdeal.nD Cert.AttnIdeal.τ).loc Cert.AttnIdeal.main_arg1)) (m ((c.tc : Thread Cert.AttnIdeal.nD Cert.AttnIdeal.τ).loc Cert.AttnIdeal.main_arg2)) (m ((c.tc : Thread Cert.AttnIdeal.nD Cert.AttnIdeal.τ).loc Cert.AttnIdeal.main_arg3)) (m ((c.tc : Thread Cert.AttnIdeal.nD Cert.AttnIdeal.τ).loc Cert.AttnIdeal.main_arg4)) (m ((c.tc : Thread Cert.AttnIdeal.nD Cert.AttnIdeal.τ).loc Cert.AttnIdeal.main_arg5))).2.1 = (fun _ => 1#1)
    ∧ (Cert.Pre_scores_finite.fn (F := Ideal) (m ((c.tc : Thread Cert.AttnIdeal.nD Cert.AttnIdeal.τ).loc Cert.AttnIdeal.main_arg0)) (m ((c.tc : Thread Cert.AttnIdeal.nD Cert.AttnIdeal.τ).loc Cert.AttnIdeal.main_arg1)) (m ((c.tc : Thread Cert.AttnIdeal.nD Cert.AttnIdeal.τ).loc Cert.AttnIdeal.main_arg2)) (m ((c.tc : Thread Cert.AttnIdeal.nD Cert.AttnIdeal.τ).loc Cert.AttnIdeal.main_arg3)) (m ((c.tc : Thread Cert.AttnIdeal.nD Cert.AttnIdeal.τ).loc Cert.AttnIdeal.main_arg4)) (m ((c.tc : Thread Cert.AttnIdeal.nD Cert.AttnIdeal.τ).loc Cert.AttnIdeal.main_arg5))).2.2.1 = (fun _ => 1#1)
    ∧ (Cert.Pre_scores_finite.fn (F := Ideal) (m ((c.tc : Thread Cert.AttnIdeal.nD Cert.AttnIdeal.τ).loc Cert.AttnIdeal.main_arg0)) (m ((c.tc : Thread Cert.AttnIdeal.nD Cert.AttnIdeal.τ).loc Cert.AttnIdeal.main_arg1)) (m ((c.tc : Thread Cert.AttnIdeal.nD Cert.AttnIdeal.τ).loc Cert.AttnIdeal.main_arg2)) (m ((c.tc : Thread Cert.AttnIdeal.nD Cert.AttnIdeal.τ).loc Cert.AttnIdeal.main_arg3)) (m ((c.tc : Thread Cert.AttnIdeal.nD Cert.AttnIdeal.τ).loc Cert.AttnIdeal.main_arg4)) (m ((c.tc : Thread Cert.AttnIdeal.nD Cert.AttnIdeal.τ).loc Cert.AttnIdeal.main_arg5))).2.2.2 = (fun _ => 1#1)

def Pre_AttnRefIdeal (m : (ℓ : Loc Cert.AttnRefIdeal.nD Cert.AttnRefIdeal.τ Cert.AttnRefIdeal.sig) → Buf (Elt Ideal) ℓ) : Prop :=
  True

def Pre_AttnRefIdeal_scores_finite [hPre_scores_finite : Cert.Pre_scores_finite.Facts] (m : (ℓ : Loc Cert.AttnRefIdeal.nD Cert.AttnRefIdeal.τ Cert.AttnRefIdeal.sig) → Buf (Elt Ideal) ℓ) : Prop :=
  ∀ c : Dev Cert.AttnRefIdeal.nD,
    (Cert.Pre_scores_finite.fn (F := Ideal) (m ((c.tc : Thread Cert.AttnRefIdeal.nD Cert.AttnRefIdeal.τ).loc Cert.AttnRefIdeal.main_arg0)) (m ((c.tc : Thread Cert.AttnRefIdeal.nD Cert.AttnRefIdeal.τ).loc Cert.AttnRefIdeal.main_arg1)) (m ((c.tc : Thread Cert.AttnRefIdeal.nD Cert.AttnRefIdeal.τ).loc Cert.AttnRefIdeal.main_arg2)) (m ((c.tc : Thread Cert.AttnRefIdeal.nD Cert.AttnRefIdeal.τ).loc Cert.AttnRefIdeal.main_arg3)) (m ((c.tc : Thread Cert.AttnRefIdeal.nD Cert.AttnRefIdeal.τ).loc Cert.AttnRefIdeal.main_arg4)) (m ((c.tc : Thread Cert.AttnRefIdeal.nD Cert.AttnRefIdeal.τ).loc Cert.AttnRefIdeal.main_arg5))).1 = (fun _ => 1#1)
    ∧ (Cert.Pre_scores_finite.fn (F := Ideal) (m ((c.tc : Thread Cert.AttnRefIdeal.nD Cert.AttnRefIdeal.τ).loc Cert.AttnRefIdeal.main_arg0)) (m ((c.tc : Thread Cert.AttnRefIdeal.nD Cert.AttnRefIdeal.τ).loc Cert.AttnRefIdeal.main_arg1)) (m ((c.tc : Thread Cert.AttnRefIdeal.nD Cert.AttnRefIdeal.τ).loc Cert.AttnRefIdeal.main_arg2)) (m ((c.tc : Thread Cert.AttnRefIdeal.nD Cert.AttnRefIdeal.τ).loc Cert.AttnRefIdeal.main_arg3)) (m ((c.tc : Thread Cert.AttnRefIdeal.nD Cert.AttnRefIdeal.τ).loc Cert.AttnRefIdeal.main_arg4)) (m ((c.tc : Thread Cert.AttnRefIdeal.nD Cert.AttnRefIdeal.τ).loc Cert.AttnRefIdeal.main_arg5))).2.1 = (fun _ => 1#1)
    ∧ (Cert.Pre_scores_finite.fn (F := Ideal) (m ((c.tc : Thread Cert.AttnRefIdeal.nD Cert.AttnRefIdeal.τ).loc Cert.AttnRefIdeal.main_arg0)) (m ((c.tc : Thread Cert.AttnRefIdeal.nD Cert.AttnRefIdeal.τ).loc Cert.AttnRefIdeal.main_arg1)) (m ((c.tc : Thread Cert.AttnRefIdeal.nD Cert.AttnRefIdeal.τ).loc Cert.AttnRefIdeal.main_arg2)) (m ((c.tc : Thread Cert.AttnRefIdeal.nD Cert.AttnRefIdeal.τ).loc Cert.AttnRefIdeal.main_arg3)) (m ((c.tc : Thread Cert.AttnRefIdeal.nD Cert.AttnRefIdeal.τ).loc Cert.AttnRefIdeal.main_arg4)) (m ((c.tc : Thread Cert.AttnRefIdeal.nD Cert.AttnRefIdeal.τ).loc Cert.AttnRefIdeal.main_arg5))).2.2.1 = (fun _ => 1#1)
    ∧ (Cert.Pre_scores_finite.fn (F := Ideal) (m ((c.tc : Thread Cert.AttnRefIdeal.nD Cert.AttnRefIdeal.τ).loc Cert.AttnRefIdeal.main_arg0)) (m ((c.tc : Thread Cert.AttnRefIdeal.nD Cert.AttnRefIdeal.τ).loc Cert.AttnRefIdeal.main_arg1)) (m ((c.tc : Thread Cert.AttnRefIdeal.nD Cert.AttnRefIdeal.τ).loc Cert.AttnRefIdeal.main_arg2)) (m ((c.tc : Thread Cert.AttnRefIdeal.nD Cert.AttnRefIdeal.τ).loc Cert.AttnRefIdeal.main_arg3)) (m ((c.tc : Thread Cert.AttnRefIdeal.nD Cert.AttnRefIdeal.τ).loc Cert.AttnRefIdeal.main_arg4)) (m ((c.tc : Thread Cert.AttnRefIdeal.nD Cert.AttnRefIdeal.τ).loc Cert.AttnRefIdeal.main_arg5))).2.2.2 = (fun _ => 1#1)

def Pre_In (m : (ℓ : Loc Cert.In.nD Cert.In.τ Cert.In.sig) → Buf (Elt Bits) ℓ) : Prop :=
  True

def Pre_InIdeal (m : (ℓ : Loc Cert.InIdeal.nD Cert.InIdeal.τ Cert.InIdeal.sig) → Buf (Elt Ideal) ℓ) : Prop :=
  True

def Pre_InRefIdeal (m : (ℓ : Loc Cert.InRefIdeal.nD Cert.InRefIdeal.τ Cert.InRefIdeal.sig) → Buf (Elt Ideal) ℓ) : Prop :=
  True

def Pre_Out (m : (ℓ : Loc Cert.Out.nD Cert.Out.τ Cert.Out.sig) → Buf (Elt Bits) ℓ) : Prop :=
  True

def Pre_OutIdeal (m : (ℓ : Loc Cert.OutIdeal.nD Cert.OutIdeal.τ Cert.OutIdeal.sig) → Buf (Elt Ideal) ℓ) : Prop :=
  True

def Pre_OutRefIdeal (m : (ℓ : Loc Cert.OutRefIdeal.nD Cert.OutRefIdeal.τ Cert.OutRefIdeal.sig) → Buf (Elt Ideal) ℓ) : Prop :=
  True

def Pre_Peer (m : (ℓ : Loc Cert.Peer.nD Cert.Peer.τ Cert.Peer.sig) → Buf (Elt Bits) ℓ) : Prop :=
  True

def Pre_PeerIdeal (m : (ℓ : Loc Cert.PeerIdeal.nD Cert.PeerIdeal.τ Cert.PeerIdeal.sig) → Buf (Elt Ideal) ℓ) : Prop :=
  True

def Pre_PeerIdeal_sums_differ [hPre_sums_differ : Cert.Pre_sums_differ.Facts] (m : (ℓ : Loc Cert.PeerIdeal.nD Cert.PeerIdeal.τ Cert.PeerIdeal.sig) → Buf (Elt Ideal) ℓ) : Prop :=
  ∀ c : Dev Cert.PeerIdeal.nD,
    (Cert.Pre_sums_differ.fn (F := Ideal) (m ((c.tc : Thread Cert.PeerIdeal.nD Cert.PeerIdeal.τ).loc Cert.PeerIdeal.main_arg0)) (m ((c.tc : Thread Cert.PeerIdeal.nD Cert.PeerIdeal.τ).loc Cert.PeerIdeal.main_arg1)) (m ((c.tc : Thread Cert.PeerIdeal.nD Cert.PeerIdeal.τ).loc Cert.PeerIdeal.main_arg2))) = (fun _ => 1#1)

def Pre_PeerRefIdeal (m : (ℓ : Loc Cert.PeerRefIdeal.nD Cert.PeerRefIdeal.τ Cert.PeerRefIdeal.sig) → Buf (Elt Ideal) ℓ) : Prop :=
  True

def Pre_PeerRefIdeal_sums_differ [hPre_sums_differ : Cert.Pre_sums_differ.Facts] (m : (ℓ : Loc Cert.PeerRefIdeal.nD Cert.PeerRefIdeal.τ Cert.PeerRefIdeal.sig) → Buf (Elt Ideal) ℓ) : Prop :=
  ∀ c : Dev Cert.PeerRefIdeal.nD,
    (Cert.Pre_sums_differ.fn (F := Ideal) (m ((c.tc : Thread Cert.PeerRefIdeal.nD Cert.PeerRefIdeal.τ).loc Cert.PeerRefIdeal.main_arg0)) (m ((c.tc : Thread Cert.PeerRefIdeal.nD Cert.PeerRefIdeal.τ).loc Cert.PeerRefIdeal.main_arg1)) (m ((c.tc : Thread Cert.PeerRefIdeal.nD Cert.PeerRefIdeal.τ).loc Cert.PeerRefIdeal.main_arg2))) = (fun _ => 1#1)

def Pre_Four (m : (ℓ : Loc Cert.Four.nD Cert.Four.τ Cert.Four.sig) → Buf (Elt Bits) ℓ) : Prop :=
  True

def Pre_FourIdeal (m : (ℓ : Loc Cert.FourIdeal.nD Cert.FourIdeal.τ Cert.FourIdeal.sig) → Buf (Elt Ideal) ℓ) : Prop :=
  True

def Pre_FourRefIdeal (m : (ℓ : Loc Cert.FourRefIdeal.nD Cert.FourRefIdeal.τ Cert.FourRefIdeal.sig) → Buf (Elt Ideal) ℓ) : Prop :=
  True

def quiescent_Attn [hAttn : Cert.Attn.Facts] : Prop :=
  ∀ (m : (ℓ : Loc Cert.Attn.nD Cert.Attn.τ Cert.Attn.sig) → Buf (Elt Bits) ℓ) (g : Dev Cert.Attn.nD → PrngReg), Pre_Attn m →
    θ_run (Cert.Attn.defs (F := Bits)) (onTc (τ := Cert.Attn.τ) (Cert.Attn.main (F := Bits))) ⟨m, fun _ => 0, g⟩ (fun r => (∀ c : Dev Cert.Attn.nD,
      r.2.mem ((c.tc : Thread Cert.Attn.nD Cert.Attn.τ).loc Cert.Attn.main_arg0) = m ((c.tc : Thread Cert.Attn.nD Cert.Attn.τ).loc Cert.Attn.main_arg0)
      ∧ r.2.mem ((c.tc : Thread Cert.Attn.nD Cert.Attn.τ).loc Cert.Attn.main_arg1) = m ((c.tc : Thread Cert.Attn.nD Cert.Attn.τ).loc Cert.Attn.main_arg1)
      ∧ r.2.mem ((c.tc : Thread Cert.Attn.nD Cert.Attn.τ).loc Cert.Attn.main_arg2) = m ((c.tc : Thread Cert.Attn.nD Cert.Attn.τ).loc Cert.Attn.main_arg2)
      ∧ r.2.mem ((c.tc : Thread Cert.Attn.nD Cert.Attn.τ).loc Cert.Attn.main_arg3) = m ((c.tc : Thread Cert.Attn.nD Cert.Attn.τ).loc Cert.Attn.main_arg3)
      ∧ r.2.mem ((c.tc : Thread Cert.Attn.nD Cert.Attn.τ).loc Cert.Attn.main_arg4) = m ((c.tc : Thread Cert.Attn.nD Cert.Attn.τ).loc Cert.Attn.main_arg4)
      ∧ r.2.mem ((c.tc : Thread Cert.Attn.nD Cert.Attn.τ).loc Cert.Attn.main_arg5) = m ((c.tc : Thread Cert.Attn.nD Cert.Attn.τ).loc Cert.Attn.main_arg5))
      ∧ r.2.sem = fun _ => 0)

def quiescent_AttnIdeal [hAttnIdeal : Cert.AttnIdeal.Facts] : Prop :=
  ∀ (m : (ℓ : Loc Cert.AttnIdeal.nD Cert.AttnIdeal.τ Cert.AttnIdeal.sig) → Buf (Elt Ideal) ℓ) (g : Dev Cert.AttnIdeal.nD → PrngReg), Pre_AttnIdeal m →
    θ_run (Cert.AttnIdeal.defs (F := Ideal)) (onTc (τ := Cert.AttnIdeal.τ) (Cert.AttnIdeal.main (F := Ideal))) ⟨m, fun _ => 0, g⟩ (fun r => (∀ c : Dev Cert.AttnIdeal.nD,
      r.2.mem ((c.tc : Thread Cert.AttnIdeal.nD Cert.AttnIdeal.τ).loc Cert.AttnIdeal.main_arg0) = m ((c.tc : Thread Cert.AttnIdeal.nD Cert.AttnIdeal.τ).loc Cert.AttnIdeal.main_arg0)
      ∧ r.2.mem ((c.tc : Thread Cert.AttnIdeal.nD Cert.AttnIdeal.τ).loc Cert.AttnIdeal.main_arg1) = m ((c.tc : Thread Cert.AttnIdeal.nD Cert.AttnIdeal.τ).loc Cert.AttnIdeal.main_arg1)
      ∧ r.2.mem ((c.tc : Thread Cert.AttnIdeal.nD Cert.AttnIdeal.τ).loc Cert.AttnIdeal.main_arg2) = m ((c.tc : Thread Cert.AttnIdeal.nD Cert.AttnIdeal.τ).loc Cert.AttnIdeal.main_arg2)
      ∧ r.2.mem ((c.tc : Thread Cert.AttnIdeal.nD Cert.AttnIdeal.τ).loc Cert.AttnIdeal.main_arg3) = m ((c.tc : Thread Cert.AttnIdeal.nD Cert.AttnIdeal.τ).loc Cert.AttnIdeal.main_arg3)
      ∧ r.2.mem ((c.tc : Thread Cert.AttnIdeal.nD Cert.AttnIdeal.τ).loc Cert.AttnIdeal.main_arg4) = m ((c.tc : Thread Cert.AttnIdeal.nD Cert.AttnIdeal.τ).loc Cert.AttnIdeal.main_arg4)
      ∧ r.2.mem ((c.tc : Thread Cert.AttnIdeal.nD Cert.AttnIdeal.τ).loc Cert.AttnIdeal.main_arg5) = m ((c.tc : Thread Cert.AttnIdeal.nD Cert.AttnIdeal.τ).loc Cert.AttnIdeal.main_arg5))
      ∧ r.2.sem = fun _ => 0)

def quiescent_AttnIdeal_pre_scores_finite [hAttnIdeal : Cert.AttnIdeal.Facts] [hPre_scores_finite : Cert.Pre_scores_finite.Facts] : Prop :=
  ∀ (m : (ℓ : Loc Cert.AttnIdeal.nD Cert.AttnIdeal.τ Cert.AttnIdeal.sig) → Buf (Elt Ideal) ℓ) (g : Dev Cert.AttnIdeal.nD → PrngReg), Pre_AttnIdeal_scores_finite m →
    θ_run (Cert.AttnIdeal.defs (F := Ideal)) (onTc (τ := Cert.AttnIdeal.τ) (Cert.AttnIdeal.main (F := Ideal))) ⟨m, fun _ => 0, g⟩ (fun r => (∀ c : Dev Cert.AttnIdeal.nD,
      r.2.mem ((c.tc : Thread Cert.AttnIdeal.nD Cert.AttnIdeal.τ).loc Cert.AttnIdeal.main_arg0) = m ((c.tc : Thread Cert.AttnIdeal.nD Cert.AttnIdeal.τ).loc Cert.AttnIdeal.main_arg0)
      ∧ r.2.mem ((c.tc : Thread Cert.AttnIdeal.nD Cert.AttnIdeal.τ).loc Cert.AttnIdeal.main_arg1) = m ((c.tc : Thread Cert.AttnIdeal.nD Cert.AttnIdeal.τ).loc Cert.AttnIdeal.main_arg1)
      ∧ r.2.mem ((c.tc : Thread Cert.AttnIdeal.nD Cert.AttnIdeal.τ).loc Cert.AttnIdeal.main_arg2) = m ((c.tc : Thread Cert.AttnIdeal.nD Cert.AttnIdeal.τ).loc Cert.AttnIdeal.main_arg2)
      ∧ r.2.mem ((c.tc : Thread Cert.AttnIdeal.nD Cert.AttnIdeal.τ).loc Cert.AttnIdeal.main_arg3) = m ((c.tc : Thread Cert.AttnIdeal.nD Cert.AttnIdeal.τ).loc Cert.AttnIdeal.main_arg3)
      ∧ r.2.mem ((c.tc : Thread Cert.AttnIdeal.nD Cert.AttnIdeal.τ).loc Cert.AttnIdeal.main_arg4) = m ((c.tc : Thread Cert.AttnIdeal.nD Cert.AttnIdeal.τ).loc Cert.AttnIdeal.main_arg4)
      ∧ r.2.mem ((c.tc : Thread Cert.AttnIdeal.nD Cert.AttnIdeal.τ).loc Cert.AttnIdeal.main_arg5) = m ((c.tc : Thread Cert.AttnIdeal.nD Cert.AttnIdeal.τ).loc Cert.AttnIdeal.main_arg5))
      ∧ r.2.sem = fun _ => 0)

def quiescent_AttnRefIdeal [hAttnRefIdeal : Cert.AttnRefIdeal.Facts] : Prop :=
  ∀ (m : (ℓ : Loc Cert.AttnRefIdeal.nD Cert.AttnRefIdeal.τ Cert.AttnRefIdeal.sig) → Buf (Elt Ideal) ℓ) (g : Dev Cert.AttnRefIdeal.nD → PrngReg), Pre_AttnRefIdeal m →
    θ_run (Cert.AttnRefIdeal.defs (F := Ideal)) (onTc (τ := Cert.AttnRefIdeal.τ) (Cert.AttnRefIdeal.main (F := Ideal))) ⟨m, fun _ => 0, g⟩ (fun r => (∀ c : Dev Cert.AttnRefIdeal.nD,
      r.2.mem ((c.tc : Thread Cert.AttnRefIdeal.nD Cert.AttnRefIdeal.τ).loc Cert.AttnRefIdeal.main_arg0) = m ((c.tc : Thread Cert.AttnRefIdeal.nD Cert.AttnRefIdeal.τ).loc Cert.AttnRefIdeal.main_arg0)
      ∧ r.2.mem ((c.tc : Thread Cert.AttnRefIdeal.nD Cert.AttnRefIdeal.τ).loc Cert.AttnRefIdeal.main_arg1) = m ((c.tc : Thread Cert.AttnRefIdeal.nD Cert.AttnRefIdeal.τ).loc Cert.AttnRefIdeal.main_arg1)
      ∧ r.2.mem ((c.tc : Thread Cert.AttnRefIdeal.nD Cert.AttnRefIdeal.τ).loc Cert.AttnRefIdeal.main_arg2) = m ((c.tc : Thread Cert.AttnRefIdeal.nD Cert.AttnRefIdeal.τ).loc Cert.AttnRefIdeal.main_arg2)
      ∧ r.2.mem ((c.tc : Thread Cert.AttnRefIdeal.nD Cert.AttnRefIdeal.τ).loc Cert.AttnRefIdeal.main_arg3) = m ((c.tc : Thread Cert.AttnRefIdeal.nD Cert.AttnRefIdeal.τ).loc Cert.AttnRefIdeal.main_arg3)
      ∧ r.2.mem ((c.tc : Thread Cert.AttnRefIdeal.nD Cert.AttnRefIdeal.τ).loc Cert.AttnRefIdeal.main_arg4) = m ((c.tc : Thread Cert.AttnRefIdeal.nD Cert.AttnRefIdeal.τ).loc Cert.AttnRefIdeal.main_arg4)
      ∧ r.2.mem ((c.tc : Thread Cert.AttnRefIdeal.nD Cert.AttnRefIdeal.τ).loc Cert.AttnRefIdeal.main_arg5) = m ((c.tc : Thread Cert.AttnRefIdeal.nD Cert.AttnRefIdeal.τ).loc Cert.AttnRefIdeal.main_arg5))
      ∧ r.2.sem = fun _ => 0)

def quiescent_AttnRefIdeal_pre_scores_finite [hAttnRefIdeal : Cert.AttnRefIdeal.Facts] [hPre_scores_finite : Cert.Pre_scores_finite.Facts] : Prop :=
  ∀ (m : (ℓ : Loc Cert.AttnRefIdeal.nD Cert.AttnRefIdeal.τ Cert.AttnRefIdeal.sig) → Buf (Elt Ideal) ℓ) (g : Dev Cert.AttnRefIdeal.nD → PrngReg), Pre_AttnRefIdeal_scores_finite m →
    θ_run (Cert.AttnRefIdeal.defs (F := Ideal)) (onTc (τ := Cert.AttnRefIdeal.τ) (Cert.AttnRefIdeal.main (F := Ideal))) ⟨m, fun _ => 0, g⟩ (fun r => (∀ c : Dev Cert.AttnRefIdeal.nD,
      r.2.mem ((c.tc : Thread Cert.AttnRefIdeal.nD Cert.AttnRefIdeal.τ).loc Cert.AttnRefIdeal.main_arg0) = m ((c.tc : Thread Cert.AttnRefIdeal.nD Cert.AttnRefIdeal.τ).loc Cert.AttnRefIdeal.main_arg0)
      ∧ r.2.mem ((c.tc : Thread Cert.AttnRefIdeal.nD Cert.AttnRefIdeal.τ).loc Cert.AttnRefIdeal.main_arg1) = m ((c.tc : Thread Cert.AttnRefIdeal.nD Cert.AttnRefIdeal.τ).loc Cert.AttnRefIdeal.main_arg1)
      ∧ r.2.mem ((c.tc : Thread Cert.AttnRefIdeal.nD Cert.AttnRefIdeal.τ).loc Cert.AttnRefIdeal.main_arg2) = m ((c.tc : Thread Cert.AttnRefIdeal.nD Cert.AttnRefIdeal.τ).loc Cert.AttnRefIdeal.main_arg2)
      ∧ r.2.mem ((c.tc : Thread Cert.AttnRefIdeal.nD Cert.AttnRefIdeal.τ).loc Cert.AttnRefIdeal.main_arg3) = m ((c.tc : Thread Cert.AttnRefIdeal.nD Cert.AttnRefIdeal.τ).loc Cert.AttnRefIdeal.main_arg3)
      ∧ r.2.mem ((c.tc : Thread Cert.AttnRefIdeal.nD Cert.AttnRefIdeal.τ).loc Cert.AttnRefIdeal.main_arg4) = m ((c.tc : Thread Cert.AttnRefIdeal.nD Cert.AttnRefIdeal.τ).loc Cert.AttnRefIdeal.main_arg4)
      ∧ r.2.mem ((c.tc : Thread Cert.AttnRefIdeal.nD Cert.AttnRefIdeal.τ).loc Cert.AttnRefIdeal.main_arg5) = m ((c.tc : Thread Cert.AttnRefIdeal.nD Cert.AttnRefIdeal.τ).loc Cert.AttnRefIdeal.main_arg5))
      ∧ r.2.sem = fun _ => 0)

def quiescent_In [hIn : Cert.In.Facts] : Prop :=
  ∀ (m : (ℓ : Loc Cert.In.nD Cert.In.τ Cert.In.sig) → Buf (Elt Bits) ℓ) (g : Dev Cert.In.nD → PrngReg), Pre_In m →
    θ_run (Cert.In.defs (F := Bits)) (onTc (τ := Cert.In.τ) (Cert.In.main (F := Bits))) ⟨m, fun _ => 0, g⟩ (fun r => (∀ c : Dev Cert.In.nD,
      r.2.mem ((c.tc : Thread Cert.In.nD Cert.In.τ).loc Cert.In.main_arg0) = m ((c.tc : Thread Cert.In.nD Cert.In.τ).loc Cert.In.main_arg0)
      ∧ r.2.mem ((c.tc : Thread Cert.In.nD Cert.In.τ).loc Cert.In.main_arg1) = m ((c.tc : Thread Cert.In.nD Cert.In.τ).loc Cert.In.main_arg1)
      ∧ r.2.mem ((c.tc : Thread Cert.In.nD Cert.In.τ).loc Cert.In.main_arg2) = m ((c.tc : Thread Cert.In.nD Cert.In.τ).loc Cert.In.main_arg2)
      ∧ r.2.mem ((c.tc : Thread Cert.In.nD Cert.In.τ).loc Cert.In.main_arg3) = m ((c.tc : Thread Cert.In.nD Cert.In.τ).loc Cert.In.main_arg3)
      ∧ r.2.mem ((c.tc : Thread Cert.In.nD Cert.In.τ).loc Cert.In.main_arg4) = m ((c.tc : Thread Cert.In.nD Cert.In.τ).loc Cert.In.main_arg4)
      ∧ r.2.mem ((c.tc : Thread Cert.In.nD Cert.In.τ).loc Cert.In.main_arg5) = m ((c.tc : Thread Cert.In.nD Cert.In.τ).loc Cert.In.main_arg5)
      ∧ r.2.mem ((c.tc : Thread Cert.In.nD Cert.In.τ).loc Cert.In.main_arg6) = m ((c.tc : Thread Cert.In.nD Cert.In.τ).loc Cert.In.main_arg6))
      ∧ r.2.sem = fun _ => 0)

def quiescent_InIdeal [hInIdeal : Cert.InIdeal.Facts] : Prop :=
  ∀ (m : (ℓ : Loc Cert.InIdeal.nD Cert.InIdeal.τ Cert.InIdeal.sig) → Buf (Elt Ideal) ℓ) (g : Dev Cert.InIdeal.nD → PrngReg), Pre_InIdeal m →
    θ_run (Cert.InIdeal.defs (F := Ideal)) (onTc (τ := Cert.InIdeal.τ) (Cert.InIdeal.main (F := Ideal))) ⟨m, fun _ => 0, g⟩ (fun r => (∀ c : Dev Cert.InIdeal.nD,
      r.2.mem ((c.tc : Thread Cert.InIdeal.nD Cert.InIdeal.τ).loc Cert.InIdeal.main_arg0) = m ((c.tc : Thread Cert.InIdeal.nD Cert.InIdeal.τ).loc Cert.InIdeal.main_arg0)
      ∧ r.2.mem ((c.tc : Thread Cert.InIdeal.nD Cert.InIdeal.τ).loc Cert.InIdeal.main_arg1) = m ((c.tc : Thread Cert.InIdeal.nD Cert.InIdeal.τ).loc Cert.InIdeal.main_arg1)
      ∧ r.2.mem ((c.tc : Thread Cert.InIdeal.nD Cert.InIdeal.τ).loc Cert.InIdeal.main_arg2) = m ((c.tc : Thread Cert.InIdeal.nD Cert.InIdeal.τ).loc Cert.InIdeal.main_arg2)
      ∧ r.2.mem ((c.tc : Thread Cert.InIdeal.nD Cert.InIdeal.τ).loc Cert.InIdeal.main_arg3) = m ((c.tc : Thread Cert.InIdeal.nD Cert.InIdeal.τ).loc Cert.InIdeal.main_arg3)
      ∧ r.2.mem ((c.tc : Thread Cert.InIdeal.nD Cert.InIdeal.τ).loc Cert.InIdeal.main_arg4) = m ((c.tc : Thread Cert.InIdeal.nD Cert.InIdeal.τ).loc Cert.InIdeal.main_arg4)
      ∧ r.2.mem ((c.tc : Thread Cert.InIdeal.nD Cert.InIdeal.τ).loc Cert.InIdeal.main_arg5) = m ((c.tc : Thread Cert.InIdeal.nD Cert.InIdeal.τ).loc Cert.InIdeal.main_arg5)
      ∧ r.2.mem ((c.tc : Thread Cert.InIdeal.nD Cert.InIdeal.τ).loc Cert.InIdeal.main_arg6) = m ((c.tc : Thread Cert.InIdeal.nD Cert.InIdeal.τ).loc Cert.InIdeal.main_arg6))
      ∧ r.2.sem = fun _ => 0)

def quiescent_InRefIdeal [hInRefIdeal : Cert.InRefIdeal.Facts] : Prop :=
  ∀ (m : (ℓ : Loc Cert.InRefIdeal.nD Cert.InRefIdeal.τ Cert.InRefIdeal.sig) → Buf (Elt Ideal) ℓ) (g : Dev Cert.InRefIdeal.nD → PrngReg), Pre_InRefIdeal m →
    θ_run (Cert.InRefIdeal.defs (F := Ideal)) (onTc (τ := Cert.InRefIdeal.τ) (Cert.InRefIdeal.main (F := Ideal))) ⟨m, fun _ => 0, g⟩ (fun r => (∀ c : Dev Cert.InRefIdeal.nD,
      r.2.mem ((c.tc : Thread Cert.InRefIdeal.nD Cert.InRefIdeal.τ).loc Cert.InRefIdeal.main_arg0) = m ((c.tc : Thread Cert.InRefIdeal.nD Cert.InRefIdeal.τ).loc Cert.InRefIdeal.main_arg0)
      ∧ r.2.mem ((c.tc : Thread Cert.InRefIdeal.nD Cert.InRefIdeal.τ).loc Cert.InRefIdeal.main_arg1) = m ((c.tc : Thread Cert.InRefIdeal.nD Cert.InRefIdeal.τ).loc Cert.InRefIdeal.main_arg1)
      ∧ r.2.mem ((c.tc : Thread Cert.InRefIdeal.nD Cert.InRefIdeal.τ).loc Cert.InRefIdeal.main_arg2) = m ((c.tc : Thread Cert.InRefIdeal.nD Cert.InRefIdeal.τ).loc Cert.InRefIdeal.main_arg2)
      ∧ r.2.mem ((c.tc : Thread Cert.InRefIdeal.nD Cert.InRefIdeal.τ).loc Cert.InRefIdeal.main_arg3) = m ((c.tc : Thread Cert.InRefIdeal.nD Cert.InRefIdeal.τ).loc Cert.InRefIdeal.main_arg3)
      ∧ r.2.mem ((c.tc : Thread Cert.InRefIdeal.nD Cert.InRefIdeal.τ).loc Cert.InRefIdeal.main_arg4) = m ((c.tc : Thread Cert.InRefIdeal.nD Cert.InRefIdeal.τ).loc Cert.InRefIdeal.main_arg4)
      ∧ r.2.mem ((c.tc : Thread Cert.InRefIdeal.nD Cert.InRefIdeal.τ).loc Cert.InRefIdeal.main_arg5) = m ((c.tc : Thread Cert.InRefIdeal.nD Cert.InRefIdeal.τ).loc Cert.InRefIdeal.main_arg5)
      ∧ r.2.mem ((c.tc : Thread Cert.InRefIdeal.nD Cert.InRefIdeal.τ).loc Cert.InRefIdeal.main_arg6) = m ((c.tc : Thread Cert.InRefIdeal.nD Cert.InRefIdeal.τ).loc Cert.InRefIdeal.main_arg6))
      ∧ r.2.sem = fun _ => 0)

def quiescent_Out [hOut : Cert.Out.Facts] : Prop :=
  ∀ (m : (ℓ : Loc Cert.Out.nD Cert.Out.τ Cert.Out.sig) → Buf (Elt Bits) ℓ) (g : Dev Cert.Out.nD → PrngReg), Pre_Out m →
    θ_run (Cert.Out.defs (F := Bits)) (onTc (τ := Cert.Out.τ) (Cert.Out.main (F := Bits))) ⟨m, fun _ => 0, g⟩ (fun r => (∀ c : Dev Cert.Out.nD,
      r.2.mem ((c.tc : Thread Cert.Out.nD Cert.Out.τ).loc Cert.Out.main_arg0) = m ((c.tc : Thread Cert.Out.nD Cert.Out.τ).loc Cert.Out.main_arg0)
      ∧ r.2.mem ((c.tc : Thread Cert.Out.nD Cert.Out.τ).loc Cert.Out.main_arg1) = m ((c.tc : Thread Cert.Out.nD Cert.Out.τ).loc Cert.Out.main_arg1)
      ∧ r.2.mem ((c.tc : Thread Cert.Out.nD Cert.Out.τ).loc Cert.Out.main_arg2) = m ((c.tc : Thread Cert.Out.nD Cert.Out.τ).loc Cert.Out.main_arg2)
      ∧ r.2.mem ((c.tc : Thread Cert.Out.nD Cert.Out.τ).loc Cert.Out.main_arg3) = m ((c.tc : Thread Cert.Out.nD Cert.Out.τ).loc Cert.Out.main_arg3)
      ∧ r.2.mem ((c.tc : Thread Cert.Out.nD Cert.Out.τ).loc Cert.Out.main_arg4) = m ((c.tc : Thread Cert.Out.nD Cert.Out.τ).loc Cert.Out.main_arg4)
      ∧ r.2.mem ((c.tc : Thread Cert.Out.nD Cert.Out.τ).loc Cert.Out.main_arg5) = m ((c.tc : Thread Cert.Out.nD Cert.Out.τ).loc Cert.Out.main_arg5)
      ∧ r.2.mem ((c.tc : Thread Cert.Out.nD Cert.Out.τ).loc Cert.Out.main_arg6) = m ((c.tc : Thread Cert.Out.nD Cert.Out.τ).loc Cert.Out.main_arg6))
      ∧ r.2.sem = fun _ => 0)

def quiescent_OutIdeal [hOutIdeal : Cert.OutIdeal.Facts] : Prop :=
  ∀ (m : (ℓ : Loc Cert.OutIdeal.nD Cert.OutIdeal.τ Cert.OutIdeal.sig) → Buf (Elt Ideal) ℓ) (g : Dev Cert.OutIdeal.nD → PrngReg), Pre_OutIdeal m →
    θ_run (Cert.OutIdeal.defs (F := Ideal)) (onTc (τ := Cert.OutIdeal.τ) (Cert.OutIdeal.main (F := Ideal))) ⟨m, fun _ => 0, g⟩ (fun r => (∀ c : Dev Cert.OutIdeal.nD,
      r.2.mem ((c.tc : Thread Cert.OutIdeal.nD Cert.OutIdeal.τ).loc Cert.OutIdeal.main_arg0) = m ((c.tc : Thread Cert.OutIdeal.nD Cert.OutIdeal.τ).loc Cert.OutIdeal.main_arg0)
      ∧ r.2.mem ((c.tc : Thread Cert.OutIdeal.nD Cert.OutIdeal.τ).loc Cert.OutIdeal.main_arg1) = m ((c.tc : Thread Cert.OutIdeal.nD Cert.OutIdeal.τ).loc Cert.OutIdeal.main_arg1)
      ∧ r.2.mem ((c.tc : Thread Cert.OutIdeal.nD Cert.OutIdeal.τ).loc Cert.OutIdeal.main_arg2) = m ((c.tc : Thread Cert.OutIdeal.nD Cert.OutIdeal.τ).loc Cert.OutIdeal.main_arg2)
      ∧ r.2.mem ((c.tc : Thread Cert.OutIdeal.nD Cert.OutIdeal.τ).loc Cert.OutIdeal.main_arg3) = m ((c.tc : Thread Cert.OutIdeal.nD Cert.OutIdeal.τ).loc Cert.OutIdeal.main_arg3)
      ∧ r.2.mem ((c.tc : Thread Cert.OutIdeal.nD Cert.OutIdeal.τ).loc Cert.OutIdeal.main_arg4) = m ((c.tc : Thread Cert.OutIdeal.nD Cert.OutIdeal.τ).loc Cert.OutIdeal.main_arg4)
      ∧ r.2.mem ((c.tc : Thread Cert.OutIdeal.nD Cert.OutIdeal.τ).loc Cert.OutIdeal.main_arg5) = m ((c.tc : Thread Cert.OutIdeal.nD Cert.OutIdeal.τ).loc Cert.OutIdeal.main_arg5)
      ∧ r.2.mem ((c.tc : Thread Cert.OutIdeal.nD Cert.OutIdeal.τ).loc Cert.OutIdeal.main_arg6) = m ((c.tc : Thread Cert.OutIdeal.nD Cert.OutIdeal.τ).loc Cert.OutIdeal.main_arg6))
      ∧ r.2.sem = fun _ => 0)

def quiescent_OutRefIdeal [hOutRefIdeal : Cert.OutRefIdeal.Facts] : Prop :=
  ∀ (m : (ℓ : Loc Cert.OutRefIdeal.nD Cert.OutRefIdeal.τ Cert.OutRefIdeal.sig) → Buf (Elt Ideal) ℓ) (g : Dev Cert.OutRefIdeal.nD → PrngReg), Pre_OutRefIdeal m →
    θ_run (Cert.OutRefIdeal.defs (F := Ideal)) (onTc (τ := Cert.OutRefIdeal.τ) (Cert.OutRefIdeal.main (F := Ideal))) ⟨m, fun _ => 0, g⟩ (fun r => (∀ c : Dev Cert.OutRefIdeal.nD,
      r.2.mem ((c.tc : Thread Cert.OutRefIdeal.nD Cert.OutRefIdeal.τ).loc Cert.OutRefIdeal.main_arg0) = m ((c.tc : Thread Cert.OutRefIdeal.nD Cert.OutRefIdeal.τ).loc Cert.OutRefIdeal.main_arg0)
      ∧ r.2.mem ((c.tc : Thread Cert.OutRefIdeal.nD Cert.OutRefIdeal.τ).loc Cert.OutRefIdeal.main_arg1) = m ((c.tc : Thread Cert.OutRefIdeal.nD Cert.OutRefIdeal.τ).loc Cert.OutRefIdeal.main_arg1)
      ∧ r.2.mem ((c.tc : Thread Cert.OutRefIdeal.nD Cert.OutRefIdeal.τ).loc Cert.OutRefIdeal.main_arg2) = m ((c.tc : Thread Cert.OutRefIdeal.nD Cert.OutRefIdeal.τ).loc Cert.OutRefIdeal.main_arg2)
      ∧ r.2.mem ((c.tc : Thread Cert.OutRefIdeal.nD Cert.OutRefIdeal.τ).loc Cert.OutRefIdeal.main_arg3) = m ((c.tc : Thread Cert.OutRefIdeal.nD Cert.OutRefIdeal.τ).loc Cert.OutRefIdeal.main_arg3)
      ∧ r.2.mem ((c.tc : Thread Cert.OutRefIdeal.nD Cert.OutRefIdeal.τ).loc Cert.OutRefIdeal.main_arg4) = m ((c.tc : Thread Cert.OutRefIdeal.nD Cert.OutRefIdeal.τ).loc Cert.OutRefIdeal.main_arg4)
      ∧ r.2.mem ((c.tc : Thread Cert.OutRefIdeal.nD Cert.OutRefIdeal.τ).loc Cert.OutRefIdeal.main_arg5) = m ((c.tc : Thread Cert.OutRefIdeal.nD Cert.OutRefIdeal.τ).loc Cert.OutRefIdeal.main_arg5)
      ∧ r.2.mem ((c.tc : Thread Cert.OutRefIdeal.nD Cert.OutRefIdeal.τ).loc Cert.OutRefIdeal.main_arg6) = m ((c.tc : Thread Cert.OutRefIdeal.nD Cert.OutRefIdeal.τ).loc Cert.OutRefIdeal.main_arg6))
      ∧ r.2.sem = fun _ => 0)

def quiescent_Peer [hPeer : Cert.Peer.Facts] : Prop :=
  ∀ (m : (ℓ : Loc Cert.Peer.nD Cert.Peer.τ Cert.Peer.sig) → Buf (Elt Bits) ℓ) (g : Dev Cert.Peer.nD → PrngReg), Pre_Peer m →
    θ_run (Cert.Peer.defs (F := Bits)) (onTc (τ := Cert.Peer.τ) (Cert.Peer.main (F := Bits))) ⟨m, fun _ => 0, g⟩ (fun r => (∀ c : Dev Cert.Peer.nD,
      r.2.mem ((c.tc : Thread Cert.Peer.nD Cert.Peer.τ).loc Cert.Peer.main_arg0) = m ((c.tc : Thread Cert.Peer.nD Cert.Peer.τ).loc Cert.Peer.main_arg0)
      ∧ r.2.mem ((c.tc : Thread Cert.Peer.nD Cert.Peer.τ).loc Cert.Peer.main_arg1) = m ((c.tc : Thread Cert.Peer.nD Cert.Peer.τ).loc Cert.Peer.main_arg1)
      ∧ r.2.mem ((c.tc : Thread Cert.Peer.nD Cert.Peer.τ).loc Cert.Peer.main_arg2) = m ((c.tc : Thread Cert.Peer.nD Cert.Peer.τ).loc Cert.Peer.main_arg2))
      ∧ r.2.sem = fun _ => 0)

def quiescent_PeerIdeal [hPeerIdeal : Cert.PeerIdeal.Facts] : Prop :=
  ∀ (m : (ℓ : Loc Cert.PeerIdeal.nD Cert.PeerIdeal.τ Cert.PeerIdeal.sig) → Buf (Elt Ideal) ℓ) (g : Dev Cert.PeerIdeal.nD → PrngReg), Pre_PeerIdeal m →
    θ_run (Cert.PeerIdeal.defs (F := Ideal)) (onTc (τ := Cert.PeerIdeal.τ) (Cert.PeerIdeal.main (F := Ideal))) ⟨m, fun _ => 0, g⟩ (fun r => (∀ c : Dev Cert.PeerIdeal.nD,
      r.2.mem ((c.tc : Thread Cert.PeerIdeal.nD Cert.PeerIdeal.τ).loc Cert.PeerIdeal.main_arg0) = m ((c.tc : Thread Cert.PeerIdeal.nD Cert.PeerIdeal.τ).loc Cert.PeerIdeal.main_arg0)
      ∧ r.2.mem ((c.tc : Thread Cert.PeerIdeal.nD Cert.PeerIdeal.τ).loc Cert.PeerIdeal.main_arg1) = m ((c.tc : Thread Cert.PeerIdeal.nD Cert.PeerIdeal.τ).loc Cert.PeerIdeal.main_arg1)
      ∧ r.2.mem ((c.tc : Thread Cert.PeerIdeal.nD Cert.PeerIdeal.τ).loc Cert.PeerIdeal.main_arg2) = m ((c.tc : Thread Cert.PeerIdeal.nD Cert.PeerIdeal.τ).loc Cert.PeerIdeal.main_arg2))
      ∧ r.2.sem = fun _ => 0)

def quiescent_PeerIdeal_pre_sums_differ [hPeerIdeal : Cert.PeerIdeal.Facts] [hPre_sums_differ : Cert.Pre_sums_differ.Facts] : Prop :=
  ∀ (m : (ℓ : Loc Cert.PeerIdeal.nD Cert.PeerIdeal.τ Cert.PeerIdeal.sig) → Buf (Elt Ideal) ℓ) (g : Dev Cert.PeerIdeal.nD → PrngReg), Pre_PeerIdeal_sums_differ m →
    θ_run (Cert.PeerIdeal.defs (F := Ideal)) (onTc (τ := Cert.PeerIdeal.τ) (Cert.PeerIdeal.main (F := Ideal))) ⟨m, fun _ => 0, g⟩ (fun r => (∀ c : Dev Cert.PeerIdeal.nD,
      r.2.mem ((c.tc : Thread Cert.PeerIdeal.nD Cert.PeerIdeal.τ).loc Cert.PeerIdeal.main_arg0) = m ((c.tc : Thread Cert.PeerIdeal.nD Cert.PeerIdeal.τ).loc Cert.PeerIdeal.main_arg0)
      ∧ r.2.mem ((c.tc : Thread Cert.PeerIdeal.nD Cert.PeerIdeal.τ).loc Cert.PeerIdeal.main_arg1) = m ((c.tc : Thread Cert.PeerIdeal.nD Cert.PeerIdeal.τ).loc Cert.PeerIdeal.main_arg1)
      ∧ r.2.mem ((c.tc : Thread Cert.PeerIdeal.nD Cert.PeerIdeal.τ).loc Cert.PeerIdeal.main_arg2) = m ((c.tc : Thread Cert.PeerIdeal.nD Cert.PeerIdeal.τ).loc Cert.PeerIdeal.main_arg2))
      ∧ r.2.sem = fun _ => 0)

def quiescent_PeerRefIdeal [hPeerRefIdeal : Cert.PeerRefIdeal.Facts] : Prop :=
  ∀ (m : (ℓ : Loc Cert.PeerRefIdeal.nD Cert.PeerRefIdeal.τ Cert.PeerRefIdeal.sig) → Buf (Elt Ideal) ℓ) (g : Dev Cert.PeerRefIdeal.nD → PrngReg), Pre_PeerRefIdeal m →
    θ_run (Cert.PeerRefIdeal.defs (F := Ideal)) (onTc (τ := Cert.PeerRefIdeal.τ) (Cert.PeerRefIdeal.main (F := Ideal))) ⟨m, fun _ => 0, g⟩ (fun r => (∀ c : Dev Cert.PeerRefIdeal.nD,
      r.2.mem ((c.tc : Thread Cert.PeerRefIdeal.nD Cert.PeerRefIdeal.τ).loc Cert.PeerRefIdeal.main_arg0) = m ((c.tc : Thread Cert.PeerRefIdeal.nD Cert.PeerRefIdeal.τ).loc Cert.PeerRefIdeal.main_arg0)
      ∧ r.2.mem ((c.tc : Thread Cert.PeerRefIdeal.nD Cert.PeerRefIdeal.τ).loc Cert.PeerRefIdeal.main_arg1) = m ((c.tc : Thread Cert.PeerRefIdeal.nD Cert.PeerRefIdeal.τ).loc Cert.PeerRefIdeal.main_arg1)
      ∧ r.2.mem ((c.tc : Thread Cert.PeerRefIdeal.nD Cert.PeerRefIdeal.τ).loc Cert.PeerRefIdeal.main_arg2) = m ((c.tc : Thread Cert.PeerRefIdeal.nD Cert.PeerRefIdeal.τ).loc Cert.PeerRefIdeal.main_arg2))
      ∧ r.2.sem = fun _ => 0)

def quiescent_PeerRefIdeal_pre_sums_differ [hPeerRefIdeal : Cert.PeerRefIdeal.Facts] [hPre_sums_differ : Cert.Pre_sums_differ.Facts] : Prop :=
  ∀ (m : (ℓ : Loc Cert.PeerRefIdeal.nD Cert.PeerRefIdeal.τ Cert.PeerRefIdeal.sig) → Buf (Elt Ideal) ℓ) (g : Dev Cert.PeerRefIdeal.nD → PrngReg), Pre_PeerRefIdeal_sums_differ m →
    θ_run (Cert.PeerRefIdeal.defs (F := Ideal)) (onTc (τ := Cert.PeerRefIdeal.τ) (Cert.PeerRefIdeal.main (F := Ideal))) ⟨m, fun _ => 0, g⟩ (fun r => (∀ c : Dev Cert.PeerRefIdeal.nD,
      r.2.mem ((c.tc : Thread Cert.PeerRefIdeal.nD Cert.PeerRefIdeal.τ).loc Cert.PeerRefIdeal.main_arg0) = m ((c.tc : Thread Cert.PeerRefIdeal.nD Cert.PeerRefIdeal.τ).loc Cert.PeerRefIdeal.main_arg0)
      ∧ r.2.mem ((c.tc : Thread Cert.PeerRefIdeal.nD Cert.PeerRefIdeal.τ).loc Cert.PeerRefIdeal.main_arg1) = m ((c.tc : Thread Cert.PeerRefIdeal.nD Cert.PeerRefIdeal.τ).loc Cert.PeerRefIdeal.main_arg1)
      ∧ r.2.mem ((c.tc : Thread Cert.PeerRefIdeal.nD Cert.PeerRefIdeal.τ).loc Cert.PeerRefIdeal.main_arg2) = m ((c.tc : Thread Cert.PeerRefIdeal.nD Cert.PeerRefIdeal.τ).loc Cert.PeerRefIdeal.main_arg2))
      ∧ r.2.sem = fun _ => 0)

def quiescent_Four [hFour : Cert.Four.Facts] : Prop :=
  ∀ (m : (ℓ : Loc Cert.Four.nD Cert.Four.τ Cert.Four.sig) → Buf (Elt Bits) ℓ) (g : Dev Cert.Four.nD → PrngReg), Pre_Four m →
    θ_run (Cert.Four.defs (F := Bits)) (onTc (τ := Cert.Four.τ) (Cert.Four.main (F := Bits))) ⟨m, fun _ => 0, g⟩ (fun r => (∀ c : Dev Cert.Four.nD,
      r.2.mem ((c.tc : Thread Cert.Four.nD Cert.Four.τ).loc Cert.Four.main_arg0) = m ((c.tc : Thread Cert.Four.nD Cert.Four.τ).loc Cert.Four.main_arg0)
      ∧ r.2.mem ((c.tc : Thread Cert.Four.nD Cert.Four.τ).loc Cert.Four.main_arg1) = m ((c.tc : Thread Cert.Four.nD Cert.Four.τ).loc Cert.Four.main_arg1)
      ∧ r.2.mem ((c.tc : Thread Cert.Four.nD Cert.Four.τ).loc Cert.Four.main_arg2) = m ((c.tc : Thread Cert.Four.nD Cert.Four.τ).loc Cert.Four.main_arg2)
      ∧ r.2.mem ((c.tc : Thread Cert.Four.nD Cert.Four.τ).loc Cert.Four.main_arg3) = m ((c.tc : Thread Cert.Four.nD Cert.Four.τ).loc Cert.Four.main_arg3))
      ∧ r.2.sem = fun _ => 0)

def quiescent_FourIdeal [hFourIdeal : Cert.FourIdeal.Facts] : Prop :=
  ∀ (m : (ℓ : Loc Cert.FourIdeal.nD Cert.FourIdeal.τ Cert.FourIdeal.sig) → Buf (Elt Ideal) ℓ) (g : Dev Cert.FourIdeal.nD → PrngReg), Pre_FourIdeal m →
    θ_run (Cert.FourIdeal.defs (F := Ideal)) (onTc (τ := Cert.FourIdeal.τ) (Cert.FourIdeal.main (F := Ideal))) ⟨m, fun _ => 0, g⟩ (fun r => (∀ c : Dev Cert.FourIdeal.nD,
      r.2.mem ((c.tc : Thread Cert.FourIdeal.nD Cert.FourIdeal.τ).loc Cert.FourIdeal.main_arg0) = m ((c.tc : Thread Cert.FourIdeal.nD Cert.FourIdeal.τ).loc Cert.FourIdeal.main_arg0)
      ∧ r.2.mem ((c.tc : Thread Cert.FourIdeal.nD Cert.FourIdeal.τ).loc Cert.FourIdeal.main_arg1) = m ((c.tc : Thread Cert.FourIdeal.nD Cert.FourIdeal.τ).loc Cert.FourIdeal.main_arg1)
      ∧ r.2.mem ((c.tc : Thread Cert.FourIdeal.nD Cert.FourIdeal.τ).loc Cert.FourIdeal.main_arg2) = m ((c.tc : Thread Cert.FourIdeal.nD Cert.FourIdeal.τ).loc Cert.FourIdeal.main_arg2)
      ∧ r.2.mem ((c.tc : Thread Cert.FourIdeal.nD Cert.FourIdeal.τ).loc Cert.FourIdeal.main_arg3) = m ((c.tc : Thread Cert.FourIdeal.nD Cert.FourIdeal.τ).loc Cert.FourIdeal.main_arg3))
      ∧ r.2.sem = fun _ => 0)

def quiescent_FourRefIdeal [hFourRefIdeal : Cert.FourRefIdeal.Facts] : Prop :=
  ∀ (m : (ℓ : Loc Cert.FourRefIdeal.nD Cert.FourRefIdeal.τ Cert.FourRefIdeal.sig) → Buf (Elt Ideal) ℓ) (g : Dev Cert.FourRefIdeal.nD → PrngReg), Pre_FourRefIdeal m →
    θ_run (Cert.FourRefIdeal.defs (F := Ideal)) (onTc (τ := Cert.FourRefIdeal.τ) (Cert.FourRefIdeal.main (F := Ideal))) ⟨m, fun _ => 0, g⟩ (fun r => (∀ c : Dev Cert.FourRefIdeal.nD,
      r.2.mem ((c.tc : Thread Cert.FourRefIdeal.nD Cert.FourRefIdeal.τ).loc Cert.FourRefIdeal.main_arg0) = m ((c.tc : Thread Cert.FourRefIdeal.nD Cert.FourRefIdeal.τ).loc Cert.FourRefIdeal.main_arg0)
      ∧ r.2.mem ((c.tc : Thread Cert.FourRefIdeal.nD Cert.FourRefIdeal.τ).loc Cert.FourRefIdeal.main_arg1) = m ((c.tc : Thread Cert.FourRefIdeal.nD Cert.FourRefIdeal.τ).loc Cert.FourRefIdeal.main_arg1)
      ∧ r.2.mem ((c.tc : Thread Cert.FourRefIdeal.nD Cert.FourRefIdeal.τ).loc Cert.FourRefIdeal.main_arg2) = m ((c.tc : Thread Cert.FourRefIdeal.nD Cert.FourRefIdeal.τ).loc Cert.FourRefIdeal.main_arg2)
      ∧ r.2.mem ((c.tc : Thread Cert.FourRefIdeal.nD Cert.FourRefIdeal.τ).loc Cert.FourRefIdeal.main_arg3) = m ((c.tc : Thread Cert.FourRefIdeal.nD Cert.FourRefIdeal.τ).loc Cert.FourRefIdeal.main_arg3))
      ∧ r.2.sem = fun _ => 0)

def preserves_Attn_AttnIdeal : Prop :=
  IdealRules.named_const.Statement Cert.AttnIdeal.κ "mask" .f32 0xF149F2CA#32 ⊥

def algebraic_AttnIdeal_AttnRefIdeal_pre_scores_finite [hAttnIdeal : Cert.AttnIdeal.Facts] [hAttnRefIdeal : Cert.AttnRefIdeal.Facts] [hPre_scores_finite : Cert.Pre_scores_finite.Facts] : Prop :=
  ∀ (m : (ℓ : Loc Cert.AttnIdeal.nD Cert.AttnIdeal.τ Cert.AttnIdeal.sig) → Buf (Elt Ideal) ℓ) (g : Dev Cert.AttnIdeal.nD → PrngReg)
    (m' : (ℓ : Loc Cert.AttnRefIdeal.nD Cert.AttnRefIdeal.τ Cert.AttnRefIdeal.sig) → Buf (Elt Ideal) ℓ) (g' : Dev Cert.AttnRefIdeal.nD → PrngReg), Pre_AttnIdeal_scores_finite m →
    (∀ c : Dev Cert.AttnIdeal.nD,
      m' ((c.tc : Thread Cert.AttnRefIdeal.nD Cert.AttnRefIdeal.τ).loc Cert.AttnRefIdeal.main_arg0) = m ((c.tc : Thread Cert.AttnIdeal.nD Cert.AttnIdeal.τ).loc Cert.AttnIdeal.main_arg0)
      ∧ m' ((c.tc : Thread Cert.AttnRefIdeal.nD Cert.AttnRefIdeal.τ).loc Cert.AttnRefIdeal.main_arg1) = m ((c.tc : Thread Cert.AttnIdeal.nD Cert.AttnIdeal.τ).loc Cert.AttnIdeal.main_arg1)
      ∧ m' ((c.tc : Thread Cert.AttnRefIdeal.nD Cert.AttnRefIdeal.τ).loc Cert.AttnRefIdeal.main_arg2) = m ((c.tc : Thread Cert.AttnIdeal.nD Cert.AttnIdeal.τ).loc Cert.AttnIdeal.main_arg2)
      ∧ m' ((c.tc : Thread Cert.AttnRefIdeal.nD Cert.AttnRefIdeal.τ).loc Cert.AttnRefIdeal.main_arg3) = m ((c.tc : Thread Cert.AttnIdeal.nD Cert.AttnIdeal.τ).loc Cert.AttnIdeal.main_arg3)
      ∧ m' ((c.tc : Thread Cert.AttnRefIdeal.nD Cert.AttnRefIdeal.τ).loc Cert.AttnRefIdeal.main_arg4) = m ((c.tc : Thread Cert.AttnIdeal.nD Cert.AttnIdeal.τ).loc Cert.AttnIdeal.main_arg4)
      ∧ m' ((c.tc : Thread Cert.AttnRefIdeal.nD Cert.AttnRefIdeal.τ).loc Cert.AttnRefIdeal.main_arg5) = m ((c.tc : Thread Cert.AttnIdeal.nD Cert.AttnIdeal.τ).loc Cert.AttnIdeal.main_arg5)) →
    ∃ (v0 : (c : Dev Cert.AttnIdeal.nD) → Buf (Elt Ideal) ((c.tc : Thread Cert.AttnIdeal.nD Cert.AttnIdeal.τ).loc Cert.AttnIdeal.main_v0)),
      θ_run (Cert.AttnIdeal.defs (F := Ideal)) (onTc (τ := Cert.AttnIdeal.τ) (Cert.AttnIdeal.main (F := Ideal))) ⟨m, fun _ => 0, g⟩ (fun r => ∀ c : Dev Cert.AttnIdeal.nD,
          r.2.mem ((c.tc : Thread Cert.AttnIdeal.nD Cert.AttnIdeal.τ).loc Cert.AttnIdeal.main_v0) = v0 c
          ∧ r.2.mem ((c.tc : Thread Cert.AttnIdeal.nD Cert.AttnIdeal.τ).loc Cert.AttnIdeal.main_arg0) = m ((c.tc : Thread Cert.AttnIdeal.nD Cert.AttnIdeal.τ).loc Cert.AttnIdeal.main_arg0)
          ∧ r.2.mem ((c.tc : Thread Cert.AttnIdeal.nD Cert.AttnIdeal.τ).loc Cert.AttnIdeal.main_arg1) = m ((c.tc : Thread Cert.AttnIdeal.nD Cert.AttnIdeal.τ).loc Cert.AttnIdeal.main_arg1)
          ∧ r.2.mem ((c.tc : Thread Cert.AttnIdeal.nD Cert.AttnIdeal.τ).loc Cert.AttnIdeal.main_arg2) = m ((c.tc : Thread Cert.AttnIdeal.nD Cert.AttnIdeal.τ).loc Cert.AttnIdeal.main_arg2)
          ∧ r.2.mem ((c.tc : Thread Cert.AttnIdeal.nD Cert.AttnIdeal.τ).loc Cert.AttnIdeal.main_arg3) = m ((c.tc : Thread Cert.AttnIdeal.nD Cert.AttnIdeal.τ).loc Cert.AttnIdeal.main_arg3)
          ∧ r.2.mem ((c.tc : Thread Cert.AttnIdeal.nD Cert.AttnIdeal.τ).loc Cert.AttnIdeal.main_arg4) = m ((c.tc : Thread Cert.AttnIdeal.nD Cert.AttnIdeal.τ).loc Cert.AttnIdeal.main_arg4)
          ∧ r.2.mem ((c.tc : Thread Cert.AttnIdeal.nD Cert.AttnIdeal.τ).loc Cert.AttnIdeal.main_arg5) = m ((c.tc : Thread Cert.AttnIdeal.nD Cert.AttnIdeal.τ).loc Cert.AttnIdeal.main_arg5))
      ∧ θ_run (Cert.AttnRefIdeal.defs (F := Ideal)) (onTc (τ := Cert.AttnRefIdeal.τ) (Cert.AttnRefIdeal.main (F := Ideal))) ⟨m', fun _ => 0, g'⟩ (fun r => ∀ c : Dev Cert.AttnRefIdeal.nD,
          r.2.mem ((c.tc : Thread Cert.AttnRefIdeal.nD Cert.AttnRefIdeal.τ).loc Cert.AttnRefIdeal.main_v41) = v0 c
          ∧ r.2.mem ((c.tc : Thread Cert.AttnRefIdeal.nD Cert.AttnRefIdeal.τ).loc Cert.AttnRefIdeal.main_arg0) = m' ((c.tc : Thread Cert.AttnRefIdeal.nD Cert.AttnRefIdeal.τ).loc Cert.AttnRefIdeal.main_arg0)
          ∧ r.2.mem ((c.tc : Thread Cert.AttnRefIdeal.nD Cert.AttnRefIdeal.τ).loc Cert.AttnRefIdeal.main_arg1) = m' ((c.tc : Thread Cert.AttnRefIdeal.nD Cert.AttnRefIdeal.τ).loc Cert.AttnRefIdeal.main_arg1)
          ∧ r.2.mem ((c.tc : Thread Cert.AttnRefIdeal.nD Cert.AttnRefIdeal.τ).loc Cert.AttnRefIdeal.main_arg2) = m' ((c.tc : Thread Cert.AttnRefIdeal.nD Cert.AttnRefIdeal.τ).loc Cert.AttnRefIdeal.main_arg2)
          ∧ r.2.mem ((c.tc : Thread Cert.AttnRefIdeal.nD Cert.AttnRefIdeal.τ).loc Cert.AttnRefIdeal.main_arg3) = m' ((c.tc : Thread Cert.AttnRefIdeal.nD Cert.AttnRefIdeal.τ).loc Cert.AttnRefIdeal.main_arg3)
          ∧ r.2.mem ((c.tc : Thread Cert.AttnRefIdeal.nD Cert.AttnRefIdeal.τ).loc Cert.AttnRefIdeal.main_arg4) = m' ((c.tc : Thread Cert.AttnRefIdeal.nD Cert.AttnRefIdeal.τ).loc Cert.AttnRefIdeal.main_arg4)
          ∧ r.2.mem ((c.tc : Thread Cert.AttnRefIdeal.nD Cert.AttnRefIdeal.τ).loc Cert.AttnRefIdeal.main_arg5) = m' ((c.tc : Thread Cert.AttnRefIdeal.nD Cert.AttnRefIdeal.τ).loc Cert.AttnRefIdeal.main_arg5))

def preserves_In_InIdeal : Prop :=
  True

def algebraic_InIdeal_InRefIdeal [hInIdeal : Cert.InIdeal.Facts] [hInRefIdeal : Cert.InRefIdeal.Facts] : Prop :=
  ∀ (m : (ℓ : Loc Cert.InIdeal.nD Cert.InIdeal.τ Cert.InIdeal.sig) → Buf (Elt Ideal) ℓ) (g : Dev Cert.InIdeal.nD → PrngReg)
    (m' : (ℓ : Loc Cert.InRefIdeal.nD Cert.InRefIdeal.τ Cert.InRefIdeal.sig) → Buf (Elt Ideal) ℓ) (g' : Dev Cert.InRefIdeal.nD → PrngReg), Pre_InIdeal m →
    (∀ c : Dev Cert.InIdeal.nD,
      m' ((c.tc : Thread Cert.InRefIdeal.nD Cert.InRefIdeal.τ).loc Cert.InRefIdeal.main_arg0) = m ((c.tc : Thread Cert.InIdeal.nD Cert.InIdeal.τ).loc Cert.InIdeal.main_arg0)
      ∧ m' ((c.tc : Thread Cert.InRefIdeal.nD Cert.InRefIdeal.τ).loc Cert.InRefIdeal.main_arg1) = m ((c.tc : Thread Cert.InIdeal.nD Cert.InIdeal.τ).loc Cert.InIdeal.main_arg1)
      ∧ m' ((c.tc : Thread Cert.InRefIdeal.nD Cert.InRefIdeal.τ).loc Cert.InRefIdeal.main_arg2) = m ((c.tc : Thread Cert.InIdeal.nD Cert.InIdeal.τ).loc Cert.InIdeal.main_arg2)
      ∧ m' ((c.tc : Thread Cert.InRefIdeal.nD Cert.InRefIdeal.τ).loc Cert.InRefIdeal.main_arg3) = m ((c.tc : Thread Cert.InIdeal.nD Cert.InIdeal.τ).loc Cert.InIdeal.main_arg3)
      ∧ m' ((c.tc : Thread Cert.InRefIdeal.nD Cert.InRefIdeal.τ).loc Cert.InRefIdeal.main_arg4) = m ((c.tc : Thread Cert.InIdeal.nD Cert.InIdeal.τ).loc Cert.InIdeal.main_arg4)
      ∧ m' ((c.tc : Thread Cert.InRefIdeal.nD Cert.InRefIdeal.τ).loc Cert.InRefIdeal.main_arg5) = m ((c.tc : Thread Cert.InIdeal.nD Cert.InIdeal.τ).loc Cert.InIdeal.main_arg5)
      ∧ m' ((c.tc : Thread Cert.InRefIdeal.nD Cert.InRefIdeal.τ).loc Cert.InRefIdeal.main_arg6) = m ((c.tc : Thread Cert.InIdeal.nD Cert.InIdeal.τ).loc Cert.InIdeal.main_arg6)) →
    ∃ (v0 : (c : Dev Cert.InIdeal.nD) → Buf (Elt Ideal) ((c.tc : Thread Cert.InIdeal.nD Cert.InIdeal.τ).loc Cert.InIdeal.main_v29_0)) (v1 : (c : Dev Cert.InIdeal.nD) → Buf (Elt Ideal) ((c.tc : Thread Cert.InIdeal.nD Cert.InIdeal.τ).loc Cert.InIdeal.main_v29_1)) (v2 : (c : Dev Cert.InIdeal.nD) → Buf (Elt Ideal) ((c.tc : Thread Cert.InIdeal.nD Cert.InIdeal.τ).loc Cert.InIdeal.main_v29_2)) (v3 : (c : Dev Cert.InIdeal.nD) → Buf (Elt Ideal) ((c.tc : Thread Cert.InIdeal.nD Cert.InIdeal.τ).loc Cert.InIdeal.main_v29_3)) (v4 : (c : Dev Cert.InIdeal.nD) → Buf (Elt Ideal) ((c.tc : Thread Cert.InIdeal.nD Cert.InIdeal.τ).loc Cert.InIdeal.main_v29_4)),
      θ_run (Cert.InIdeal.defs (F := Ideal)) (onTc (τ := Cert.InIdeal.τ) (Cert.InIdeal.main (F := Ideal))) ⟨m, fun _ => 0, g⟩ (fun r => ∀ c : Dev Cert.InIdeal.nD,
          r.2.mem ((c.tc : Thread Cert.InIdeal.nD Cert.InIdeal.τ).loc Cert.InIdeal.main_v29_0) = v0 c
          ∧ r.2.mem ((c.tc : Thread Cert.InIdeal.nD Cert.InIdeal.τ).loc Cert.InIdeal.main_v29_1) = v1 c
          ∧ r.2.mem ((c.tc : Thread Cert.InIdeal.nD Cert.InIdeal.τ).loc Cert.InIdeal.main_v29_2) = v2 c
          ∧ r.2.mem ((c.tc : Thread Cert.InIdeal.nD Cert.InIdeal.τ).loc Cert.InIdeal.main_v29_3) = v3 c
          ∧ r.2.mem ((c.tc : Thread Cert.InIdeal.nD Cert.InIdeal.τ).loc Cert.InIdeal.main_v29_4) = v4 c
          ∧ r.2.mem ((c.tc : Thread Cert.InIdeal.nD Cert.InIdeal.τ).loc Cert.InIdeal.main_arg0) = m ((c.tc : Thread Cert.InIdeal.nD Cert.InIdeal.τ).loc Cert.InIdeal.main_arg0)
          ∧ r.2.mem ((c.tc : Thread Cert.InIdeal.nD Cert.InIdeal.τ).loc Cert.InIdeal.main_arg1) = m ((c.tc : Thread Cert.InIdeal.nD Cert.InIdeal.τ).loc Cert.InIdeal.main_arg1)
          ∧ r.2.mem ((c.tc : Thread Cert.InIdeal.nD Cert.InIdeal.τ).loc Cert.InIdeal.main_arg2) = m ((c.tc : Thread Cert.InIdeal.nD Cert.InIdeal.τ).loc Cert.InIdeal.main_arg2)
          ∧ r.2.mem ((c.tc : Thread Cert.InIdeal.nD Cert.InIdeal.τ).loc Cert.InIdeal.main_arg3) = m ((c.tc : Thread Cert.InIdeal.nD Cert.InIdeal.τ).loc Cert.InIdeal.main_arg3)
          ∧ r.2.mem ((c.tc : Thread Cert.InIdeal.nD Cert.InIdeal.τ).loc Cert.InIdeal.main_arg4) = m ((c.tc : Thread Cert.InIdeal.nD Cert.InIdeal.τ).loc Cert.InIdeal.main_arg4)
          ∧ r.2.mem ((c.tc : Thread Cert.InIdeal.nD Cert.InIdeal.τ).loc Cert.InIdeal.main_arg5) = m ((c.tc : Thread Cert.InIdeal.nD Cert.InIdeal.τ).loc Cert.InIdeal.main_arg5)
          ∧ r.2.mem ((c.tc : Thread Cert.InIdeal.nD Cert.InIdeal.τ).loc Cert.InIdeal.main_arg6) = m ((c.tc : Thread Cert.InIdeal.nD Cert.InIdeal.τ).loc Cert.InIdeal.main_arg6))
      ∧ θ_run (Cert.InRefIdeal.defs (F := Ideal)) (onTc (τ := Cert.InRefIdeal.τ) (Cert.InRefIdeal.main (F := Ideal))) ⟨m', fun _ => 0, g'⟩ (fun r => ∀ c : Dev Cert.InRefIdeal.nD,
          r.2.mem ((c.tc : Thread Cert.InRefIdeal.nD Cert.InRefIdeal.τ).loc Cert.InRefIdeal.main_v100) = v0 c
          ∧ r.2.mem ((c.tc : Thread Cert.InRefIdeal.nD Cert.InRefIdeal.τ).loc Cert.InRefIdeal.main_v102) = v1 c
          ∧ r.2.mem ((c.tc : Thread Cert.InRefIdeal.nD Cert.InRefIdeal.τ).loc Cert.InRefIdeal.main_v105) = v2 c
          ∧ r.2.mem ((c.tc : Thread Cert.InRefIdeal.nD Cert.InRefIdeal.τ).loc Cert.InRefIdeal.main_v98) = v3 c
          ∧ r.2.mem ((c.tc : Thread Cert.InRefIdeal.nD Cert.InRefIdeal.τ).loc Cert.InRefIdeal.main_v107) = v4 c
          ∧ r.2.mem ((c.tc : Thread Cert.InRefIdeal.nD Cert.InRefIdeal.τ).loc Cert.InRefIdeal.main_arg0) = m' ((c.tc : Thread Cert.InRefIdeal.nD Cert.InRefIdeal.τ).loc Cert.InRefIdeal.main_arg0)
          ∧ r.2.mem ((c.tc : Thread Cert.InRefIdeal.nD Cert.InRefIdeal.τ).loc Cert.InRefIdeal.main_arg1) = m' ((c.tc : Thread Cert.InRefIdeal.nD Cert.InRefIdeal.τ).loc Cert.InRefIdeal.main_arg1)
          ∧ r.2.mem ((c.tc : Thread Cert.InRefIdeal.nD Cert.InRefIdeal.τ).loc Cert.InRefIdeal.main_arg2) = m' ((c.tc : Thread Cert.InRefIdeal.nD Cert.InRefIdeal.τ).loc Cert.InRefIdeal.main_arg2)
          ∧ r.2.mem ((c.tc : Thread Cert.InRefIdeal.nD Cert.InRefIdeal.τ).loc Cert.InRefIdeal.main_arg3) = m' ((c.tc : Thread Cert.InRefIdeal.nD Cert.InRefIdeal.τ).loc Cert.InRefIdeal.main_arg3)
          ∧ r.2.mem ((c.tc : Thread Cert.InRefIdeal.nD Cert.InRefIdeal.τ).loc Cert.InRefIdeal.main_arg4) = m' ((c.tc : Thread Cert.InRefIdeal.nD Cert.InRefIdeal.τ).loc Cert.InRefIdeal.main_arg4)
          ∧ r.2.mem ((c.tc : Thread Cert.InRefIdeal.nD Cert.InRefIdeal.τ).loc Cert.InRefIdeal.main_arg5) = m' ((c.tc : Thread Cert.InRefIdeal.nD Cert.InRefIdeal.τ).loc Cert.InRefIdeal.main_arg5)
          ∧ r.2.mem ((c.tc : Thread Cert.InRefIdeal.nD Cert.InRefIdeal.τ).loc Cert.InRefIdeal.main_arg6) = m' ((c.tc : Thread Cert.InRefIdeal.nD Cert.InRefIdeal.τ).loc Cert.InRefIdeal.main_arg6))

def preserves_Out_OutIdeal : Prop :=
  True

def algebraic_OutIdeal_OutRefIdeal [hOutIdeal : Cert.OutIdeal.Facts] [hOutRefIdeal : Cert.OutRefIdeal.Facts] : Prop :=
  ∀ (m : (ℓ : Loc Cert.OutIdeal.nD Cert.OutIdeal.τ Cert.OutIdeal.sig) → Buf (Elt Ideal) ℓ) (g : Dev Cert.OutIdeal.nD → PrngReg)
    (m' : (ℓ : Loc Cert.OutRefIdeal.nD Cert.OutRefIdeal.τ Cert.OutRefIdeal.sig) → Buf (Elt Ideal) ℓ) (g' : Dev Cert.OutRefIdeal.nD → PrngReg), Pre_OutIdeal m →
    (∀ c : Dev Cert.OutIdeal.nD,
      m' ((c.tc : Thread Cert.OutRefIdeal.nD Cert.OutRefIdeal.τ).loc Cert.OutRefIdeal.main_arg0) = m ((c.tc : Thread Cert.OutIdeal.nD Cert.OutIdeal.τ).loc Cert.OutIdeal.main_arg0)
      ∧ m' ((c.tc : Thread Cert.OutRefIdeal.nD Cert.OutRefIdeal.τ).loc Cert.OutRefIdeal.main_arg1) = m ((c.tc : Thread Cert.OutIdeal.nD Cert.OutIdeal.τ).loc Cert.OutIdeal.main_arg1)
      ∧ m' ((c.tc : Thread Cert.OutRefIdeal.nD Cert.OutRefIdeal.τ).loc Cert.OutRefIdeal.main_arg2) = m ((c.tc : Thread Cert.OutIdeal.nD Cert.OutIdeal.τ).loc Cert.OutIdeal.main_arg2)
      ∧ m' ((c.tc : Thread Cert.OutRefIdeal.nD Cert.OutRefIdeal.τ).loc Cert.OutRefIdeal.main_arg3) = m ((c.tc : Thread Cert.OutIdeal.nD Cert.OutIdeal.τ).loc Cert.OutIdeal.main_arg3)
      ∧ m' ((c.tc : Thread Cert.OutRefIdeal.nD Cert.OutRefIdeal.τ).loc Cert.OutRefIdeal.main_arg4) = m ((c.tc : Thread Cert.OutIdeal.nD Cert.OutIdeal.τ).loc Cert.OutIdeal.main_arg4)
      ∧ m' ((c.tc : Thread Cert.OutRefIdeal.nD Cert.OutRefIdeal.τ).loc Cert.OutRefIdeal.main_arg5) = m ((c.tc : Thread Cert.OutIdeal.nD Cert.OutIdeal.τ).loc Cert.OutIdeal.main_arg5)
      ∧ m' ((c.tc : Thread Cert.OutRefIdeal.nD Cert.OutRefIdeal.τ).loc Cert.OutRefIdeal.main_arg6) = m ((c.tc : Thread Cert.OutIdeal.nD Cert.OutIdeal.τ).loc Cert.OutIdeal.main_arg6)) →
    ∃ (v0 : (c : Dev Cert.OutIdeal.nD) → Buf (Elt Ideal) ((c.tc : Thread Cert.OutIdeal.nD Cert.OutIdeal.τ).loc Cert.OutIdeal.main_v1_0)) (v1 : (c : Dev Cert.OutIdeal.nD) → Buf (Elt Ideal) ((c.tc : Thread Cert.OutIdeal.nD Cert.OutIdeal.τ).loc Cert.OutIdeal.main_v1_1)),
      θ_run (Cert.OutIdeal.defs (F := Ideal)) (onTc (τ := Cert.OutIdeal.τ) (Cert.OutIdeal.main (F := Ideal))) ⟨m, fun _ => 0, g⟩ (fun r => ∀ c : Dev Cert.OutIdeal.nD,
          r.2.mem ((c.tc : Thread Cert.OutIdeal.nD Cert.OutIdeal.τ).loc Cert.OutIdeal.main_v1_0) = v0 c
          ∧ r.2.mem ((c.tc : Thread Cert.OutIdeal.nD Cert.OutIdeal.τ).loc Cert.OutIdeal.main_v1_1) = v1 c
          ∧ r.2.mem ((c.tc : Thread Cert.OutIdeal.nD Cert.OutIdeal.τ).loc Cert.OutIdeal.main_arg0) = m ((c.tc : Thread Cert.OutIdeal.nD Cert.OutIdeal.τ).loc Cert.OutIdeal.main_arg0)
          ∧ r.2.mem ((c.tc : Thread Cert.OutIdeal.nD Cert.OutIdeal.τ).loc Cert.OutIdeal.main_arg1) = m ((c.tc : Thread Cert.OutIdeal.nD Cert.OutIdeal.τ).loc Cert.OutIdeal.main_arg1)
          ∧ r.2.mem ((c.tc : Thread Cert.OutIdeal.nD Cert.OutIdeal.τ).loc Cert.OutIdeal.main_arg2) = m ((c.tc : Thread Cert.OutIdeal.nD Cert.OutIdeal.τ).loc Cert.OutIdeal.main_arg2)
          ∧ r.2.mem ((c.tc : Thread Cert.OutIdeal.nD Cert.OutIdeal.τ).loc Cert.OutIdeal.main_arg3) = m ((c.tc : Thread Cert.OutIdeal.nD Cert.OutIdeal.τ).loc Cert.OutIdeal.main_arg3)
          ∧ r.2.mem ((c.tc : Thread Cert.OutIdeal.nD Cert.OutIdeal.τ).loc Cert.OutIdeal.main_arg4) = m ((c.tc : Thread Cert.OutIdeal.nD Cert.OutIdeal.τ).loc Cert.OutIdeal.main_arg4)
          ∧ r.2.mem ((c.tc : Thread Cert.OutIdeal.nD Cert.OutIdeal.τ).loc Cert.OutIdeal.main_arg5) = m ((c.tc : Thread Cert.OutIdeal.nD Cert.OutIdeal.τ).loc Cert.OutIdeal.main_arg5)
          ∧ r.2.mem ((c.tc : Thread Cert.OutIdeal.nD Cert.OutIdeal.τ).loc Cert.OutIdeal.main_arg6) = m ((c.tc : Thread Cert.OutIdeal.nD Cert.OutIdeal.τ).loc Cert.OutIdeal.main_arg6))
      ∧ θ_run (Cert.OutRefIdeal.defs (F := Ideal)) (onTc (τ := Cert.OutRefIdeal.τ) (Cert.OutRefIdeal.main (F := Ideal))) ⟨m', fun _ => 0, g'⟩ (fun r => ∀ c : Dev Cert.OutRefIdeal.nD,
          r.2.mem ((c.tc : Thread Cert.OutRefIdeal.nD Cert.OutRefIdeal.τ).loc Cert.OutRefIdeal.main_v33) = v0 c
          ∧ r.2.mem ((c.tc : Thread Cert.OutRefIdeal.nD Cert.OutRefIdeal.τ).loc Cert.OutRefIdeal.main_v36) = v1 c
          ∧ r.2.mem ((c.tc : Thread Cert.OutRefIdeal.nD Cert.OutRefIdeal.τ).loc Cert.OutRefIdeal.main_arg0) = m' ((c.tc : Thread Cert.OutRefIdeal.nD Cert.OutRefIdeal.τ).loc Cert.OutRefIdeal.main_arg0)
          ∧ r.2.mem ((c.tc : Thread Cert.OutRefIdeal.nD Cert.OutRefIdeal.τ).loc Cert.OutRefIdeal.main_arg1) = m' ((c.tc : Thread Cert.OutRefIdeal.nD Cert.OutRefIdeal.τ).loc Cert.OutRefIdeal.main_arg1)
          ∧ r.2.mem ((c.tc : Thread Cert.OutRefIdeal.nD Cert.OutRefIdeal.τ).loc Cert.OutRefIdeal.main_arg2) = m' ((c.tc : Thread Cert.OutRefIdeal.nD Cert.OutRefIdeal.τ).loc Cert.OutRefIdeal.main_arg2)
          ∧ r.2.mem ((c.tc : Thread Cert.OutRefIdeal.nD Cert.OutRefIdeal.τ).loc Cert.OutRefIdeal.main_arg3) = m' ((c.tc : Thread Cert.OutRefIdeal.nD Cert.OutRefIdeal.τ).loc Cert.OutRefIdeal.main_arg3)
          ∧ r.2.mem ((c.tc : Thread Cert.OutRefIdeal.nD Cert.OutRefIdeal.τ).loc Cert.OutRefIdeal.main_arg4) = m' ((c.tc : Thread Cert.OutRefIdeal.nD Cert.OutRefIdeal.τ).loc Cert.OutRefIdeal.main_arg4)
          ∧ r.2.mem ((c.tc : Thread Cert.OutRefIdeal.nD Cert.OutRefIdeal.τ).loc Cert.OutRefIdeal.main_arg5) = m' ((c.tc : Thread Cert.OutRefIdeal.nD Cert.OutRefIdeal.τ).loc Cert.OutRefIdeal.main_arg5)
          ∧ r.2.mem ((c.tc : Thread Cert.OutRefIdeal.nD Cert.OutRefIdeal.τ).loc Cert.OutRefIdeal.main_arg6) = m' ((c.tc : Thread Cert.OutRefIdeal.nD Cert.OutRefIdeal.τ).loc Cert.OutRefIdeal.main_arg6))

def preserves_Peer_PeerIdeal : Prop :=
  True

def algebraic_PeerIdeal_PeerRefIdeal_pre_sums_differ [hPeerIdeal : Cert.PeerIdeal.Facts] [hPeerRefIdeal : Cert.PeerRefIdeal.Facts] [hPre_sums_differ : Cert.Pre_sums_differ.Facts] : Prop :=
  ∀ (m : (ℓ : Loc Cert.PeerIdeal.nD Cert.PeerIdeal.τ Cert.PeerIdeal.sig) → Buf (Elt Ideal) ℓ) (g : Dev Cert.PeerIdeal.nD → PrngReg)
    (m' : (ℓ : Loc Cert.PeerRefIdeal.nD Cert.PeerRefIdeal.τ Cert.PeerRefIdeal.sig) → Buf (Elt Ideal) ℓ) (g' : Dev Cert.PeerRefIdeal.nD → PrngReg), Pre_PeerIdeal_sums_differ m →
    (∀ c : Dev Cert.PeerIdeal.nD,
      m' ((c.tc : Thread Cert.PeerRefIdeal.nD Cert.PeerRefIdeal.τ).loc Cert.PeerRefIdeal.main_arg0) = m ((c.tc : Thread Cert.PeerIdeal.nD Cert.PeerIdeal.τ).loc Cert.PeerIdeal.main_arg0)
      ∧ m' ((c.tc : Thread Cert.PeerRefIdeal.nD Cert.PeerRefIdeal.τ).loc Cert.PeerRefIdeal.main_arg1) = m ((c.tc : Thread Cert.PeerIdeal.nD Cert.PeerIdeal.τ).loc Cert.PeerIdeal.main_arg1)
      ∧ m' ((c.tc : Thread Cert.PeerRefIdeal.nD Cert.PeerRefIdeal.τ).loc Cert.PeerRefIdeal.main_arg2) = m ((c.tc : Thread Cert.PeerIdeal.nD Cert.PeerIdeal.τ).loc Cert.PeerIdeal.main_arg2)) →
    ∃ (v0 : (c : Dev Cert.PeerIdeal.nD) → Buf (Elt Ideal) ((c.tc : Thread Cert.PeerIdeal.nD Cert.PeerIdeal.τ).loc Cert.PeerIdeal.main_v0_0)) (v1 : (c : Dev Cert.PeerIdeal.nD) → Buf (Elt Ideal) ((c.tc : Thread Cert.PeerIdeal.nD Cert.PeerIdeal.τ).loc Cert.PeerIdeal.main_v0_1)) (v2 : (c : Dev Cert.PeerIdeal.nD) → Buf (Elt Ideal) ((c.tc : Thread Cert.PeerIdeal.nD Cert.PeerIdeal.τ).loc Cert.PeerIdeal.main_v0_2)) (v3 : (c : Dev Cert.PeerIdeal.nD) → Buf (Elt Ideal) ((c.tc : Thread Cert.PeerIdeal.nD Cert.PeerIdeal.τ).loc Cert.PeerIdeal.main_v0_3)),
      θ_run (Cert.PeerIdeal.defs (F := Ideal)) (onTc (τ := Cert.PeerIdeal.τ) (Cert.PeerIdeal.main (F := Ideal))) ⟨m, fun _ => 0, g⟩ (fun r => ∀ c : Dev Cert.PeerIdeal.nD,
          r.2.mem ((c.tc : Thread Cert.PeerIdeal.nD Cert.PeerIdeal.τ).loc Cert.PeerIdeal.main_v0_0) = v0 c
          ∧ r.2.mem ((c.tc : Thread Cert.PeerIdeal.nD Cert.PeerIdeal.τ).loc Cert.PeerIdeal.main_v0_1) = v1 c
          ∧ r.2.mem ((c.tc : Thread Cert.PeerIdeal.nD Cert.PeerIdeal.τ).loc Cert.PeerIdeal.main_v0_2) = v2 c
          ∧ r.2.mem ((c.tc : Thread Cert.PeerIdeal.nD Cert.PeerIdeal.τ).loc Cert.PeerIdeal.main_v0_3) = v3 c
          ∧ r.2.mem ((c.tc : Thread Cert.PeerIdeal.nD Cert.PeerIdeal.τ).loc Cert.PeerIdeal.main_arg0) = m ((c.tc : Thread Cert.PeerIdeal.nD Cert.PeerIdeal.τ).loc Cert.PeerIdeal.main_arg0)
          ∧ r.2.mem ((c.tc : Thread Cert.PeerIdeal.nD Cert.PeerIdeal.τ).loc Cert.PeerIdeal.main_arg1) = m ((c.tc : Thread Cert.PeerIdeal.nD Cert.PeerIdeal.τ).loc Cert.PeerIdeal.main_arg1)
          ∧ r.2.mem ((c.tc : Thread Cert.PeerIdeal.nD Cert.PeerIdeal.τ).loc Cert.PeerIdeal.main_arg2) = m ((c.tc : Thread Cert.PeerIdeal.nD Cert.PeerIdeal.τ).loc Cert.PeerIdeal.main_arg2))
      ∧ θ_run (Cert.PeerRefIdeal.defs (F := Ideal)) (onTc (τ := Cert.PeerRefIdeal.τ) (Cert.PeerRefIdeal.main (F := Ideal))) ⟨m', fun _ => 0, g'⟩ (fun r => ∀ c : Dev Cert.PeerRefIdeal.nD,
          r.2.mem ((c.tc : Thread Cert.PeerRefIdeal.nD Cert.PeerRefIdeal.τ).loc Cert.PeerRefIdeal.main_v340) = v0 c
          ∧ r.2.mem ((c.tc : Thread Cert.PeerRefIdeal.nD Cert.PeerRefIdeal.τ).loc Cert.PeerRefIdeal.main_v341) = v1 c
          ∧ r.2.mem ((c.tc : Thread Cert.PeerRefIdeal.nD Cert.PeerRefIdeal.τ).loc Cert.PeerRefIdeal.main_v342) = v2 c
          ∧ r.2.mem ((c.tc : Thread Cert.PeerRefIdeal.nD Cert.PeerRefIdeal.τ).loc Cert.PeerRefIdeal.main_v343) = v3 c
          ∧ r.2.mem ((c.tc : Thread Cert.PeerRefIdeal.nD Cert.PeerRefIdeal.τ).loc Cert.PeerRefIdeal.main_arg0) = m' ((c.tc : Thread Cert.PeerRefIdeal.nD Cert.PeerRefIdeal.τ).loc Cert.PeerRefIdeal.main_arg0)
          ∧ r.2.mem ((c.tc : Thread Cert.PeerRefIdeal.nD Cert.PeerRefIdeal.τ).loc Cert.PeerRefIdeal.main_arg1) = m' ((c.tc : Thread Cert.PeerRefIdeal.nD Cert.PeerRefIdeal.τ).loc Cert.PeerRefIdeal.main_arg1)
          ∧ r.2.mem ((c.tc : Thread Cert.PeerRefIdeal.nD Cert.PeerRefIdeal.τ).loc Cert.PeerRefIdeal.main_arg2) = m' ((c.tc : Thread Cert.PeerRefIdeal.nD Cert.PeerRefIdeal.τ).loc Cert.PeerRefIdeal.main_arg2))

def preserves_Four_FourIdeal : Prop :=
  True

def algebraic_FourIdeal_FourRefIdeal [hFourIdeal : Cert.FourIdeal.Facts] [hFourRefIdeal : Cert.FourRefIdeal.Facts] : Prop :=
  ∀ (m : (ℓ : Loc Cert.FourIdeal.nD Cert.FourIdeal.τ Cert.FourIdeal.sig) → Buf (Elt Ideal) ℓ) (g : Dev Cert.FourIdeal.nD → PrngReg)
    (m' : (ℓ : Loc Cert.FourRefIdeal.nD Cert.FourRefIdeal.τ Cert.FourRefIdeal.sig) → Buf (Elt Ideal) ℓ) (g' : Dev Cert.FourRefIdeal.nD → PrngReg), Pre_FourIdeal m →
    (∀ c : Dev Cert.FourIdeal.nD,
      m' ((c.tc : Thread Cert.FourRefIdeal.nD Cert.FourRefIdeal.τ).loc Cert.FourRefIdeal.main_arg0) = m ((c.tc : Thread Cert.FourIdeal.nD Cert.FourIdeal.τ).loc Cert.FourIdeal.main_arg0)
      ∧ m' ((c.tc : Thread Cert.FourRefIdeal.nD Cert.FourRefIdeal.τ).loc Cert.FourRefIdeal.main_arg1) = m ((c.tc : Thread Cert.FourIdeal.nD Cert.FourIdeal.τ).loc Cert.FourIdeal.main_arg1)
      ∧ m' ((c.tc : Thread Cert.FourRefIdeal.nD Cert.FourRefIdeal.τ).loc Cert.FourRefIdeal.main_arg2) = m ((c.tc : Thread Cert.FourIdeal.nD Cert.FourIdeal.τ).loc Cert.FourIdeal.main_arg2)
      ∧ m' ((c.tc : Thread Cert.FourRefIdeal.nD Cert.FourRefIdeal.τ).loc Cert.FourRefIdeal.main_arg3) = m ((c.tc : Thread Cert.FourIdeal.nD Cert.FourIdeal.τ).loc Cert.FourIdeal.main_arg3)) →
    ∃ (v0 : (c : Dev Cert.FourIdeal.nD) → Buf (Elt Ideal) ((c.tc : Thread Cert.FourIdeal.nD Cert.FourIdeal.τ).loc Cert.FourIdeal.main_v26)),
      θ_run (Cert.FourIdeal.defs (F := Ideal)) (onTc (τ := Cert.FourIdeal.τ) (Cert.FourIdeal.main (F := Ideal))) ⟨m, fun _ => 0, g⟩ (fun r => ∀ c : Dev Cert.FourIdeal.nD,
          r.2.mem ((c.tc : Thread Cert.FourIdeal.nD Cert.FourIdeal.τ).loc Cert.FourIdeal.main_v26) = v0 c
          ∧ r.2.mem ((c.tc : Thread Cert.FourIdeal.nD Cert.FourIdeal.τ).loc Cert.FourIdeal.main_arg0) = m ((c.tc : Thread Cert.FourIdeal.nD Cert.FourIdeal.τ).loc Cert.FourIdeal.main_arg0)
          ∧ r.2.mem ((c.tc : Thread Cert.FourIdeal.nD Cert.FourIdeal.τ).loc Cert.FourIdeal.main_arg1) = m ((c.tc : Thread Cert.FourIdeal.nD Cert.FourIdeal.τ).loc Cert.FourIdeal.main_arg1)
          ∧ r.2.mem ((c.tc : Thread Cert.FourIdeal.nD Cert.FourIdeal.τ).loc Cert.FourIdeal.main_arg2) = m ((c.tc : Thread Cert.FourIdeal.nD Cert.FourIdeal.τ).loc Cert.FourIdeal.main_arg2)
          ∧ r.2.mem ((c.tc : Thread Cert.FourIdeal.nD Cert.FourIdeal.τ).loc Cert.FourIdeal.main_arg3) = m ((c.tc : Thread Cert.FourIdeal.nD Cert.FourIdeal.τ).loc Cert.FourIdeal.main_arg3))
      ∧ θ_run (Cert.FourRefIdeal.defs (F := Ideal)) (onTc (τ := Cert.FourRefIdeal.τ) (Cert.FourRefIdeal.main (F := Ideal))) ⟨m', fun _ => 0, g'⟩ (fun r => ∀ c : Dev Cert.FourRefIdeal.nD,
          r.2.mem ((c.tc : Thread Cert.FourRefIdeal.nD Cert.FourRefIdeal.τ).loc Cert.FourRefIdeal.main_v18) = v0 c
          ∧ r.2.mem ((c.tc : Thread Cert.FourRefIdeal.nD Cert.FourRefIdeal.τ).loc Cert.FourRefIdeal.main_arg0) = m' ((c.tc : Thread Cert.FourRefIdeal.nD Cert.FourRefIdeal.τ).loc Cert.FourRefIdeal.main_arg0)
          ∧ r.2.mem ((c.tc : Thread Cert.FourRefIdeal.nD Cert.FourRefIdeal.τ).loc Cert.FourRefIdeal.main_arg1) = m' ((c.tc : Thread Cert.FourRefIdeal.nD Cert.FourRefIdeal.τ).loc Cert.FourRefIdeal.main_arg1)
          ∧ r.2.mem ((c.tc : Thread Cert.FourRefIdeal.nD Cert.FourRefIdeal.τ).loc Cert.FourRefIdeal.main_arg2) = m' ((c.tc : Thread Cert.FourRefIdeal.nD Cert.FourRefIdeal.τ).loc Cert.FourRefIdeal.main_arg2)
          ∧ r.2.mem ((c.tc : Thread Cert.FourRefIdeal.nD Cert.FourRefIdeal.τ).loc Cert.FourRefIdeal.main_arg3) = m' ((c.tc : Thread Cert.FourRefIdeal.nD Cert.FourRefIdeal.τ).loc Cert.FourRefIdeal.main_arg3))

def Claim : Prop :=
  ∃ (hAttn : Cert.Attn.Facts) (hAttnIdeal : Cert.AttnIdeal.Facts) (hAttnRefIdeal : Cert.AttnRefIdeal.Facts) (hIn : Cert.In.Facts) (hInIdeal : Cert.InIdeal.Facts) (hInRefIdeal : Cert.InRefIdeal.Facts) (hOut : Cert.Out.Facts) (hOutIdeal : Cert.OutIdeal.Facts) (hOutRefIdeal : Cert.OutRefIdeal.Facts) (hPeer : Cert.Peer.Facts) (hPeerIdeal : Cert.PeerIdeal.Facts) (hPeerRefIdeal : Cert.PeerRefIdeal.Facts) (hFour : Cert.Four.Facts) (hFourIdeal : Cert.FourIdeal.Facts) (hFourRefIdeal : Cert.FourRefIdeal.Facts) (hPre_scores_finite : Cert.Pre_scores_finite.Facts) (hPre_sums_differ : Cert.Pre_sums_differ.Facts),
    quiescent_Attn (hAttn := hAttn)
    ∧ quiescent_AttnIdeal (hAttnIdeal := hAttnIdeal)
    ∧ quiescent_AttnIdeal_pre_scores_finite (hAttnIdeal := hAttnIdeal) (hPre_scores_finite := hPre_scores_finite)
    ∧ quiescent_AttnRefIdeal (hAttnRefIdeal := hAttnRefIdeal)
    ∧ quiescent_AttnRefIdeal_pre_scores_finite (hAttnRefIdeal := hAttnRefIdeal) (hPre_scores_finite := hPre_scores_finite)
    ∧ quiescent_In (hIn := hIn)
    ∧ quiescent_InIdeal (hInIdeal := hInIdeal)
    ∧ quiescent_InRefIdeal (hInRefIdeal := hInRefIdeal)
    ∧ quiescent_Out (hOut := hOut)
    ∧ quiescent_OutIdeal (hOutIdeal := hOutIdeal)
    ∧ quiescent_OutRefIdeal (hOutRefIdeal := hOutRefIdeal)
    ∧ quiescent_Peer (hPeer := hPeer)
    ∧ quiescent_PeerIdeal (hPeerIdeal := hPeerIdeal)
    ∧ quiescent_PeerIdeal_pre_sums_differ (hPeerIdeal := hPeerIdeal) (hPre_sums_differ := hPre_sums_differ)
    ∧ quiescent_PeerRefIdeal (hPeerRefIdeal := hPeerRefIdeal)
    ∧ quiescent_PeerRefIdeal_pre_sums_differ (hPeerRefIdeal := hPeerRefIdeal) (hPre_sums_differ := hPre_sums_differ)
    ∧ quiescent_Four (hFour := hFour)
    ∧ quiescent_FourIdeal (hFourIdeal := hFourIdeal)
    ∧ quiescent_FourRefIdeal (hFourRefIdeal := hFourRefIdeal)
    ∧ preserves_Attn_AttnIdeal
    ∧ algebraic_AttnIdeal_AttnRefIdeal_pre_scores_finite (hAttnIdeal := hAttnIdeal) (hAttnRefIdeal := hAttnRefIdeal) (hPre_scores_finite := hPre_scores_finite)
    ∧ preserves_In_InIdeal
    ∧ algebraic_InIdeal_InRefIdeal (hInIdeal := hInIdeal) (hInRefIdeal := hInRefIdeal)
    ∧ preserves_Out_OutIdeal
    ∧ algebraic_OutIdeal_OutRefIdeal (hOutIdeal := hOutIdeal) (hOutRefIdeal := hOutRefIdeal)
    ∧ preserves_Peer_PeerIdeal
    ∧ algebraic_PeerIdeal_PeerRefIdeal_pre_sums_differ (hPeerIdeal := hPeerIdeal) (hPeerRefIdeal := hPeerRefIdeal) (hPre_sums_differ := hPre_sums_differ)
    ∧ preserves_Four_FourIdeal
    ∧ algebraic_FourIdeal_FourRefIdeal (hFourIdeal := hFourIdeal) (hFourRefIdeal := hFourRefIdeal)
-- ==== Pre_scores_finite.lean ====
abbrev S8 : Shape := ⟨1, ![8]⟩
abbrev S8x4096x512 : Shape := ⟨3, ![8, 4096, 512]⟩
abbrev S8x4096x128 : Shape := ⟨3, ![8, 4096, 128]⟩
abbrev S8x256x128 : Shape := ⟨3, ![8, 256, 128]⟩
abbrev S_ : Shape := ⟨0, ![]⟩

class Facts : Prop where
  bcast_S_S8 : S_.BroadcastsInDim S8 (![] : Fin 0 → Fin S8.rank)
  bitsLt_bf16_f32 : FTy.bits .bf16 < FTy.bits .f32
  bcast_S_S8x4096x512 : S_.BroadcastsInDim S8x4096x512 (![] : Fin 0 → Fin S8x4096x512.rank)
  bcast_S_S8x4096x128 : S_.BroadcastsInDim S8x4096x128 (![] : Fin 0 → Fin S8x4096x128.rank)
  bcast_S_S8x256x128 : S_.BroadcastsInDim S8x256x128 (![] : Fin 0 → Fin S8x256x128.rank)

variable [Facts]

def fn {F : FTy → Type} [FloatOps F] (main_arg0 : FVec F S8 .f32) (main_arg1 : FVec F S8x4096x512 .bf16) (main_arg2 : FVec F S8x4096x128 .f32) (main_arg3 : FVec F S8x4096x128 .f32) (main_arg4 : FVec F S8x256x128 .f32) (main_arg5 : FVec F S8x256x128 .f32) : IVec S8 1 × IVec S8x4096x512 1 × IVec S8x4096x128 1 × IVec S8x256x128 1 :=
  let main_v0 : FVec F S8 .f32 := Host.absf main_arg0
  let main_cst : FVec F S_ .f32 := constant S_ .f32 0x7F800000#32
  let main_v1 : FVec F S8 .f32 := broadcastInDim S8 ![] bcast_S_S8 main_cst
  let main_v2 : IVec S8 1 := cmpf .olt main_v0 main_v1
  let main_v3 : FVec F S8x4096x512 .f32 := (extf .f32 · bitsLt_bf16_f32) main_arg1
  let main_v4 : FVec F S8x4096x512 .f32 := Host.absf main_v3
  let main_cst_0 : FVec F S_ .f32 := constant S_ .f32 0x7F800000#32
  let main_v5 : FVec F S8x4096x512 .f32 := broadcastInDim S8x4096x512 ![] bcast_S_S8x4096x512 main_cst_0
  let main_v6 : IVec S8x4096x512 1 := cmpf .olt main_v4 main_v5
  let main_v7 : FVec F S8x4096x128 .f32 := Host.absf main_arg2
  let main_cst_1 : FVec F S_ .f32 := constant S_ .f32 0x7F800000#32
  let main_v8 : FVec F S8x4096x128 .f32 := broadcastInDim S8x4096x128 ![] bcast_S_S8x4096x128 main_cst_1
  let main_v9 : IVec S8x4096x128 1 := cmpf .olt main_v7 main_v8
  let main_v10 : FVec F S8x256x128 .f32 := Host.absf main_arg4
  let main_cst_2 : FVec F S_ .f32 := constant S_ .f32 0x7F800000#32
  let main_v11 : FVec F S8x256x128 .f32 := broadcastInDim S8x256x128 ![] bcast_S_S8x256x128 main_cst_2
  let main_v12 : IVec S8x256x128 1 := cmpf .olt main_v10 main_v11
  (main_v2, main_v6, main_v9, main_v12)
-- ==== Pre_sums_differ.lean ====
abbrev S1024x32768 : Shape := ⟨2, ![1024, 32768]⟩
abbrev S2048x1024 : Shape := ⟨2, ![2048, 1024]⟩
abbrev S8x2x128x128 : Shape := ⟨4, ![8, 2, 128, 128]⟩
abbrev S32768x2048 : Shape := ⟨2, ![32768, 2048]⟩
abbrev S32768x8x2x128 : Shape := ⟨4, ![32768, 8, 2, 128]⟩
abbrev S32768x8x1x128 : Shape := ⟨4, ![32768, 8, 1, 128]⟩
abbrev S32768x8x128 : Shape := ⟨3, ![32768, 8, 128]⟩
abbrev S8x1x128x128 : Shape := ⟨4, ![8, 1, 128, 128]⟩
abbrev S8x128x128 : Shape := ⟨3, ![8, 128, 128]⟩
abbrev S8x128x32768 : Shape := ⟨3, ![8, 128, 32768]⟩
abbrev S_ : Shape := ⟨0, ![]⟩
abbrev S32768x8 : Shape := ⟨2, ![32768, 8]⟩
abbrev S32768x8x1 : Shape := ⟨3, ![32768, 8, 1]⟩
abbrev S32768x8x16 : Shape := ⟨3, ![32768, 8, 16]⟩
abbrev S32768x8x16x1 : Shape := ⟨4, ![32768, 8, 16, 1]⟩
abbrev S32768x8x1x16 : Shape := ⟨4, ![32768, 8, 1, 16]⟩
abbrev S32768x8x16x16 : Shape := ⟨4, ![32768, 8, 16, 16]⟩
abbrev S32768x8x256 : Shape := ⟨3, ![32768, 8, 256]⟩
abbrev S32768x8x256x1 : Shape := ⟨4, ![32768, 8, 256, 1]⟩
abbrev S32768x8x1x256 : Shape := ⟨4, ![32768, 8, 1, 256]⟩
abbrev S32768x8x256x256 : Shape := ⟨4, ![32768, 8, 256, 256]⟩
abbrev S256 : Shape := ⟨1, ![256]⟩
abbrev S256x1 : Shape := ⟨2, ![256, 1]⟩
abbrev S1x256 : Shape := ⟨2, ![1, 256]⟩
abbrev S256x256 : Shape := ⟨2, ![256, 256]⟩
abbrev S1x1x256x256 : Shape := ⟨4, ![1, 1, 256, 256]⟩

class Facts : Prop where
  bitsLt_bf16_f32 : FTy.bits .bf16 < FTy.bits .f32
  shapeCasts_S32768x2048_S32768x8x2x128 : S32768x2048.ShapeCasts S32768x8x2x128
  slices_S32768x8x2x128_S32768x8x1x128_0_0_0_0 : S32768x8x2x128.Slices ![0, 0, 0, 0] S32768x8x1x128
  shapeCasts_S32768x8x1x128_S32768x8x128 : S32768x8x1x128.ShapeCasts S32768x8x128
  slices_S8x2x128x128_S8x1x128x128_0_0_0_0 : S8x2x128x128.Slices ![0, 0, 0, 0] S8x1x128x128
  shapeCasts_S8x1x128x128_S8x128x128 : S8x1x128x128.ShapeCasts S8x128x128
  transposes_S8x128x32768_S32768x8x128_2_0_1 : S8x128x32768.Transposes [2, 0, 1] S32768x8x128
  slices_S32768x8x2x128_S32768x8x1x128_0_0_1_0 : S32768x8x2x128.Slices ![0, 0, 1, 0] S32768x8x1x128
  slices_S8x2x128x128_S8x1x128x128_0_1_0_0 : S8x2x128x128.Slices ![0, 1, 0, 0] S8x1x128x128
  reducesTo_S32768x8x128_S32768x8_d2 : S32768x8x128.ReducesTo [2] S32768x8
  h_S_ : 0 < S_.numel
  bcast_S32768x8_S32768x8x1_0_1 : S32768x8.BroadcastsInDim S32768x8x1 (![0, 1] : Fin 2 → Fin S32768x8x1.rank)
  bcast_S32768x8x1_S32768x8x128_0_1_2 : S32768x8x1.BroadcastsInDim S32768x8x128 (![0, 1, 2] : Fin 3 → Fin S32768x8x128.rank)
  bcast_S_S32768x8x128 : S_.BroadcastsInDim S32768x8x128 (![] : Fin 0 → Fin S32768x8x128.rank)
  concatenates_S32768x8x1_S32768x8x1_S32768x8x1_S32768x8x1_S32768x8x1_S32768x8x1_S32768x8x1_S32768x8x1_S32768x8x1_S32768x8x1_S32768x8x1_S32768x8x1_S32768x8x1_S32768x8x1_S32768x8x1_S32768x8x1_S32768x8x16_d2 : Shape.Concatenates [S32768x8x1, S32768x8x1, S32768x8x1, S32768x8x1, S32768x8x1, S32768x8x1, S32768x8x1, S32768x8x1, S32768x8x1, S32768x8x1, S32768x8x1, S32768x8x1, S32768x8x1, S32768x8x1, S32768x8x1, S32768x8x1] S32768x8x16 2
  bcast_S32768x8x16_S32768x8x16x1_0_1_2 : S32768x8x16.BroadcastsInDim S32768x8x16x1 (![0, 1, 2] : Fin 3 → Fin S32768x8x16x1.rank)
  bcast_S32768x8x16_S32768x8x1x16_0_1_3 : S32768x8x16.BroadcastsInDim S32768x8x1x16 (![0, 1, 3] : Fin 3 → Fin S32768x8x1x16.rank)
  bcast_S32768x8x16x1_S32768x8x16x16_0_1_2_3 : S32768x8x16x1.BroadcastsInDim S32768x8x16x16 (![0, 1, 2, 3] : Fin 4 → Fin S32768x8x16x16.rank)
  bcast_S32768x8x1x16_S32768x8x16x16_0_1_2_3 : S32768x8x1x16.BroadcastsInDim S32768x8x16x16 (![0, 1, 2, 3] : Fin 4 → Fin S32768x8x16x16.rank)
  shapeCasts_S32768x8x16x16_S32768x8x256 : S32768x8x16x16.ShapeCasts S32768x8x256
  bcast_S32768x8x256_S32768x8x256x1_0_1_2 : S32768x8x256.BroadcastsInDim S32768x8x256x1 (![0, 1, 2] : Fin 3 → Fin S32768x8x256x1.rank)
  bcast_S32768x8x256_S32768x8x1x256_0_1_3 : S32768x8x256.BroadcastsInDim S32768x8x1x256 (![0, 1, 3] : Fin 3 → Fin S32768x8x1x256.rank)
  bcast_S32768x8x256x1_S32768x8x256x256_0_1_2_3 : S32768x8x256x1.BroadcastsInDim S32768x8x256x256 (![0, 1, 2, 3] : Fin 4 → Fin S32768x8x256x256.rank)
  bcast_S32768x8x1x256_S32768x8x256x256_0_1_2_3 : S32768x8x1x256.BroadcastsInDim S32768x8x256x256 (![0, 1, 2, 3] : Fin 4 → Fin S32768x8x256x256.rank)
  bcast_S256_S256x1_0 : S256.BroadcastsInDim S256x1 (![0] : Fin 1 → Fin S256x1.rank)
  bcast_S256_S1x256_1 : S256.BroadcastsInDim S1x256 (![1] : Fin 1 → Fin S1x256.rank)
  bcast_S256x1_S256x256_0_1 : S256x1.BroadcastsInDim S256x256 (![0, 1] : Fin 2 → Fin S256x256.rank)
  bcast_S1x256_S256x256_0_1 : S1x256.BroadcastsInDim S256x256 (![0, 1] : Fin 2 → Fin S256x256.rank)
  bcast_S256x256_S1x1x256x256_2_3 : S256x256.BroadcastsInDim S1x1x256x256 (![2, 3] : Fin 2 → Fin S1x1x256x256.rank)
  bcast_S1x1x256x256_S32768x8x256x256_0_1_2_3 : S1x1x256x256.BroadcastsInDim S32768x8x256x256 (![0, 1, 2, 3] : Fin 4 → Fin S32768x8x256x256.rank)
  dot_S1024x32768_S2048x1024_S32768x2048_0_1_1_0_n_n_wf : DotDims.WF S1024x32768 S2048x1024 S32768x2048 [0] [1] [1] [0] [] []
  dot_S8x128x128_S32768x8x128_S8x128x32768_2_2_1_0_0_1_wf : DotDims.WF S8x128x128 S32768x8x128 S8x128x32768 [2] [2] [1] [0] [0] [1]

variable [Facts]

def dot_S1024x32768_S2048x1024_S32768x2048_0_1_1_0_n_n : DotDims S1024x32768 S2048x1024 S32768x2048 where
  lhsContracting := [0]
  rhsContracting := [1]
  lhsNonContracting := [1]
  rhsNonContracting := [0]
  lhsBatch := []
  rhsBatch := []
  wf := dot_S1024x32768_S2048x1024_S32768x2048_0_1_1_0_n_n_wf
def dot_S8x128x128_S32768x8x128_S8x128x32768_2_2_1_0_0_1 : DotDims S8x128x128 S32768x8x128 S8x128x32768 where
  lhsContracting := [2]
  rhsContracting := [2]
  lhsNonContracting := [1]
  rhsNonContracting := [0]
  lhsBatch := [0]
  rhsBatch := [1]
  wf := dot_S8x128x128_S32768x8x128_S8x128x32768_2_2_1_0_0_1_wf
def fn_where {F : FTy → Type} [FloatOps F] (arg0 : IVec S32768x8x128 1) (arg1 : FVec F S32768x8x128 .f32) (arg2 : FVec F S_ .f32) : FVec F S32768x8x128 .f32 :=
  let v0 : FVec F S_ .f32 := id arg2
  let v1 : FVec F S32768x8x128 .f32 := broadcastInDim S32768x8x128 ![] bcast_S_S32768x8x128 v0
  let v2 : FVec F S32768x8x128 .f32 := select arg0 arg1 v1
  v2

def fn_part11 {F : FTy → Type} [FloatOps F] (main_v190 : IVec S32768x8x256x256 1) (main_v199 : IVec S32768x8x256x256 1) : IVec S32768x8x256x256 1 :=
  let main_v200 : IVec S32768x8x256x256 1 := cmpi .eq main_v190 main_v199
  main_v200

def fn_part10 {F : FTy → Type} [FloatOps F] (main_v98 : FVec F S32768x8x16 .f32) (main_v100 : FVec F S32768x8x1 .f32) (main_v105 : FVec F S32768x8x1 .f32) (main_v110 : FVec F S32768x8x1 .f32) (main_v115 : FVec F S32768x8x1 .f32) (main_v120 : FVec F S32768x8x1 .f32) (main_v125 : FVec F S32768x8x1 .f32) (main_v130 : FVec F S32768x8x1 .f32) (main_v135 : FVec F S32768x8x1 .f32) (main_v140 : FVec F S32768x8x1 .f32) (main_v145 : FVec F S32768x8x1 .f32) (main_v150 : FVec F S32768x8x1 .f32) (main_v155 : FVec F S32768x8x1 .f32) (main_v160 : FVec F S32768x8x1 .f32) (main_v165 : FVec F S32768x8x1 .f32) (main_v170 : FVec F S32768x8x1 .f32) (main_v173 : FVec F S32768x8x128 .f32) (main_v175 : FVec F S32768x8x1 .f32) (main_v176 : FVec F S32768x8x128 .f32) : IVec S32768x8x256x256 1 :=
  let main_v177 : IVec S32768x8x128 1 := cmpf .olt main_v173 main_v176
  let main_cst_62 : FVec F S_ .f32 := constant S_ .f32 0xFF800000#32
  let main_v178 : FVec F S32768x8x128 .f32 := fn_where (F := F) main_v177 main_v173 main_cst_62
  let main_v179 : FVec F S32768x8x16 .f32 := concatenate S32768x8x16 2 [⟨S32768x8x1, main_v100⟩, ⟨S32768x8x1, main_v105⟩, ⟨S32768x8x1, main_v110⟩, ⟨S32768x8x1, main_v115⟩, ⟨S32768x8x1, main_v120⟩, ⟨S32768x8x1, main_v125⟩, ⟨S32768x8x1, main_v130⟩, ⟨S32768x8x1, main_v135⟩, ⟨S32768x8x1, main_v140⟩, ⟨S32768x8x1, main_v145⟩, ⟨S32768x8x1, main_v150⟩, ⟨S32768x8x1, main_v155⟩, ⟨S32768x8x1, main_v160⟩, ⟨S32768x8x1, main_v165⟩, ⟨S32768x8x1, main_v170⟩, ⟨S32768x8x1, main_v175⟩] concatenates_S32768x8x1_S32768x8x1_S32768x8x1_S32768x8x1_S32768x8x1_S32768x8x1_S32768x8x1_S32768x8x1_S32768x8x1_S32768x8x1_S32768x8x1_S32768x8x1_S32768x8x1_S32768x8x1_S32768x8x1_S32768x8x1_S32768x8x16_d2
  let main_v180 : FVec F S32768x8x16x1 .f32 := broadcastInDim S32768x8x16x1 ![0, 1, 2] bcast_S32768x8x16_S32768x8x16x1_0_1_2 main_v98
  let main_v181 : FVec F S32768x8x1x16 .f32 := broadcastInDim S32768x8x1x16 ![0, 1, 3] bcast_S32768x8x16_S32768x8x1x16_0_1_3 main_v179
  let main_v182 : FVec F S32768x8x16x16 .f32 := broadcastInDim S32768x8x16x16 ![0, 1, 2, 3] bcast_S32768x8x16x1_S32768x8x16x16_0_1_2_3 main_v180
  let main_v183 : FVec F S32768x8x16x16 .f32 := broadcastInDim S32768x8x16x16 ![0, 1, 2, 3] bcast_S32768x8x1x16_S32768x8x16x16_0_1_2_3 main_v181
  let main_v184 : FVec F S32768x8x16x16 .f32 := addf main_v182 main_v183
  let main_v185 : FVec F S32768x8x256 .f32 := shapeCast S32768x8x256 main_v184 shapeCasts_S32768x8x16x16_S32768x8x256
  let main_v186 : FVec F S32768x8x256x1 .f32 := broadcastInDim S32768x8x256x1 ![0, 1, 2] bcast_S32768x8x256_S32768x8x256x1_0_1_2 main_v185
  let main_v187 : FVec F S32768x8x1x256 .f32 := broadcastInDim S32768x8x1x256 ![0, 1, 3] bcast_S32768x8x256_S32768x8x1x256_0_1_3 main_v185
  let main_v188 : FVec F S32768x8x256x256 .f32 := broadcastInDim S32768x8x256x256 ![0, 1, 2, 3] bcast_S32768x8x256x1_S32768x8x256x256_0_1_2_3 main_v186
  let main_v189 : FVec F S32768x8x256x256 .f32 := broadcastInDim S32768x8x256x256 ![0, 1, 2, 3] bcast_S32768x8x1x256_S32768x8x256x256_0_1_2_3 main_v187
  let main_v190 : IVec S32768x8x256x256 1 := cmpf .oeq main_v188 main_v189
  let main_v191 : IVec S256 32 := iotaInDim S256 32 0
  let main_v192 : IVec S256x1 32 := broadcastInDim S256x1 ![0] bcast_S256_S256x1_0 main_v191
  let main_v193 : IVec S256 32 := iotaInDim S256 32 0
  let main_v194 : IVec S1x256 32 := broadcastInDim S1x256 ![1] bcast_S256_S1x256_1 main_v193
  let main_v195 : IVec S256x256 32 := broadcastInDim S256x256 ![0, 1] bcast_S256x1_S256x256_0_1 main_v192
  let main_v196 : IVec S256x256 32 := broadcastInDim S256x256 ![0, 1] bcast_S1x256_S256x256_0_1 main_v194
  let main_v197 : IVec S256x256 1 := cmpi .eq main_v195 main_v196
  let main_v198 : IVec S1x1x256x256 1 := broadcastInDim S1x1x256x256 ![2, 3] bcast_S256x256_S1x1x256x256_2_3 main_v197
  let main_v199 : IVec S32768x8x256x256 1 := broadcastInDim S32768x8x256x256 ![0, 1, 2, 3] bcast_S1x1x256x256_S32768x8x256x256_0_1_2_3 main_v198
  fn_part11 (F := F) main_v190 main_v199

def fn_part9 {F : FTy → Type} [FloatOps F] (main_v98 : FVec F S32768x8x16 .f32) (main_v100 : FVec F S32768x8x1 .f32) (main_v105 : FVec F S32768x8x1 .f32) (main_v110 : FVec F S32768x8x1 .f32) (main_v115 : FVec F S32768x8x1 .f32) (main_v120 : FVec F S32768x8x1 .f32) (main_v125 : FVec F S32768x8x1 .f32) (main_v130 : FVec F S32768x8x1 .f32) (main_v135 : FVec F S32768x8x1 .f32) (main_v140 : FVec F S32768x8x1 .f32) (main_v145 : FVec F S32768x8x1 .f32) (main_v150 : FVec F S32768x8x1 .f32) (main_v155 : FVec F S32768x8x1 .f32) (main_v158 : FVec F S32768x8x128 .f32) (main_cst_55 : FVec F S_ .f32) : IVec S32768x8x256x256 1 :=
  let main_v159 : FVec F S32768x8 .f32 := (fun x v => Host.reduce FloatOps.maximumf x v reducesTo_S32768x8x128_S32768x8_d2 h_S_) main_v158 main_cst_55
  let main_v160 : FVec F S32768x8x1 .f32 := broadcastInDim S32768x8x1 ![0, 1] bcast_S32768x8_S32768x8x1_0_1 main_v159
  let main_v161 : FVec F S32768x8x128 .f32 := broadcastInDim S32768x8x128 ![0, 1, 2] bcast_S32768x8x1_S32768x8x128_0_1_2 main_v160
  let main_v162 : IVec S32768x8x128 1 := cmpf .olt main_v158 main_v161
  let main_cst_56 : FVec F S_ .f32 := constant S_ .f32 0xFF800000#32
  let main_v163 : FVec F S32768x8x128 .f32 := fn_where (F := F) main_v162 main_v158 main_cst_56
  let main_cst_57 : FVec F S_ .f32 := constant S_ .f32 0xFF800000#32
  let main_v164 : FVec F S32768x8 .f32 := (fun x v => Host.reduce FloatOps.maximumf x v reducesTo_S32768x8x128_S32768x8_d2 h_S_) main_v163 main_cst_57
  let main_v165 : FVec F S32768x8x1 .f32 := broadcastInDim S32768x8x1 ![0, 1] bcast_S32768x8_S32768x8x1_0_1 main_v164
  let main_v166 : FVec F S32768x8x128 .f32 := broadcastInDim S32768x8x128 ![0, 1, 2] bcast_S32768x8x1_S32768x8x128_0_1_2 main_v165
  let main_v167 : IVec S32768x8x128 1 := cmpf .olt main_v163 main_v166
  let main_cst_58 : FVec F S_ .f32 := constant S_ .f32 0xFF800000#32
  let main_v168 : FVec F S32768x8x128 .f32 := fn_where (F := F) main_v167 main_v163 main_cst_58
  let main_cst_59 : FVec F S_ .f32 := constant S_ .f32 0xFF800000#32
  let main_v169 : FVec F S32768x8 .f32 := (fun x v => Host.reduce FloatOps.maximumf x v reducesTo_S32768x8x128_S32768x8_d2 h_S_) main_v168 main_cst_59
  let main_v170 : FVec F S32768x8x1 .f32 := broadcastInDim S32768x8x1 ![0, 1] bcast_S32768x8_S32768x8x1_0_1 main_v169
  let main_v171 : FVec F S32768x8x128 .f32 := broadcastInDim S32768x8x128 ![0, 1, 2] bcast_S32768x8x1_S32768x8x128_0_1_2 main_v170
  let main_v172 : IVec S32768x8x128 1 := cmpf .olt main_v168 main_v171
  let main_cst_60 : FVec F S_ .f32 := constant S_ .f32 0xFF800000#32
  let main_v173 : FVec F S32768x8x128 .f32 := fn_where (F := F) main_v172 main_v168 main_cst_60
  let main_cst_61 : FVec F S_ .f32 := constant S_ .f32 0xFF800000#32
  let main_v174 : FVec F S32768x8 .f32 := (fun x v => Host.reduce FloatOps.maximumf x v reducesTo_S32768x8x128_S32768x8_d2 h_S_) main_v173 main_cst_61
  let main_v175 : FVec F S32768x8x1 .f32 := broadcastInDim S32768x8x1 ![0, 1] bcast_S32768x8_S32768x8x1_0_1 main_v174
  let main_v176 : FVec F S32768x8x128 .f32 := broadcastInDim S32768x8x128 ![0, 1, 2] bcast_S32768x8x1_S32768x8x128_0_1_2 main_v175
  fn_part10 (F := F) main_v98 main_v100 main_v105 main_v110 main_v115 main_v120 main_v125 main_v130 main_v135 main_v140 main_v145 main_v150 main_v155 main_v160 main_v165 main_v170 main_v173 main_v175 main_v176

def fn_part8 {F : FTy → Type} [FloatOps F] (main_v98 : FVec F S32768x8x16 .f32) (main_v100 : FVec F S32768x8x1 .f32) (main_v105 : FVec F S32768x8x1 .f32) (main_v110 : FVec F S32768x8x1 .f32) (main_v115 : FVec F S32768x8x1 .f32) (main_v120 : FVec F S32768x8x1 .f32) (main_v125 : FVec F S32768x8x1 .f32) (main_v130 : FVec F S32768x8x1 .f32) (main_v135 : FVec F S32768x8x1 .f32) (main_v138 : FVec F S32768x8x128 .f32) (main_v140 : FVec F S32768x8x1 .f32) (main_v142 : IVec S32768x8x128 1) : IVec S32768x8x256x256 1 :=
  let main_cst_48 : FVec F S_ .f32 := constant S_ .f32 0xFF800000#32
  let main_v143 : FVec F S32768x8x128 .f32 := fn_where (F := F) main_v142 main_v138 main_cst_48
  let main_cst_49 : FVec F S_ .f32 := constant S_ .f32 0xFF800000#32
  let main_v144 : FVec F S32768x8 .f32 := (fun x v => Host.reduce FloatOps.maximumf x v reducesTo_S32768x8x128_S32768x8_d2 h_S_) main_v143 main_cst_49
  let main_v145 : FVec F S32768x8x1 .f32 := broadcastInDim S32768x8x1 ![0, 1] bcast_S32768x8_S32768x8x1_0_1 main_v144
  let main_v146 : FVec F S32768x8x128 .f32 := broadcastInDim S32768x8x128 ![0, 1, 2] bcast_S32768x8x1_S32768x8x128_0_1_2 main_v145
  let main_v147 : IVec S32768x8x128 1 := cmpf .olt main_v143 main_v146
  let main_cst_50 : FVec F S_ .f32 := constant S_ .f32 0xFF800000#32
  let main_v148 : FVec F S32768x8x128 .f32 := fn_where (F := F) main_v147 main_v143 main_cst_50
  let main_cst_51 : FVec F S_ .f32 := constant S_ .f32 0xFF800000#32
  let main_v149 : FVec F S32768x8 .f32 := (fun x v => Host.reduce FloatOps.maximumf x v reducesTo_S32768x8x128_S32768x8_d2 h_S_) main_v148 main_cst_51
  let main_v150 : FVec F S32768x8x1 .f32 := broadcastInDim S32768x8x1 ![0, 1] bcast_S32768x8_S32768x8x1_0_1 main_v149
  let main_v151 : FVec F S32768x8x128 .f32 := broadcastInDim S32768x8x128 ![0, 1, 2] bcast_S32768x8x1_S32768x8x128_0_1_2 main_v150
  let main_v152 : IVec S32768x8x128 1 := cmpf .olt main_v148 main_v151
  let main_cst_52 : FVec F S_ .f32 := constant S_ .f32 0xFF800000#32
  let main_v153 : FVec F S32768x8x128 .f32 := fn_where (F := F) main_v152 main_v148 main_cst_52
  let main_cst_53 : FVec F S_ .f32 := constant S_ .f32 0xFF800000#32
  let main_v154 : FVec F S32768x8 .f32 := (fun x v => Host.reduce FloatOps.maximumf x v reducesTo_S32768x8x128_S32768x8_d2 h_S_) main_v153 main_cst_53
  let main_v155 : FVec F S32768x8x1 .f32 := broadcastInDim S32768x8x1 ![0, 1] bcast_S32768x8_S32768x8x1_0_1 main_v154
  let main_v156 : FVec F S32768x8x128 .f32 := broadcastInDim S32768x8x128 ![0, 1, 2] bcast_S32768x8x1_S32768x8x128_0_1_2 main_v155
  let main_v157 : IVec S32768x8x128 1 := cmpf .olt main_v153 main_v156
  let main_cst_54 : FVec F S_ .f32 := constant S_ .f32 0xFF800000#32
  let main_v158 : FVec F S32768x8x128 .f32 := fn_where (F := F) main_v157 main_v153 main_cst_54
  let main_cst_55 : FVec F S_ .f32 := constant S_ .f32 0xFF800000#32
  fn_part9 (F := F) main_v98 main_v100 main_v105 main_v110 main_v115 main_v120 main_v125 main_v130 main_v135 main_v140 main_v145 main_v150 main_v155 main_v158 main_cst_55

def fn_part7 {F : FTy → Type} [FloatOps F] (main_v98 : FVec F S32768x8x16 .f32) (main_v100 : FVec F S32768x8x1 .f32) (main_v105 : FVec F S32768x8x1 .f32) (main_v110 : FVec F S32768x8x1 .f32) (main_v115 : FVec F S32768x8x1 .f32) (main_v120 : FVec F S32768x8x1 .f32) (main_v123 : FVec F S32768x8x128 .f32) (main_v124 : FVec F S32768x8 .f32) : IVec S32768x8x256x256 1 :=
  let main_v125 : FVec F S32768x8x1 .f32 := broadcastInDim S32768x8x1 ![0, 1] bcast_S32768x8_S32768x8x1_0_1 main_v124
  let main_v126 : FVec F S32768x8x128 .f32 := broadcastInDim S32768x8x128 ![0, 1, 2] bcast_S32768x8x1_S32768x8x128_0_1_2 main_v125
  let main_v127 : IVec S32768x8x128 1 := cmpf .olt main_v123 main_v126
  let main_cst_42 : FVec F S_ .f32 := constant S_ .f32 0xFF800000#32
  let main_v128 : FVec F S32768x8x128 .f32 := fn_where (F := F) main_v127 main_v123 main_cst_42
  let main_cst_43 : FVec F S_ .f32 := constant S_ .f32 0xFF800000#32
  let main_v129 : FVec F S32768x8 .f32 := (fun x v => Host.reduce FloatOps.maximumf x v reducesTo_S32768x8x128_S32768x8_d2 h_S_) main_v128 main_cst_43
  let main_v130 : FVec F S32768x8x1 .f32 := broadcastInDim S32768x8x1 ![0, 1] bcast_S32768x8_S32768x8x1_0_1 main_v129
  let main_v131 : FVec F S32768x8x128 .f32 := broadcastInDim S32768x8x128 ![0, 1, 2] bcast_S32768x8x1_S32768x8x128_0_1_2 main_v130
  let main_v132 : IVec S32768x8x128 1 := cmpf .olt main_v128 main_v131
  let main_cst_44 : FVec F S_ .f32 := constant S_ .f32 0xFF800000#32
  let main_v133 : FVec F S32768x8x128 .f32 := fn_where (F := F) main_v132 main_v128 main_cst_44
  let main_cst_45 : FVec F S_ .f32 := constant S_ .f32 0xFF800000#32
  let main_v134 : FVec F S32768x8 .f32 := (fun x v => Host.reduce FloatOps.maximumf x v reducesTo_S32768x8x128_S32768x8_d2 h_S_) main_v133 main_cst_45
  let main_v135 : FVec F S32768x8x1 .f32 := broadcastInDim S32768x8x1 ![0, 1] bcast_S32768x8_S32768x8x1_0_1 main_v134
  let main_v136 : FVec F S32768x8x128 .f32 := broadcastInDim S32768x8x128 ![0, 1, 2] bcast_S32768x8x1_S32768x8x128_0_1_2 main_v135
  let main_v137 : IVec S32768x8x128 1 := cmpf .olt main_v133 main_v136
  let main_cst_46 : FVec F S_ .f32 := constant S_ .f32 0xFF800000#32
  let main_v138 : FVec F S32768x8x128 .f32 := fn_where (F := F) main_v137 main_v133 main_cst_46
  let main_cst_47 : FVec F S_ .f32 := constant S_ .f32 0xFF800000#32
  let main_v139 : FVec F S32768x8 .f32 := (fun x v => Host.reduce FloatOps.maximumf x v reducesTo_S32768x8x128_S32768x8_d2 h_S_) main_v138 main_cst_47
  let main_v140 : FVec F S32768x8x1 .f32 := broadcastInDim S32768x8x1 ![0, 1] bcast_S32768x8_S32768x8x1_0_1 main_v139
  let main_v141 : FVec F S32768x8x128 .f32 := broadcastInDim S32768x8x128 ![0, 1, 2] bcast_S32768x8x1_S32768x8x128_0_1_2 main_v140
  let main_v142 : IVec S32768x8x128 1 := cmpf .olt main_v138 main_v141
  fn_part8 (F := F) main_v98 main_v100 main_v105 main_v110 main_v115 main_v120 main_v125 main_v130 main_v135 main_v138 main_v140 main_v142

def fn_part6 {F : FTy → Type} [FloatOps F] (main_v98 : FVec F S32768x8x16 .f32) (main_v100 : FVec F S32768x8x1 .f32) (main_v103 : FVec F S32768x8x128 .f32) (main_v105 : FVec F S32768x8x1 .f32) (main_v107 : IVec S32768x8x128 1) (main_cst_34 : FVec F S_ .f32) : IVec S32768x8x256x256 1 :=
  let main_v108 : FVec F S32768x8x128 .f32 := fn_where (F := F) main_v107 main_v103 main_cst_34
  let main_cst_35 : FVec F S_ .f32 := constant S_ .f32 0xFF800000#32
  let main_v109 : FVec F S32768x8 .f32 := (fun x v => Host.reduce FloatOps.maximumf x v reducesTo_S32768x8x128_S32768x8_d2 h_S_) main_v108 main_cst_35
  let main_v110 : FVec F S32768x8x1 .f32 := broadcastInDim S32768x8x1 ![0, 1] bcast_S32768x8_S32768x8x1_0_1 main_v109
  let main_v111 : FVec F S32768x8x128 .f32 := broadcastInDim S32768x8x128 ![0, 1, 2] bcast_S32768x8x1_S32768x8x128_0_1_2 main_v110
  let main_v112 : IVec S32768x8x128 1 := cmpf .olt main_v108 main_v111
  let main_cst_36 : FVec F S_ .f32 := constant S_ .f32 0xFF800000#32
  let main_v113 : FVec F S32768x8x128 .f32 := fn_where (F := F) main_v112 main_v108 main_cst_36
  let main_cst_37 : FVec F S_ .f32 := constant S_ .f32 0xFF800000#32
  let main_v114 : FVec F S32768x8 .f32 := (fun x v => Host.reduce FloatOps.maximumf x v reducesTo_S32768x8x128_S32768x8_d2 h_S_) main_v113 main_cst_37
  let main_v115 : FVec F S32768x8x1 .f32 := broadcastInDim S32768x8x1 ![0, 1] bcast_S32768x8_S32768x8x1_0_1 main_v114
  let main_v116 : FVec F S32768x8x128 .f32 := broadcastInDim S32768x8x128 ![0, 1, 2] bcast_S32768x8x1_S32768x8x128_0_1_2 main_v115
  let main_v117 : IVec S32768x8x128 1 := cmpf .olt main_v113 main_v116
  let main_cst_38 : FVec F S_ .f32 := constant S_ .f32 0xFF800000#32
  let main_v118 : FVec F S32768x8x128 .f32 := fn_where (F := F) main_v117 main_v113 main_cst_38
  let main_cst_39 : FVec F S_ .f32 := constant S_ .f32 0xFF800000#32
  let main_v119 : FVec F S32768x8 .f32 := (fun x v => Host.reduce FloatOps.maximumf x v reducesTo_S32768x8x128_S32768x8_d2 h_S_) main_v118 main_cst_39
  let main_v120 : FVec F S32768x8x1 .f32 := broadcastInDim S32768x8x1 ![0, 1] bcast_S32768x8_S32768x8x1_0_1 main_v119
  let main_v121 : FVec F S32768x8x128 .f32 := broadcastInDim S32768x8x128 ![0, 1, 2] bcast_S32768x8x1_S32768x8x128_0_1_2 main_v120
  let main_v122 : IVec S32768x8x128 1 := cmpf .olt main_v118 main_v121
  let main_cst_40 : FVec F S_ .f32 := constant S_ .f32 0xFF800000#32
  let main_v123 : FVec F S32768x8x128 .f32 := fn_where (F := F) main_v122 main_v118 main_cst_40
  let main_cst_41 : FVec F S_ .f32 := constant S_ .f32 0xFF800000#32
  let main_v124 : FVec F S32768x8 .f32 := (fun x v => Host.reduce FloatOps.maximumf x v reducesTo_S32768x8x128_S32768x8_d2 h_S_) main_v123 main_cst_41
  fn_part7 (F := F) main_v98 main_v100 main_v105 main_v110 main_v115 main_v120 main_v123 main_v124

def fn_part5 {F : FTy → Type} [FloatOps F] (main_v17 : FVec F S32768x8x128 .f32) (main_v19 : FVec F S32768x8x1 .f32) (main_v24 : FVec F S32768x8x1 .f32) (main_v29 : FVec F S32768x8x1 .f32) (main_v34 : FVec F S32768x8x1 .f32) (main_v39 : FVec F S32768x8x1 .f32) (main_v44 : FVec F S32768x8x1 .f32) (main_v49 : FVec F S32768x8x1 .f32) (main_v54 : FVec F S32768x8x1 .f32) (main_v59 : FVec F S32768x8x1 .f32) (main_v64 : FVec F S32768x8x1 .f32) (main_v69 : FVec F S32768x8x1 .f32) (main_v74 : FVec F S32768x8x1 .f32) (main_v79 : FVec F S32768x8x1 .f32) (main_v84 : FVec F S32768x8x1 .f32) (main_v87 : FVec F S32768x8x128 .f32) (main_v89 : FVec F S32768x8x1 .f32) (main_v90 : FVec F S32768x8x128 .f32) : IVec S32768x8x256x256 1 :=
  let main_v91 : IVec S32768x8x128 1 := cmpf .olt main_v87 main_v90
  let main_cst_28 : FVec F S_ .f32 := constant S_ .f32 0xFF800000#32
  let main_v92 : FVec F S32768x8x128 .f32 := fn_where (F := F) main_v91 main_v87 main_cst_28
  let main_cst_29 : FVec F S_ .f32 := constant S_ .f32 0xFF800000#32
  let main_v93 : FVec F S32768x8 .f32 := (fun x v => Host.reduce FloatOps.maximumf x v reducesTo_S32768x8x128_S32768x8_d2 h_S_) main_v92 main_cst_29
  let main_v94 : FVec F S32768x8x1 .f32 := broadcastInDim S32768x8x1 ![0, 1] bcast_S32768x8_S32768x8x1_0_1 main_v93
  let main_v95 : FVec F S32768x8x128 .f32 := broadcastInDim S32768x8x128 ![0, 1, 2] bcast_S32768x8x1_S32768x8x128_0_1_2 main_v94
  let main_v96 : IVec S32768x8x128 1 := cmpf .olt main_v92 main_v95
  let main_cst_30 : FVec F S_ .f32 := constant S_ .f32 0xFF800000#32
  let main_v97 : FVec F S32768x8x128 .f32 := fn_where (F := F) main_v96 main_v92 main_cst_30
  let main_v98 : FVec F S32768x8x16 .f32 := concatenate S32768x8x16 2 [⟨S32768x8x1, main_v19⟩, ⟨S32768x8x1, main_v24⟩, ⟨S32768x8x1, main_v29⟩, ⟨S32768x8x1, main_v34⟩, ⟨S32768x8x1, main_v39⟩, ⟨S32768x8x1, main_v44⟩, ⟨S32768x8x1, main_v49⟩, ⟨S32768x8x1, main_v54⟩, ⟨S32768x8x1, main_v59⟩, ⟨S32768x8x1, main_v64⟩, ⟨S32768x8x1, main_v69⟩, ⟨S32768x8x1, main_v74⟩, ⟨S32768x8x1, main_v79⟩, ⟨S32768x8x1, main_v84⟩, ⟨S32768x8x1, main_v89⟩, ⟨S32768x8x1, main_v94⟩] concatenates_S32768x8x1_S32768x8x1_S32768x8x1_S32768x8x1_S32768x8x1_S32768x8x1_S32768x8x1_S32768x8x1_S32768x8x1_S32768x8x1_S32768x8x1_S32768x8x1_S32768x8x1_S32768x8x1_S32768x8x1_S32768x8x1_S32768x8x16_d2
  let main_cst_31 : FVec F S_ .f32 := constant S_ .f32 0xFF800000#32
  let main_v99 : FVec F S32768x8 .f32 := (fun x v => Host.reduce FloatOps.maximumf x v reducesTo_S32768x8x128_S32768x8_d2 h_S_) main_v17 main_cst_31
  let main_v100 : FVec F S32768x8x1 .f32 := broadcastInDim S32768x8x1 ![0, 1] bcast_S32768x8_S32768x8x1_0_1 main_v99
  let main_v101 : FVec F S32768x8x128 .f32 := broadcastInDim S32768x8x128 ![0, 1, 2] bcast_S32768x8x1_S32768x8x128_0_1_2 main_v100
  let main_v102 : IVec S32768x8x128 1 := cmpf .olt main_v17 main_v101
  let main_cst_32 : FVec F S_ .f32 := constant S_ .f32 0xFF800000#32
  let main_v103 : FVec F S32768x8x128 .f32 := fn_where (F := F) main_v102 main_v17 main_cst_32
  let main_cst_33 : FVec F S_ .f32 := constant S_ .f32 0xFF800000#32
  let main_v104 : FVec F S32768x8 .f32 := (fun x v => Host.reduce FloatOps.maximumf x v reducesTo_S32768x8x128_S32768x8_d2 h_S_) main_v103 main_cst_33
  let main_v105 : FVec F S32768x8x1 .f32 := broadcastInDim S32768x8x1 ![0, 1] bcast_S32768x8_S32768x8x1_0_1 main_v104
  let main_v106 : FVec F S32768x8x128 .f32 := broadcastInDim S32768x8x128 ![0, 1, 2] bcast_S32768x8x1_S32768x8x128_0_1_2 main_v105
  let main_v107 : IVec S32768x8x128 1 := cmpf .olt main_v103 main_v106
  let main_cst_34 : FVec F S_ .f32 := constant S_ .f32 0xFF800000#32
  fn_part6 (F := F) main_v98 main_v100 main_v103 main_v105 main_v107 main_cst_34

def fn_part4 {F : FTy → Type} [FloatOps F] (main_v17 : FVec F S32768x8x128 .f32) (main_v19 : FVec F S32768x8x1 .f32) (main_v24 : FVec F S32768x8x1 .f32) (main_v29 : FVec F S32768x8x1 .f32) (main_v34 : FVec F S32768x8x1 .f32) (main_v39 : FVec F S32768x8x1 .f32) (main_v44 : FVec F S32768x8x1 .f32) (main_v49 : FVec F S32768x8x1 .f32) (main_v54 : FVec F S32768x8x1 .f32) (main_v59 : FVec F S32768x8x1 .f32) (main_v64 : FVec F S32768x8x1 .f32) (main_v69 : FVec F S32768x8x1 .f32) (main_v72 : FVec F S32768x8x128 .f32) (main_cst_21 : FVec F S_ .f32) : IVec S32768x8x256x256 1 :=
  let main_v73 : FVec F S32768x8 .f32 := (fun x v => Host.reduce FloatOps.maximumf x v reducesTo_S32768x8x128_S32768x8_d2 h_S_) main_v72 main_cst_21
  let main_v74 : FVec F S32768x8x1 .f32 := broadcastInDim S32768x8x1 ![0, 1] bcast_S32768x8_S32768x8x1_0_1 main_v73
  let main_v75 : FVec F S32768x8x128 .f32 := broadcastInDim S32768x8x128 ![0, 1, 2] bcast_S32768x8x1_S32768x8x128_0_1_2 main_v74
  let main_v76 : IVec S32768x8x128 1 := cmpf .olt main_v72 main_v75
  let main_cst_22 : FVec F S_ .f32 := constant S_ .f32 0xFF800000#32
  let main_v77 : FVec F S32768x8x128 .f32 := fn_where (F := F) main_v76 main_v72 main_cst_22
  let main_cst_23 : FVec F S_ .f32 := constant S_ .f32 0xFF800000#32
  let main_v78 : FVec F S32768x8 .f32 := (fun x v => Host.reduce FloatOps.maximumf x v reducesTo_S32768x8x128_S32768x8_d2 h_S_) main_v77 main_cst_23
  let main_v79 : FVec F S32768x8x1 .f32 := broadcastInDim S32768x8x1 ![0, 1] bcast_S32768x8_S32768x8x1_0_1 main_v78
  let main_v80 : FVec F S32768x8x128 .f32 := broadcastInDim S32768x8x128 ![0, 1, 2] bcast_S32768x8x1_S32768x8x128_0_1_2 main_v79
  let main_v81 : IVec S32768x8x128 1 := cmpf .olt main_v77 main_v80
  let main_cst_24 : FVec F S_ .f32 := constant S_ .f32 0xFF800000#32
  let main_v82 : FVec F S32768x8x128 .f32 := fn_where (F := F) main_v81 main_v77 main_cst_24
  let main_cst_25 : FVec F S_ .f32 := constant S_ .f32 0xFF800000#32
  let main_v83 : FVec F S32768x8 .f32 := (fun x v => Host.reduce FloatOps.maximumf x v reducesTo_S32768x8x128_S32768x8_d2 h_S_) main_v82 main_cst_25
  let main_v84 : FVec F S32768x8x1 .f32 := broadcastInDim S32768x8x1 ![0, 1] bcast_S32768x8_S32768x8x1_0_1 main_v83
  let main_v85 : FVec F S32768x8x128 .f32 := broadcastInDim S32768x8x128 ![0, 1, 2] bcast_S32768x8x1_S32768x8x128_0_1_2 main_v84
  let main_v86 : IVec S32768x8x128 1 := cmpf .olt main_v82 main_v85
  let main_cst_26 : FVec F S_ .f32 := constant S_ .f32 0xFF800000#32
  let main_v87 : FVec F S32768x8x128 .f32 := fn_where (F := F) main_v86 main_v82 main_cst_26
  let main_cst_27 : FVec F S_ .f32 := constant S_ .f32 0xFF800000#32
  let main_v88 : FVec F S32768x8 .f32 := (fun x v => Host.reduce FloatOps.maximumf x v reducesTo_S32768x8x128_S32768x8_d2 h_S_) main_v87 main_cst_27
  let main_v89 : FVec F S32768x8x1 .f32 := broadcastInDim S32768x8x1 ![0, 1] bcast_S32768x8_S32768x8x1_0_1 main_v88
  let main_v90 : FVec F S32768x8x128 .f32 := broadcastInDim S32768x8x128 ![0, 1, 2] bcast_S32768x8x1_S32768x8x128_0_1_2 main_v89
  fn_part5 (F := F) main_v17 main_v19 main_v24 main_v29 main_v34 main_v39 main_v44 main_v49 main_v54 main_v59 main_v64 main_v69 main_v74 main_v79 main_v84 main_v87 main_v89 main_v90

def fn_part3 {F : FTy → Type} [FloatOps F] (main_v17 : FVec F S32768x8x128 .f32) (main_v19 : FVec F S32768x8x1 .f32) (main_v24 : FVec F S32768x8x1 .f32) (main_v29 : FVec F S32768x8x1 .f32) (main_v34 : FVec F S32768x8x1 .f32) (main_v39 : FVec F S32768x8x1 .f32) (main_v44 : FVec F S32768x8x1 .f32) (main_v49 : FVec F S32768x8x1 .f32) (main_v52 : FVec F S32768x8x128 .f32) (main_v54 : FVec F S32768x8x1 .f32) (main_v56 : IVec S32768x8x128 1) : IVec S32768x8x256x256 1 :=
  let main_cst_14 : FVec F S_ .f32 := constant S_ .f32 0xFF800000#32
  let main_v57 : FVec F S32768x8x128 .f32 := fn_where (F := F) main_v56 main_v52 main_cst_14
  let main_cst_15 : FVec F S_ .f32 := constant S_ .f32 0xFF800000#32
  let main_v58 : FVec F S32768x8 .f32 := (fun x v => Host.reduce FloatOps.maximumf x v reducesTo_S32768x8x128_S32768x8_d2 h_S_) main_v57 main_cst_15
  let main_v59 : FVec F S32768x8x1 .f32 := broadcastInDim S32768x8x1 ![0, 1] bcast_S32768x8_S32768x8x1_0_1 main_v58
  let main_v60 : FVec F S32768x8x128 .f32 := broadcastInDim S32768x8x128 ![0, 1, 2] bcast_S32768x8x1_S32768x8x128_0_1_2 main_v59
  let main_v61 : IVec S32768x8x128 1 := cmpf .olt main_v57 main_v60
  let main_cst_16 : FVec F S_ .f32 := constant S_ .f32 0xFF800000#32
  let main_v62 : FVec F S32768x8x128 .f32 := fn_where (F := F) main_v61 main_v57 main_cst_16
  let main_cst_17 : FVec F S_ .f32 := constant S_ .f32 0xFF800000#32
  let main_v63 : FVec F S32768x8 .f32 := (fun x v => Host.reduce FloatOps.maximumf x v reducesTo_S32768x8x128_S32768x8_d2 h_S_) main_v62 main_cst_17
  let main_v64 : FVec F S32768x8x1 .f32 := broadcastInDim S32768x8x1 ![0, 1] bcast_S32768x8_S32768x8x1_0_1 main_v63
  let main_v65 : FVec F S32768x8x128 .f32 := broadcastInDim S32768x8x128 ![0, 1, 2] bcast_S32768x8x1_S32768x8x128_0_1_2 main_v64
  let main_v66 : IVec S32768x8x128 1 := cmpf .olt main_v62 main_v65
  let main_cst_18 : FVec F S_ .f32 := constant S_ .f32 0xFF800000#32
  let main_v67 : FVec F S32768x8x128 .f32 := fn_where (F := F) main_v66 main_v62 main_cst_18
  let main_cst_19 : FVec F S_ .f32 := constant S_ .f32 0xFF800000#32
  let main_v68 : FVec F S32768x8 .f32 := (fun x v => Host.reduce FloatOps.maximumf x v reducesTo_S32768x8x128_S32768x8_d2 h_S_) main_v67 main_cst_19
  let main_v69 : FVec F S32768x8x1 .f32 := broadcastInDim S32768x8x1 ![0, 1] bcast_S32768x8_S32768x8x1_0_1 main_v68
  let main_v70 : FVec F S32768x8x128 .f32 := broadcastInDim S32768x8x128 ![0, 1, 2] bcast_S32768x8x1_S32768x8x128_0_1_2 main_v69
  let main_v71 : IVec S32768x8x128 1 := cmpf .olt main_v67 main_v70
  let main_cst_20 : FVec F S_ .f32 := constant S_ .f32 0xFF800000#32
  let main_v72 : FVec F S32768x8x128 .f32 := fn_where (F := F) main_v71 main_v67 main_cst_20
  let main_cst_21 : FVec F S_ .f32 := constant S_ .f32 0xFF800000#32
  fn_part4 (F := F) main_v17 main_v19 main_v24 main_v29 main_v34 main_v39 main_v44 main_v49 main_v54 main_v59 main_v64 main_v69 main_v72 main_cst_21

def fn_part2 {F : FTy → Type} [FloatOps F] (main_v17 : FVec F S32768x8x128 .f32) (main_v19 : FVec F S32768x8x1 .f32) (main_v24 : FVec F S32768x8x1 .f32) (main_v29 : FVec F S32768x8x1 .f32) (main_v34 : FVec F S32768x8x1 .f32) (main_v37 : FVec F S32768x8x128 .f32) (main_v38 : FVec F S32768x8 .f32) : IVec S32768x8x256x256 1 :=
  let main_v39 : FVec F S32768x8x1 .f32 := broadcastInDim S32768x8x1 ![0, 1] bcast_S32768x8_S32768x8x1_0_1 main_v38
  let main_v40 : FVec F S32768x8x128 .f32 := broadcastInDim S32768x8x128 ![0, 1, 2] bcast_S32768x8x1_S32768x8x128_0_1_2 main_v39
  let main_v41 : IVec S32768x8x128 1 := cmpf .olt main_v37 main_v40
  let main_cst_8 : FVec F S_ .f32 := constant S_ .f32 0xFF800000#32
  let main_v42 : FVec F S32768x8x128 .f32 := fn_where (F := F) main_v41 main_v37 main_cst_8
  let main_cst_9 : FVec F S_ .f32 := constant S_ .f32 0xFF800000#32
  let main_v43 : FVec F S32768x8 .f32 := (fun x v => Host.reduce FloatOps.maximumf x v reducesTo_S32768x8x128_S32768x8_d2 h_S_) main_v42 main_cst_9
  let main_v44 : FVec F S32768x8x1 .f32 := broadcastInDim S32768x8x1 ![0, 1] bcast_S32768x8_S32768x8x1_0_1 main_v43
  let main_v45 : FVec F S32768x8x128 .f32 := broadcastInDim S32768x8x128 ![0, 1, 2] bcast_S32768x8x1_S32768x8x128_0_1_2 main_v44
  let main_v46 : IVec S32768x8x128 1 := cmpf .olt main_v42 main_v45
  let main_cst_10 : FVec F S_ .f32 := constant S_ .f32 0xFF800000#32
  let main_v47 : FVec F S32768x8x128 .f32 := fn_where (F := F) main_v46 main_v42 main_cst_10
  let main_cst_11 : FVec F S_ .f32 := constant S_ .f32 0xFF800000#32
  let main_v48 : FVec F S32768x8 .f32 := (fun x v => Host.reduce FloatOps.maximumf x v reducesTo_S32768x8x128_S32768x8_d2 h_S_) main_v47 main_cst_11
  let main_v49 : FVec F S32768x8x1 .f32 := broadcastInDim S32768x8x1 ![0, 1] bcast_S32768x8_S32768x8x1_0_1 main_v48
  let main_v50 : FVec F S32768x8x128 .f32 := broadcastInDim S32768x8x128 ![0, 1, 2] bcast_S32768x8x1_S32768x8x128_0_1_2 main_v49
  let main_v51 : IVec S32768x8x128 1 := cmpf .olt main_v47 main_v50
  let main_cst_12 : FVec F S_ .f32 := constant S_ .f32 0xFF800000#32
  let main_v52 : FVec F S32768x8x128 .f32 := fn_where (F := F) main_v51 main_v47 main_cst_12
  let main_cst_13 : FVec F S_ .f32 := constant S_ .f32 0xFF800000#32
  let main_v53 : FVec F S32768x8 .f32 := (fun x v => Host.reduce FloatOps.maximumf x v reducesTo_S32768x8x128_S32768x8_d2 h_S_) main_v52 main_cst_13
  let main_v54 : FVec F S32768x8x1 .f32 := broadcastInDim S32768x8x1 ![0, 1] bcast_S32768x8_S32768x8x1_0_1 main_v53
  let main_v55 : FVec F S32768x8x128 .f32 := broadcastInDim S32768x8x128 ![0, 1, 2] bcast_S32768x8x1_S32768x8x128_0_1_2 main_v54
  let main_v56 : IVec S32768x8x128 1 := cmpf .olt main_v52 main_v55
  fn_part3 (F := F) main_v17 main_v19 main_v24 main_v29 main_v34 main_v39 main_v44 main_v49 main_v52 main_v54 main_v56

def fn_part1 {F : FTy → Type} [FloatOps F] (main_v10 : FVec F S32768x8x128 .f32) (main_v17 : FVec F S32768x8x128 .f32) (main_v19 : FVec F S32768x8x1 .f32) (main_v21 : IVec S32768x8x128 1) (main_cst_0 : FVec F S_ .f32) : IVec S32768x8x256x256 1 :=
  let main_v22 : FVec F S32768x8x128 .f32 := fn_where (F := F) main_v21 main_v10 main_cst_0
  let main_cst_1 : FVec F S_ .f32 := constant S_ .f32 0xFF800000#32
  let main_v23 : FVec F S32768x8 .f32 := (fun x v => Host.reduce FloatOps.maximumf x v reducesTo_S32768x8x128_S32768x8_d2 h_S_) main_v22 main_cst_1
  let main_v24 : FVec F S32768x8x1 .f32 := broadcastInDim S32768x8x1 ![0, 1] bcast_S32768x8_S32768x8x1_0_1 main_v23
  let main_v25 : FVec F S32768x8x128 .f32 := broadcastInDim S32768x8x128 ![0, 1, 2] bcast_S32768x8x1_S32768x8x128_0_1_2 main_v24
  let main_v26 : IVec S32768x8x128 1 := cmpf .olt main_v22 main_v25
  let main_cst_2 : FVec F S_ .f32 := constant S_ .f32 0xFF800000#32
  let main_v27 : FVec F S32768x8x128 .f32 := fn_where (F := F) main_v26 main_v22 main_cst_2
  let main_cst_3 : FVec F S_ .f32 := constant S_ .f32 0xFF800000#32
  let main_v28 : FVec F S32768x8 .f32 := (fun x v => Host.reduce FloatOps.maximumf x v reducesTo_S32768x8x128_S32768x8_d2 h_S_) main_v27 main_cst_3
  let main_v29 : FVec F S32768x8x1 .f32 := broadcastInDim S32768x8x1 ![0, 1] bcast_S32768x8_S32768x8x1_0_1 main_v28
  let main_v30 : FVec F S32768x8x128 .f32 := broadcastInDim S32768x8x128 ![0, 1, 2] bcast_S32768x8x1_S32768x8x128_0_1_2 main_v29
  let main_v31 : IVec S32768x8x128 1 := cmpf .olt main_v27 main_v30
  let main_cst_4 : FVec F S_ .f32 := constant S_ .f32 0xFF800000#32
  let main_v32 : FVec F S32768x8x128 .f32 := fn_where (F := F) main_v31 main_v27 main_cst_4
  let main_cst_5 : FVec F S_ .f32 := constant S_ .f32 0xFF800000#32
  let main_v33 : FVec F S32768x8 .f32 := (fun x v => Host.reduce FloatOps.maximumf x v reducesTo_S32768x8x128_S32768x8_d2 h_S_) main_v32 main_cst_5
  let main_v34 : FVec F S32768x8x1 .f32 := broadcastInDim S32768x8x1 ![0, 1] bcast_S32768x8_S32768x8x1_0_1 main_v33
  let main_v35 : FVec F S32768x8x128 .f32 := broadcastInDim S32768x8x128 ![0, 1, 2] bcast_S32768x8x1_S32768x8x128_0_1_2 main_v34
  let main_v36 : IVec S32768x8x128 1 := cmpf .olt main_v32 main_v35
  let main_cst_6 : FVec F S_ .f32 := constant S_ .f32 0xFF800000#32
  let main_v37 : FVec F S32768x8x128 .f32 := fn_where (F := F) main_v36 main_v32 main_cst_6
  let main_cst_7 : FVec F S_ .f32 := constant S_ .f32 0xFF800000#32
  let main_v38 : FVec F S32768x8 .f32 := (fun x v => Host.reduce FloatOps.maximumf x v reducesTo_S32768x8x128_S32768x8_d2 h_S_) main_v37 main_cst_7
  fn_part2 (F := F) main_v17 main_v19 main_v24 main_v29 main_v34 main_v37 main_v38

def fn {F : FTy → Type} [FloatOps F] (main_arg0 : FVec F S1024x32768 .bf16) (main_arg1 : FVec F S2048x1024 .bf16) (main_arg2 : FVec F S8x2x128x128 .bf16) : IVec S32768x8x256x256 1 :=
  let main_v0 : FVec F S1024x32768 .f32 := (extf .f32 · bitsLt_bf16_f32) main_arg0
  let main_v1 : FVec F S2048x1024 .f32 := (extf .f32 · bitsLt_bf16_f32) main_arg1
  let main_v2 : FVec F S32768x2048 .f32 := (fun l r => Host.dotGeneral dot_S1024x32768_S2048x1024_S32768x2048_0_1_1_0_n_n none l r) main_v0 main_v1
  let main_v3 : FVec F S32768x8x2x128 .f32 := shapeCast S32768x8x2x128 main_v2 shapeCasts_S32768x2048_S32768x8x2x128
  let main_v4 : FVec F S32768x8x1x128 .f32 := (extractStridedSlice S32768x8x1x128 ![0, 0, 0, 0] · slices_S32768x8x2x128_S32768x8x1x128_0_0_0_0) main_v3
  let main_v5 : FVec F S32768x8x128 .f32 := shapeCast S32768x8x128 main_v4 shapeCasts_S32768x8x1x128_S32768x8x128
  let main_v6 : FVec F S8x1x128x128 .bf16 := (extractStridedSlice S8x1x128x128 ![0, 0, 0, 0] · slices_S8x2x128x128_S8x1x128x128_0_0_0_0) main_arg2
  let main_v7 : FVec F S8x128x128 .bf16 := shapeCast S8x128x128 main_v6 shapeCasts_S8x1x128x128_S8x128x128
  let main_v8 : FVec F S8x128x128 .f32 := (extf .f32 · bitsLt_bf16_f32) main_v7
  let main_v9 : FVec F S8x128x32768 .f32 := (fun l r => Host.dotGeneral dot_S8x128x128_S32768x8x128_S8x128x32768_2_2_1_0_0_1 none l r) main_v8 main_v5
  let main_v10 : FVec F S32768x8x128 .f32 := (transpose S32768x8x128 [2, 0, 1] · transposes_S8x128x32768_S32768x8x128_2_0_1) main_v9
  let main_v11 : FVec F S32768x8x1x128 .f32 := (extractStridedSlice S32768x8x1x128 ![0, 0, 1, 0] · slices_S32768x8x2x128_S32768x8x1x128_0_0_1_0) main_v3
  let main_v12 : FVec F S32768x8x128 .f32 := shapeCast S32768x8x128 main_v11 shapeCasts_S32768x8x1x128_S32768x8x128
  let main_v13 : FVec F S8x1x128x128 .bf16 := (extractStridedSlice S8x1x128x128 ![0, 1, 0, 0] · slices_S8x2x128x128_S8x1x128x128_0_1_0_0) main_arg2
  let main_v14 : FVec F S8x128x128 .bf16 := shapeCast S8x128x128 main_v13 shapeCasts_S8x1x128x128_S8x128x128
  let main_v15 : FVec F S8x128x128 .f32 := (extf .f32 · bitsLt_bf16_f32) main_v14
  let main_v16 : FVec F S8x128x32768 .f32 := (fun l r => Host.dotGeneral dot_S8x128x128_S32768x8x128_S8x128x32768_2_2_1_0_0_1 none l r) main_v15 main_v12
  let main_v17 : FVec F S32768x8x128 .f32 := (transpose S32768x8x128 [2, 0, 1] · transposes_S8x128x32768_S32768x8x128_2_0_1) main_v16
  let main_cst : FVec F S_ .f32 := constant S_ .f32 0xFF800000#32
  let main_v18 : FVec F S32768x8 .f32 := (fun x v => Host.reduce FloatOps.maximumf x v reducesTo_S32768x8x128_S32768x8_d2 h_S_) main_v10 main_cst
  let main_v19 : FVec F S32768x8x1 .f32 := broadcastInDim S32768x8x1 ![0, 1] bcast_S32768x8_S32768x8x1_0_1 main_v18
  let main_v20 : FVec F S32768x8x128 .f32 := broadcastInDim S32768x8x128 ![0, 1, 2] bcast_S32768x8x1_S32768x8x128_0_1_2 main_v19
  let main_v21 : IVec S32768x8x128 1 := cmpf .olt main_v10 main_v20
  let main_cst_0 : FVec F S_ .f32 := constant S_ .f32 0xFF800000#32
  fn_part1 (F := F) main_v10 main_v17 main_v19 main_v21 main_cst_0
-- ==== Attn.lean ====
abbrev S8 : Shape := ⟨1, ![8]⟩
abbrev S8x4096x512 : Shape := ⟨3, ![8, 4096, 512]⟩
abbrev S8x4096x128 : Shape := ⟨3, ![8, 4096, 128]⟩
abbrev S8x256x128 : Shape := ⟨3, ![8, 256, 128]⟩
abbrev S1x128x512 : Shape := ⟨3, ![1, 128, 512]⟩
abbrev S1x128x128 : Shape := ⟨3, ![1, 128, 128]⟩
abbrev S1x256x128 : Shape := ⟨3, ![1, 256, 128]⟩
abbrev S128x512 : Shape := ⟨2, ![128, 512]⟩
abbrev S128x128 : Shape := ⟨2, ![128, 128]⟩
abbrev S256x128 : Shape := ⟨2, ![256, 128]⟩
abbrev S640x128 : Shape := ⟨2, ![640, 128]⟩
abbrev S128x640 : Shape := ⟨2, ![128, 640]⟩
abbrev S512x640 : Shape := ⟨2, ![512, 640]⟩
abbrev S640x64 : Shape := ⟨2, ![640, 64]⟩
abbrev S128x64 : Shape := ⟨2, ![128, 64]⟩
abbrev S512x64 : Shape := ⟨2, ![512, 64]⟩
abbrev S1 : Shape := ⟨1, ![1]⟩
abbrev S128x1 : Shape := ⟨2, ![128, 1]⟩
abbrev S512x1 : Shape := ⟨2, ![512, 1]⟩
abbrev S512 : Shape := ⟨1, ![512]⟩
abbrev S1x128x64 : Shape := ⟨3, ![1, 128, 64]⟩

abbrev nBuf : Space → Nat
  | .hbm => 7
  | .vmem => 20
  | .smem => 1
  | _ => 0

abbrev bufTy : (tb : Table) → Fin (tcTables nBuf tb) → BufTy
  | .hbm, ⟨0, _⟩ => ⟨S8, .f32⟩
  | .hbm, ⟨1, _⟩ => ⟨S8x4096x512, .bf16⟩
  | .hbm, ⟨2, _⟩ => ⟨S8x4096x128, .f32⟩
  | .hbm, ⟨3, _⟩ => ⟨S8x4096x128, .f32⟩
  | .hbm, ⟨4, _⟩ => ⟨S8x256x128, .f32⟩
  | .hbm, ⟨5, _⟩ => ⟨S8x256x128, .f32⟩
  | .hbm, ⟨6, _⟩ => ⟨S8x4096x512, .bf16⟩
  | .local _ .vmem, ⟨0, _⟩ => ⟨S1x128x512, .bf16⟩
  | .local _ .vmem, ⟨1, _⟩ => ⟨S1x128x512, .bf16⟩
  | .local _ .vmem, ⟨2, _⟩ => ⟨S1x128x128, .f32⟩
  | .local _ .vmem, ⟨3, _⟩ => ⟨S1x128x128, .f32⟩
  | .local _ .vmem, ⟨4, _⟩ => ⟨S1x128x128, .f32⟩
  | .local _ .vmem, ⟨5, _⟩ => ⟨S1x128x128, .f32⟩
  | .local _ .vmem, ⟨6, _⟩ => ⟨S1x128x128, .f32⟩
  | .local _ .vmem, ⟨7, _⟩ => ⟨S1x128x128, .f32⟩
  | .local _ .vmem, ⟨8, _⟩ => ⟨S1x128x128, .f32⟩
  | .local _ .vmem, ⟨9, _⟩ => ⟨S1x128x128, .f32⟩
  | .local _ .vmem, ⟨10, _⟩ => ⟨S1x128x128, .f32⟩
  | .local _ .vmem, ⟨11, _⟩ => ⟨S1x128x128, .f32⟩
  | .local _ .vmem, ⟨12, _⟩ => ⟨S1x128x128, .f32⟩
  | .local _ .vmem, ⟨13, _⟩ => ⟨S1x128x128, .f32⟩
  | .local _ .vmem, ⟨14, _⟩ => ⟨S1x256x128, .f32⟩
  | .local _ .vmem, ⟨15, _⟩ => ⟨S1x256x128, .f32⟩
  | .local _ .vmem, ⟨16, _⟩ => ⟨S1x256x128, .f32⟩
  | .local _ .vmem, ⟨17, _⟩ => ⟨S1x256x128, .f32⟩
  | .local _ .vmem, ⟨18, _⟩ => ⟨S1x128x512, .bf16⟩
  | .local _ .vmem, ⟨19, _⟩ => ⟨S1x128x512, .bf16⟩
  | .local _ .smem, ⟨0, _⟩ => ⟨S8, .f32⟩
  | _, _ => ⟨S8, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .smem, ⟨0, _⟩ => true
  | _, _ => false

abbrev semScoped : Fin 0 → Bool
  | ⟨_, h⟩ => absurd h (Nat.not_lt_zero _)

abbrev dmaSemScoped : Fin 21 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | _ => false

abbrev sig : RefSig :=
  ofTc nBuf bufTy 0 21 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev cc0_stg1_0 : Ref sig .tc := ⟨.vmem, 0, rfl⟩
abbrev cc0_stg1_1 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg8_1 : Ref sig .tc := ⟨.vmem, 15, rfl⟩
abbrev cc0_stg9_0 : Ref sig .tc := ⟨.vmem, 16, rfl⟩
abbrev cc0_stg9_1 : Ref sig .tc := ⟨.vmem, 17, rfl⟩
abbrev cc0_stg10_0 : Ref sig .tc := ⟨.vmem, 18, rfl⟩
abbrev cc0_stg10_1 : Ref sig .tc := ⟨.vmem, 19, rfl⟩
abbrev cc0_stg0_0 : Ref sig .tc := ⟨.smem, 0, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13
abbrev cc0_sem7_1 : DmaSem sig := 14
abbrev cc0_sem8_0 : DmaSem sig := 15
abbrev cc0_sem8_1 : DmaSem sig := 16
abbrev cc0_sem9_0 : DmaSem sig := 17
abbrev cc0_sem9_1 : DmaSem sig := 18
abbrev cc0_sem10_0 : DmaSem sig := 19
abbrev cc0_sem10_1 : DmaSem sig := 20

abbrev nD : Nat := 1
abbrev τ : Topo := Topo.v7x

variable {F : FTy → Type} [FloatOps F]

abbrev grid0 : Pipeline.Grid := ⟨2, ![8, 32], ![false, false]⟩

def cc0_transform_0 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.subi arg1 c1_i32
  let c0_i32 : BitVec 32 := 0#32
  let v1 : BitVec 32 := Scalar.maxsi v0 c0_i32
  let c0_i32_0 : BitVec 32 := 0#32
  let c0_i32_1 : BitVec 32 := 0#32
  ![arg0.toNat, v1.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.addi arg1 c1_i32
  let c31_i32 : BitVec 32 := 31#32
  let v1 : BitVec 32 := Scalar.minsi v0 c31_i32
  let c0_i32 : BitVec 32 := 0#32
  let c0_i32_0 : BitVec 32 := 0#32
  ![arg0.toNat, v1.toNat, c0_i32.toNat]

def cc0_transform_5 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.subi arg1 c1_i32
  let c0_i32 : BitVec 32 := 0#32
  let v1 : BitVec 32 := Scalar.maxsi v0 c0_i32
  let c0_i32_0 : BitVec 32 := 0#32
  let c0_i32_1 : BitVec 32 := 0#32
  ![arg0.toNat, v1.toNat, c0_i32_0.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_7 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.addi arg1 c1_i32
  let c31_i32 : BitVec 32 := 31#32
  let v1 : BitVec 32 := Scalar.minsi v0 c31_i32
  let c0_i32 : BitVec 32 := 0#32
  let c0_i32_0 : BitVec 32 := 0#32
  ![arg0.toNat, v1.toNat, c0_i32.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_9 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_10 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 1 → Memref sig .tc .smem S8 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false]

abbrev stage0_1 : Fin 2 → Memref sig .tc .vmem S1x128x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x128x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x128x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x128x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x128x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x128x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x128x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1x256x128 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, false]

abbrev stage0_9 : Fin 2 → Memref sig .tc .vmem S1x256x128 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, false]

abbrev stage0_10 : Fin 2 → Memref sig .tc .vmem S1x128x512 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]
-- ==== AttnIdeal.lean ====
variable {F : FTy → Type} [FloatOps F] [Named F]
def κ : String → Option EReal := fun
  | "mask" => some ⊥
  | _ => none
-- ==== AttnRefIdeal.lean ====
abbrev S8 : Shape := ⟨1, ![8]⟩
abbrev S8x4096x512 : Shape := ⟨3, ![8, 4096, 512]⟩
abbrev S8x4096x128 : Shape := ⟨3, ![8, 4096, 128]⟩
abbrev S8x256x128 : Shape := ⟨3, ![8, 256, 128]⟩
abbrev S8x4096x2x4x64 : Shape := ⟨5, ![8, 4096, 2, 4, 64]⟩
abbrev S8x4096x2x64 : Shape := ⟨4, ![8, 4096, 2, 64]⟩
abbrev S8x256x2x64 : Shape := ⟨4, ![8, 256, 2, 64]⟩
abbrev S4096x4096 : Shape := ⟨2, ![4096, 4096]⟩
abbrev S_ : Shape := ⟨0, ![]⟩
abbrev S8x2x4096x4096x4 : Shape := ⟨5, ![8, 2, 4096, 4096, 4]⟩
abbrev S8x2x4x4096x4096 : Shape := ⟨5, ![8, 2, 4, 4096, 4096]⟩
abbrev S1x1x1x4096x4096 : Shape := ⟨5, ![1, 1, 1, 4096, 4096]⟩
abbrev S8x2x256x4096x4 : Shape := ⟨5, ![8, 2, 256, 4096, 4]⟩
abbrev S8x2x4x4096x256 : Shape := ⟨5, ![8, 2, 4, 4096, 256]⟩
abbrev S2x4 : Shape := ⟨2, ![2, 4]⟩
abbrev S1x2x4x1x1 : Shape := ⟨5, ![1, 2, 4, 1, 1]⟩
abbrev S8x2x4x4096x1 : Shape := ⟨5, ![8, 2, 4, 4096, 1]⟩
abbrev S8x2x4x4096x4353 : Shape := ⟨5, ![8, 2, 4, 4096, 4353]⟩
abbrev S8x2x4x4096 : Shape := ⟨4, ![8, 2, 4, 4096]⟩
abbrev S8x2x64x4x4096 : Shape := ⟨5, ![8, 2, 64, 4, 4096]⟩

abbrev nBuf : Space → Nat
  | .hbm => 56
  | .vmem => 0
  | .smem => 0
  | _ => 0

abbrev bufTy : (tb : Table) → Fin (tcTables nBuf tb) → BufTy
  | .hbm, ⟨0, _⟩ => ⟨S8, .f32⟩
  | .hbm, ⟨1, _⟩ => ⟨S8x4096x512, .bf16⟩
  | .hbm, ⟨2, _⟩ => ⟨S8x4096x128, .f32⟩
  | .hbm, ⟨3, _⟩ => ⟨S8x4096x128, .f32⟩
  | .hbm, ⟨4, _⟩ => ⟨S8x256x128, .f32⟩
  | .hbm, ⟨5, _⟩ => ⟨S8x256x128, .f32⟩
  | .hbm, ⟨6, _⟩ => ⟨S8x4096x512, .f32⟩
  | .hbm, ⟨7, _⟩ => ⟨S8x4096x2x4x64, .f32⟩
  | .hbm, ⟨8, _⟩ => ⟨S8x4096x2x64, .f32⟩
  | .hbm, ⟨9, _⟩ => ⟨S8x4096x2x64, .f32⟩
  | .hbm, ⟨10, _⟩ => ⟨S8x256x2x64, .f32⟩
  | .hbm, ⟨11, _⟩ => ⟨S8x256x2x64, .f32⟩
  | .hbm, ⟨12, _⟩ => ⟨S4096x4096, .i32⟩
  | .hbm, ⟨13, _⟩ => ⟨S4096x4096, .i32⟩
  | .hbm, ⟨14, _⟩ => ⟨S4096x4096, .i32⟩
  | .hbm, ⟨15, _⟩ => ⟨S4096x4096, .i32⟩
  | .hbm, ⟨16, _⟩ => ⟨S_, .i32⟩
  | .hbm, ⟨17, _⟩ => ⟨S4096x4096, .i32⟩
  | .hbm, ⟨18, _⟩ => ⟨S4096x4096, .i1⟩
  | .hbm, ⟨19, _⟩ => ⟨S8x2x4096x4096x4, .f32⟩
  | .hbm, ⟨20, _⟩ => ⟨S8x2x4x4096x4096, .f32⟩
  | .hbm, ⟨21, _⟩ => ⟨S1x1x1x4096x4096, .i1⟩
  | .hbm, ⟨22, _⟩ => ⟨S_, .f32⟩
  | .hbm, ⟨23, _⟩ => ⟨S_, .f32⟩
  | .hbm, ⟨24, _⟩ => ⟨S8x2x4x4096x4096, .i1⟩
  | .hbm, ⟨25, _⟩ => ⟨S8x2x4x4096x4096, .f32⟩
  | .hbm, ⟨26, _⟩ => ⟨S8x2x4x4096x4096, .f32⟩
  | .hbm, ⟨27, _⟩ => ⟨S8x2x256x4096x4, .f32⟩
  | .hbm, ⟨28, _⟩ => ⟨S8x2x4x4096x256, .f32⟩
  | .hbm, ⟨29, _⟩ => ⟨S2x4, .f32⟩
  | .hbm, ⟨30, _⟩ => ⟨S1x2x4x1x1, .f32⟩
  | .hbm, ⟨31, _⟩ => ⟨S8x2x4x4096x1, .f32⟩
  | .hbm, ⟨32, _⟩ => ⟨S8x2x4x4096x4353, .f32⟩
  | .hbm, ⟨33, _⟩ => ⟨S_, .f32⟩
  | .hbm, ⟨34, _⟩ => ⟨S8x2x4x4096, .f32⟩
  | .hbm, ⟨35, _⟩ => ⟨S_, .f32⟩
  | .hbm, ⟨36, _⟩ => ⟨S8x2x4x4096, .f32⟩
  | .hbm, ⟨37, _⟩ => ⟨S8x2x4x4096, .f32⟩
  | .hbm, ⟨38, _⟩ => ⟨S8x2x4x4096x1, .f32⟩
  | .hbm, ⟨39, _⟩ => ⟨S8x2x4x4096x4353, .f32⟩
  | .hbm, ⟨40, _⟩ => ⟨S8x2x4x4096x4353, .f32⟩
  | .hbm, ⟨41, _⟩ => ⟨S8x2x4x4096x4353, .f32⟩
  | .hbm, ⟨42, _⟩ => ⟨S_, .f32⟩
  | .hbm, ⟨43, _⟩ => ⟨S8x2x4x4096, .f32⟩
  | .hbm, ⟨44, _⟩ => ⟨S8x2x4x4096x1, .f32⟩
  | .hbm, ⟨45, _⟩ => ⟨S8x2x4x4096x4353, .f32⟩
  | .hbm, ⟨46, _⟩ => ⟨S8x2x4x4096x4353, .f32⟩
  | .hbm, ⟨47, _⟩ => ⟨S8x2x4x4096x4096, .f32⟩
  | .hbm, ⟨48, _⟩ => ⟨S8x2x64x4x4096, .f32⟩
  | .hbm, ⟨49, _⟩ => ⟨S8x4096x2x4x64, .f32⟩
  | .hbm, ⟨50, _⟩ => ⟨S8x2x4x4096x256, .f32⟩
  | .hbm, ⟨51, _⟩ => ⟨S8x2x64x4x4096, .f32⟩
  | .hbm, ⟨52, _⟩ => ⟨S8x4096x2x4x64, .f32⟩
  | .hbm, ⟨53, _⟩ => ⟨S8x4096x2x4x64, .f32⟩
  | .hbm, ⟨54, _⟩ => ⟨S8x4096x512, .f32⟩
  | .hbm, ⟨55, _⟩ => ⟨S8x4096x512, .bf16⟩
  | _, _ => ⟨S8, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_c : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_cst : Ref sig .tc := ⟨.hbm, 22, rfl⟩
abbrev main_call0_v0 : Ref sig .tc := ⟨.hbm, 23, rfl⟩
abbrev main_call0_v1 : Ref sig .tc := ⟨.hbm, 24, rfl⟩
abbrev main_call0_v2 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_cst_0 : Ref sig .tc := ⟨.hbm, 33, rfl⟩
abbrev main_v22 : Ref sig .tc := ⟨.hbm, 34, rfl⟩
abbrev main_cst_1 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_cst_2 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩

abbrev nD : Nat := 1
abbrev τ : Topo := Topo.v7x

variable {F : FTy → Type} [FloatOps F]
-- ==== In.lean ====
abbrev S32768x1024 : Shape := ⟨2, ![32768, 1024]⟩
abbrev S16x1x6144 : Shape := ⟨3, ![16, 1, 6144]⟩
abbrev S1x1024 : Shape := ⟨2, ![1, 1024]⟩
abbrev S1024x1280 : Shape := ⟨2, ![1024, 1280]⟩
abbrev S256x512 : Shape := ⟨2, ![256, 512]⟩
abbrev S64x16 : Shape := ⟨2, ![64, 16]⟩
abbrev S64x1x16 : Shape := ⟨3, ![64, 1, 16]⟩
abbrev S64x64x16 : Shape := ⟨3, ![64, 64, 16]⟩
abbrev S4096x16 : Shape := ⟨2, ![4096, 16]⟩
abbrev S1x64x16 : Shape := ⟨3, ![1, 64, 16]⟩
abbrev S4096x128 : Shape := ⟨2, ![4096, 128]⟩
abbrev S32768x256 : Shape := ⟨2, ![32768, 256]⟩
abbrev S32768x512 : Shape := ⟨2, ![32768, 512]⟩
abbrev S32768x128 : Shape := ⟨2, ![32768, 128]⟩
abbrev S256x1024 : Shape := ⟨2, ![256, 1024]⟩
abbrev S1x1x6144 : Shape := ⟨3, ![1, 1, 6144]⟩
abbrev S256x128 : Shape := ⟨2, ![256, 128]⟩
abbrev S256x256 : Shape := ⟨2, ![256, 256]⟩
abbrev S1x6144 : Shape := ⟨2, ![1, 6144]⟩
abbrev S256 : Shape := ⟨1, ![256]⟩
abbrev S256x1 : Shape := ⟨2, ![256, 1]⟩
abbrev S256x1280 : Shape := ⟨2, ![256, 1280]⟩

abbrev nBuf : Space → Nat
  | .hbm => 41
  | .vmem => 21
  | .smem => 0
  | _ => 0

abbrev bufTy : (tb : Table) → Fin (tcTables nBuf tb) → BufTy
  | .hbm, ⟨0, _⟩ => ⟨S32768x1024, .f32⟩
  | .hbm, ⟨1, _⟩ => ⟨S16x1x6144, .f32⟩
  | .hbm, ⟨2, _⟩ => ⟨S1x1024, .f32⟩
  | .hbm, ⟨3, _⟩ => ⟨S1024x1280, .f32⟩
  | .hbm, ⟨4, _⟩ => ⟨S256x512, .bf16⟩
  | .hbm, ⟨5, _⟩ => ⟨S64x16, .f32⟩
  | .hbm, ⟨6, _⟩ => ⟨S64x16, .f32⟩
  | .hbm, ⟨7, _⟩ => ⟨S1024x1280, .bf16⟩
  | .hbm, ⟨8, _⟩ => ⟨S64x1x16, .f32⟩
  | .hbm, ⟨9, _⟩ => ⟨S64x64x16, .f32⟩
  | .hbm, ⟨10, _⟩ => ⟨S4096x16, .f32⟩
  | .hbm, ⟨11, _⟩ => ⟨S64x1x16, .f32⟩
  | .hbm, ⟨12, _⟩ => ⟨S64x64x16, .f32⟩
  | .hbm, ⟨13, _⟩ => ⟨S4096x16, .f32⟩
  | .hbm, ⟨14, _⟩ => ⟨S1x64x16, .f32⟩
  | .hbm, ⟨15, _⟩ => ⟨S64x64x16, .f32⟩
  | .hbm, ⟨16, _⟩ => ⟨S4096x16, .f32⟩
  | .hbm, ⟨17, _⟩ => ⟨S1x64x16, .f32⟩
  | .hbm, ⟨18, _⟩ => ⟨S64x64x16, .f32⟩
  | .hbm, ⟨19, _⟩ => ⟨S4096x16, .f32⟩
  | .hbm, ⟨20, _⟩ => ⟨S64x1x16, .f32⟩
  | .hbm, ⟨21, _⟩ => ⟨S64x64x16, .f32⟩
  | .hbm, ⟨22, _⟩ => ⟨S4096x16, .f32⟩
  | .hbm, ⟨23, _⟩ => ⟨S4096x16, .f32⟩
  | .hbm, ⟨24, _⟩ => ⟨S64x1x16, .f32⟩
  | .hbm, ⟨25, _⟩ => ⟨S64x64x16, .f32⟩
  | .hbm, ⟨26, _⟩ => ⟨S4096x16, .f32⟩
  | .hbm, ⟨27, _⟩ => ⟨S1x64x16, .f32⟩
  | .hbm, ⟨28, _⟩ => ⟨S64x64x16, .f32⟩
  | .hbm, ⟨29, _⟩ => ⟨S4096x16, .f32⟩
  | .hbm, ⟨30, _⟩ => ⟨S4096x16, .f32⟩
  | .hbm, ⟨31, _⟩ => ⟨S1x64x16, .f32⟩
  | .hbm, ⟨32, _⟩ => ⟨S64x64x16, .f32⟩
  | .hbm, ⟨33, _⟩ => ⟨S4096x16, .f32⟩
  | .hbm, ⟨34, _⟩ => ⟨S4096x128, .f32⟩
  | .hbm, ⟨35, _⟩ => ⟨S4096x128, .f32⟩
  | .hbm, ⟨36, _⟩ => ⟨S32768x256, .f32⟩
  | .hbm, ⟨37, _⟩ => ⟨S32768x512, .bf16⟩
  | .hbm, ⟨38, _⟩ => ⟨S32768x512, .bf16⟩
  | .hbm, ⟨39, _⟩ => ⟨S32768x128, .f32⟩
  | .hbm, ⟨40, _⟩ => ⟨S32768x128, .f32⟩
  | .local _ .vmem, ⟨0, _⟩ => ⟨S256x1024, .f32⟩
  | .local _ .vmem, ⟨1, _⟩ => ⟨S256x1024, .f32⟩
  | .local _ .vmem, ⟨2, _⟩ => ⟨S1x1x6144, .f32⟩
  | .local _ .vmem, ⟨3, _⟩ => ⟨S1x1x6144, .f32⟩
  | .local _ .vmem, ⟨4, _⟩ => ⟨S1x1024, .f32⟩
  | .local _ .vmem, ⟨5, _⟩ => ⟨S1024x1280, .bf16⟩
  | .local _ .vmem, ⟨6, _⟩ => ⟨S256x512, .bf16⟩
  | .local _ .vmem, ⟨7, _⟩ => ⟨S256x128, .f32⟩
  | .local _ .vmem, ⟨8, _⟩ => ⟨S256x128, .f32⟩
  | .local _ .vmem, ⟨9, _⟩ => ⟨S256x128, .f32⟩
  | .local _ .vmem, ⟨10, _⟩ => ⟨S256x128, .f32⟩
  | .local _ .vmem, ⟨11, _⟩ => ⟨S256x256, .f32⟩
  | .local _ .vmem, ⟨12, _⟩ => ⟨S256x256, .f32⟩
  | .local _ .vmem, ⟨13, _⟩ => ⟨S256x512, .bf16⟩
  | .local _ .vmem, ⟨14, _⟩ => ⟨S256x512, .bf16⟩
  | .local _ .vmem, ⟨15, _⟩ => ⟨S256x512, .bf16⟩
  | .local _ .vmem, ⟨16, _⟩ => ⟨S256x512, .bf16⟩
  | .local _ .vmem, ⟨17, _⟩ => ⟨S256x128, .f32⟩
  | .local _ .vmem, ⟨18, _⟩ => ⟨S256x128, .f32⟩
  | .local _ .vmem, ⟨19, _⟩ => ⟨S256x128, .f32⟩
  | .local _ .vmem, ⟨20, _⟩ => ⟨S256x128, .f32⟩
  | _, _ => ⟨S32768x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | _, _ => false

abbrev semScoped : Fin 0 → Bool
  | ⟨_, h⟩ => absurd h (Nat.not_lt_zero _)

abbrev dmaSemScoped : Fin 21 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | _ => false

abbrev sig : RefSig :=
  ofTc nBuf bufTy 0 21 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩
abbrev main_v26 : Ref sig .tc := ⟨.hbm, 33, rfl⟩
abbrev main_v27 : Ref sig .tc := ⟨.hbm, 34, rfl⟩
abbrev main_v28 : Ref sig .tc := ⟨.hbm, 35, rfl⟩
abbrev main_v29_0 : Ref sig .tc := ⟨.hbm, 36, rfl⟩
abbrev main_v29_1 : Ref sig .tc := ⟨.hbm, 37, rfl⟩
abbrev main_v29_2 : Ref sig .tc := ⟨.hbm, 38, rfl⟩
abbrev main_v29_3 : Ref sig .tc := ⟨.hbm, 39, rfl⟩
abbrev main_v29_4 : Ref sig .tc := ⟨.hbm, 40, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg7_1 : Ref sig .tc := ⟨.vmem, 12, rfl⟩
abbrev cc0_stg8_0 : Ref sig .tc := ⟨.vmem, 13, rfl⟩
abbrev cc0_stg8_1 : Ref sig .tc := ⟨.vmem, 14, rfl⟩
abbrev cc0_stg9_0 : Ref sig .tc := ⟨.vmem, 15, rfl⟩
abbrev cc0_stg9_1 : Ref sig .tc := ⟨.vmem, 16, rfl⟩
abbrev cc0_stg10_0 : Ref sig .tc := ⟨.vmem, 17, rfl⟩
abbrev cc0_stg10_1 : Ref sig .tc := ⟨.vmem, 18, rfl⟩
abbrev cc0_stg11_0 : Ref sig .tc := ⟨.vmem, 19, rfl⟩
abbrev cc0_stg11_1 : Ref sig .tc := ⟨.vmem, 20, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem5_1 : DmaSem sig := 8
abbrev cc0_sem6_0 : DmaSem sig := 9
abbrev cc0_sem6_1 : DmaSem sig := 10
abbrev cc0_sem7_0 : DmaSem sig := 11
abbrev cc0_sem7_1 : DmaSem sig := 12
abbrev cc0_sem8_0 : DmaSem sig := 13
abbrev cc0_sem8_1 : DmaSem sig := 14
abbrev cc0_sem9_0 : DmaSem sig := 15
abbrev cc0_sem9_1 : DmaSem sig := 16
abbrev cc0_sem10_0 : DmaSem sig := 17
abbrev cc0_sem10_1 : DmaSem sig := 18
abbrev cc0_sem11_0 : DmaSem sig := 19
abbrev cc0_sem11_1 : DmaSem sig := 20

abbrev nD : Nat := 1
abbrev τ : Topo := Topo.v7x

variable {F : FTy → Type} [FloatOps F]

abbrev grid0 : Pipeline.Grid := ⟨1, ![128], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c16_i32 : BitVec 32 := 16#32
  let v0 : BitVec 32 := Scalar.divsi arg0 c16_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c16_i32 c0_i32_1
  let v7 : BitVec 32 := Scalar.extui v6
  let c0_i32_2 : BitVec 32 := 0#32
  let v8 : BitVec 1 := Scalar.cmpi .slt c16_i32 c0_i32_2
  let v9 : BitVec 32 := Scalar.extui v8
  let v10 : BitVec 32 := Scalar.subi v7 v9
  let v11 : BitVec 1 := Scalar.cmpi .ne v5 v10
  let v12 : BitVec 32 := Scalar.remsi arg0 c16_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c1_i32_4 : BitVec 32 := 1#32
  let v17 : BitVec 32 := Scalar.addi c1_i32_4 v16
  let c0_i32_5 : BitVec 32 := 0#32
  let c0_i32_6 : BitVec 32 := 0#32
  let c0_i32_7 : BitVec 32 := 0#32
  ![v17.toNat, c0_i32_5.toNat, c0_i32_6.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c16_i32 : BitVec 32 := 16#32
  let c0_i32 : BitVec 32 := 0#32
  let v0 : BitVec 1 := Scalar.cmpi .eq c16_i32 c0_i32
  let c1_i32 : BitVec 32 := 1#32
  let v1 : BitVec 32 := Scalar.select v0 c1_i32 c16_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  ![v9.toNat, c0_i32_3.toNat]

def cc0_transform_6 (i : grid0.Coords) : Fin 2 → Nat :=
  let arg0 : BitVec 32 := BitVec.ofNat 32 (i 0).val
  let c16_i32 : BitVec 32 := 16#32
  let c0_i32 : BitVec 32 := 0#32
  let v0 : BitVec 1 := Scalar.cmpi .eq c16_i32 c0_i32
  let c1_i32 : BitVec 32 := 1#32
  let v1 : BitVec 32 := Scalar.select v0 c1_i32 c16_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  ![v9.toNat, c0_i32_3.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x1x6144 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1024x1280 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S256x512 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S256x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x256 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S256x512 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S256x512 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S256x128 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S256x128 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]
-- ==== InRefIdeal.lean ====
abbrev S32768x1024 : Shape := ⟨2, ![32768, 1024]⟩
abbrev S16x1x6144 : Shape := ⟨3, ![16, 1, 6144]⟩
abbrev S1x1024 : Shape := ⟨2, ![1, 1024]⟩
abbrev S1024x1280 : Shape := ⟨2, ![1024, 1280]⟩
abbrev S256x512 : Shape := ⟨2, ![256, 512]⟩
abbrev S64x16 : Shape := ⟨2, ![64, 16]⟩
abbrev S8x1x6144 : Shape := ⟨3, ![8, 1, 6144]⟩
abbrev S8x1x1024 : Shape := ⟨3, ![8, 1, 1024]⟩
abbrev S8x4096x1024 : Shape := ⟨3, ![8, 4096, 1024]⟩
abbrev S_ : Shape := ⟨0, ![]⟩
abbrev S8x4096 : Shape := ⟨2, ![8, 4096]⟩
abbrev S8x4096x1 : Shape := ⟨3, ![8, 4096, 1]⟩
abbrev S1x1x1024 : Shape := ⟨3, ![1, 1, 1024]⟩
abbrev S8x4096x1280 : Shape := ⟨3, ![8, 4096, 1280]⟩
abbrev S8x4096x256 : Shape := ⟨3, ![8, 4096, 256]⟩
abbrev S8x4096x512 : Shape := ⟨3, ![8, 4096, 512]⟩
abbrev S8x64x64x8x64 : Shape := ⟨5, ![8, 64, 64, 8, 64]⟩
abbrev S8x64x64x8x32 : Shape := ⟨5, ![8, 64, 64, 8, 32]⟩
abbrev S1x64x1x1x16 : Shape := ⟨5, ![1, 64, 1, 1, 16]⟩
abbrev S8x64x64x8x16 : Shape := ⟨5, ![8, 64, 64, 8, 16]⟩
abbrev S1x1x64x1x16 : Shape := ⟨5, ![1, 1, 64, 1, 16]⟩
abbrev S32768x512 : Shape := ⟨2, ![32768, 512]⟩
abbrev S8x4096x128 : Shape := ⟨3, ![8, 4096, 128]⟩
abbrev S8x64x64x2x64 : Shape := ⟨5, ![8, 64, 64, 2, 64]⟩
abbrev S8x64x64x2x32 : Shape := ⟨5, ![8, 64, 64, 2, 32]⟩
abbrev S8x64x64x2x16 : Shape := ⟨5, ![8, 64, 64, 2, 16]⟩
abbrev S32768x128 : Shape := ⟨2, ![32768, 128]⟩
abbrev S32768x256 : Shape := ⟨2, ![32768, 256]⟩

abbrev nBuf : Space → Nat
  | .hbm => 120
  | .vmem => 0
  | .smem => 0
  | _ => 0

abbrev bufTy : (tb : Table) → Fin (tcTables nBuf tb) → BufTy
  | .hbm, ⟨0, _⟩ => ⟨S32768x1024, .f32⟩
  | .hbm, ⟨1, _⟩ => ⟨S16x1x6144, .f32⟩
  | .hbm, ⟨2, _⟩ => ⟨S1x1024, .f32⟩
  | .hbm, ⟨3, _⟩ => ⟨S1024x1280, .f32⟩
  | .hbm, ⟨4, _⟩ => ⟨S256x512, .bf16⟩
  | .hbm, ⟨5, _⟩ => ⟨S64x16, .f32⟩
  | .hbm, ⟨6, _⟩ => ⟨S64x16, .f32⟩
  | .hbm, ⟨7, _⟩ => ⟨S8x1x6144, .f32⟩
  | .hbm, ⟨8, _⟩ => ⟨S8x1x1024, .f32⟩
  | .hbm, ⟨9, _⟩ => ⟨S8x1x1024, .f32⟩
  | .hbm, ⟨10, _⟩ => ⟨S8x4096x1024, .f32⟩
  | .hbm, ⟨11, _⟩ => ⟨S8x4096x1024, .f32⟩
  | .hbm, ⟨12, _⟩ => ⟨S_, .f32⟩
  | .hbm, ⟨13, _⟩ => ⟨S8x4096, .f32⟩
  | .hbm, ⟨14, _⟩ => ⟨S8x4096x1, .f32⟩
  | .hbm, ⟨15, _⟩ => ⟨S_, .f32⟩
  | .hbm, ⟨16, _⟩ => ⟨S8x4096x1, .f32⟩
  | .hbm, ⟨17, _⟩ => ⟨S8x4096x1, .f32⟩
  | .hbm, ⟨18, _⟩ => ⟨S_, .f32⟩
  | .hbm, ⟨19, _⟩ => ⟨S8x4096x1, .f32⟩
  | .hbm, ⟨20, _⟩ => ⟨S8x4096x1, .f32⟩
  | .hbm, ⟨21, _⟩ => ⟨S8x4096x1, .f32⟩
  | .hbm, ⟨22, _⟩ => ⟨S8x4096x1024, .f32⟩
  | .hbm, ⟨23, _⟩ => ⟨S8x4096x1024, .f32⟩
  | .hbm, ⟨24, _⟩ => ⟨S1x1x1024, .f32⟩
  | .hbm, ⟨25, _⟩ => ⟨S8x4096x1024, .f32⟩
  | .hbm, ⟨26, _⟩ => ⟨S8x4096x1024, .f32⟩
  | .hbm, ⟨27, _⟩ => ⟨S_, .f32⟩
  | .hbm, ⟨28, _⟩ => ⟨S8x1x1024, .f32⟩
  | .hbm, ⟨29, _⟩ => ⟨S8x1x1024, .f32⟩
  | .hbm, ⟨30, _⟩ => ⟨S8x4096x1024, .f32⟩
  | .hbm, ⟨31, _⟩ => ⟨S8x4096x1024, .f32⟩
  | .hbm, ⟨32, _⟩ => ⟨S8x4096x1024, .f32⟩
  | .hbm, ⟨33, _⟩ => ⟨S8x4096x1024, .f32⟩
  | .hbm, ⟨34, _⟩ => ⟨S8x4096x1280, .f32⟩
  | .hbm, ⟨35, _⟩ => ⟨S8x4096x256, .f32⟩
  | .hbm, ⟨36, _⟩ => ⟨S256x512, .f32⟩
  | .hbm, ⟨37, _⟩ => ⟨S8x4096x512, .f32⟩
  | .hbm, ⟨38, _⟩ => ⟨S8x4096x512, .f32⟩
  | .hbm, ⟨39, _⟩ => ⟨S8x64x64x8x64, .f32⟩
  | .hbm, ⟨40, _⟩ => ⟨S8x64x64x8x32, .f32⟩
  | .hbm, ⟨41, _⟩ => ⟨S1x64x1x1x16, .f32⟩
  | .hbm, ⟨42, _⟩ => ⟨S1x64x1x1x16, .f32⟩
  | .hbm, ⟨43, _⟩ => ⟨S8x64x64x8x16, .f32⟩
  | .hbm, ⟨44, _⟩ => ⟨S8x64x64x8x16, .f32⟩
  | .hbm, ⟨45, _⟩ => ⟨S8x64x64x8x16, .f32⟩
  | .hbm, ⟨46, _⟩ => ⟨S8x64x64x8x16, .f32⟩
  | .hbm, ⟨47, _⟩ => ⟨S8x64x64x8x16, .f32⟩
  | .hbm, ⟨48, _⟩ => ⟨S8x64x64x8x16, .f32⟩
  | .hbm, ⟨49, _⟩ => ⟨S8x64x64x8x16, .f32⟩
  | .hbm, ⟨50, _⟩ => ⟨S8x64x64x8x16, .f32⟩
  | .hbm, ⟨51, _⟩ => ⟨S8x64x64x8x16, .f32⟩
  | .hbm, ⟨52, _⟩ => ⟨S8x64x64x8x16, .f32⟩
  | .hbm, ⟨53, _⟩ => ⟨S8x64x64x8x16, .f32⟩
  | .hbm, ⟨54, _⟩ => ⟨S8x64x64x8x16, .f32⟩
  | .hbm, ⟨55, _⟩ => ⟨S8x64x64x8x32, .f32⟩
  | .hbm, ⟨56, _⟩ => ⟨S8x64x64x8x32, .f32⟩
  | .hbm, ⟨57, _⟩ => ⟨S1x1x64x1x16, .f32⟩
  | .hbm, ⟨58, _⟩ => ⟨S1x1x64x1x16, .f32⟩
  | .hbm, ⟨59, _⟩ => ⟨S8x64x64x8x16, .f32⟩
  | .hbm, ⟨60, _⟩ => ⟨S8x64x64x8x16, .f32⟩
  | .hbm, ⟨61, _⟩ => ⟨S8x64x64x8x16, .f32⟩
  | .hbm, ⟨62, _⟩ => ⟨S8x64x64x8x16, .f32⟩
  | .hbm, ⟨63, _⟩ => ⟨S8x64x64x8x16, .f32⟩
  | .hbm, ⟨64, _⟩ => ⟨S8x64x64x8x16, .f32⟩
  | .hbm, ⟨65, _⟩ => ⟨S8x64x64x8x16, .f32⟩
  | .hbm, ⟨66, _⟩ => ⟨S8x64x64x8x16, .f32⟩
  | .hbm, ⟨67, _⟩ => ⟨S8x64x64x8x16, .f32⟩
  | .hbm, ⟨68, _⟩ => ⟨S8x64x64x8x16, .f32⟩
  | .hbm, ⟨69, _⟩ => ⟨S8x64x64x8x16, .f32⟩
  | .hbm, ⟨70, _⟩ => ⟨S8x64x64x8x16, .f32⟩
  | .hbm, ⟨71, _⟩ => ⟨S8x64x64x8x32, .f32⟩
  | .hbm, ⟨72, _⟩ => ⟨S8x64x64x8x64, .f32⟩
  | .hbm, ⟨73, _⟩ => ⟨S32768x512, .f32⟩
  | .hbm, ⟨74, _⟩ => ⟨S8x4096x128, .f32⟩
  | .hbm, ⟨75, _⟩ => ⟨S8x64x64x2x64, .f32⟩
  | .hbm, ⟨76, _⟩ => ⟨S8x64x64x2x32, .f32⟩
  | .hbm, ⟨77, _⟩ => ⟨S1x64x1x1x16, .f32⟩
  | .hbm, ⟨78, _⟩ => ⟨S1x64x1x1x16, .f32⟩
  | .hbm, ⟨79, _⟩ => ⟨S8x64x64x2x16, .f32⟩
  | .hbm, ⟨80, _⟩ => ⟨S8x64x64x2x16, .f32⟩
  | .hbm, ⟨81, _⟩ => ⟨S8x64x64x2x16, .f32⟩
  | .hbm, ⟨82, _⟩ => ⟨S8x64x64x2x16, .f32⟩
  | .hbm, ⟨83, _⟩ => ⟨S8x64x64x2x16, .f32⟩
  | .hbm, ⟨84, _⟩ => ⟨S8x64x64x2x16, .f32⟩
  | .hbm, ⟨85, _⟩ => ⟨S8x64x64x2x16, .f32⟩
  | .hbm, ⟨86, _⟩ => ⟨S8x64x64x2x16, .f32⟩
  | .hbm, ⟨87, _⟩ => ⟨S8x64x64x2x16, .f32⟩
  | .hbm, ⟨88, _⟩ => ⟨S8x64x64x2x16, .f32⟩
  | .hbm, ⟨89, _⟩ => ⟨S8x64x64x2x16, .f32⟩
  | .hbm, ⟨90, _⟩ => ⟨S8x64x64x2x16, .f32⟩
  | .hbm, ⟨91, _⟩ => ⟨S8x64x64x2x32, .f32⟩
  | .hbm, ⟨92, _⟩ => ⟨S8x64x64x2x32, .f32⟩
  | .hbm, ⟨93, _⟩ => ⟨S1x1x64x1x16, .f32⟩
  | .hbm, ⟨94, _⟩ => ⟨S1x1x64x1x16, .f32⟩
  | .hbm, ⟨95, _⟩ => ⟨S8x64x64x2x16, .f32⟩
  | .hbm, ⟨96, _⟩ => ⟨S8x64x64x2x16, .f32⟩
  | .hbm, ⟨97, _⟩ => ⟨S8x64x64x2x16, .f32⟩
  | .hbm, ⟨98, _⟩ => ⟨S8x64x64x2x16, .f32⟩
  | .hbm, ⟨99, _⟩ => ⟨S8x64x64x2x16, .f32⟩
  | .hbm, ⟨100, _⟩ => ⟨S8x64x64x2x16, .f32⟩
  | .hbm, ⟨101, _⟩ => ⟨S8x64x64x2x16, .f32⟩
  | .hbm, ⟨102, _⟩ => ⟨S8x64x64x2x16, .f32⟩
  | .hbm, ⟨103, _⟩ => ⟨S8x64x64x2x16, .f32⟩
  | .hbm, ⟨104, _⟩ => ⟨S8x64x64x2x16, .f32⟩
  | .hbm, ⟨105, _⟩ => ⟨S8x64x64x2x16, .f32⟩
  | .hbm, ⟨106, _⟩ => ⟨S8x64x64x2x16, .f32⟩
  | .hbm, ⟨107, _⟩ => ⟨S8x64x64x2x32, .f32⟩
  | .hbm, ⟨108, _⟩ => ⟨S8x64x64x2x64, .f32⟩
  | .hbm, ⟨109, _⟩ => ⟨S32768x128, .f32⟩
  | .hbm, ⟨110, _⟩ => ⟨S8x4096x256, .f32⟩
  | .hbm, ⟨111, _⟩ => ⟨S32768x256, .f32⟩
  | .hbm, ⟨112, _⟩ => ⟨S32768x512, .f32⟩
  | .hbm, ⟨113, _⟩ => ⟨S32768x512, .bf16⟩
  | .hbm, ⟨114, _⟩ => ⟨S_, .f32⟩
  | .hbm, ⟨115, _⟩ => ⟨S32768x512, .f32⟩
  | .hbm, ⟨116, _⟩ => ⟨S32768x512, .f32⟩
  | .hbm, ⟨117, _⟩ => ⟨S32768x512, .bf16⟩
  | .hbm, ⟨118, _⟩ => ⟨S8x4096x128, .f32⟩
  | .hbm, ⟨119, _⟩ => ⟨S32768x128, .f32⟩
  | _, _ => ⟨S32768x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_cst : Ref sig .tc := ⟨.hbm, 12, rfl⟩
abbrev main_v5 : Ref sig .tc := ⟨.hbm, 13, rfl⟩
abbrev main_v6 : Ref sig .tc := ⟨.hbm, 14, rfl⟩
abbrev main_cst_0 : Ref sig .tc := ⟨.hbm, 15, rfl⟩
abbrev main_v7 : Ref sig .tc := ⟨.hbm, 16, rfl⟩
abbrev main_v8 : Ref sig .tc := ⟨.hbm, 17, rfl⟩
abbrev main_cst_1 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_cst_2 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_v35 : Ref sig .tc := ⟨.hbm, 46, rfl⟩
abbrev main_v36 : Ref sig .tc := ⟨.hbm, 47, rfl⟩
abbrev main_v37 : Ref sig .tc := ⟨.hbm, 48, rfl⟩
abbrev main_v38 : Ref sig .tc := ⟨.hbm, 49, rfl⟩
abbrev main_v39 : Ref sig .tc := ⟨.hbm, 50, rfl⟩
abbrev main_v40 : Ref sig .tc := ⟨.hbm, 51, rfl⟩
abbrev main_v41 : Ref sig .tc := ⟨.hbm, 52, rfl⟩
abbrev main_v42 : Ref sig .tc := ⟨.hbm, 53, rfl⟩
abbrev main_v43 : Ref sig .tc := ⟨.hbm, 54, rfl⟩
abbrev main_v44 : Ref sig .tc := ⟨.hbm, 55, rfl⟩
abbrev main_v45 : Ref sig .tc := ⟨.hbm, 56, rfl⟩
abbrev main_v46 : Ref sig .tc := ⟨.hbm, 57, rfl⟩
abbrev main_v47 : Ref sig .tc := ⟨.hbm, 58, rfl⟩
abbrev main_v48 : Ref sig .tc := ⟨.hbm, 59, rfl⟩
abbrev main_v49 : Ref sig .tc := ⟨.hbm, 60, rfl⟩
abbrev main_v50 : Ref sig .tc := ⟨.hbm, 61, rfl⟩
abbrev main_v51 : Ref sig .tc := ⟨.hbm, 62, rfl⟩
abbrev main_v52 : Ref sig .tc := ⟨.hbm, 63, rfl⟩
abbrev main_v53 : Ref sig .tc := ⟨.hbm, 64, rfl⟩
abbrev main_v54 : Ref sig .tc := ⟨.hbm, 65, rfl⟩
abbrev main_v55 : Ref sig .tc := ⟨.hbm, 66, rfl⟩
abbrev main_v56 : Ref sig .tc := ⟨.hbm, 67, rfl⟩
abbrev main_v57 : Ref sig .tc := ⟨.hbm, 68, rfl⟩
abbrev main_v58 : Ref sig .tc := ⟨.hbm, 69, rfl⟩
abbrev main_v59 : Ref sig .tc := ⟨.hbm, 70, rfl⟩
abbrev main_v60 : Ref sig .tc := ⟨.hbm, 71, rfl⟩
abbrev main_v61 : Ref sig .tc := ⟨.hbm, 72, rfl⟩
abbrev main_v62 : Ref sig .tc := ⟨.hbm, 73, rfl⟩
abbrev main_v63 : Ref sig .tc := ⟨.hbm, 74, rfl⟩
abbrev main_v64 : Ref sig .tc := ⟨.hbm, 75, rfl⟩
abbrev main_v65 : Ref sig .tc := ⟨.hbm, 76, rfl⟩
abbrev main_v66 : Ref sig .tc := ⟨.hbm, 77, rfl⟩
abbrev main_v67 : Ref sig .tc := ⟨.hbm, 78, rfl⟩
abbrev main_v68 : Ref sig .tc := ⟨.hbm, 79, rfl⟩
abbrev main_v69 : Ref sig .tc := ⟨.hbm, 80, rfl⟩
abbrev main_v70 : Ref sig .tc := ⟨.hbm, 81, rfl⟩
abbrev main_v71 : Ref sig .tc := ⟨.hbm, 82, rfl⟩
abbrev main_v72 : Ref sig .tc := ⟨.hbm, 83, rfl⟩
abbrev main_v73 : Ref sig .tc := ⟨.hbm, 84, rfl⟩
abbrev main_v74 : Ref sig .tc := ⟨.hbm, 85, rfl⟩
abbrev main_v75 : Ref sig .tc := ⟨.hbm, 86, rfl⟩
abbrev main_v76 : Ref sig .tc := ⟨.hbm, 87, rfl⟩
abbrev main_v77 : Ref sig .tc := ⟨.hbm, 88, rfl⟩
abbrev main_v78 : Ref sig .tc := ⟨.hbm, 89, rfl⟩
abbrev main_v79 : Ref sig .tc := ⟨.hbm, 90, rfl⟩
abbrev main_v80 : Ref sig .tc := ⟨.hbm, 91, rfl⟩
abbrev main_v81 : Ref sig .tc := ⟨.hbm, 92, rfl⟩
abbrev main_v82 : Ref sig .tc := ⟨.hbm, 93, rfl⟩
abbrev main_v83 : Ref sig .tc := ⟨.hbm, 94, rfl⟩
abbrev main_v84 : Ref sig .tc := ⟨.hbm, 95, rfl⟩
abbrev main_v85 : Ref sig .tc := ⟨.hbm, 96, rfl⟩
abbrev main_v86 : Ref sig .tc := ⟨.hbm, 97, rfl⟩
abbrev main_v87 : Ref sig .tc := ⟨.hbm, 98, rfl⟩
abbrev main_v88 : Ref sig .tc := ⟨.hbm, 99, rfl⟩
abbrev main_v89 : Ref sig .tc := ⟨.hbm, 100, rfl⟩
abbrev main_v90 : Ref sig .tc := ⟨.hbm, 101, rfl⟩
abbrev main_v91 : Ref sig .tc := ⟨.hbm, 102, rfl⟩
abbrev main_v92 : Ref sig .tc := ⟨.hbm, 103, rfl⟩
abbrev main_v93 : Ref sig .tc := ⟨.hbm, 104, rfl⟩
abbrev main_v94 : Ref sig .tc := ⟨.hbm, 105, rfl⟩
abbrev main_v95 : Ref sig .tc := ⟨.hbm, 106, rfl⟩
abbrev main_v96 : Ref sig .tc := ⟨.hbm, 107, rfl⟩
abbrev main_v97 : Ref sig .tc := ⟨.hbm, 108, rfl⟩
abbrev main_v98 : Ref sig .tc := ⟨.hbm, 109, rfl⟩
abbrev main_v99 : Ref sig .tc := ⟨.hbm, 110, rfl⟩
abbrev main_v100 : Ref sig .tc := ⟨.hbm, 111, rfl⟩
abbrev main_v101 : Ref sig .tc := ⟨.hbm, 112, rfl⟩
abbrev main_v102 : Ref sig .tc := ⟨.hbm, 113, rfl⟩
abbrev main_cst_3 : Ref sig .tc := ⟨.hbm, 114, rfl⟩
abbrev main_v103 : Ref sig .tc := ⟨.hbm, 115, rfl⟩
abbrev main_v104 : Ref sig .tc := ⟨.hbm, 116, rfl⟩
abbrev main_v105 : Ref sig .tc := ⟨.hbm, 117, rfl⟩
abbrev main_v106 : Ref sig .tc := ⟨.hbm, 118, rfl⟩
abbrev main_v107 : Ref sig .tc := ⟨.hbm, 119, rfl⟩

abbrev nD : Nat := 1
abbrev τ : Topo := Topo.v7x

variable {F : FTy → Type} [FloatOps F]
-- ==== Out.lean ====
abbrev S32768x256 : Shape := ⟨2, ![32768, 256]⟩
abbrev S32768x512 : Shape := ⟨2, ![32768, 512]⟩
abbrev S32768x1024 : Shape := ⟨2, ![32768, 1024]⟩
abbrev S16x1x6144 : Shape := ⟨3, ![16, 1, 6144]⟩
abbrev S1x1024 : Shape := ⟨2, ![1, 1024]⟩
abbrev S1024x1024 : Shape := ⟨2, ![1024, 1024]⟩
abbrev S1024x32768 : Shape := ⟨2, ![1024, 32768]⟩
abbrev S256x256 : Shape := ⟨2, ![256, 256]⟩
abbrev S256x512 : Shape := ⟨2, ![256, 512]⟩
abbrev S256x1024 : Shape := ⟨2, ![256, 1024]⟩
abbrev S1x1x6144 : Shape := ⟨3, ![1, 1, 6144]⟩
abbrev S1024x256 : Shape := ⟨2, ![1024, 256]⟩
abbrev S512x1024 : Shape := ⟨2, ![512, 1024]⟩
abbrev S1x6144 : Shape := ⟨2, ![1, 6144]⟩
abbrev S256 : Shape := ⟨1, ![256]⟩
abbrev S256x1 : Shape := ⟨2, ![256, 1]⟩

abbrev nBuf : Space → Nat
  | .hbm => 10
  | .vmem => 16
  | .smem => 0
  | _ => 0

abbrev bufTy : (tb : Table) → Fin (tcTables nBuf tb) → BufTy
  | .hbm, ⟨0, _⟩ => ⟨S32768x256, .bf16⟩
  | .hbm, ⟨1, _⟩ => ⟨S32768x256, .bf16⟩
  | .hbm, ⟨2, _⟩ => ⟨S32768x512, .bf16⟩
  | .hbm, ⟨3, _⟩ => ⟨S32768x1024, .f32⟩
  | .hbm, ⟨4, _⟩ => ⟨S16x1x6144, .f32⟩
  | .hbm, ⟨5, _⟩ => ⟨S1x1024, .f32⟩
  | .hbm, ⟨6, _⟩ => ⟨S1024x1024, .f32⟩
  | .hbm, ⟨7, _⟩ => ⟨S1024x1024, .bf16⟩
  | .hbm, ⟨8, _⟩ => ⟨S32768x1024, .f32⟩
  | .hbm, ⟨9, _⟩ => ⟨S1024x32768, .bf16⟩
  | .local _ .vmem, ⟨0, _⟩ => ⟨S256x256, .bf16⟩
  | .local _ .vmem, ⟨1, _⟩ => ⟨S256x256, .bf16⟩
  | .local _ .vmem, ⟨2, _⟩ => ⟨S256x256, .bf16⟩
  | .local _ .vmem, ⟨3, _⟩ => ⟨S256x256, .bf16⟩
  | .local _ .vmem, ⟨4, _⟩ => ⟨S256x512, .bf16⟩
  | .local _ .vmem, ⟨5, _⟩ => ⟨S256x512, .bf16⟩
  | .local _ .vmem, ⟨6, _⟩ => ⟨S256x1024, .f32⟩
  | .local _ .vmem, ⟨7, _⟩ => ⟨S256x1024, .f32⟩
  | .local _ .vmem, ⟨8, _⟩ => ⟨S1x1x6144, .f32⟩
  | .local _ .vmem, ⟨9, _⟩ => ⟨S1x1x6144, .f32⟩
  | .local _ .vmem, ⟨10, _⟩ => ⟨S1x1024, .f32⟩
  | .local _ .vmem, ⟨11, _⟩ => ⟨S1024x1024, .bf16⟩
  | .local _ .vmem, ⟨12, _⟩ => ⟨S256x1024, .f32⟩
  | .local _ .vmem, ⟨13, _⟩ => ⟨S256x1024, .f32⟩
  | .local _ .vmem, ⟨14, _⟩ => ⟨S1024x256, .bf16⟩
  | .local _ .vmem, ⟨15, _⟩ => ⟨S1024x256, .bf16⟩
  | _, _ => ⟨S32768x256, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1_0 : Ref sig .tc := ⟨.hbm, 8, rfl⟩
abbrev main_v1_1 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg8_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem7_0 : DmaSem sig := 12
abbrev cc0_sem7_1 : DmaSem sig := 13
abbrev cc0_sem8_0 : DmaSem sig := 14
abbrev cc0_sem8_1 : DmaSem sig := 15

abbrev nD : Nat := 1
abbrev τ : Topo := Topo.v7x

variable {F : FTy → Type} [FloatOps F]

abbrev grid0 : Pipeline.Grid := ⟨1, ![128], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 3 → Nat :=
  let arg0 : BitVec 32 := BitVec.ofNat 32 (i 0).val
  let c16_i32 : BitVec 32 := 16#32
  let v0 : BitVec 32 := Scalar.divsi arg0 c16_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c16_i32 c0_i32_1
  let v7 : BitVec 32 := Scalar.extui v6
  let c0_i32_2 : BitVec 32 := 0#32
  let v8 : BitVec 1 := Scalar.cmpi .slt c16_i32 c0_i32_2
  let v9 : BitVec 32 := Scalar.extui v8
  let v10 : BitVec 32 := Scalar.subi v7 v9
  let v11 : BitVec 1 := Scalar.cmpi .ne v5 v10
  let v12 : BitVec 32 := Scalar.remsi arg0 c16_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c1_i32_4 : BitVec 32 := 1#32
  let v17 : BitVec 32 := Scalar.addi c1_i32_4 v16
  let c0_i32_5 : BitVec 32 := 0#32
  let c0_i32_6 : BitVec 32 := 0#32
  let c0_i32_7 : BitVec 32 := 0#32
  ![v17.toNat, c0_i32_5.toNat, c0_i32_6.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 2 → Memref sig .tc .vmem S256x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x1x6144 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1024x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S256x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S1024x256 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== OutRefIdeal.lean ====
abbrev S32768x256 : Shape := ⟨2, ![32768, 256]⟩
abbrev S32768x512 : Shape := ⟨2, ![32768, 512]⟩
abbrev S32768x1024 : Shape := ⟨2, ![32768, 1024]⟩
abbrev S16x1x6144 : Shape := ⟨3, ![16, 1, 6144]⟩
abbrev S1x1024 : Shape := ⟨2, ![1, 1024]⟩
abbrev S1024x1024 : Shape := ⟨2, ![1024, 1024]⟩
abbrev S8x1x6144 : Shape := ⟨3, ![8, 1, 6144]⟩
abbrev S8x1x1024 : Shape := ⟨3, ![8, 1, 1024]⟩
abbrev S8x4096x1024 : Shape := ⟨3, ![8, 4096, 1024]⟩
abbrev S_ : Shape := ⟨0, ![]⟩
abbrev S8x4096 : Shape := ⟨2, ![8, 4096]⟩
abbrev S8x4096x1 : Shape := ⟨3, ![8, 4096, 1]⟩
abbrev S1x1x1024 : Shape := ⟨3, ![1, 1, 1024]⟩
abbrev S1024x32768 : Shape := ⟨2, ![1024, 32768]⟩

abbrev nBuf : Space → Nat
  | .hbm => 48
  | .vmem => 0
  | .smem => 0
  | _ => 0

abbrev bufTy : (tb : Table) → Fin (tcTables nBuf tb) → BufTy
  | .hbm, ⟨0, _⟩ => ⟨S32768x256, .bf16⟩
  | .hbm, ⟨1, _⟩ => ⟨S32768x256, .bf16⟩
  | .hbm, ⟨2, _⟩ => ⟨S32768x512, .bf16⟩
  | .hbm, ⟨3, _⟩ => ⟨S32768x1024, .f32⟩
  | .hbm, ⟨4, _⟩ => ⟨S16x1x6144, .f32⟩
  | .hbm, ⟨5, _⟩ => ⟨S1x1024, .f32⟩
  | .hbm, ⟨6, _⟩ => ⟨S1024x1024, .f32⟩
  | .hbm, ⟨7, _⟩ => ⟨S8x1x6144, .f32⟩
  | .hbm, ⟨8, _⟩ => ⟨S8x1x1024, .f32⟩
  | .hbm, ⟨9, _⟩ => ⟨S8x1x1024, .f32⟩
  | .hbm, ⟨10, _⟩ => ⟨S8x1x1024, .f32⟩
  | .hbm, ⟨11, _⟩ => ⟨S32768x256, .f32⟩
  | .hbm, ⟨12, _⟩ => ⟨S32768x256, .f32⟩
  | .hbm, ⟨13, _⟩ => ⟨S32768x512, .f32⟩
  | .hbm, ⟨14, _⟩ => ⟨S32768x1024, .f32⟩
  | .hbm, ⟨15, _⟩ => ⟨S32768x1024, .f32⟩
  | .hbm, ⟨16, _⟩ => ⟨S8x4096x1024, .f32⟩
  | .hbm, ⟨17, _⟩ => ⟨S8x4096x1024, .f32⟩
  | .hbm, ⟨18, _⟩ => ⟨S8x4096x1024, .f32⟩
  | .hbm, ⟨19, _⟩ => ⟨S8x4096x1024, .f32⟩
  | .hbm, ⟨20, _⟩ => ⟨S8x4096x1024, .f32⟩
  | .hbm, ⟨21, _⟩ => ⟨S8x4096x1024, .f32⟩
  | .hbm, ⟨22, _⟩ => ⟨S_, .f32⟩
  | .hbm, ⟨23, _⟩ => ⟨S8x4096, .f32⟩
  | .hbm, ⟨24, _⟩ => ⟨S8x4096x1, .f32⟩
  | .hbm, ⟨25, _⟩ => ⟨S_, .f32⟩
  | .hbm, ⟨26, _⟩ => ⟨S8x4096x1, .f32⟩
  | .hbm, ⟨27, _⟩ => ⟨S8x4096x1, .f32⟩
  | .hbm, ⟨28, _⟩ => ⟨S_, .f32⟩
  | .hbm, ⟨29, _⟩ => ⟨S8x4096x1, .f32⟩
  | .hbm, ⟨30, _⟩ => ⟨S8x4096x1, .f32⟩
  | .hbm, ⟨31, _⟩ => ⟨S8x4096x1, .f32⟩
  | .hbm, ⟨32, _⟩ => ⟨S8x4096x1024, .f32⟩
  | .hbm, ⟨33, _⟩ => ⟨S8x4096x1024, .f32⟩
  | .hbm, ⟨34, _⟩ => ⟨S1x1x1024, .f32⟩
  | .hbm, ⟨35, _⟩ => ⟨S8x4096x1024, .f32⟩
  | .hbm, ⟨36, _⟩ => ⟨S8x4096x1024, .f32⟩
  | .hbm, ⟨37, _⟩ => ⟨S_, .f32⟩
  | .hbm, ⟨38, _⟩ => ⟨S8x1x1024, .f32⟩
  | .hbm, ⟨39, _⟩ => ⟨S8x1x1024, .f32⟩
  | .hbm, ⟨40, _⟩ => ⟨S8x4096x1024, .f32⟩
  | .hbm, ⟨41, _⟩ => ⟨S8x4096x1024, .f32⟩
  | .hbm, ⟨42, _⟩ => ⟨S8x4096x1024, .f32⟩
  | .hbm, ⟨43, _⟩ => ⟨S8x4096x1024, .f32⟩
  | .hbm, ⟨44, _⟩ => ⟨S32768x1024, .f32⟩
  | .hbm, ⟨45, _⟩ => ⟨S32768x1024, .f32⟩
  | .hbm, ⟨46, _⟩ => ⟨S1024x32768, .f32⟩
  | .hbm, ⟨47, _⟩ => ⟨S1024x32768, .bf16⟩
  | _, _ => ⟨S32768x256, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_cst : Ref sig .tc := ⟨.hbm, 22, rfl⟩
abbrev main_v15 : Ref sig .tc := ⟨.hbm, 23, rfl⟩
abbrev main_v16 : Ref sig .tc := ⟨.hbm, 24, rfl⟩
abbrev main_cst_0 : Ref sig .tc := ⟨.hbm, 25, rfl⟩
abbrev main_v17 : Ref sig .tc := ⟨.hbm, 26, rfl⟩
abbrev main_v18 : Ref sig .tc := ⟨.hbm, 27, rfl⟩
abbrev main_cst_1 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_cst_2 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_v35 : Ref sig .tc := ⟨.hbm, 46, rfl⟩
abbrev main_v36 : Ref sig .tc := ⟨.hbm, 47, rfl⟩

abbrev nD : Nat := 1
abbrev τ : Topo := Topo.v7x

variable {F : FTy → Type} [FloatOps F]
-- ==== Peer.lean ====
abbrev S1024x32768 : Shape := ⟨2, ![1024, 32768]⟩
abbrev S2048x1024 : Shape := ⟨2, ![2048, 1024]⟩
abbrev S8x2x128x128 : Shape := ⟨4, ![8, 2, 128, 128]⟩
abbrev S8x128x32768 : Shape := ⟨3, ![8, 128, 32768]⟩
abbrev S1024x256 : Shape := ⟨2, ![1024, 256]⟩
abbrev S8x128x256 : Shape := ⟨3, ![8, 128, 256]⟩
abbrev S2048x256 : Shape := ⟨2, ![2048, 256]⟩
abbrev S56x256 : Shape := ⟨2, ![56, 256]⟩
abbrev S1x1x128x128 : Shape := ⟨4, ![1, 1, 128, 128]⟩
abbrev S128x128 : Shape := ⟨2, ![128, 128]⟩
abbrev S128x256 : Shape := ⟨2, ![128, 256]⟩
abbrev S256 : Shape := ⟨1, ![256]⟩
abbrev S1x256 : Shape := ⟨2, ![1, 256]⟩
abbrev S1x128x256 : Shape := ⟨3, ![1, 128, 256]⟩

abbrev nBuf : Space → Nat
  | .hbm => 7
  | .vmem => 14
  | .smem => 0
  | _ => 0

abbrev bufTy : (tb : Table) → Fin (tcTables nBuf tb) → BufTy
  | .hbm, ⟨0, _⟩ => ⟨S1024x32768, .bf16⟩
  | .hbm, ⟨1, _⟩ => ⟨S2048x1024, .bf16⟩
  | .hbm, ⟨2, _⟩ => ⟨S8x2x128x128, .bf16⟩
  | .hbm, ⟨3, _⟩ => ⟨S8x128x32768, .f32⟩
  | .hbm, ⟨4, _⟩ => ⟨S8x128x32768, .f32⟩
  | .hbm, ⟨5, _⟩ => ⟨S8x128x32768, .f32⟩
  | .hbm, ⟨6, _⟩ => ⟨S8x128x32768, .f32⟩
  | .local _ .vmem, ⟨0, _⟩ => ⟨S1024x256, .bf16⟩
  | .local _ .vmem, ⟨1, _⟩ => ⟨S1024x256, .bf16⟩
  | .local _ .vmem, ⟨2, _⟩ => ⟨S2048x1024, .bf16⟩
  | .local _ .vmem, ⟨3, _⟩ => ⟨S8x2x128x128, .bf16⟩
  | .local _ .vmem, ⟨4, _⟩ => ⟨S8x128x256, .f32⟩
  | .local _ .vmem, ⟨5, _⟩ => ⟨S8x128x256, .f32⟩
  | .local _ .vmem, ⟨6, _⟩ => ⟨S8x128x256, .f32⟩
  | .local _ .vmem, ⟨7, _⟩ => ⟨S8x128x256, .f32⟩
  | .local _ .vmem, ⟨8, _⟩ => ⟨S8x128x256, .f32⟩
  | .local _ .vmem, ⟨9, _⟩ => ⟨S8x128x256, .f32⟩
  | .local _ .vmem, ⟨10, _⟩ => ⟨S8x128x256, .f32⟩
  | .local _ .vmem, ⟨11, _⟩ => ⟨S8x128x256, .f32⟩
  | .local _ .vmem, ⟨12, _⟩ => ⟨S2048x256, .bf16⟩
  | .local _ .vmem, ⟨13, _⟩ => ⟨S56x256, .f32⟩
  | _, _ => ⟨S1024x32768, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0_0 : Ref sig .tc := ⟨.hbm, 3, rfl⟩
abbrev main_v0_1 : Ref sig .tc := ⟨.hbm, 4, rfl⟩
abbrev main_v0_2 : Ref sig .tc := ⟨.hbm, 5, rfl⟩
abbrev main_v0_3 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_scratch0 : Ref sig .tc := ⟨.vmem, 12, rfl⟩
abbrev cc0_scratch1 : Ref sig .tc := ⟨.vmem, 13, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem6_1 : DmaSem sig := 11

abbrev nD : Nat := 1
abbrev τ : Topo := Topo.v7x

variable {F : FTy → Type} [FloatOps F]

abbrev grid0 : Pipeline.Grid := ⟨1, ![128], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  let c0_i32_3 : BitVec 32 := 0#32
  ![c0_i32.toNat, c0_i32_0.toNat, c0_i32_1.toNat, c0_i32_2.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat, arg0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat, arg0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat, arg0.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat, arg0.toNat]

abbrev stage0_0 : Fin 2 → Memref sig .tc .vmem S1024x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S2048x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S8x2x128x128 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S8x128x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S8x128x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S8x128x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S8x128x256 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== PeerRefIdeal.lean ====
abbrev S1024x32768 : Shape := ⟨2, ![1024, 32768]⟩
abbrev S2048x1024 : Shape := ⟨2, ![2048, 1024]⟩
abbrev S8x2x128x128 : Shape := ⟨4, ![8, 2, 128, 128]⟩
abbrev S32768x2048 : Shape := ⟨2, ![32768, 2048]⟩
abbrev S32768x8x2x128 : Shape := ⟨4, ![32768, 8, 2, 128]⟩
abbrev S32768x8x1x128 : Shape := ⟨4, ![32768, 8, 1, 128]⟩
abbrev S32768x8x128 : Shape := ⟨3, ![32768, 8, 128]⟩
abbrev S8x1x128x128 : Shape := ⟨4, ![8, 1, 128, 128]⟩
abbrev S8x128x128 : Shape := ⟨3, ![8, 128, 128]⟩
abbrev S8x128x32768 : Shape := ⟨3, ![8, 128, 32768]⟩
abbrev S_ : Shape := ⟨0, ![]⟩
abbrev S32768x8 : Shape := ⟨2, ![32768, 8]⟩
abbrev S32768x8x1 : Shape := ⟨3, ![32768, 8, 1]⟩
abbrev S32768x8x16 : Shape := ⟨3, ![32768, 8, 16]⟩
abbrev S32768x8x16x1 : Shape := ⟨4, ![32768, 8, 16, 1]⟩
abbrev S32768x8x1x16 : Shape := ⟨4, ![32768, 8, 1, 16]⟩
abbrev S32768x8x16x16 : Shape := ⟨4, ![32768, 8, 16, 16]⟩
abbrev S32768x8x256 : Shape := ⟨3, ![32768, 8, 256]⟩
abbrev S32768x8x128x1 : Shape := ⟨4, ![32768, 8, 128, 1]⟩
abbrev S32768x8x128x16 : Shape := ⟨4, ![32768, 8, 128, 16]⟩
abbrev S32768x8x1x1 : Shape := ⟨4, ![32768, 8, 1, 1]⟩

abbrev nBuf : Space → Nat
  | .hbm => 548
  | .vmem => 0
  | .smem => 0
  | _ => 0

abbrev hbmTy0_0 (i : Nat) : BufTy := match i % 128 with
  | 0 => ⟨S1024x32768, .bf16⟩
  | 1 => ⟨S2048x1024, .bf16⟩
  | 2 => ⟨S8x2x128x128, .bf16⟩
  | 3 => ⟨S1024x32768, .f32⟩
  | 4 => ⟨S2048x1024, .f32⟩
  | 5 => ⟨S32768x2048, .f32⟩
  | 6 => ⟨S32768x8x2x128, .f32⟩
  | 7 => ⟨S32768x8x1x128, .f32⟩
  | 8 => ⟨S32768x8x128, .f32⟩
  | 9 => ⟨S8x1x128x128, .bf16⟩
  | 10 => ⟨S8x128x128, .bf16⟩
  | 11 => ⟨S8x128x128, .f32⟩
  | 12 => ⟨S8x128x32768, .f32⟩
  | 13 => ⟨S32768x8x128, .f32⟩
  | 14 => ⟨S32768x8x1x128, .f32⟩
  | 15 => ⟨S32768x8x128, .f32⟩
  | 16 => ⟨S8x1x128x128, .bf16⟩
  | 17 => ⟨S8x128x128, .bf16⟩
  | 18 => ⟨S8x128x128, .f32⟩
  | 19 => ⟨S8x128x32768, .f32⟩
  | 20 => ⟨S32768x8x128, .f32⟩
  | 21 => ⟨S_, .f32⟩
  | 22 => ⟨S32768x8, .f32⟩
  | 23 => ⟨S32768x8x1, .f32⟩
  | 24 => ⟨S32768x8x128, .f32⟩
  | 25 => ⟨S32768x8x128, .i1⟩
  | 26 => ⟨S_, .f32⟩
  | 27 => ⟨S_, .f32⟩
  | 28 => ⟨S32768x8x128, .f32⟩
  | 29 => ⟨S32768x8x128, .f32⟩
  | 30 => ⟨S_, .f32⟩
  | 31 => ⟨S32768x8, .f32⟩
  | 32 => ⟨S32768x8x1, .f32⟩
  | 33 => ⟨S32768x8x128, .f32⟩
  | 34 => ⟨S32768x8x128, .i1⟩
  | 35 => ⟨S_, .f32⟩
  | 36 => ⟨S_, .f32⟩
  | 37 => ⟨S32768x8x128, .f32⟩
  | 38 => ⟨S32768x8x128, .f32⟩
  | 39 => ⟨S_, .f32⟩
  | 40 => ⟨S32768x8, .f32⟩
  | 41 => ⟨S32768x8x1, .f32⟩
  | 42 => ⟨S32768x8x128, .f32⟩
  | 43 => ⟨S32768x8x128, .i1⟩
  | 44 => ⟨S_, .f32⟩
  | 45 => ⟨S_, .f32⟩
  | 46 => ⟨S32768x8x128, .f32⟩
  | 47 => ⟨S32768x8x128, .f32⟩
  | 48 => ⟨S_, .f32⟩
  | 49 => ⟨S32768x8, .f32⟩
  | 50 => ⟨S32768x8x1, .f32⟩
  | 51 => ⟨S32768x8x128, .f32⟩
  | 52 => ⟨S32768x8x128, .i1⟩
  | 53 => ⟨S_, .f32⟩
  | 54 => ⟨S_, .f32⟩
  | 55 => ⟨S32768x8x128, .f32⟩
  | 56 => ⟨S32768x8x128, .f32⟩
  | 57 => ⟨S_, .f32⟩
  | 58 => ⟨S32768x8, .f32⟩
  | 59 => ⟨S32768x8x1, .f32⟩
  | 60 => ⟨S32768x8x128, .f32⟩
  | 61 => ⟨S32768x8x128, .i1⟩
  | 62 => ⟨S_, .f32⟩
  | 63 => ⟨S_, .f32⟩
  | 64 => ⟨S32768x8x128, .f32⟩
  | 65 => ⟨S32768x8x128, .f32⟩
  | 66 => ⟨S_, .f32⟩
  | 67 => ⟨S32768x8, .f32⟩
  | 68 => ⟨S32768x8x1, .f32⟩
  | 69 => ⟨S32768x8x128, .f32⟩
  | 70 => ⟨S32768x8x128, .i1⟩
  | 71 => ⟨S_, .f32⟩
  | 72 => ⟨S_, .f32⟩
  | 73 => ⟨S32768x8x128, .f32⟩
  | 74 => ⟨S32768x8x128, .f32⟩
  | 75 => ⟨S_, .f32⟩
  | 76 => ⟨S32768x8, .f32⟩
  | 77 => ⟨S32768x8x1, .f32⟩
  | 78 => ⟨S32768x8x128, .f32⟩
  | 79 => ⟨S32768x8x128, .i1⟩
  | 80 => ⟨S_, .f32⟩
  | 81 => ⟨S_, .f32⟩
  | 82 => ⟨S32768x8x128, .f32⟩
  | 83 => ⟨S32768x8x128, .f32⟩
  | 84 => ⟨S_, .f32⟩
  | 85 => ⟨S32768x8, .f32⟩
  | 86 => ⟨S32768x8x1, .f32⟩
  | 87 => ⟨S32768x8x128, .f32⟩
  | 88 => ⟨S32768x8x128, .i1⟩
  | 89 => ⟨S_, .f32⟩
  | 90 => ⟨S_, .f32⟩
  | 91 => ⟨S32768x8x128, .f32⟩
  | 92 => ⟨S32768x8x128, .f32⟩
  | 93 => ⟨S_, .f32⟩
  | 94 => ⟨S32768x8, .f32⟩
  | 95 => ⟨S32768x8x1, .f32⟩
  | 96 => ⟨S32768x8x128, .f32⟩
  | 97 => ⟨S32768x8x128, .i1⟩
  | 98 => ⟨S_, .f32⟩
  | 99 => ⟨S_, .f32⟩
  | 100 => ⟨S32768x8x128, .f32⟩
  | 101 => ⟨S32768x8x128, .f32⟩
  | 102 => ⟨S_, .f32⟩
  | 103 => ⟨S32768x8, .f32⟩
  | 104 => ⟨S32768x8x1, .f32⟩
  | 105 => ⟨S32768x8x128, .f32⟩
  | 106 => ⟨S32768x8x128, .i1⟩
  | 107 => ⟨S_, .f32⟩
  | 108 => ⟨S_, .f32⟩
  | 109 => ⟨S32768x8x128, .f32⟩
  | 110 => ⟨S32768x8x128, .f32⟩
  | 111 => ⟨S_, .f32⟩
  | 112 => ⟨S32768x8, .f32⟩
  | 113 => ⟨S32768x8x1, .f32⟩
  | 114 => ⟨S32768x8x128, .f32⟩
  | 115 => ⟨S32768x8x128, .i1⟩
  | 116 => ⟨S_, .f32⟩
  | 117 => ⟨S_, .f32⟩
  | 118 => ⟨S32768x8x128, .f32⟩
  | 119 => ⟨S32768x8x128, .f32⟩
  | 120 => ⟨S_, .f32⟩
  | 121 => ⟨S32768x8, .f32⟩
  | 122 => ⟨S32768x8x1, .f32⟩
  | 123 => ⟨S32768x8x128, .f32⟩
  | 124 => ⟨S32768x8x128, .i1⟩
  | 125 => ⟨S_, .f32⟩
  | 126 => ⟨S_, .f32⟩
  | 127 => ⟨S32768x8x128, .f32⟩
  | _ => ⟨S1024x32768, .bf16⟩

abbrev hbmTy0_1 (i : Nat) : BufTy := match i % 128 with
  | 0 => ⟨S32768x8x128, .f32⟩
  | 1 => ⟨S_, .f32⟩
  | 2 => ⟨S32768x8, .f32⟩
  | 3 => ⟨S32768x8x1, .f32⟩
  | 4 => ⟨S32768x8x128, .f32⟩
  | 5 => ⟨S32768x8x128, .i1⟩
  | 6 => ⟨S_, .f32⟩
  | 7 => ⟨S_, .f32⟩
  | 8 => ⟨S32768x8x128, .f32⟩
  | 9 => ⟨S32768x8x128, .f32⟩
  | 10 => ⟨S_, .f32⟩
  | 11 => ⟨S32768x8, .f32⟩
  | 12 => ⟨S32768x8x1, .f32⟩
  | 13 => ⟨S32768x8x128, .f32⟩
  | 14 => ⟨S32768x8x128, .i1⟩
  | 15 => ⟨S_, .f32⟩
  | 16 => ⟨S_, .f32⟩
  | 17 => ⟨S32768x8x128, .f32⟩
  | 18 => ⟨S32768x8x128, .f32⟩
  | 19 => ⟨S_, .f32⟩
  | 20 => ⟨S32768x8, .f32⟩
  | 21 => ⟨S32768x8x1, .f32⟩
  | 22 => ⟨S32768x8x128, .f32⟩
  | 23 => ⟨S32768x8x128, .i1⟩
  | 24 => ⟨S_, .f32⟩
  | 25 => ⟨S_, .f32⟩
  | 26 => ⟨S32768x8x128, .f32⟩
  | 27 => ⟨S32768x8x128, .f32⟩
  | 28 => ⟨S_, .f32⟩
  | 29 => ⟨S32768x8, .f32⟩
  | 30 => ⟨S32768x8x1, .f32⟩
  | 31 => ⟨S32768x8x128, .f32⟩
  | 32 => ⟨S32768x8x128, .i1⟩
  | 33 => ⟨S_, .f32⟩
  | 34 => ⟨S_, .f32⟩
  | 35 => ⟨S32768x8x128, .f32⟩
  | 36 => ⟨S32768x8x128, .f32⟩
  | 37 => ⟨S32768x8x16, .f32⟩
  | 38 => ⟨S_, .f32⟩
  | 39 => ⟨S32768x8, .f32⟩
  | 40 => ⟨S32768x8x1, .f32⟩
  | 41 => ⟨S32768x8x128, .f32⟩
  | 42 => ⟨S32768x8x128, .i1⟩
  | 43 => ⟨S_, .f32⟩
  | 44 => ⟨S_, .f32⟩
  | 45 => ⟨S32768x8x128, .f32⟩
  | 46 => ⟨S32768x8x128, .f32⟩
  | 47 => ⟨S_, .f32⟩
  | 48 => ⟨S32768x8, .f32⟩
  | 49 => ⟨S32768x8x1, .f32⟩
  | 50 => ⟨S32768x8x128, .f32⟩
  | 51 => ⟨S32768x8x128, .i1⟩
  | 52 => ⟨S_, .f32⟩
  | 53 => ⟨S_, .f32⟩
  | 54 => ⟨S32768x8x128, .f32⟩
  | 55 => ⟨S32768x8x128, .f32⟩
  | 56 => ⟨S_, .f32⟩
  | 57 => ⟨S32768x8, .f32⟩
  | 58 => ⟨S32768x8x1, .f32⟩
  | 59 => ⟨S32768x8x128, .f32⟩
  | 60 => ⟨S32768x8x128, .i1⟩
  | 61 => ⟨S_, .f32⟩
  | 62 => ⟨S_, .f32⟩
  | 63 => ⟨S32768x8x128, .f32⟩
  | 64 => ⟨S32768x8x128, .f32⟩
  | 65 => ⟨S_, .f32⟩
  | 66 => ⟨S32768x8, .f32⟩
  | 67 => ⟨S32768x8x1, .f32⟩
  | 68 => ⟨S32768x8x128, .f32⟩
  | 69 => ⟨S32768x8x128, .i1⟩
  | 70 => ⟨S_, .f32⟩
  | 71 => ⟨S_, .f32⟩
  | 72 => ⟨S32768x8x128, .f32⟩
  | 73 => ⟨S32768x8x128, .f32⟩
  | 74 => ⟨S_, .f32⟩
  | 75 => ⟨S32768x8, .f32⟩
  | 76 => ⟨S32768x8x1, .f32⟩
  | 77 => ⟨S32768x8x128, .f32⟩
  | 78 => ⟨S32768x8x128, .i1⟩
  | 79 => ⟨S_, .f32⟩
  | 80 => ⟨S_, .f32⟩
  | 81 => ⟨S32768x8x128, .f32⟩
  | 82 => ⟨S32768x8x128, .f32⟩
  | 83 => ⟨S_, .f32⟩
  | 84 => ⟨S32768x8, .f32⟩
  | 85 => ⟨S32768x8x1, .f32⟩
  | 86 => ⟨S32768x8x128, .f32⟩
  | 87 => ⟨S32768x8x128, .i1⟩
  | 88 => ⟨S_, .f32⟩
  | 89 => ⟨S_, .f32⟩
  | 90 => ⟨S32768x8x128, .f32⟩
  | 91 => ⟨S32768x8x128, .f32⟩
  | 92 => ⟨S_, .f32⟩
  | 93 => ⟨S32768x8, .f32⟩
  | 94 => ⟨S32768x8x1, .f32⟩
  | 95 => ⟨S32768x8x128, .f32⟩
  | 96 => ⟨S32768x8x128, .i1⟩
  | 97 => ⟨S_, .f32⟩
  | 98 => ⟨S_, .f32⟩
  | 99 => ⟨S32768x8x128, .f32⟩
  | 100 => ⟨S32768x8x128, .f32⟩
  | 101 => ⟨S_, .f32⟩
  | 102 => ⟨S32768x8, .f32⟩
  | 103 => ⟨S32768x8x1, .f32⟩
  | 104 => ⟨S32768x8x128, .f32⟩
  | 105 => ⟨S32768x8x128, .i1⟩
  | 106 => ⟨S_, .f32⟩
  | 107 => ⟨S_, .f32⟩
  | 108 => ⟨S32768x8x128, .f32⟩
  | 109 => ⟨S32768x8x128, .f32⟩
  | 110 => ⟨S_, .f32⟩
  | 111 => ⟨S32768x8, .f32⟩
  | 112 => ⟨S32768x8x1, .f32⟩
  | 113 => ⟨S32768x8x128, .f32⟩
  | 114 => ⟨S32768x8x128, .i1⟩
  | 115 => ⟨S_, .f32⟩
  | 116 => ⟨S_, .f32⟩
  | 117 => ⟨S32768x8x128, .f32⟩
  | 118 => ⟨S32768x8x128, .f32⟩
  | 119 => ⟨S_, .f32⟩
  | 120 => ⟨S32768x8, .f32⟩
  | 121 => ⟨S32768x8x1, .f32⟩
  | 122 => ⟨S32768x8x128, .f32⟩
  | 123 => ⟨S32768x8x128, .i1⟩
  | 124 => ⟨S_, .f32⟩
  | 125 => ⟨S_, .f32⟩
  | 126 => ⟨S32768x8x128, .f32⟩
  | 127 => ⟨S32768x8x128, .f32⟩
  | _ => ⟨S1024x32768, .bf16⟩

abbrev hbmTy0_2 (i : Nat) : BufTy := match i % 128 with
  | 0 => ⟨S_, .f32⟩
  | 1 => ⟨S32768x8, .f32⟩
  | 2 => ⟨S32768x8x1, .f32⟩
  | 3 => ⟨S32768x8x128, .f32⟩
  | 4 => ⟨S32768x8x128, .i1⟩
  | 5 => ⟨S_, .f32⟩
  | 6 => ⟨S_, .f32⟩
  | 7 => ⟨S32768x8x128, .f32⟩
  | 8 => ⟨S32768x8x128, .f32⟩
  | 9 => ⟨S_, .f32⟩
  | 10 => ⟨S32768x8, .f32⟩
  | 11 => ⟨S32768x8x1, .f32⟩
  | 12 => ⟨S32768x8x128, .f32⟩
  | 13 => ⟨S32768x8x128, .i1⟩
  | 14 => ⟨S_, .f32⟩
  | 15 => ⟨S_, .f32⟩
  | 16 => ⟨S32768x8x128, .f32⟩
  | 17 => ⟨S32768x8x128, .f32⟩
  | 18 => ⟨S_, .f32⟩
  | 19 => ⟨S32768x8, .f32⟩
  | 20 => ⟨S32768x8x1, .f32⟩
  | 21 => ⟨S32768x8x128, .f32⟩
  | 22 => ⟨S32768x8x128, .i1⟩
  | 23 => ⟨S_, .f32⟩
  | 24 => ⟨S_, .f32⟩
  | 25 => ⟨S32768x8x128, .f32⟩
  | 26 => ⟨S32768x8x128, .f32⟩
  | 27 => ⟨S_, .f32⟩
  | 28 => ⟨S32768x8, .f32⟩
  | 29 => ⟨S32768x8x1, .f32⟩
  | 30 => ⟨S32768x8x128, .f32⟩
  | 31 => ⟨S32768x8x128, .i1⟩
  | 32 => ⟨S_, .f32⟩
  | 33 => ⟨S_, .f32⟩
  | 34 => ⟨S32768x8x128, .f32⟩
  | 35 => ⟨S32768x8x128, .f32⟩
  | 36 => ⟨S_, .f32⟩
  | 37 => ⟨S32768x8, .f32⟩
  | 38 => ⟨S32768x8x1, .f32⟩
  | 39 => ⟨S32768x8x128, .f32⟩
  | 40 => ⟨S32768x8x128, .i1⟩
  | 41 => ⟨S_, .f32⟩
  | 42 => ⟨S_, .f32⟩
  | 43 => ⟨S32768x8x128, .f32⟩
  | 44 => ⟨S32768x8x128, .f32⟩
  | 45 => ⟨S_, .f32⟩
  | 46 => ⟨S32768x8, .f32⟩
  | 47 => ⟨S32768x8x1, .f32⟩
  | 48 => ⟨S32768x8x128, .f32⟩
  | 49 => ⟨S32768x8x128, .i1⟩
  | 50 => ⟨S_, .f32⟩
  | 51 => ⟨S_, .f32⟩
  | 52 => ⟨S32768x8x128, .f32⟩
  | 53 => ⟨S32768x8x128, .f32⟩
  | 54 => ⟨S32768x8x16, .f32⟩
  | 55 => ⟨S32768x8x16x1, .f32⟩
  | 56 => ⟨S32768x8x1x16, .f32⟩
  | 57 => ⟨S32768x8x16x16, .f32⟩
  | 58 => ⟨S32768x8x16x16, .f32⟩
  | 59 => ⟨S32768x8x16x16, .f32⟩
  | 60 => ⟨S32768x8x256, .f32⟩
  | 61 => ⟨S_, .f32⟩
  | 62 => ⟨S32768x8, .f32⟩
  | 63 => ⟨S32768x8x1, .f32⟩
  | 64 => ⟨S32768x8x256, .f32⟩
  | 65 => ⟨S32768x8x256, .i1⟩
  | 66 => ⟨S_, .f32⟩
  | 67 => ⟨S_, .f32⟩
  | 68 => ⟨S32768x8x256, .f32⟩
  | 69 => ⟨S32768x8x256, .f32⟩
  | 70 => ⟨S_, .f32⟩
  | 71 => ⟨S32768x8, .f32⟩
  | 72 => ⟨S32768x8x1, .f32⟩
  | 73 => ⟨S32768x8x256, .f32⟩
  | 74 => ⟨S32768x8x256, .i1⟩
  | 75 => ⟨S_, .f32⟩
  | 76 => ⟨S_, .f32⟩
  | 77 => ⟨S32768x8x256, .f32⟩
  | 78 => ⟨S32768x8x256, .f32⟩
  | 79 => ⟨S_, .f32⟩
  | 80 => ⟨S32768x8, .f32⟩
  | 81 => ⟨S32768x8x1, .f32⟩
  | 82 => ⟨S32768x8x256, .f32⟩
  | 83 => ⟨S32768x8x256, .i1⟩
  | 84 => ⟨S_, .f32⟩
  | 85 => ⟨S_, .f32⟩
  | 86 => ⟨S32768x8x256, .f32⟩
  | 87 => ⟨S32768x8x256, .f32⟩
  | 88 => ⟨S_, .f32⟩
  | 89 => ⟨S32768x8, .f32⟩
  | 90 => ⟨S32768x8x1, .f32⟩
  | 91 => ⟨S32768x8x256, .f32⟩
  | 92 => ⟨S32768x8x256, .i1⟩
  | 93 => ⟨S_, .f32⟩
  | 94 => ⟨S_, .f32⟩
  | 95 => ⟨S32768x8x256, .f32⟩
  | 96 => ⟨S32768x8x256, .f32⟩
  | 97 => ⟨S_, .f32⟩
  | 98 => ⟨S32768x8, .f32⟩
  | 99 => ⟨S32768x8x1, .f32⟩
  | 100 => ⟨S32768x8x256, .f32⟩
  | 101 => ⟨S32768x8x256, .i1⟩
  | 102 => ⟨S_, .f32⟩
  | 103 => ⟨S_, .f32⟩
  | 104 => ⟨S32768x8x256, .f32⟩
  | 105 => ⟨S32768x8x256, .f32⟩
  | 106 => ⟨S_, .f32⟩
  | 107 => ⟨S32768x8, .f32⟩
  | 108 => ⟨S32768x8x1, .f32⟩
  | 109 => ⟨S32768x8x256, .f32⟩
  | 110 => ⟨S32768x8x256, .i1⟩
  | 111 => ⟨S_, .f32⟩
  | 112 => ⟨S_, .f32⟩
  | 113 => ⟨S32768x8x256, .f32⟩
  | 114 => ⟨S32768x8x256, .f32⟩
  | 115 => ⟨S_, .f32⟩
  | 116 => ⟨S32768x8, .f32⟩
  | 117 => ⟨S32768x8x1, .f32⟩
  | 118 => ⟨S32768x8x256, .f32⟩
  | 119 => ⟨S32768x8x256, .i1⟩
  | 120 => ⟨S_, .f32⟩
  | 121 => ⟨S_, .f32⟩
  | 122 => ⟨S32768x8x256, .f32⟩
  | 123 => ⟨S32768x8x256, .f32⟩
  | 124 => ⟨S_, .f32⟩
  | 125 => ⟨S32768x8, .f32⟩
  | 126 => ⟨S32768x8x1, .f32⟩
  | 127 => ⟨S32768x8x256, .f32⟩
  | _ => ⟨S1024x32768, .bf16⟩

abbrev hbmTy0_3 (i : Nat) : BufTy := match i % 128 with
  | 0 => ⟨S32768x8x256, .i1⟩
  | 1 => ⟨S_, .f32⟩
  | 2 => ⟨S_, .f32⟩
  | 3 => ⟨S32768x8x256, .f32⟩
  | 4 => ⟨S32768x8x256, .f32⟩
  | 5 => ⟨S_, .f32⟩
  | 6 => ⟨S32768x8, .f32⟩
  | 7 => ⟨S32768x8x1, .f32⟩
  | 8 => ⟨S32768x8x256, .f32⟩
  | 9 => ⟨S32768x8x256, .i1⟩
  | 10 => ⟨S_, .f32⟩
  | 11 => ⟨S_, .f32⟩
  | 12 => ⟨S32768x8x256, .f32⟩
  | 13 => ⟨S32768x8x256, .f32⟩
  | 14 => ⟨S_, .f32⟩
  | 15 => ⟨S32768x8, .f32⟩
  | 16 => ⟨S32768x8x1, .f32⟩
  | 17 => ⟨S32768x8x256, .f32⟩
  | 18 => ⟨S32768x8x256, .i1⟩
  | 19 => ⟨S_, .f32⟩
  | 20 => ⟨S_, .f32⟩
  | 21 => ⟨S32768x8x256, .f32⟩
  | 22 => ⟨S32768x8x256, .f32⟩
  | 23 => ⟨S_, .f32⟩
  | 24 => ⟨S32768x8, .f32⟩
  | 25 => ⟨S32768x8x1, .f32⟩
  | 26 => ⟨S32768x8x256, .f32⟩
  | 27 => ⟨S32768x8x256, .i1⟩
  | 28 => ⟨S_, .f32⟩
  | 29 => ⟨S_, .f32⟩
  | 30 => ⟨S32768x8x256, .f32⟩
  | 31 => ⟨S32768x8x256, .f32⟩
  | 32 => ⟨S_, .f32⟩
  | 33 => ⟨S32768x8, .f32⟩
  | 34 => ⟨S32768x8x1, .f32⟩
  | 35 => ⟨S32768x8x256, .f32⟩
  | 36 => ⟨S32768x8x256, .i1⟩
  | 37 => ⟨S_, .f32⟩
  | 38 => ⟨S_, .f32⟩
  | 39 => ⟨S32768x8x256, .f32⟩
  | 40 => ⟨S32768x8x256, .f32⟩
  | 41 => ⟨S_, .f32⟩
  | 42 => ⟨S32768x8, .f32⟩
  | 43 => ⟨S32768x8x1, .f32⟩
  | 44 => ⟨S32768x8x256, .f32⟩
  | 45 => ⟨S32768x8x256, .i1⟩
  | 46 => ⟨S_, .f32⟩
  | 47 => ⟨S_, .f32⟩
  | 48 => ⟨S32768x8x256, .f32⟩
  | 49 => ⟨S32768x8x256, .f32⟩
  | 50 => ⟨S_, .f32⟩
  | 51 => ⟨S32768x8, .f32⟩
  | 52 => ⟨S32768x8x1, .f32⟩
  | 53 => ⟨S32768x8x256, .f32⟩
  | 54 => ⟨S32768x8x256, .i1⟩
  | 55 => ⟨S_, .f32⟩
  | 56 => ⟨S_, .f32⟩
  | 57 => ⟨S32768x8x256, .f32⟩
  | 58 => ⟨S32768x8x256, .f32⟩
  | 59 => ⟨S_, .f32⟩
  | 60 => ⟨S32768x8, .f32⟩
  | 61 => ⟨S32768x8x1, .f32⟩
  | 62 => ⟨S32768x8x256, .f32⟩
  | 63 => ⟨S32768x8x256, .i1⟩
  | 64 => ⟨S_, .f32⟩
  | 65 => ⟨S_, .f32⟩
  | 66 => ⟨S32768x8x256, .f32⟩
  | 67 => ⟨S32768x8x256, .f32⟩
  | 68 => ⟨S_, .f32⟩
  | 69 => ⟨S32768x8, .f32⟩
  | 70 => ⟨S32768x8x1, .f32⟩
  | 71 => ⟨S32768x8x256, .f32⟩
  | 72 => ⟨S32768x8x256, .i1⟩
  | 73 => ⟨S_, .f32⟩
  | 74 => ⟨S_, .f32⟩
  | 75 => ⟨S32768x8x256, .f32⟩
  | 76 => ⟨S32768x8x256, .f32⟩
  | 77 => ⟨S32768x8x1, .f32⟩
  | 78 => ⟨S32768x8x1, .f32⟩
  | 79 => ⟨S_, .f32⟩
  | 80 => ⟨S32768x8x1, .f32⟩
  | 81 => ⟨S32768x8x1, .f32⟩
  | 82 => ⟨S32768x8x1, .f32⟩
  | 83 => ⟨S32768x8x1, .f32⟩
  | 84 => ⟨S32768x8x1, .f32⟩
  | 85 => ⟨S32768x8x1, .f32⟩
  | 86 => ⟨S32768x8x1, .f32⟩
  | 87 => ⟨S32768x8x1, .f32⟩
  | 88 => ⟨S32768x8x1, .f32⟩
  | 89 => ⟨S32768x8x1, .f32⟩
  | 90 => ⟨S32768x8x1, .f32⟩
  | 91 => ⟨S32768x8x1, .f32⟩
  | 92 => ⟨S32768x8x1, .f32⟩
  | 93 => ⟨S32768x8x1, .f32⟩
  | 94 => ⟨S32768x8x1, .f32⟩
  | 95 => ⟨S32768x8x1, .f32⟩
  | 96 => ⟨S32768x8x1, .f32⟩
  | 97 => ⟨S32768x8x1, .f32⟩
  | 98 => ⟨S32768x8x1, .f32⟩
  | 99 => ⟨S32768x8x1, .f32⟩
  | 100 => ⟨S32768x8x1, .f32⟩
  | 101 => ⟨S32768x8x1, .f32⟩
  | 102 => ⟨S32768x8x1, .f32⟩
  | 103 => ⟨S32768x8x1, .f32⟩
  | 104 => ⟨S32768x8x1, .f32⟩
  | 105 => ⟨S32768x8x1, .f32⟩
  | 106 => ⟨S32768x8x1, .f32⟩
  | 107 => ⟨S32768x8x1, .f32⟩
  | 108 => ⟨S32768x8x1, .f32⟩
  | 109 => ⟨S32768x8x1, .f32⟩
  | 110 => ⟨S32768x8x1, .f32⟩
  | 111 => ⟨S32768x8x1, .f32⟩
  | 112 => ⟨S32768x8x1, .f32⟩
  | 113 => ⟨S32768x8x1, .f32⟩
  | 114 => ⟨S32768x8x1, .f32⟩
  | 115 => ⟨S32768x8x1, .f32⟩
  | 116 => ⟨S32768x8x1, .f32⟩
  | 117 => ⟨S32768x8x1, .f32⟩
  | 118 => ⟨S32768x8x1, .f32⟩
  | 119 => ⟨S32768x8x1, .f32⟩
  | 120 => ⟨S32768x8x1, .f32⟩
  | 121 => ⟨S32768x8x1, .f32⟩
  | 122 => ⟨S32768x8x1, .f32⟩
  | 123 => ⟨S32768x8x1, .f32⟩
  | 124 => ⟨S32768x8x1, .f32⟩
  | 125 => ⟨S32768x8x1, .f32⟩
  | 126 => ⟨S32768x8x1, .f32⟩
  | 127 => ⟨S32768x8x128x1, .f32⟩
  | _ => ⟨S1024x32768, .bf16⟩

abbrev hbmTy0_4 (i : Nat) : BufTy := match i % 128 with
  | 0 => ⟨S32768x8x1x16, .f32⟩
  | 1 => ⟨S32768x8x128x16, .f32⟩
  | 2 => ⟨S32768x8x128x16, .f32⟩
  | 3 => ⟨S32768x8x128x16, .f32⟩
  | 4 => ⟨S32768x8x1x1, .f32⟩
  | 5 => ⟨S32768x8x128x16, .f32⟩
  | 6 => ⟨S32768x8x128x16, .i1⟩
  | 7 => ⟨S32768x8x1x16, .f32⟩
  | 8 => ⟨S_, .f32⟩
  | 9 => ⟨S_, .f32⟩
  | 10 => ⟨S32768x8x128x16, .f32⟩
  | 11 => ⟨S32768x8x128x16, .f32⟩
  | 12 => ⟨S32768x8x128x16, .f32⟩
  | 13 => ⟨S32768x8x1, .f32⟩
  | 14 => ⟨S32768x8x128, .f32⟩
  | 15 => ⟨S32768x8x128, .i1⟩
  | 16 => ⟨S_, .f32⟩
  | 17 => ⟨S32768x8x128, .f32⟩
  | 18 => ⟨S_, .f32⟩
  | 19 => ⟨S_, .f32⟩
  | 20 => ⟨S32768x8x128, .f32⟩
  | 21 => ⟨S32768x8x128, .f32⟩
  | 22 => ⟨S32768x8x1, .f32⟩
  | 23 => ⟨S32768x8x128, .f32⟩
  | 24 => ⟨S32768x8x128, .f32⟩
  | 25 => ⟨S32768x8x128, .f32⟩
  | 26 => ⟨S32768x8x128, .f32⟩
  | 27 => ⟨S32768x8x128, .f32⟩
  | 28 => ⟨S32768x8x1, .f32⟩
  | 29 => ⟨S32768x8x128, .f32⟩
  | 30 => ⟨S32768x8x128, .f32⟩
  | 31 => ⟨S32768x8x128, .f32⟩
  | 32 => ⟨S8x128x32768, .f32⟩
  | 33 => ⟨S8x128x32768, .f32⟩
  | 34 => ⟨S8x128x32768, .f32⟩
  | 35 => ⟨S8x128x32768, .f32⟩
  | _ => ⟨S1024x32768, .bf16⟩

abbrev hbmTy (i : Nat) : BufTy := match i / 128 with
  | 0 => hbmTy0_0 i
  | 1 => hbmTy0_1 i
  | 2 => hbmTy0_2 i
  | 3 => hbmTy0_3 i
  | 4 => hbmTy0_4 i
  | _ => ⟨S1024x32768, .bf16⟩

abbrev bufTy : (tb : Table) → Fin (tcTables nBuf tb) → BufTy
  | .hbm, ⟨i, _⟩ => hbmTy i
  | _, _ => ⟨S1024x32768, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_v13 : Ref sig .tc := ⟨.hbm, 16, rfl⟩
abbrev main_v14 : Ref sig .tc := ⟨.hbm, 17, rfl⟩
abbrev main_v15 : Ref sig .tc := ⟨.hbm, 18, rfl⟩
abbrev main_v16 : Ref sig .tc := ⟨.hbm, 19, rfl⟩
abbrev main_v17 : Ref sig .tc := ⟨.hbm, 20, rfl⟩
abbrev main_cst : Ref sig .tc := ⟨.hbm, 21, rfl⟩
abbrev main_v18 : Ref sig .tc := ⟨.hbm, 22, rfl⟩
abbrev main_v19 : Ref sig .tc := ⟨.hbm, 23, rfl⟩
abbrev main_v20 : Ref sig .tc := ⟨.hbm, 24, rfl⟩
abbrev main_v21 : Ref sig .tc := ⟨.hbm, 25, rfl⟩
abbrev main_cst_0 : Ref sig .tc := ⟨.hbm, 26, rfl⟩
abbrev main_call0_v0 : Ref sig .tc := ⟨.hbm, 27, rfl⟩
abbrev main_call0_v1 : Ref sig .tc := ⟨.hbm, 28, rfl⟩
abbrev main_v22 : Ref sig .tc := ⟨.hbm, 29, rfl⟩
abbrev main_cst_1 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_cst_2 : Ref sig .tc := ⟨.hbm, 35, rfl⟩
abbrev main_call1_v0 : Ref sig .tc := ⟨.hbm, 36, rfl⟩
abbrev main_call1_v1 : Ref sig .tc := ⟨.hbm, 37, rfl⟩
abbrev main_v27 : Ref sig .tc := ⟨.hbm, 38, rfl⟩
abbrev main_cst_3 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_cst_4 : Ref sig .tc := ⟨.hbm, 44, rfl⟩
abbrev main_call2_v0 : Ref sig .tc := ⟨.hbm, 45, rfl⟩
abbrev main_call2_v1 : Ref sig .tc := ⟨.hbm, 46, rfl⟩
abbrev main_v32 : Ref sig .tc := ⟨.hbm, 47, rfl⟩
abbrev main_cst_5 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_cst_6 : Ref sig .tc := ⟨.hbm, 53, rfl⟩
abbrev main_call3_v0 : Ref sig .tc := ⟨.hbm, 54, rfl⟩
abbrev main_call3_v1 : Ref sig .tc := ⟨.hbm, 55, rfl⟩
abbrev main_v37 : Ref sig .tc := ⟨.hbm, 56, rfl⟩
abbrev main_cst_7 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩
abbrev main_v41 : Ref sig .tc := ⟨.hbm, 61, rfl⟩
abbrev main_cst_8 : Ref sig .tc := ⟨.hbm, 62, rfl⟩
abbrev main_call4_v0 : Ref sig .tc := ⟨.hbm, 63, rfl⟩
abbrev main_call4_v1 : Ref sig .tc := ⟨.hbm, 64, rfl⟩
abbrev main_v42 : Ref sig .tc := ⟨.hbm, 65, rfl⟩
abbrev main_cst_9 : Ref sig .tc := ⟨.hbm, 66, rfl⟩
abbrev main_v43 : Ref sig .tc := ⟨.hbm, 67, rfl⟩
abbrev main_v44 : Ref sig .tc := ⟨.hbm, 68, rfl⟩
abbrev main_v45 : Ref sig .tc := ⟨.hbm, 69, rfl⟩
abbrev main_v46 : Ref sig .tc := ⟨.hbm, 70, rfl⟩
abbrev main_cst_10 : Ref sig .tc := ⟨.hbm, 71, rfl⟩
abbrev main_call5_v0 : Ref sig .tc := ⟨.hbm, 72, rfl⟩
abbrev main_call5_v1 : Ref sig .tc := ⟨.hbm, 73, rfl⟩
abbrev main_v47 : Ref sig .tc := ⟨.hbm, 74, rfl⟩
abbrev main_cst_11 : Ref sig .tc := ⟨.hbm, 75, rfl⟩
abbrev main_v48 : Ref sig .tc := ⟨.hbm, 76, rfl⟩
abbrev main_v49 : Ref sig .tc := ⟨.hbm, 77, rfl⟩
abbrev main_v50 : Ref sig .tc := ⟨.hbm, 78, rfl⟩
abbrev main_v51 : Ref sig .tc := ⟨.hbm, 79, rfl⟩
abbrev main_cst_12 : Ref sig .tc := ⟨.hbm, 80, rfl⟩
abbrev main_call6_v0 : Ref sig .tc := ⟨.hbm, 81, rfl⟩
abbrev main_call6_v1 : Ref sig .tc := ⟨.hbm, 82, rfl⟩
abbrev main_v52 : Ref sig .tc := ⟨.hbm, 83, rfl⟩
abbrev main_cst_13 : Ref sig .tc := ⟨.hbm, 84, rfl⟩
abbrev main_v53 : Ref sig .tc := ⟨.hbm, 85, rfl⟩
abbrev main_v54 : Ref sig .tc := ⟨.hbm, 86, rfl⟩
abbrev main_v55 : Ref sig .tc := ⟨.hbm, 87, rfl⟩
abbrev main_v56 : Ref sig .tc := ⟨.hbm, 88, rfl⟩
abbrev main_cst_14 : Ref sig .tc := ⟨.hbm, 89, rfl⟩
abbrev main_call7_v0 : Ref sig .tc := ⟨.hbm, 90, rfl⟩
abbrev main_call7_v1 : Ref sig .tc := ⟨.hbm, 91, rfl⟩
abbrev main_v57 : Ref sig .tc := ⟨.hbm, 92, rfl⟩
abbrev main_cst_15 : Ref sig .tc := ⟨.hbm, 93, rfl⟩
abbrev main_v58 : Ref sig .tc := ⟨.hbm, 94, rfl⟩
abbrev main_v59 : Ref sig .tc := ⟨.hbm, 95, rfl⟩
abbrev main_v60 : Ref sig .tc := ⟨.hbm, 96, rfl⟩
abbrev main_v61 : Ref sig .tc := ⟨.hbm, 97, rfl⟩
abbrev main_cst_16 : Ref sig .tc := ⟨.hbm, 98, rfl⟩
abbrev main_call8_v0 : Ref sig .tc := ⟨.hbm, 99, rfl⟩
abbrev main_call8_v1 : Ref sig .tc := ⟨.hbm, 100, rfl⟩
abbrev main_v62 : Ref sig .tc := ⟨.hbm, 101, rfl⟩
abbrev main_cst_17 : Ref sig .tc := ⟨.hbm, 102, rfl⟩
abbrev main_v63 : Ref sig .tc := ⟨.hbm, 103, rfl⟩
abbrev main_v64 : Ref sig .tc := ⟨.hbm, 104, rfl⟩
abbrev main_v65 : Ref sig .tc := ⟨.hbm, 105, rfl⟩
abbrev main_v66 : Ref sig .tc := ⟨.hbm, 106, rfl⟩
abbrev main_cst_18 : Ref sig .tc := ⟨.hbm, 107, rfl⟩
abbrev main_call9_v0 : Ref sig .tc := ⟨.hbm, 108, rfl⟩
abbrev main_call9_v1 : Ref sig .tc := ⟨.hbm, 109, rfl⟩
abbrev main_v67 : Ref sig .tc := ⟨.hbm, 110, rfl⟩
abbrev main_cst_19 : Ref sig .tc := ⟨.hbm, 111, rfl⟩
abbrev main_v68 : Ref sig .tc := ⟨.hbm, 112, rfl⟩
abbrev main_v69 : Ref sig .tc := ⟨.hbm, 113, rfl⟩
abbrev main_v70 : Ref sig .tc := ⟨.hbm, 114, rfl⟩
abbrev main_v71 : Ref sig .tc := ⟨.hbm, 115, rfl⟩
abbrev main_cst_20 : Ref sig .tc := ⟨.hbm, 116, rfl⟩
abbrev main_call10_v0 : Ref sig .tc := ⟨.hbm, 117, rfl⟩
abbrev main_call10_v1 : Ref sig .tc := ⟨.hbm, 118, rfl⟩
abbrev main_v72 : Ref sig .tc := ⟨.hbm, 119, rfl⟩
abbrev main_cst_21 : Ref sig .tc := ⟨.hbm, 120, rfl⟩
abbrev main_v73 : Ref sig .tc := ⟨.hbm, 121, rfl⟩
abbrev main_v74 : Ref sig .tc := ⟨.hbm, 122, rfl⟩
abbrev main_v75 : Ref sig .tc := ⟨.hbm, 123, rfl⟩
abbrev main_v76 : Ref sig .tc := ⟨.hbm, 124, rfl⟩
abbrev main_cst_22 : Ref sig .tc := ⟨.hbm, 125, rfl⟩
abbrev main_call11_v0 : Ref sig .tc := ⟨.hbm, 126, rfl⟩
abbrev main_call11_v1 : Ref sig .tc := ⟨.hbm, 127, rfl⟩
abbrev main_v77 : Ref sig .tc := ⟨.hbm, 128, rfl⟩
abbrev main_cst_23 : Ref sig .tc := ⟨.hbm, 129, rfl⟩
abbrev main_v78 : Ref sig .tc := ⟨.hbm, 130, rfl⟩
abbrev main_v79 : Ref sig .tc := ⟨.hbm, 131, rfl⟩
abbrev main_v80 : Ref sig .tc := ⟨.hbm, 132, rfl⟩
abbrev main_v81 : Ref sig .tc := ⟨.hbm, 133, rfl⟩
abbrev main_cst_24 : Ref sig .tc := ⟨.hbm, 134, rfl⟩
abbrev main_call12_v0 : Ref sig .tc := ⟨.hbm, 135, rfl⟩
abbrev main_call12_v1 : Ref sig .tc := ⟨.hbm, 136, rfl⟩
abbrev main_v82 : Ref sig .tc := ⟨.hbm, 137, rfl⟩
abbrev main_cst_25 : Ref sig .tc := ⟨.hbm, 138, rfl⟩
abbrev main_v83 : Ref sig .tc := ⟨.hbm, 139, rfl⟩
abbrev main_v84 : Ref sig .tc := ⟨.hbm, 140, rfl⟩
abbrev main_v85 : Ref sig .tc := ⟨.hbm, 141, rfl⟩
abbrev main_v86 : Ref sig .tc := ⟨.hbm, 142, rfl⟩
abbrev main_cst_26 : Ref sig .tc := ⟨.hbm, 143, rfl⟩
abbrev main_call13_v0 : Ref sig .tc := ⟨.hbm, 144, rfl⟩
abbrev main_call13_v1 : Ref sig .tc := ⟨.hbm, 145, rfl⟩
abbrev main_v87 : Ref sig .tc := ⟨.hbm, 146, rfl⟩
abbrev main_cst_27 : Ref sig .tc := ⟨.hbm, 147, rfl⟩
abbrev main_v88 : Ref sig .tc := ⟨.hbm, 148, rfl⟩
abbrev main_v89 : Ref sig .tc := ⟨.hbm, 149, rfl⟩
abbrev main_v90 : Ref sig .tc := ⟨.hbm, 150, rfl⟩
abbrev main_v91 : Ref sig .tc := ⟨.hbm, 151, rfl⟩
abbrev main_cst_28 : Ref sig .tc := ⟨.hbm, 152, rfl⟩
abbrev main_call14_v0 : Ref sig .tc := ⟨.hbm, 153, rfl⟩
abbrev main_call14_v1 : Ref sig .tc := ⟨.hbm, 154, rfl⟩
abbrev main_v92 : Ref sig .tc := ⟨.hbm, 155, rfl⟩
abbrev main_cst_29 : Ref sig .tc := ⟨.hbm, 156, rfl⟩
abbrev main_v93 : Ref sig .tc := ⟨.hbm, 157, rfl⟩
abbrev main_v94 : Ref sig .tc := ⟨.hbm, 158, rfl⟩
abbrev main_v95 : Ref sig .tc := ⟨.hbm, 159, rfl⟩
abbrev main_v96 : Ref sig .tc := ⟨.hbm, 160, rfl⟩
abbrev main_cst_30 : Ref sig .tc := ⟨.hbm, 161, rfl⟩
abbrev main_call15_v0 : Ref sig .tc := ⟨.hbm, 162, rfl⟩
abbrev main_call15_v1 : Ref sig .tc := ⟨.hbm, 163, rfl⟩
abbrev main_v97 : Ref sig .tc := ⟨.hbm, 164, rfl⟩
abbrev main_v98 : Ref sig .tc := ⟨.hbm, 165, rfl⟩
abbrev main_cst_31 : Ref sig .tc := ⟨.hbm, 166, rfl⟩
abbrev main_v99 : Ref sig .tc := ⟨.hbm, 167, rfl⟩
abbrev main_v100 : Ref sig .tc := ⟨.hbm, 168, rfl⟩
abbrev main_v101 : Ref sig .tc := ⟨.hbm, 169, rfl⟩
abbrev main_v102 : Ref sig .tc := ⟨.hbm, 170, rfl⟩
abbrev main_cst_32 : Ref sig .tc := ⟨.hbm, 171, rfl⟩
abbrev main_call16_v0 : Ref sig .tc := ⟨.hbm, 172, rfl⟩
abbrev main_call16_v1 : Ref sig .tc := ⟨.hbm, 173, rfl⟩
abbrev main_v103 : Ref sig .tc := ⟨.hbm, 174, rfl⟩
abbrev main_cst_33 : Ref sig .tc := ⟨.hbm, 175, rfl⟩
abbrev main_v104 : Ref sig .tc := ⟨.hbm, 176, rfl⟩
abbrev main_v105 : Ref sig .tc := ⟨.hbm, 177, rfl⟩
abbrev main_v106 : Ref sig .tc := ⟨.hbm, 178, rfl⟩
abbrev main_v107 : Ref sig .tc := ⟨.hbm, 179, rfl⟩
abbrev main_cst_34 : Ref sig .tc := ⟨.hbm, 180, rfl⟩
abbrev main_call17_v0 : Ref sig .tc := ⟨.hbm, 181, rfl⟩
abbrev main_call17_v1 : Ref sig .tc := ⟨.hbm, 182, rfl⟩
abbrev main_v108 : Ref sig .tc := ⟨.hbm, 183, rfl⟩
abbrev main_cst_35 : Ref sig .tc := ⟨.hbm, 184, rfl⟩
abbrev main_v109 : Ref sig .tc := ⟨.hbm, 185, rfl⟩
abbrev main_v110 : Ref sig .tc := ⟨.hbm, 186, rfl⟩
abbrev main_v111 : Ref sig .tc := ⟨.hbm, 187, rfl⟩
abbrev main_v112 : Ref sig .tc := ⟨.hbm, 188, rfl⟩
abbrev main_cst_36 : Ref sig .tc := ⟨.hbm, 189, rfl⟩
abbrev main_call18_v0 : Ref sig .tc := ⟨.hbm, 190, rfl⟩
abbrev main_call18_v1 : Ref sig .tc := ⟨.hbm, 191, rfl⟩
abbrev main_v113 : Ref sig .tc := ⟨.hbm, 192, rfl⟩
abbrev main_cst_37 : Ref sig .tc := ⟨.hbm, 193, rfl⟩
abbrev main_v114 : Ref sig .tc := ⟨.hbm, 194, rfl⟩
abbrev main_v115 : Ref sig .tc := ⟨.hbm, 195, rfl⟩
abbrev main_v116 : Ref sig .tc := ⟨.hbm, 196, rfl⟩
abbrev main_v117 : Ref sig .tc := ⟨.hbm, 197, rfl⟩
abbrev main_cst_38 : Ref sig .tc := ⟨.hbm, 198, rfl⟩
abbrev main_call19_v0 : Ref sig .tc := ⟨.hbm, 199, rfl⟩
abbrev main_call19_v1 : Ref sig .tc := ⟨.hbm, 200, rfl⟩
abbrev main_v118 : Ref sig .tc := ⟨.hbm, 201, rfl⟩
abbrev main_cst_39 : Ref sig .tc := ⟨.hbm, 202, rfl⟩
abbrev main_v119 : Ref sig .tc := ⟨.hbm, 203, rfl⟩
abbrev main_v120 : Ref sig .tc := ⟨.hbm, 204, rfl⟩
abbrev main_v121 : Ref sig .tc := ⟨.hbm, 205, rfl⟩
abbrev main_v122 : Ref sig .tc := ⟨.hbm, 206, rfl⟩
abbrev main_cst_40 : Ref sig .tc := ⟨.hbm, 207, rfl⟩
abbrev main_call20_v0 : Ref sig .tc := ⟨.hbm, 208, rfl⟩
abbrev main_call20_v1 : Ref sig .tc := ⟨.hbm, 209, rfl⟩
abbrev main_v123 : Ref sig .tc := ⟨.hbm, 210, rfl⟩
abbrev main_cst_41 : Ref sig .tc := ⟨.hbm, 211, rfl⟩
abbrev main_v124 : Ref sig .tc := ⟨.hbm, 212, rfl⟩
abbrev main_v125 : Ref sig .tc := ⟨.hbm, 213, rfl⟩
abbrev main_v126 : Ref sig .tc := ⟨.hbm, 214, rfl⟩
abbrev main_v127 : Ref sig .tc := ⟨.hbm, 215, rfl⟩
abbrev main_cst_42 : Ref sig .tc := ⟨.hbm, 216, rfl⟩
abbrev main_call21_v0 : Ref sig .tc := ⟨.hbm, 217, rfl⟩
abbrev main_call21_v1 : Ref sig .tc := ⟨.hbm, 218, rfl⟩
abbrev main_v128 : Ref sig .tc := ⟨.hbm, 219, rfl⟩
abbrev main_cst_43 : Ref sig .tc := ⟨.hbm, 220, rfl⟩
abbrev main_v129 : Ref sig .tc := ⟨.hbm, 221, rfl⟩
abbrev main_v130 : Ref sig .tc := ⟨.hbm, 222, rfl⟩
abbrev main_v131 : Ref sig .tc := ⟨.hbm, 223, rfl⟩
abbrev main_v132 : Ref sig .tc := ⟨.hbm, 224, rfl⟩
abbrev main_cst_44 : Ref sig .tc := ⟨.hbm, 225, rfl⟩
abbrev main_call22_v0 : Ref sig .tc := ⟨.hbm, 226, rfl⟩
abbrev main_call22_v1 : Ref sig .tc := ⟨.hbm, 227, rfl⟩
abbrev main_v133 : Ref sig .tc := ⟨.hbm, 228, rfl⟩
abbrev main_cst_45 : Ref sig .tc := ⟨.hbm, 229, rfl⟩
abbrev main_v134 : Ref sig .tc := ⟨.hbm, 230, rfl⟩
abbrev main_v135 : Ref sig .tc := ⟨.hbm, 231, rfl⟩
abbrev main_v136 : Ref sig .tc := ⟨.hbm, 232, rfl⟩
abbrev main_v137 : Ref sig .tc := ⟨.hbm, 233, rfl⟩
abbrev main_cst_46 : Ref sig .tc := ⟨.hbm, 234, rfl⟩
abbrev main_call23_v0 : Ref sig .tc := ⟨.hbm, 235, rfl⟩
abbrev main_call23_v1 : Ref sig .tc := ⟨.hbm, 236, rfl⟩
abbrev main_v138 : Ref sig .tc := ⟨.hbm, 237, rfl⟩
abbrev main_cst_47 : Ref sig .tc := ⟨.hbm, 238, rfl⟩
abbrev main_v139 : Ref sig .tc := ⟨.hbm, 239, rfl⟩
abbrev main_v140 : Ref sig .tc := ⟨.hbm, 240, rfl⟩
abbrev main_v141 : Ref sig .tc := ⟨.hbm, 241, rfl⟩
abbrev main_v142 : Ref sig .tc := ⟨.hbm, 242, rfl⟩
abbrev main_cst_48 : Ref sig .tc := ⟨.hbm, 243, rfl⟩
abbrev main_call24_v0 : Ref sig .tc := ⟨.hbm, 244, rfl⟩
abbrev main_call24_v1 : Ref sig .tc := ⟨.hbm, 245, rfl⟩
abbrev main_v143 : Ref sig .tc := ⟨.hbm, 246, rfl⟩
abbrev main_cst_49 : Ref sig .tc := ⟨.hbm, 247, rfl⟩
abbrev main_v144 : Ref sig .tc := ⟨.hbm, 248, rfl⟩
abbrev main_v145 : Ref sig .tc := ⟨.hbm, 249, rfl⟩
abbrev main_v146 : Ref sig .tc := ⟨.hbm, 250, rfl⟩
abbrev main_v147 : Ref sig .tc := ⟨.hbm, 251, rfl⟩
abbrev main_cst_50 : Ref sig .tc := ⟨.hbm, 252, rfl⟩
abbrev main_call25_v0 : Ref sig .tc := ⟨.hbm, 253, rfl⟩
abbrev main_call25_v1 : Ref sig .tc := ⟨.hbm, 254, rfl⟩
abbrev main_v148 : Ref sig .tc := ⟨.hbm, 255, rfl⟩
abbrev main_cst_51 : Ref sig .tc := ⟨.hbm, 256, rfl⟩
abbrev main_v149 : Ref sig .tc := ⟨.hbm, 257, rfl⟩
abbrev main_v150 : Ref sig .tc := ⟨.hbm, 258, rfl⟩
abbrev main_v151 : Ref sig .tc := ⟨.hbm, 259, rfl⟩
abbrev main_v152 : Ref sig .tc := ⟨.hbm, 260, rfl⟩
abbrev main_cst_52 : Ref sig .tc := ⟨.hbm, 261, rfl⟩
abbrev main_call26_v0 : Ref sig .tc := ⟨.hbm, 262, rfl⟩
abbrev main_call26_v1 : Ref sig .tc := ⟨.hbm, 263, rfl⟩
abbrev main_v153 : Ref sig .tc := ⟨.hbm, 264, rfl⟩
abbrev main_cst_53 : Ref sig .tc := ⟨.hbm, 265, rfl⟩
abbrev main_v154 : Ref sig .tc := ⟨.hbm, 266, rfl⟩
abbrev main_v155 : Ref sig .tc := ⟨.hbm, 267, rfl⟩
abbrev main_v156 : Ref sig .tc := ⟨.hbm, 268, rfl⟩
abbrev main_v157 : Ref sig .tc := ⟨.hbm, 269, rfl⟩
abbrev main_cst_54 : Ref sig .tc := ⟨.hbm, 270, rfl⟩
abbrev main_call27_v0 : Ref sig .tc := ⟨.hbm, 271, rfl⟩
abbrev main_call27_v1 : Ref sig .tc := ⟨.hbm, 272, rfl⟩
abbrev main_v158 : Ref sig .tc := ⟨.hbm, 273, rfl⟩
abbrev main_cst_55 : Ref sig .tc := ⟨.hbm, 274, rfl⟩
abbrev main_v159 : Ref sig .tc := ⟨.hbm, 275, rfl⟩
abbrev main_v160 : Ref sig .tc := ⟨.hbm, 276, rfl⟩
abbrev main_v161 : Ref sig .tc := ⟨.hbm, 277, rfl⟩
abbrev main_v162 : Ref sig .tc := ⟨.hbm, 278, rfl⟩
abbrev main_cst_56 : Ref sig .tc := ⟨.hbm, 279, rfl⟩
abbrev main_call28_v0 : Ref sig .tc := ⟨.hbm, 280, rfl⟩
abbrev main_call28_v1 : Ref sig .tc := ⟨.hbm, 281, rfl⟩
abbrev main_v163 : Ref sig .tc := ⟨.hbm, 282, rfl⟩
abbrev main_cst_57 : Ref sig .tc := ⟨.hbm, 283, rfl⟩
abbrev main_v164 : Ref sig .tc := ⟨.hbm, 284, rfl⟩
abbrev main_v165 : Ref sig .tc := ⟨.hbm, 285, rfl⟩
abbrev main_v166 : Ref sig .tc := ⟨.hbm, 286, rfl⟩
abbrev main_v167 : Ref sig .tc := ⟨.hbm, 287, rfl⟩
abbrev main_cst_58 : Ref sig .tc := ⟨.hbm, 288, rfl⟩
abbrev main_call29_v0 : Ref sig .tc := ⟨.hbm, 289, rfl⟩
abbrev main_call29_v1 : Ref sig .tc := ⟨.hbm, 290, rfl⟩
abbrev main_v168 : Ref sig .tc := ⟨.hbm, 291, rfl⟩
abbrev main_cst_59 : Ref sig .tc := ⟨.hbm, 292, rfl⟩
abbrev main_v169 : Ref sig .tc := ⟨.hbm, 293, rfl⟩
abbrev main_v170 : Ref sig .tc := ⟨.hbm, 294, rfl⟩
abbrev main_v171 : Ref sig .tc := ⟨.hbm, 295, rfl⟩
abbrev main_v172 : Ref sig .tc := ⟨.hbm, 296, rfl⟩
abbrev main_cst_60 : Ref sig .tc := ⟨.hbm, 297, rfl⟩
abbrev main_call30_v0 : Ref sig .tc := ⟨.hbm, 298, rfl⟩
abbrev main_call30_v1 : Ref sig .tc := ⟨.hbm, 299, rfl⟩
abbrev main_v173 : Ref sig .tc := ⟨.hbm, 300, rfl⟩
abbrev main_cst_61 : Ref sig .tc := ⟨.hbm, 301, rfl⟩
abbrev main_v174 : Ref sig .tc := ⟨.hbm, 302, rfl⟩
abbrev main_v175 : Ref sig .tc := ⟨.hbm, 303, rfl⟩
abbrev main_v176 : Ref sig .tc := ⟨.hbm, 304, rfl⟩
abbrev main_v177 : Ref sig .tc := ⟨.hbm, 305, rfl⟩
abbrev main_cst_62 : Ref sig .tc := ⟨.hbm, 306, rfl⟩
abbrev main_call31_v0 : Ref sig .tc := ⟨.hbm, 307, rfl⟩
abbrev main_call31_v1 : Ref sig .tc := ⟨.hbm, 308, rfl⟩
abbrev main_v178 : Ref sig .tc := ⟨.hbm, 309, rfl⟩
abbrev main_v179 : Ref sig .tc := ⟨.hbm, 310, rfl⟩
abbrev main_v180 : Ref sig .tc := ⟨.hbm, 311, rfl⟩
abbrev main_v181 : Ref sig .tc := ⟨.hbm, 312, rfl⟩
abbrev main_v182 : Ref sig .tc := ⟨.hbm, 313, rfl⟩
abbrev main_v183 : Ref sig .tc := ⟨.hbm, 314, rfl⟩
abbrev main_v184 : Ref sig .tc := ⟨.hbm, 315, rfl⟩
abbrev main_v185 : Ref sig .tc := ⟨.hbm, 316, rfl⟩
abbrev main_cst_63 : Ref sig .tc := ⟨.hbm, 317, rfl⟩
abbrev main_v186 : Ref sig .tc := ⟨.hbm, 318, rfl⟩
abbrev main_v187 : Ref sig .tc := ⟨.hbm, 319, rfl⟩
abbrev main_v188 : Ref sig .tc := ⟨.hbm, 320, rfl⟩
abbrev main_v189 : Ref sig .tc := ⟨.hbm, 321, rfl⟩
abbrev main_cst_64 : Ref sig .tc := ⟨.hbm, 322, rfl⟩
abbrev main_call32_v0 : Ref sig .tc := ⟨.hbm, 323, rfl⟩
abbrev main_call32_v1 : Ref sig .tc := ⟨.hbm, 324, rfl⟩
abbrev main_v190 : Ref sig .tc := ⟨.hbm, 325, rfl⟩
abbrev main_cst_65 : Ref sig .tc := ⟨.hbm, 326, rfl⟩
abbrev main_v191 : Ref sig .tc := ⟨.hbm, 327, rfl⟩
abbrev main_v192 : Ref sig .tc := ⟨.hbm, 328, rfl⟩
abbrev main_v193 : Ref sig .tc := ⟨.hbm, 329, rfl⟩
abbrev main_v194 : Ref sig .tc := ⟨.hbm, 330, rfl⟩
abbrev main_cst_66 : Ref sig .tc := ⟨.hbm, 331, rfl⟩
abbrev main_call33_v0 : Ref sig .tc := ⟨.hbm, 332, rfl⟩
abbrev main_call33_v1 : Ref sig .tc := ⟨.hbm, 333, rfl⟩
abbrev main_v195 : Ref sig .tc := ⟨.hbm, 334, rfl⟩
abbrev main_cst_67 : Ref sig .tc := ⟨.hbm, 335, rfl⟩
abbrev main_v196 : Ref sig .tc := ⟨.hbm, 336, rfl⟩
abbrev main_v197 : Ref sig .tc := ⟨.hbm, 337, rfl⟩
abbrev main_v198 : Ref sig .tc := ⟨.hbm, 338, rfl⟩
abbrev main_v199 : Ref sig .tc := ⟨.hbm, 339, rfl⟩
abbrev main_cst_68 : Ref sig .tc := ⟨.hbm, 340, rfl⟩
abbrev main_call34_v0 : Ref sig .tc := ⟨.hbm, 341, rfl⟩
abbrev main_call34_v1 : Ref sig .tc := ⟨.hbm, 342, rfl⟩
abbrev main_v200 : Ref sig .tc := ⟨.hbm, 343, rfl⟩
abbrev main_cst_69 : Ref sig .tc := ⟨.hbm, 344, rfl⟩
abbrev main_v201 : Ref sig .tc := ⟨.hbm, 345, rfl⟩
abbrev main_v202 : Ref sig .tc := ⟨.hbm, 346, rfl⟩
abbrev main_v203 : Ref sig .tc := ⟨.hbm, 347, rfl⟩
abbrev main_v204 : Ref sig .tc := ⟨.hbm, 348, rfl⟩
abbrev main_cst_70 : Ref sig .tc := ⟨.hbm, 349, rfl⟩
abbrev main_call35_v0 : Ref sig .tc := ⟨.hbm, 350, rfl⟩
abbrev main_call35_v1 : Ref sig .tc := ⟨.hbm, 351, rfl⟩
abbrev main_v205 : Ref sig .tc := ⟨.hbm, 352, rfl⟩
abbrev main_cst_71 : Ref sig .tc := ⟨.hbm, 353, rfl⟩
abbrev main_v206 : Ref sig .tc := ⟨.hbm, 354, rfl⟩
abbrev main_v207 : Ref sig .tc := ⟨.hbm, 355, rfl⟩
abbrev main_v208 : Ref sig .tc := ⟨.hbm, 356, rfl⟩
abbrev main_v209 : Ref sig .tc := ⟨.hbm, 357, rfl⟩
abbrev main_cst_72 : Ref sig .tc := ⟨.hbm, 358, rfl⟩
abbrev main_call36_v0 : Ref sig .tc := ⟨.hbm, 359, rfl⟩
abbrev main_call36_v1 : Ref sig .tc := ⟨.hbm, 360, rfl⟩
abbrev main_v210 : Ref sig .tc := ⟨.hbm, 361, rfl⟩
abbrev main_cst_73 : Ref sig .tc := ⟨.hbm, 362, rfl⟩
abbrev main_v211 : Ref sig .tc := ⟨.hbm, 363, rfl⟩
abbrev main_v212 : Ref sig .tc := ⟨.hbm, 364, rfl⟩
abbrev main_v213 : Ref sig .tc := ⟨.hbm, 365, rfl⟩
abbrev main_v214 : Ref sig .tc := ⟨.hbm, 366, rfl⟩
abbrev main_cst_74 : Ref sig .tc := ⟨.hbm, 367, rfl⟩
abbrev main_call37_v0 : Ref sig .tc := ⟨.hbm, 368, rfl⟩
abbrev main_call37_v1 : Ref sig .tc := ⟨.hbm, 369, rfl⟩
abbrev main_v215 : Ref sig .tc := ⟨.hbm, 370, rfl⟩
abbrev main_cst_75 : Ref sig .tc := ⟨.hbm, 371, rfl⟩
abbrev main_v216 : Ref sig .tc := ⟨.hbm, 372, rfl⟩
abbrev main_v217 : Ref sig .tc := ⟨.hbm, 373, rfl⟩
abbrev main_v218 : Ref sig .tc := ⟨.hbm, 374, rfl⟩
abbrev main_v219 : Ref sig .tc := ⟨.hbm, 375, rfl⟩
abbrev main_cst_76 : Ref sig .tc := ⟨.hbm, 376, rfl⟩
abbrev main_call38_v0 : Ref sig .tc := ⟨.hbm, 377, rfl⟩
abbrev main_call38_v1 : Ref sig .tc := ⟨.hbm, 378, rfl⟩
abbrev main_v220 : Ref sig .tc := ⟨.hbm, 379, rfl⟩
abbrev main_cst_77 : Ref sig .tc := ⟨.hbm, 380, rfl⟩
abbrev main_v221 : Ref sig .tc := ⟨.hbm, 381, rfl⟩
abbrev main_v222 : Ref sig .tc := ⟨.hbm, 382, rfl⟩
abbrev main_v223 : Ref sig .tc := ⟨.hbm, 383, rfl⟩
abbrev main_v224 : Ref sig .tc := ⟨.hbm, 384, rfl⟩
abbrev main_cst_78 : Ref sig .tc := ⟨.hbm, 385, rfl⟩
abbrev main_call39_v0 : Ref sig .tc := ⟨.hbm, 386, rfl⟩
abbrev main_call39_v1 : Ref sig .tc := ⟨.hbm, 387, rfl⟩
abbrev main_v225 : Ref sig .tc := ⟨.hbm, 388, rfl⟩
abbrev main_cst_79 : Ref sig .tc := ⟨.hbm, 389, rfl⟩
abbrev main_v226 : Ref sig .tc := ⟨.hbm, 390, rfl⟩
abbrev main_v227 : Ref sig .tc := ⟨.hbm, 391, rfl⟩
abbrev main_v228 : Ref sig .tc := ⟨.hbm, 392, rfl⟩
abbrev main_v229 : Ref sig .tc := ⟨.hbm, 393, rfl⟩
abbrev main_cst_80 : Ref sig .tc := ⟨.hbm, 394, rfl⟩
abbrev main_call40_v0 : Ref sig .tc := ⟨.hbm, 395, rfl⟩
abbrev main_call40_v1 : Ref sig .tc := ⟨.hbm, 396, rfl⟩
abbrev main_v230 : Ref sig .tc := ⟨.hbm, 397, rfl⟩
abbrev main_cst_81 : Ref sig .tc := ⟨.hbm, 398, rfl⟩
abbrev main_v231 : Ref sig .tc := ⟨.hbm, 399, rfl⟩
abbrev main_v232 : Ref sig .tc := ⟨.hbm, 400, rfl⟩
abbrev main_v233 : Ref sig .tc := ⟨.hbm, 401, rfl⟩
abbrev main_v234 : Ref sig .tc := ⟨.hbm, 402, rfl⟩
abbrev main_cst_82 : Ref sig .tc := ⟨.hbm, 403, rfl⟩
abbrev main_call41_v0 : Ref sig .tc := ⟨.hbm, 404, rfl⟩
abbrev main_call41_v1 : Ref sig .tc := ⟨.hbm, 405, rfl⟩
abbrev main_v235 : Ref sig .tc := ⟨.hbm, 406, rfl⟩
abbrev main_cst_83 : Ref sig .tc := ⟨.hbm, 407, rfl⟩
abbrev main_v236 : Ref sig .tc := ⟨.hbm, 408, rfl⟩
abbrev main_v237 : Ref sig .tc := ⟨.hbm, 409, rfl⟩
abbrev main_v238 : Ref sig .tc := ⟨.hbm, 410, rfl⟩
abbrev main_v239 : Ref sig .tc := ⟨.hbm, 411, rfl⟩
abbrev main_cst_84 : Ref sig .tc := ⟨.hbm, 412, rfl⟩
abbrev main_call42_v0 : Ref sig .tc := ⟨.hbm, 413, rfl⟩
abbrev main_call42_v1 : Ref sig .tc := ⟨.hbm, 414, rfl⟩
abbrev main_v240 : Ref sig .tc := ⟨.hbm, 415, rfl⟩
abbrev main_cst_85 : Ref sig .tc := ⟨.hbm, 416, rfl⟩
abbrev main_v241 : Ref sig .tc := ⟨.hbm, 417, rfl⟩
abbrev main_v242 : Ref sig .tc := ⟨.hbm, 418, rfl⟩
abbrev main_v243 : Ref sig .tc := ⟨.hbm, 419, rfl⟩
abbrev main_v244 : Ref sig .tc := ⟨.hbm, 420, rfl⟩
abbrev main_cst_86 : Ref sig .tc := ⟨.hbm, 421, rfl⟩
abbrev main_call43_v0 : Ref sig .tc := ⟨.hbm, 422, rfl⟩
abbrev main_call43_v1 : Ref sig .tc := ⟨.hbm, 423, rfl⟩
abbrev main_v245 : Ref sig .tc := ⟨.hbm, 424, rfl⟩
abbrev main_cst_87 : Ref sig .tc := ⟨.hbm, 425, rfl⟩
abbrev main_v246 : Ref sig .tc := ⟨.hbm, 426, rfl⟩
abbrev main_v247 : Ref sig .tc := ⟨.hbm, 427, rfl⟩
abbrev main_v248 : Ref sig .tc := ⟨.hbm, 428, rfl⟩
abbrev main_v249 : Ref sig .tc := ⟨.hbm, 429, rfl⟩
abbrev main_cst_88 : Ref sig .tc := ⟨.hbm, 430, rfl⟩
abbrev main_call44_v0 : Ref sig .tc := ⟨.hbm, 431, rfl⟩
abbrev main_call44_v1 : Ref sig .tc := ⟨.hbm, 432, rfl⟩
abbrev main_v250 : Ref sig .tc := ⟨.hbm, 433, rfl⟩
abbrev main_cst_89 : Ref sig .tc := ⟨.hbm, 434, rfl⟩
abbrev main_v251 : Ref sig .tc := ⟨.hbm, 435, rfl⟩
abbrev main_v252 : Ref sig .tc := ⟨.hbm, 436, rfl⟩
abbrev main_v253 : Ref sig .tc := ⟨.hbm, 437, rfl⟩
abbrev main_v254 : Ref sig .tc := ⟨.hbm, 438, rfl⟩
abbrev main_cst_90 : Ref sig .tc := ⟨.hbm, 439, rfl⟩
abbrev main_call45_v0 : Ref sig .tc := ⟨.hbm, 440, rfl⟩
abbrev main_call45_v1 : Ref sig .tc := ⟨.hbm, 441, rfl⟩
abbrev main_v255 : Ref sig .tc := ⟨.hbm, 442, rfl⟩
abbrev main_cst_91 : Ref sig .tc := ⟨.hbm, 443, rfl⟩
abbrev main_v256 : Ref sig .tc := ⟨.hbm, 444, rfl⟩
abbrev main_v257 : Ref sig .tc := ⟨.hbm, 445, rfl⟩
abbrev main_v258 : Ref sig .tc := ⟨.hbm, 446, rfl⟩
abbrev main_v259 : Ref sig .tc := ⟨.hbm, 447, rfl⟩
abbrev main_cst_92 : Ref sig .tc := ⟨.hbm, 448, rfl⟩
abbrev main_call46_v0 : Ref sig .tc := ⟨.hbm, 449, rfl⟩
abbrev main_call46_v1 : Ref sig .tc := ⟨.hbm, 450, rfl⟩
abbrev main_v260 : Ref sig .tc := ⟨.hbm, 451, rfl⟩
abbrev main_cst_93 : Ref sig .tc := ⟨.hbm, 452, rfl⟩
abbrev main_v261 : Ref sig .tc := ⟨.hbm, 453, rfl⟩
abbrev main_v262 : Ref sig .tc := ⟨.hbm, 454, rfl⟩
abbrev main_v263 : Ref sig .tc := ⟨.hbm, 455, rfl⟩
abbrev main_v264 : Ref sig .tc := ⟨.hbm, 456, rfl⟩
abbrev main_cst_94 : Ref sig .tc := ⟨.hbm, 457, rfl⟩
abbrev main_call47_v0 : Ref sig .tc := ⟨.hbm, 458, rfl⟩
abbrev main_call47_v1 : Ref sig .tc := ⟨.hbm, 459, rfl⟩
abbrev main_v265 : Ref sig .tc := ⟨.hbm, 460, rfl⟩
abbrev main_v266 : Ref sig .tc := ⟨.hbm, 461, rfl⟩
abbrev main_v267 : Ref sig .tc := ⟨.hbm, 462, rfl⟩
abbrev main_cst_95 : Ref sig .tc := ⟨.hbm, 463, rfl⟩
abbrev main_v268 : Ref sig .tc := ⟨.hbm, 464, rfl⟩
abbrev main_v269 : Ref sig .tc := ⟨.hbm, 465, rfl⟩
abbrev main_v270 : Ref sig .tc := ⟨.hbm, 466, rfl⟩
abbrev main_v271 : Ref sig .tc := ⟨.hbm, 467, rfl⟩
abbrev main_v272 : Ref sig .tc := ⟨.hbm, 468, rfl⟩
abbrev main_v273 : Ref sig .tc := ⟨.hbm, 469, rfl⟩
abbrev main_v274 : Ref sig .tc := ⟨.hbm, 470, rfl⟩
abbrev main_v275 : Ref sig .tc := ⟨.hbm, 471, rfl⟩
abbrev main_v276 : Ref sig .tc := ⟨.hbm, 472, rfl⟩
abbrev main_v277 : Ref sig .tc := ⟨.hbm, 473, rfl⟩
abbrev main_v278 : Ref sig .tc := ⟨.hbm, 474, rfl⟩
abbrev main_v279 : Ref sig .tc := ⟨.hbm, 475, rfl⟩
abbrev main_v280 : Ref sig .tc := ⟨.hbm, 476, rfl⟩
abbrev main_v281 : Ref sig .tc := ⟨.hbm, 477, rfl⟩
abbrev main_v282 : Ref sig .tc := ⟨.hbm, 478, rfl⟩
abbrev main_v283 : Ref sig .tc := ⟨.hbm, 479, rfl⟩
abbrev main_v284 : Ref sig .tc := ⟨.hbm, 480, rfl⟩
abbrev main_v285 : Ref sig .tc := ⟨.hbm, 481, rfl⟩
abbrev main_v286 : Ref sig .tc := ⟨.hbm, 482, rfl⟩
abbrev main_v287 : Ref sig .tc := ⟨.hbm, 483, rfl⟩
abbrev main_v288 : Ref sig .tc := ⟨.hbm, 484, rfl⟩
abbrev main_v289 : Ref sig .tc := ⟨.hbm, 485, rfl⟩
abbrev main_v290 : Ref sig .tc := ⟨.hbm, 486, rfl⟩
abbrev main_v291 : Ref sig .tc := ⟨.hbm, 487, rfl⟩
abbrev main_v292 : Ref sig .tc := ⟨.hbm, 488, rfl⟩
abbrev main_v293 : Ref sig .tc := ⟨.hbm, 489, rfl⟩
abbrev main_v294 : Ref sig .tc := ⟨.hbm, 490, rfl⟩
abbrev main_v295 : Ref sig .tc := ⟨.hbm, 491, rfl⟩
abbrev main_v296 : Ref sig .tc := ⟨.hbm, 492, rfl⟩
abbrev main_v297 : Ref sig .tc := ⟨.hbm, 493, rfl⟩
abbrev main_v298 : Ref sig .tc := ⟨.hbm, 494, rfl⟩
abbrev main_v299 : Ref sig .tc := ⟨.hbm, 495, rfl⟩
abbrev main_v300 : Ref sig .tc := ⟨.hbm, 496, rfl⟩
abbrev main_v301 : Ref sig .tc := ⟨.hbm, 497, rfl⟩
abbrev main_v302 : Ref sig .tc := ⟨.hbm, 498, rfl⟩
abbrev main_v303 : Ref sig .tc := ⟨.hbm, 499, rfl⟩
abbrev main_v304 : Ref sig .tc := ⟨.hbm, 500, rfl⟩
abbrev main_v305 : Ref sig .tc := ⟨.hbm, 501, rfl⟩
abbrev main_v306 : Ref sig .tc := ⟨.hbm, 502, rfl⟩
abbrev main_v307 : Ref sig .tc := ⟨.hbm, 503, rfl⟩
abbrev main_v308 : Ref sig .tc := ⟨.hbm, 504, rfl⟩
abbrev main_v309 : Ref sig .tc := ⟨.hbm, 505, rfl⟩
abbrev main_v310 : Ref sig .tc := ⟨.hbm, 506, rfl⟩
abbrev main_v311 : Ref sig .tc := ⟨.hbm, 507, rfl⟩
abbrev main_v312 : Ref sig .tc := ⟨.hbm, 508, rfl⟩
abbrev main_v313 : Ref sig .tc := ⟨.hbm, 509, rfl⟩
abbrev main_v314 : Ref sig .tc := ⟨.hbm, 510, rfl⟩
abbrev main_v315 : Ref sig .tc := ⟨.hbm, 511, rfl⟩
abbrev main_v316 : Ref sig .tc := ⟨.hbm, 512, rfl⟩
abbrev main_v317 : Ref sig .tc := ⟨.hbm, 513, rfl⟩
abbrev main_v318 : Ref sig .tc := ⟨.hbm, 514, rfl⟩
abbrev main_v319 : Ref sig .tc := ⟨.hbm, 515, rfl⟩
abbrev main_v320 : Ref sig .tc := ⟨.hbm, 516, rfl⟩
abbrev main_v321 : Ref sig .tc := ⟨.hbm, 517, rfl⟩
abbrev main_v322 : Ref sig .tc := ⟨.hbm, 518, rfl⟩
abbrev main_v323 : Ref sig .tc := ⟨.hbm, 519, rfl⟩
abbrev main_cst_96 : Ref sig .tc := ⟨.hbm, 520, rfl⟩
abbrev main_call48_v0 : Ref sig .tc := ⟨.hbm, 521, rfl⟩
abbrev main_call48_v1 : Ref sig .tc := ⟨.hbm, 522, rfl⟩
abbrev main_call48_v2 : Ref sig .tc := ⟨.hbm, 523, rfl⟩
abbrev main_v324 : Ref sig .tc := ⟨.hbm, 524, rfl⟩
abbrev main_v325 : Ref sig .tc := ⟨.hbm, 525, rfl⟩
abbrev main_v326 : Ref sig .tc := ⟨.hbm, 526, rfl⟩
abbrev main_v327 : Ref sig .tc := ⟨.hbm, 527, rfl⟩
abbrev main_cst_97 : Ref sig .tc := ⟨.hbm, 528, rfl⟩
abbrev main_v328 : Ref sig .tc := ⟨.hbm, 529, rfl⟩
abbrev main_cst_98 : Ref sig .tc := ⟨.hbm, 530, rfl⟩
abbrev main_call49_v0 : Ref sig .tc := ⟨.hbm, 531, rfl⟩
abbrev main_call49_v1 : Ref sig .tc := ⟨.hbm, 532, rfl⟩
abbrev main_v329 : Ref sig .tc := ⟨.hbm, 533, rfl⟩
abbrev main_v330 : Ref sig .tc := ⟨.hbm, 534, rfl⟩
abbrev main_v331 : Ref sig .tc := ⟨.hbm, 535, rfl⟩
abbrev main_v332 : Ref sig .tc := ⟨.hbm, 536, rfl⟩
abbrev main_v333 : Ref sig .tc := ⟨.hbm, 537, rfl⟩
abbrev main_v334 : Ref sig .tc := ⟨.hbm, 538, rfl⟩
abbrev main_v335 : Ref sig .tc := ⟨.hbm, 539, rfl⟩
abbrev main_v336 : Ref sig .tc := ⟨.hbm, 540, rfl⟩
abbrev main_v337 : Ref sig .tc := ⟨.hbm, 541, rfl⟩
abbrev main_v338 : Ref sig .tc := ⟨.hbm, 542, rfl⟩
abbrev main_v339 : Ref sig .tc := ⟨.hbm, 543, rfl⟩
abbrev main_v340 : Ref sig .tc := ⟨.hbm, 544, rfl⟩
abbrev main_v341 : Ref sig .tc := ⟨.hbm, 545, rfl⟩
abbrev main_v342 : Ref sig .tc := ⟨.hbm, 546, rfl⟩
abbrev main_v343 : Ref sig .tc := ⟨.hbm, 547, rfl⟩

abbrev nD : Nat := 1
abbrev τ : Topo := Topo.v7x

variable {F : FTy → Type} [FloatOps F]
-- ==== Four.lean ====
abbrev S4096x4096 : Shape := ⟨2, ![4096, 4096]⟩
abbrev S8x4096x512 : Shape := ⟨3, ![8, 4096, 512]⟩
abbrev S4x64x64 : Shape := ⟨3, ![4, 64, 64]⟩
abbrev S_ : Shape := ⟨0, ![]⟩
abbrev S256x256 : Shape := ⟨2, ![256, 256]⟩
abbrev S1x64x64 : Shape := ⟨3, ![1, 64, 64]⟩
abbrev S64x64 : Shape := ⟨2, ![64, 64]⟩
abbrev S1 : Shape := ⟨1, ![1]⟩
abbrev S2 : Shape := ⟨1, ![2]⟩
abbrev S8x4096x256 : Shape := ⟨3, ![8, 4096, 256]⟩
abbrev S512x4096 : Shape := ⟨2, ![512, 4096]⟩
abbrev S1x4096x512 : Shape := ⟨3, ![1, 4096, 512]⟩
abbrev S1x512x256 : Shape := ⟨3, ![1, 512, 256]⟩
abbrev S1x4096x256 : Shape := ⟨3, ![1, 4096, 256]⟩
abbrev S4096x256 : Shape := ⟨2, ![4096, 256]⟩
abbrev S512x256 : Shape := ⟨2, ![512, 256]⟩

abbrev nBuf : Space → Nat
  | .hbm => 40
  | .vmem => 9
  | .smem => 0
  | _ => 0

abbrev bufTy : (tb : Table) → Fin (tcTables nBuf tb) → BufTy
  | .hbm, ⟨0, _⟩ => ⟨S4096x4096, .bf16⟩
  | .hbm, ⟨1, _⟩ => ⟨S4096x4096, .bf16⟩
  | .hbm, ⟨2, _⟩ => ⟨S8x4096x512, .bf16⟩
  | .hbm, ⟨3, _⟩ => ⟨S4x64x64, .f32⟩
  | .hbm, ⟨4, _⟩ => ⟨S_, .f32⟩
  | .hbm, ⟨5, _⟩ => ⟨S256x256, .f32⟩
  | .hbm, ⟨6, _⟩ => ⟨S1x64x64, .f32⟩
  | .hbm, ⟨7, _⟩ => ⟨S64x64, .f32⟩
  | .hbm, ⟨8, _⟩ => ⟨S_, .i32⟩
  | .hbm, ⟨9, _⟩ => ⟨S1, .i32⟩
  | .hbm, ⟨10, _⟩ => ⟨S_, .i32⟩
  | .hbm, ⟨11, _⟩ => ⟨S1, .i32⟩
  | .hbm, ⟨12, _⟩ => ⟨S2, .i32⟩
  | .hbm, ⟨13, _⟩ => ⟨S256x256, .f32⟩
  | .hbm, ⟨14, _⟩ => ⟨S1x64x64, .f32⟩
  | .hbm, ⟨15, _⟩ => ⟨S64x64, .f32⟩
  | .hbm, ⟨16, _⟩ => ⟨S_, .i32⟩
  | .hbm, ⟨17, _⟩ => ⟨S1, .i32⟩
  | .hbm, ⟨18, _⟩ => ⟨S_, .i32⟩
  | .hbm, ⟨19, _⟩ => ⟨S1, .i32⟩
  | .hbm, ⟨20, _⟩ => ⟨S2, .i32⟩
  | .hbm, ⟨21, _⟩ => ⟨S256x256, .f32⟩
  | .hbm, ⟨22, _⟩ => ⟨S1x64x64, .f32⟩
  | .hbm, ⟨23, _⟩ => ⟨S64x64, .f32⟩
  | .hbm, ⟨24, _⟩ => ⟨S_, .i32⟩
  | .hbm, ⟨25, _⟩ => ⟨S1, .i32⟩
  | .hbm, ⟨26, _⟩ => ⟨S_, .i32⟩
  | .hbm, ⟨27, _⟩ => ⟨S1, .i32⟩
  | .hbm, ⟨28, _⟩ => ⟨S2, .i32⟩
  | .hbm, ⟨29, _⟩ => ⟨S256x256, .f32⟩
  | .hbm, ⟨30, _⟩ => ⟨S1x64x64, .f32⟩
  | .hbm, ⟨31, _⟩ => ⟨S64x64, .f32⟩
  | .hbm, ⟨32, _⟩ => ⟨S_, .i32⟩
  | .hbm, ⟨33, _⟩ => ⟨S1, .i32⟩
  | .hbm, ⟨34, _⟩ => ⟨S_, .i32⟩
  | .hbm, ⟨35, _⟩ => ⟨S1, .i32⟩
  | .hbm, ⟨36, _⟩ => ⟨S2, .i32⟩
  | .hbm, ⟨37, _⟩ => ⟨S256x256, .f32⟩
  | .hbm, ⟨38, _⟩ => ⟨S256x256, .bf16⟩
  | .hbm, ⟨39, _⟩ => ⟨S8x4096x256, .bf16⟩
  | .local _ .vmem, ⟨0, _⟩ => ⟨S512x4096, .bf16⟩
  | .local _ .vmem, ⟨1, _⟩ => ⟨S512x4096, .bf16⟩
  | .local _ .vmem, ⟨2, _⟩ => ⟨S512x4096, .bf16⟩
  | .local _ .vmem, ⟨3, _⟩ => ⟨S512x4096, .bf16⟩
  | .local _ .vmem, ⟨4, _⟩ => ⟨S1x4096x512, .bf16⟩
  | .local _ .vmem, ⟨5, _⟩ => ⟨S1x4096x512, .bf16⟩
  | .local _ .vmem, ⟨6, _⟩ => ⟨S256x256, .bf16⟩
  | .local _ .vmem, ⟨7, _⟩ => ⟨S1x512x256, .bf16⟩
  | .local _ .vmem, ⟨8, _⟩ => ⟨S1x512x256, .bf16⟩
  | _, _ => ⟨S4096x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_c : Ref sig .tc := ⟨.hbm, 8, rfl⟩
abbrev main_v3 : Ref sig .tc := ⟨.hbm, 9, rfl⟩
abbrev main_c_0 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_c_1 : Ref sig .tc := ⟨.hbm, 16, rfl⟩
abbrev main_v9 : Ref sig .tc := ⟨.hbm, 17, rfl⟩
abbrev main_c_2 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_c_3 : Ref sig .tc := ⟨.hbm, 24, rfl⟩
abbrev main_v15 : Ref sig .tc := ⟨.hbm, 25, rfl⟩
abbrev main_c_4 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_c_5 : Ref sig .tc := ⟨.hbm, 32, rfl⟩
abbrev main_v21 : Ref sig .tc := ⟨.hbm, 33, rfl⟩
abbrev main_c_6 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg4_1 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8

abbrev nD : Nat := 1
abbrev τ : Topo := Topo.v7x

variable {F : FTy → Type} [FloatOps F]

abbrev grid0 : Pipeline.Grid := ⟨2, ![8, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, arg0.toNat, c0_i32.toNat]

abbrev stage0_0 : Fin 2 → Memref sig .tc .vmem S512x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S512x4096 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x4096x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 1 → Memref sig .tc .vmem S256x256 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 2 → Memref sig .tc .vmem S1x512x256 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]
-- ==== FourRefIdeal.lean ====
abbrev S4096x4096 : Shape := ⟨2, ![4096, 4096]⟩
abbrev S8x4096x512 : Shape := ⟨3, ![8, 4096, 512]⟩
abbrev S4x64x64 : Shape := ⟨3, ![4, 64, 64]⟩
abbrev S8x4096x2x4x64 : Shape := ⟨5, ![8, 4096, 2, 4, 64]⟩
abbrev S8x4096x1x4x64 : Shape := ⟨5, ![8, 4096, 1, 4, 64]⟩
abbrev S8x4096x4x64 : Shape := ⟨4, ![8, 4096, 4, 64]⟩
abbrev S8x4x64x4096 : Shape := ⟨4, ![8, 4, 64, 4096]⟩
abbrev S_ : Shape := ⟨0, ![]⟩
abbrev S4x64x8x4096 : Shape := ⟨4, ![4, 64, 8, 4096]⟩
abbrev S8x4096x256 : Shape := ⟨3, ![8, 4096, 256]⟩

abbrev nBuf : Space → Nat
  | .hbm => 24
  | .vmem => 0
  | .smem => 0
  | _ => 0

abbrev bufTy : (tb : Table) → Fin (tcTables nBuf tb) → BufTy
  | .hbm, ⟨0, _⟩ => ⟨S4096x4096, .bf16⟩
  | .hbm, ⟨1, _⟩ => ⟨S4096x4096, .bf16⟩
  | .hbm, ⟨2, _⟩ => ⟨S8x4096x512, .bf16⟩
  | .hbm, ⟨3, _⟩ => ⟨S4x64x64, .f32⟩
  | .hbm, ⟨4, _⟩ => ⟨S8x4096x512, .f32⟩
  | .hbm, ⟨5, _⟩ => ⟨S8x4096x2x4x64, .f32⟩
  | .hbm, ⟨6, _⟩ => ⟨S4096x4096, .f32⟩
  | .hbm, ⟨7, _⟩ => ⟨S8x4096x1x4x64, .f32⟩
  | .hbm, ⟨8, _⟩ => ⟨S8x4096x4x64, .f32⟩
  | .hbm, ⟨9, _⟩ => ⟨S8x4x64x4096, .f32⟩
  | .hbm, ⟨10, _⟩ => ⟨S8x4096x4x64, .f32⟩
  | .hbm, ⟨11, _⟩ => ⟨S4096x4096, .f32⟩
  | .hbm, ⟨12, _⟩ => ⟨S8x4096x1x4x64, .f32⟩
  | .hbm, ⟨13, _⟩ => ⟨S8x4096x4x64, .f32⟩
  | .hbm, ⟨14, _⟩ => ⟨S8x4x64x4096, .f32⟩
  | .hbm, ⟨15, _⟩ => ⟨S8x4096x4x64, .f32⟩
  | .hbm, ⟨16, _⟩ => ⟨S8x4096x4x64, .f32⟩
  | .hbm, ⟨17, _⟩ => ⟨S_, .f32⟩
  | .hbm, ⟨18, _⟩ => ⟨S8x4096x4x64, .f32⟩
  | .hbm, ⟨19, _⟩ => ⟨S8x4096x4x64, .f32⟩
  | .hbm, ⟨20, _⟩ => ⟨S4x64x8x4096, .f32⟩
  | .hbm, ⟨21, _⟩ => ⟨S8x4096x4x64, .f32⟩
  | .hbm, ⟨22, _⟩ => ⟨S8x4096x256, .f32⟩
  | .hbm, ⟨23, _⟩ => ⟨S8x4096x256, .bf16⟩
  | _, _ => ⟨S4096x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_cst : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩

abbrev nD : Nat := 1
abbrev τ : Topo := Topo.v7x

variable {F : FTy → Type} [FloatOps F]
-- ==== Proof.Attn.Softmax.lean ====
/- The arithmetic of one row of the attention, over the extended reals: a softmax whose denominator also counts a
   sink, with the division taken after the weighted sum (`late`) or on each weight before it (`early`), and the
   sum over the slots of a window against the sum over every key. -/
module

public import Idealize.ShloMosaic.Lib.Pointwise

@[expose] public section

noncomputable section

namespace Cert.AttnRow

open Idealize.ShloMosaic

/-- The largest entry of a row, nothing being below `⊥`. -/
def top {n : ℕ} (s : Fin n → EReal) : EReal := Finset.univ.fold max ⊥ s

/-- A row of `n` scores and a sink: the weighted sum of the values first, the division after it. -/
def late {n : ℕ} (s : Fin n → EReal) (z : EReal) (v : Fin n → EReal) : EReal :=
  Ideal.div (∑ t, Ideal.exp (s t - max (top s) z) * v t)
    ((∑ t, Ideal.exp (s t - max (top s) z)) + Ideal.exp (z - max (top s) z))

/-- The shift both softmaxes take: the largest of the scores on the keys, on the context, and the sink. -/
def shift {n c : ℕ} (s : Fin n → EReal) (u : Fin c → EReal) (z : EReal) : EReal := max (max (top s) (top u)) z

/-- The denominator over keys, context and sink. -/
def denom {n c : ℕ} (s : Fin n → EReal) (u : Fin c → EReal) (z : EReal) : EReal :=
  ((∑ j, Ideal.exp (s j - shift s u z)) + ∑ k, Ideal.exp (u k - shift s u z)) + Ideal.exp (z - shift s u z)

/-- The same row with every weight divided before it meets its value. -/
def early {n c : ℕ} (s : Fin n → EReal) (u : Fin c → EReal) (z : EReal) (v : Fin n → EReal) (w : Fin c → EReal) : EReal :=
  (∑ j, Ideal.div (Ideal.exp (s j - shift s u z)) (denom s u z) * v j)
    + ∑ k, Ideal.div (Ideal.exp (u k - shift s u z)) (denom s u z) * w k

theorem le_top {n : ℕ} (s : Fin n → EReal) (t : Fin n) : s t ≤ top s :=
  Finset.le_fold_max _ |>.2 (.inr ⟨t, Finset.mem_univ _, le_rfl⟩)

theorem top_le {n : ℕ} (s : Fin n → EReal) (b : EReal) (h : ∀ t, s t ≤ b) : top s ≤ b :=
  Finset.fold_max_le _ |>.2 ⟨bot_le, fun t _ => h t⟩

theorem top_lt {n : ℕ} (s : Fin n → EReal) (b : EReal) (hb : ⊥ < b) (h : ∀ t, s t < b) : top s < b :=
  Finset.fold_max_lt _ |>.2 ⟨hb, fun t _ => h t⟩

/-- An exponential of a score that is not `⊤`, shifted by a real, is a real and not negative. -/
theorem exp_shift (x : EReal) (hx : x ≠ ⊤) (r : ℝ) : ∃ e : ℝ, 0 ≤ e ∧ Ideal.exp (x - (r : EReal)) = (e : EReal) := by
  induction x using EReal.rec with
  | bot => exact ⟨0, le_rfl, rfl⟩
  | coe x => exact ⟨Real.exp (x - r), (Real.exp_pos _).le, by rw [← EReal.coe_sub]; rfl⟩
  | top => exact absurd rfl hx

theorem exp_shift_pos (x : EReal) (hx : x ≠ ⊤) (hx' : x ≠ ⊥) (r : ℝ) :
    ∃ e : ℝ, 0 < e ∧ Ideal.exp (x - (r : EReal)) = (e : EReal) := by
  induction x using EReal.rec with
  | bot => exact absurd rfl hx'
  | coe x => exact ⟨Real.exp (x - r), Real.exp_pos _, by rw [← EReal.coe_sub]; rfl⟩
  | top => exact absurd rfl hx

theorem exp_shift_bot (r : ℝ) : Ideal.exp (⊥ - (r : EReal)) = 0 := rfl

/-- A sum of reals that are not negative is such a real. -/
theorem sum_real {n : ℕ} (f : Fin n → EReal) (h : ∀ t, ∃ e : ℝ, 0 ≤ e ∧ f t = (e : EReal)) :
    ∃ e : ℝ, 0 ≤ e ∧ ∑ t, f t = (e : EReal) := by
  choose g hg hf using h
  refine ⟨∑ t, g t, Finset.sum_nonneg fun t _ => hg t, ?_⟩
  rw [Finset.sum_congr rfl fun t _ => hf t]
  induction (Finset.univ : Finset (Fin n)) using Finset.induction_on with
  | empty => simp
  | insert a s ha ih => rw [Finset.sum_insert ha, Finset.sum_insert ha, ih, EReal.coe_add]

/-- A factor that is real and not negative goes into a sum. -/
theorem sum_mul_real {n : ℕ} (f : Fin n → EReal) (k : ℝ) (hk : 0 ≤ k) : (∑ t, f t) * (k : EReal) = ∑ t, f t * (k : EReal) := by
  induction (Finset.univ : Finset (Fin n)) using Finset.induction_on with
  | empty => simp
  | insert a s ha ih =>
    rw [Finset.sum_insert ha, Finset.sum_insert ha, ← ih]
    exact EReal.right_distrib_of_nonneg_of_ne_top (EReal.coe_nonneg.2 hk) (EReal.coe_ne_top k) _ _

/-- What the slots of a window hold: slot `t` below 384 the key `base + t - 128` where that is a key of the row's
    window, `⊥` in the score otherwise; the 256 slots after them the context. -/
structure Slots (S V : Fin 4096 → EReal) (C U : Fin 256 → EReal) (W : Fin 4096 → Prop) (base : ℕ)
    (s v : Fin 640 → EReal) : Prop where
  win : ∀ j : Fin 4096, W j → base ≤ (j : ℕ) + 128 ∧ (j : ℕ) + 128 < base + 384
  key : ∀ (t : Fin 640) (j : Fin 4096), (t : ℕ) < 384 → W j → (j : ℕ) + 128 = base + t → s t = S j ∧ v t = V j
  out : ∀ t : Fin 640, (t : ℕ) < 384 → (¬ ∃ j : Fin 4096, W j ∧ (j : ℕ) + 128 = base + t) → s t = ⊥
  ctx : ∀ (t : Fin 640) (c : Fin 256), (t : ℕ) = 384 + c → s t = C c ∧ v t = U c

/-- A sum over the slots is the sum over the keys and the sum over the context, of a summand that vanishes at a
    masked slot and at a key outside the window. -/
theorem sum_slots {S V : Fin 4096 → EReal} {C U : Fin 256 → EReal} {W : Fin 4096 → Prop} {base : ℕ}
    {s v : Fin 640 → EReal} (h : Slots S V C U W base s v) (f : EReal → EReal → EReal) (f0 : ∀ y, f ⊥ y = 0)
    (S' : Fin 4096 → EReal) (hS : ∀ j, W j → S' j = S j) (hS' : ∀ j, ¬ W j → S' j = ⊥) :
    ∑ t, f (s t) (v t) = (∑ j, f (S' j) (V j)) + ∑ c, f (C c) (U c) := by
  rw [Fin.sum_univ_add (a := 384) (b := 256) (fun t : Fin (384 + 256) => f (s t) (v t))]
  congr 1
  · symm
    refine Finset.sum_bij_ne_zero
      (fun j _ hj => ⟨(j : ℕ) + 128 - base, ?_⟩) (fun j _ hj => Finset.mem_univ _) ?_ ?_ ?_
    · have hw : W j := by by_contra hw; exact hj (by rw [hS' j hw, f0])
      have := h.win j hw; omega
    · intro j _ hj j' _ hj' e
      have hw : W j := by by_contra hw; exact hj (by rw [hS' j hw, f0])
      have hw' : W j' := by by_contra hw; exact hj' (by rw [hS' j' hw, f0])
      have := h.win j hw; have := h.win j' hw'
      have e := congrArg Fin.val e
      simp only at e
      exact Fin.ext (by omega)
    · intro t _ ht
      by_cases he : ∃ j : Fin 4096, W j ∧ (j : ℕ) + 128 = base + t
      · obtain ⟨j, hw, e⟩ := he
        have hk := h.key (Fin.castAdd 256 t) j t.isLt hw e
        refine ⟨j, Finset.mem_univ _, ?_, Fin.ext ?_⟩
        · rw [hS j hw, ← hk.1, ← hk.2]; exact ht
        · simp only; omega
      · exact absurd (by rw [h.out (Fin.castAdd 256 t) t.isLt he, f0]) ht
    · intro j _ hj
      have hw : W j := by by_contra hw; exact hj (by rw [hS' j hw, f0])
      have := h.win j hw
      have hk := h.key (Fin.castAdd 256 ⟨(j : ℕ) + 128 - base, by omega⟩) j (by simp only [Fin.val_castAdd]; omega) hw
        (by simp only [Fin.val_castAdd]; omega)
      rw [hk.1, hk.2]
      exact congrArg (f · (V j)) (hS j hw)
  · exact Finset.sum_congr rfl fun c _ => by
      have hc := h.ctx (Fin.natAdd 384 c) c rfl
      rw [hc.1, hc.2]

/-- The slots' largest entry is the largest over keys in the window and context. -/
theorem top_slots {S V : Fin 4096 → EReal} {C U : Fin 256 → EReal} {W : Fin 4096 → Prop} {base : ℕ}
    {s v : Fin 640 → EReal} (h : Slots S V C U W base s v)
    (S' : Fin 4096 → EReal) (hS : ∀ j, W j → S' j = S j) (hS' : ∀ j, ¬ W j → S' j = ⊥) :
    top s = max (top S') (top C) := by
  apply le_antisymm
  · refine top_le _ _ fun t => ?_
    by_cases ht : (t : ℕ) < 384
    · by_cases he : ∃ j : Fin 4096, W j ∧ (j : ℕ) + 128 = base + t
      · obtain ⟨j, hw, e⟩ := he
        rw [(h.key t j ht hw e).1, ← hS j hw]
        exact le_max_of_le_left (le_top S' j)
      · rw [h.out t ht he]; exact bot_le
    · rw [(h.ctx t ⟨(t : ℕ) - 384, by omega⟩ (by simp only; omega)).1]
      exact le_max_of_le_right (le_top C _)
  · refine max_le (top_le _ _ fun j => ?_) (top_le _ _ fun c => ?_)
    · by_cases hw : W j
      · have := h.win j hw
        rw [hS j hw, ← (h.key ⟨(j : ℕ) + 128 - base, by omega⟩ j (by simp only; omega) hw (by simp only; omega)).1]
        exact le_top s _
      · rw [hS' j hw]; exact bot_le
    · rw [← (h.ctx ⟨384 + (c : ℕ), by omega⟩ c rfl).1]
      exact le_top s _

/-- The two rows agree where every score is real. -/
theorem late_eq_early {S V : Fin 4096 → EReal} {C U : Fin 256 → EReal} {W : Fin 4096 → Prop} {base : ℕ}
    {s v : Fin 640 → EReal} (h : Slots S V C U W base s v)
    (S' : Fin 4096 → EReal) (hS : ∀ j, W j → S' j = S j) (hS' : ∀ j, ¬ W j → S' j = ⊥)
    (z : EReal) (hz : z ≠ ⊤) (hz' : z ≠ ⊥) (rS : ∀ j, S j ≠ ⊤) (rC : ∀ c, C c ≠ ⊤) :
    late s z v = early S' C z V U := by
  have rS' : ∀ j, S' j ≠ ⊤ := fun j => by
    by_cases hw : W j
    · rw [hS j hw]; exact rS j
    · rw [hS' j hw]; exact bot_ne_top
  have hm : max (top s) z = shift S' C z := by rw [top_slots h S' hS hS']; rfl
  have hlt : shift S' C z < ⊤ :=
    max_lt (max_lt (top_lt _ _ bot_lt_top fun j => lt_top_iff_ne_top.2 (rS' j))
      (top_lt _ _ bot_lt_top fun c => lt_top_iff_ne_top.2 (rC c))) (lt_top_iff_ne_top.2 hz)
  have hgt : ⊥ < shift S' C z := lt_of_lt_of_le (bot_lt_iff_ne_bot.2 hz') (le_max_right _ _)
  obtain ⟨r, hr⟩ : ∃ r : ℝ, shift S' C z = (r : EReal) :=
    ⟨(shift S' C z).toReal, (EReal.coe_toReal hlt.ne hgt.ne').symm⟩
  have hden : (∑ t, Ideal.exp (s t - shift S' C z)) + Ideal.exp (z - shift S' C z) = denom S' C z := by
    unfold denom
    congr 1
    rw [hr]
    exact sum_slots h (fun x _ => Ideal.exp (x - (r : EReal))) (fun _ => rfl) S' hS hS'
  obtain ⟨a, ha, ea⟩ := sum_real (fun j => Ideal.exp (S' j - (r : EReal))) fun j => exp_shift _ (rS' j) r
  obtain ⟨b, hb, eb⟩ := sum_real (fun c => Ideal.exp (C c - (r : EReal))) fun c => exp_shift _ (rC c) r
  obtain ⟨e, he, ee⟩ := exp_shift_pos z hz hz' r
  have hd : denom S' C z = ((a + b + e : ℝ) : EReal) := by
    unfold denom
    rw [hr, ea, eb, ee, EReal.coe_add, EReal.coe_add]
  have hpos : 0 < a + b + e := by linarith
  have hk : (0 : ℝ) ≤ 1 / (a + b + e) := (one_div_pos.2 hpos).le
  unfold late early
  rw [hm, hden, hd, Ideal.div_coe hpos.ne', hr,
    sum_slots h (fun x y => Ideal.exp (x - (r : EReal)) * y) (fun y => by rw [exp_shift_bot, zero_mul]) S' hS hS',
    EReal.right_distrib_of_nonneg_of_ne_top (EReal.coe_nonneg.2 hk) (EReal.coe_ne_top _), sum_mul_real _ _ hk, sum_mul_real _ _ hk]
  congr 1
  · exact Finset.sum_congr rfl fun j _ => by rw [Ideal.div_coe hpos.ne', mul_right_comm]
  · exact Finset.sum_congr rfl fun c _ => by rw [Ideal.div_coe hpos.ne', mul_right_comm]

/-- A product of two reals is real; so is a sum of reals. -/
theorem mul_real {x y : EReal} (hx : x ≠ ⊤ ∧ x ≠ ⊥) (hy : y ≠ ⊤ ∧ y ≠ ⊥) : x * y ≠ ⊤ ∧ x * y ≠ ⊥ := by
  lift x to ℝ using hx
  lift y to ℝ using hy
  rw [← EReal.coe_mul]
  exact ⟨EReal.coe_ne_top _, EReal.coe_ne_bot _⟩

theorem sum_ne_top {n : ℕ} (f : Fin n → EReal) (h : ∀ t, f t ≠ ⊤ ∧ f t ≠ ⊥) : (∑ t, f t) ≠ ⊤ := by
  have : ∀ t : Finset (Fin n), (∑ i ∈ t, f i) ≠ ⊤ := fun t => by
    induction t using Finset.induction_on with
    | empty => simp
    | insert a s ha ih => rw [Finset.sum_insert ha]; exact EReal.add_ne_top (h a).1 ih
  exact this _

end Cert.AttnRow

end
-- ==== Proof.Attn.Mask.lean ====
/- The mask bit of the attention kernel as a condition on naturals: which of the 640 slots of a row are read. -/
module

public import Idealize.ShloMosaic.Lib.Pointwise
public import Idealize.ShloMosaic.Lib.WordCmp

@[expose] public section

namespace Cert.AttnRow

open Idealize.ShloMosaic

/-- Slot `t` of row `r` of block `g` is read: a context slot, or a slot whose key lies within 128 of the row and
    inside the sequence. -/
def Reads (g r t : ℕ) : Prop := 384 ≤ t ∨ ((t ≤ r + 256 ∧ r ≤ t) ∧ 128 ≤ 128 * g + t ∧ 128 * g + t < 4224)

instance (g r t : ℕ) : Decidable (Reads g r t) := inferInstanceAs (Decidable (_ ∨ _))

theorem cmpi_sle_of_toInt (a b : BitVec 32) (P : Prop) [Decidable P] (h : a.toInt ≤ b.toInt ↔ P) :
    IntOp.cmpi .sle a b = BitVec.ofBool (decide P) := by
  show BitVec.ofBool (a.sle b) = _
  rw [BitVec.sle_eq_decide]
  exact congrArg _ (decide_eq_decide.2 h)

theorem cmpi_slt_of_toInt (a b : BitVec 32) (P : Prop) [Decidable P] (h : a.toInt < b.toInt ↔ P) :
    IntOp.cmpi .slt a b = BitVec.ofBool (decide P) := by
  show BitVec.ofBool (a.slt b) = _
  rw [BitVec.slt_eq_decide]
  exact congrArg _ (decide_eq_decide.2 h)

theorem cmpi_sge_of_toInt (a b : BitVec 32) (P : Prop) [Decidable P] (h : b.toInt ≤ a.toInt ↔ P) :
    IntOp.cmpi .sge a b = BitVec.ofBool (decide P) := by
  show BitVec.ofBool (b.sle a) = _
  rw [BitVec.sle_eq_decide]
  exact congrArg _ (decide_eq_decide.2 h)

theorem toInt_small (a : ℕ) (h : a < 2147483648) : (BitVec.ofNat 32 a).toInt = a := WordCmp.toInt_ofNat_of_lt (by omega)

/-- The distance of a slot from its row, as the kernel takes it. -/
theorem dist_toInt (r t : ℕ) (hr : r < 4096) (ht : t < 8192) :
    (IntOp.absi (IntOp.subi (BitVec.ofNat 32 t) (BitVec.ofNat 32 r))).toInt = ((t : ℤ) - r).natAbs := by
  have hx : (IntOp.subi (BitVec.ofNat 32 t) (BitVec.ofNat 32 r)).toNat = (4294967296 - r + t) % 4294967296 := by
    show (BitVec.ofNat 32 t - BitVec.ofNat 32 r).toNat = _
    rw [BitVec.toNat_sub, BitVec.toNat_ofNat, BitVec.toNat_ofNat]
    omega
  generalize IntOp.subi (BitVec.ofNat 32 t) (BitVec.ofNat 32 r) = x at hx
  unfold IntOp.absi
  rw [BitVec.msb_eq_decide]
  split
  · rename_i hm
    simp only [decide_eq_true_eq] at hm
    rw [BitVec.toInt_eq_toNat_cond, BitVec.toNat_neg]
    split <;> omega
  · rename_i hm
    simp only [decide_eq_true_eq] at hm
    rw [BitVec.toInt_eq_toNat_cond]
    split <;> omega

/-- The position of a slot's key, as the kernel takes it: from 128 before the block. -/
theorem pos_toInt (g t : ℕ) (hg : g < 32) (ht : t < 640) :
    (IntOp.addi (Scalar.subi (Scalar.muli (BitVec.ofNat 32 g) 128#32) 128#32) (BitVec.ofNat 32 t)).toInt = (128 * g + t : ℤ) - 128 := by
  show (BitVec.ofNat 32 g * 128#32 - 128#32 + BitVec.ofNat 32 t).toInt = _
  have hx : (BitVec.ofNat 32 g * 128#32 - 128#32 + BitVec.ofNat 32 t).toNat = (4294967296 - 128 + (128 * g + t)) % 4294967296 := by
    rw [BitVec.toNat_add, BitVec.toNat_sub, BitVec.toNat_mul, BitVec.toNat_ofNat, BitVec.toNat_ofNat, BitVec.toNat_ofNat]
    omega
  rw [BitVec.toInt_eq_toNat_cond, hx]
  split <;> omega

/-- The mask bit. -/
theorem bit_eq (g r t : ℕ) (hg : g < 32) (hr : r < 128) (ht : t < 640) (k : BitVec 32) (hk : k = 128#32) :
    IntOp.cmpi .sgt
      (Scalar.select (IntOp.cmpi .sge (BitVec.ofNat 32 t) 384#32) (1#32)
        (Scalar.select (IntOp.cmpi .sle (IntOp.absi (IntOp.subi (IntOp.subi (BitVec.ofNat 32 t) k) (BitVec.ofNat 32 r))) 128#32)
          (Scalar.select (IntOp.cmpi .sge (IntOp.addi (Scalar.subi (Scalar.muli (BitVec.ofNat 32 g) 128#32) 128#32) (BitVec.ofNat 32 t)) 0#32)
            (Scalar.select (IntOp.cmpi .slt (IntOp.addi (Scalar.subi (Scalar.muli (BitVec.ofNat 32 g) 128#32) 128#32) (BitVec.ofNat 32 t)) 4096#32)
              1#32 0#32) 0#32) 0#32)) 0#32 = BitVec.ofBool (decide (Reads g r t)) := by
  subst hk
  have e1 : IntOp.subi (IntOp.subi (BitVec.ofNat 32 t) 128#32) (BitVec.ofNat 32 r)
      = IntOp.subi (BitVec.ofNat 32 t) (BitVec.ofNat 32 (r + 128)) := by
    apply BitVec.eq_of_toNat_eq
    show (BitVec.ofNat 32 t - 128#32 - BitVec.ofNat 32 r).toNat = (BitVec.ofNat 32 t - BitVec.ofNat 32 (r + 128)).toNat
    simp only [BitVec.toNat_sub, BitVec.toNat_ofNat]
    omega
  rw [e1,
    cmpi_sge_of_toInt (BitVec.ofNat 32 t) 384#32 (384 ≤ t) (by
      rw [toInt_small t (by omega), show (384#32 : BitVec 32).toInt = 384 from rfl]; omega),
    cmpi_sle_of_toInt _ 128#32 (t ≤ r + 256 ∧ r ≤ t) (by
      rw [dist_toInt (r + 128) t (by omega) (by omega), show (128#32 : BitVec 32).toInt = 128 from rfl]; omega),
    cmpi_sge_of_toInt _ 0#32 (128 ≤ 128 * g + t) (by
      rw [pos_toInt g t hg ht, show (0#32 : BitVec 32).toInt = 0 from rfl]; omega),
    cmpi_slt_of_toInt _ 4096#32 (128 * g + t < 4224) (by
      rw [pos_toInt g t hg ht, show (4096#32 : BitVec 32).toInt = 4096 from rfl]; omega)]
  unfold Reads
  by_cases h1 : 384 ≤ t <;> by_cases h2 : t ≤ r + 256 ∧ r ≤ t <;> by_cases h3 : 128 ≤ 128 * g + t <;>
    by_cases h4 : 128 * g + t < 4224 <;> simp only [h1, h2, h3, h4] <;> decide

end Cert.AttnRow
-- ==== Proof.Attn.Payload.lean ====
/- What the attention kernel's payloads compute at an index: each entry of the output block is one row of
   `AttnRow.late` over the 640 slots of the window and the context. -/
module

public import proofs.«01_k».proof.Proof.Attn.Softmax
public import proofs.«01_k».proof.Proof.Attn.Mask
public import proofs.«01_k».proof.Proof.Gen.AttnIdeal.Skeleton

@[expose] public section

set_option maxRecDepth 16384

noncomputable section

namespace Cert.AttnRow

open Idealize.ShloMosaic Idealize.ShloMosaic.TcCoe Idealize.SL.Sem
open Cert.AttnIdeal Cert.AttnIdeal.Gen

/-- One entry of the output block: row `r`, lane `e` (head `e / 64`, whose keys are lanes of head pair `e / 256`). -/
def cell (Q : FVec Ideal S128x512 .bf16) (K X : FVec Ideal S640x128 .bf16) (g : ℕ) (z : EReal) (r : Fin 128) (e : Fin 512) : EReal :=
  late (fun t : Fin 640 => if Reads g r t then
      ∑ x : Fin 64, Q (ix2 r ⟨(e : ℕ) / 64 * 64 + x, by omega⟩) * K (ix2 t ⟨(e : ℕ) / 256 * 64 + x, by omega⟩) else ⊥)
    z (fun t => X (ix2 t ⟨(e : ℕ) / 256 * 64 + (e : ℕ) % 64, by omega⟩))

theorem late_congr {n : ℕ} {s s' v v' : Fin n → EReal} {z z' : EReal} (hs : ∀ t, s t = s' t) (hz : z = z') (hv : ∀ t, v t = v' t) :
    late s z v = late s' z' v' := by rw [funext hs, hz, funext hv]

theorem named_mask : (Named.named κ "mask" 4048155338#32 : Ideal .f32) = (⊥ : EReal) := rfl

theorem select_bit (P : Prop) [Decidable P] (a b : EReal) : Scalar.select (BitVec.ofBool (decide P)) a b = if P then a else b := by
  by_cases h : P <;> simp [h, Scalar.select]

theorem pay7_at (g : Fin 32) (i : grid0.Coords) (hi : ((i 1 : Fin _) : ℕ) = g) (k : BitVec 32) (hk : k = 128#32) (r' : Fin 512) (t : Fin 640) :
    k0_pay7 (iota .tc S128x640 32 [0] iota_S128x640_d0_w32) (iota .tc S128x640 32 [1] iota_S128x640_d1_w32) (k0_pay6 i) k (ix2 r' t)
      = BitVec.ofBool (decide (Reads g ((r' : ℕ) % 128) t)) := by
  pointwise [k0_pay7, k0_pay6]
  rw [hi]
  have hr := r'.isLt
  split
  · rw [bit_eq g r' t g.isLt (by omega) t.isLt k hk, Nat.mod_eq_of_lt (by omega)]
  · split
    · rw [bit_eq g _ t g.isLt (by omega) t.isLt k hk, show (r' : ℕ) - 128 = r' % 128 by omega]
    · split
      · rw [bit_eq g _ t g.isLt (by omega) t.isLt k hk, show (r' : ℕ) - 128 - 128 = r' % 128 by omega]
      · rw [bit_eq g _ t g.isLt (by omega) t.isLt k hk, show (r' : ℕ) - 128 - 128 - 128 = r' % 128 by omega]

theorem pay11_at (x : FVec Ideal S640x64 .bf16) (z : FVec Ideal S512x1 .f32) (s : FVec Ideal S512x640 .f32) (i : Fin 512) (d : Fin 64) :
    k0_pay11 x z s (ix2 i d) = late (fun t => s (ix2 i t)) (z (ix2 i 0)) (fun t => x (ix2 t d)) := by
  pointwise [k0_pay11]
  rfl

theorem pay19_at (mk : IVec S512x640 1) (k : FVec Ideal S640x64 .bf16) (x : FVec Ideal S640x64 .bf16) (q : FVec Ideal S512x64 .bf16)
    (z0 z1 z2 z3 : Elt Ideal .f32) (i : Fin 512) (d : Fin 64) :
    k0_pay19 mk k x q z0 z1 z2 z3 (ix2 i d)
      = late (fun t => Scalar.select (mk (ix2 i t)) (∑ l : Fin 64, q (ix2 i l) * k (ix2 t l)) (⊥ : EReal))
          (k0_pay9 z0 z1 z2 z3 (ix2 i 0)) (fun t => x (ix2 t d)) := by
  pointwise [k0_pay19, k0_pay9]
  rfl

end Cert.AttnRow

end
-- ==== Proof.Attn.Pair.lean ====
/- The two head pairs of the attention kernel's block, entry by entry. -/
module

public import proofs.«01_k».proof.Proof.Attn.Payload
public import Idealize.ShloMosaic.Lib.Pipeline.ValueKit

@[expose] public section

set_option maxRecDepth 16384

noncomputable section

namespace Cert.AttnRow

open Idealize.ShloMosaic Idealize.ShloMosaic.TcCoe Idealize.SL.Sem
open Cert.AttnIdeal Cert.AttnIdeal.Gen

/-- The first head pair's tensor at row `i` (head `i / 128`, row `i % 128` of the block). -/
theorem pairA (Q : FVec Ideal S128x512 .bf16) (K X : FVec Ideal S640x128 .bf16) (g : Fin 32) (i : grid0.Coords)
    (hi : ((i 1 : Fin _) : ℕ) = g) (z0 z1 z2 z3 : Elt Ideal .f32) (j : Fin 512) (d : Fin 64) (r : Fin 128) (e : Fin 512)
    (hr : (r : ℕ) = j % 128) (he : (e : ℕ) = (j : ℕ) / 128 * 64 + d) (z : EReal) (hz : k0_pay9 (F := Ideal) z0 z1 z2 z3 (ix2 j 0) = z) :
    k0_pay11 (k0_pay8 X) (k0_pay9 z0 z1 z2 z3)
      (k0_pay10 Q K (iota .tc S128x640 32 [0] iota_S128x640_d0_w32) (iota .tc S128x640 32 [1] iota_S128x640_d1_w32) (k0_pay6 i) 128#32) (ix2 j d)
      = cell Q K X g z r e := by
  have hj := j.isLt
  have hd := d.isLt
  rw [pay11_at]
  refine late_congr (fun t => ?_) hz fun t => ?_
  · pointwise [k0_pay10]
    rw [pay7_at g i hi _ rfl, named_mask, ← hr]
    refine (select_bit _ _ _).trans (if_congr Iff.rfl (Fin.sum_fin_congr fun x => ?_) rfl)
    have hx := x.isLt
    blk_point []
  · pointwise [k0_pay8]
    blk_ext

/-- The second head pair's tensor at row `i` (head `4 + i / 128`). -/
theorem pairB (Q : FVec Ideal S128x512 .bf16) (K X : FVec Ideal S640x128 .bf16) (g : Fin 32) (i : grid0.Coords)
    (hi : ((i 1 : Fin _) : ℕ) = g) (z0 z1 z2 z3 : Elt Ideal .f32) (j : Fin 512) (d : Fin 64) (r : Fin 128) (e : Fin 512)
    (hr : (r : ℕ) = j % 128) (he : (e : ℕ) = 256 + ((j : ℕ) / 128 * 64 + d)) (z : EReal) (hz : k0_pay9 (F := Ideal) z0 z1 z2 z3 (ix2 j 0) = z) :
    k0_pay19 (k0_pay7 (iota .tc S128x640 32 [0] iota_S128x640_d0_w32) (iota .tc S128x640 32 [1] iota_S128x640_d1_w32) (k0_pay6 i) 128#32)
      (k0_pay16 K) (k0_pay17 X) (k0_pay18 Q) z0 z1 z2 z3 (ix2 j d)
      = cell Q K X g z r e := by
  have hj := j.isLt
  have hd := d.isLt
  rw [pay19_at]
  refine late_congr (fun t => ?_) hz fun t => ?_
  · rw [pay7_at g i hi _ rfl, ← hr]
    refine (select_bit _ _ _).trans (if_congr Iff.rfl (Fin.sum_fin_congr fun x => ?_) rfl)
    have hx := x.isLt
    pointwise [k0_pay18, k0_pay16]
    blk_point []
  · pointwise [k0_pay17]
    blk_ext

end Cert.AttnRow

end
-- ==== Proof.Attn.Row.lean ====
/- The attention as one function of its arguments, entry by entry: each query row against every key within 128 of it,
   the context and the sink. -/
module

public import proofs.«01_k».proof.Proof.Attn.Softmax

@[expose] public section

noncomputable section

namespace Cert.AttnRow

open Idealize.ShloMosaic

/-- The score of the query of lane `e`'s head at row `i` against the key rows `k` of its head pair. -/
def score {n : ℕ} (q : (⟨3, ![8, 4096, 512]⟩ : Shape).Idx → EReal) (k : (⟨3, ![8, n, 128]⟩ : Shape).Idx → EReal)
    (b : Fin 8) (i : Fin 4096) (e : Fin 512) (j : Fin n) : EReal :=
  ∑ x : Fin 64, q (ix3 b i ⟨(e : ℕ) / 64 * 64 + x, by omega⟩) * k (ix3 b j ⟨(e : ℕ) / 256 * 64 + x, by omega⟩)

/-- Key `j` is in the window of row `i`. -/
def Near (i j : Fin 4096) : Prop := (j : ℕ) ≤ i + 128 ∧ (i : ℕ) ≤ j + 128

instance (i j : Fin 4096) : Decidable (Near i j) := inferInstanceAs (Decidable (_ ∧ _))

/-- One entry of the attention's output. -/
def entry (z : (⟨1, ![8]⟩ : Shape).Idx → EReal) (q : (⟨3, ![8, 4096, 512]⟩ : Shape).Idx → EReal)
    (k v : (⟨3, ![8, 4096, 128]⟩ : Shape).Idx → EReal) (ck cv : (⟨3, ![8, 256, 128]⟩ : Shape).Idx → EReal)
    (b : Fin 8) (i : Fin 4096) (e : Fin 512) : EReal :=
  early (fun j => if Near i j then score q k b i e j else ⊥) (fun c => score q ck b i e c)
    (z (ix1 ⟨(e : ℕ) / 64, by omega⟩))
    (fun j => v (ix3 b j ⟨(e : ℕ) / 256 * 64 + (e : ℕ) % 64, by omega⟩))
    (fun c => cv (ix3 b c ⟨(e : ℕ) / 256 * 64 + (e : ℕ) % 64, by omega⟩))

/-- The whole output. -/
def attn (z : (⟨1, ![8]⟩ : Shape).Idx → EReal) (q : (⟨3, ![8, 4096, 512]⟩ : Shape).Idx → EReal)
    (k v : (⟨3, ![8, 4096, 128]⟩ : Shape).Idx → EReal) (ck cv : (⟨3, ![8, 256, 128]⟩ : Shape).Idx → EReal) :
    (⟨3, ![8, 4096, 512]⟩ : Shape).Idx → EReal :=
  fun j => entry z q k v ck cv (j 0) (j 1) (j 2)

/-- Every entry of an array is a real. -/
def Real {s : Shape} (x : s.Idx → EReal) : Prop := ∀ i, x i ≠ ⊤ ∧ x i ≠ ⊥

theorem score_ne_top {n : ℕ} {q : (⟨3, ![8, 4096, 512]⟩ : Shape).Idx → EReal} {k : (⟨3, ![8, n, 128]⟩ : Shape).Idx → EReal}
    (hq : Real q) (hk : Real k) (b : Fin 8) (i : Fin 4096) (e : Fin 512) (j : Fin n) : score q k b i e j ≠ ⊤ :=
  sum_ne_top _ fun x => mul_real (hq _) (hk _)

end Cert.AttnRow

end
-- ==== Proof.Attn.Kernel.lean ====
/- The attention kernel's output array: block by block, every entry is the attention's. -/
module

public import proofs.«01_k».proof.Proof.Attn.Pair
public import proofs.«01_k».proof.Proof.Attn.Row
public import proofs.«01_k».proof.Proof.Gen.AttnIdeal.Value

@[expose] public section

set_option maxRecDepth 16384

noncomputable section

namespace Cert.AttnRow

open Idealize.ShloMosaic Idealize.ShloMosaic.TcCoe Idealize.SL.Sem
open Idealize.ShloMosaic.Pipeline (Dat)
open Cert.AttnIdeal Cert.AttnIdeal.Gen

variable (m : (ℓ : Loc nD τ sig) → Buf (Elt Ideal) ℓ)

theorem idx : ∀ t : Fin cfg0.N, win0_0.index t = ![0] ∧ win0_1.index t = ![t.val / 32, t.val % 32, 0]
    ∧ win0_2.index t = ![t.val / 32, t.val % 32 - 1, 0] ∧ win0_3.index t = ![t.val / 32, t.val % 32, 0]
    ∧ win0_4.index t = ![t.val / 32, min (t.val % 32 + 1) 31, 0]
    ∧ win0_5.index t = ![t.val / 32, t.val % 32 - 1, 0] ∧ win0_6.index t = ![t.val / 32, t.val % 32, 0]
    ∧ win0_7.index t = ![t.val / 32, min (t.val % 32 + 1) 31, 0]
    ∧ win0_8.index t = ![t.val / 32, 0, 0] ∧ win0_9.index t = ![t.val / 32, 0, 0]
    ∧ win0_10.index t = ![t.val / 32, t.val % 32, 0] :=
  (by decide +kernel : ∀ t : Fin grid0.N, _)

theorem coord : ∀ t : Fin cfg0.N, ((grid0.coords t 1 : Fin _) : ℕ) = t.val % 32 := (by decide +kernel : ∀ t : Fin grid0.N, _)

/-- What a point leaves in the output's buffer, entry by entry. -/
theorem outs_cell (c : Dev nD) (t : Fin cfg0.N) (y : S1x128x512.Idx) (g : Fin 32) (hg : t.val % 32 = g) (r : Fin 128) (e : Fin 512)
    (hr : (r : ℕ) = y 1) (he : (e : ℕ) = y 2) :
    outsAt0 m c t y = cell (k0_pay3 (iblk m c 1 t)) (k0_pay4 (iblk m c 2 t) (iblk m c 3 t) (iblk m c 4 t) (iblk m c 8 t))
      (k0_pay5 (iblk m c 5 t) (iblk m c 6 t) (iblk m c 7 t) (iblk m c 9 t)) g
      ((show FVec Ideal S8 .f32 from iblk m c 0 t) (ix1 ⟨(e : ℕ) / 64, by omega⟩)) r e := by
  have hi := (coord t).trans hg
  unfold outsAt0
  frame_out
  canon_tiles x h
  case piece0 =>
    unfold k0_pay2
    pointwise
    refine pairB _ _ _ g _ hi _ _ _ _ _ _ r e (by simp only; omega) (by simp only; omega) _ ?_
    pointwise [k0_pay9]
    blk_point []
  case piece1 =>
    unfold k0_pay1 k0_pay22
    pointwise
    refine pairB _ _ _ g _ hi _ _ _ _ _ _ r e (by simp only; omega) (by simp only; omega) _ ?_
    pointwise [k0_pay9]
    blk_point []
  case piece2 =>
    unfold k0_pay21
    pointwise
    refine pairB _ _ _ g _ hi _ _ _ _ _ _ r e (by simp only; omega) (by simp only; omega) _ ?_
    pointwise [k0_pay9]
    blk_point []
  case piece3 =>
    unfold k0_pay20
    pointwise
    refine pairB _ _ _ g _ hi _ _ _ _ _ _ r e (by simp only; omega) (by simp only; omega) _ ?_
    pointwise [k0_pay9]
    blk_point []
  case piece4 =>
    unfold k0_pay15
    pointwise
    refine pairA _ _ _ g _ hi _ _ _ _ _ _ r e (by simp only; omega) (by simp only; omega) _ ?_
    pointwise [k0_pay9]
    blk_point []
  case piece5 =>
    unfold k0_pay14
    pointwise
    refine pairA _ _ _ g _ hi _ _ _ _ _ _ r e (by simp only; omega) (by simp only; omega) _ ?_
    pointwise [k0_pay9]
    blk_point []
  case piece6 =>
    unfold k0_pay13
    pointwise
    refine pairA _ _ _ g _ hi _ _ _ _ _ _ r e (by simp only; omega) (by simp only; omega) _ ?_
    pointwise [k0_pay9]
    blk_point []
  case piece7 =>
    unfold k0_pay12
    pointwise
    refine pairA _ _ _ g _ hi _ _ _ _ _ _ r e (by simp only; omega) (by simp only; omega) _ ?_
    pointwise [k0_pay9]
    blk_point []

abbrev A0 (c : Dev nD) : FVec Ideal S8 .f32 := m ((c : Thread nD τ).loc main_arg0)
abbrev A1 (c : Dev nD) : FVec Ideal S8x4096x512 .bf16 := m ((c : Thread nD τ).loc main_arg1)
abbrev A2 (c : Dev nD) : FVec Ideal S8x4096x128 .f32 := m ((c : Thread nD τ).loc main_arg2)
abbrev A3 (c : Dev nD) : FVec Ideal S8x4096x128 .f32 := m ((c : Thread nD τ).loc main_arg3)
abbrev A4 (c : Dev nD) : FVec Ideal S8x256x128 .f32 := m ((c : Thread nD τ).loc main_arg4)
abbrev A5 (c : Dev nD) : FVec Ideal S8x256x128 .f32 := m ((c : Thread nD τ).loc main_arg5)

section Blocks

variable (c : Dev nD) (t : Fin cfg0.N) (b : Fin 8) (g : Fin 32) (hb : t.val / 32 = b) (hg : t.val % 32 = g)
include hb hg

theorem q_at (r : Fin 128) (i : Fin 4096) (hi : (i : ℕ) = 128 * g + r) (l : Fin 512) :
    k0_pay3 (F := Ideal) (iblk m c 1 t) (ix2 r l) = A1 m c (ix3 b i l) := by
  pointwise [k0_pay3]
  blk_point [iblk, V, idx t]

theorem k_at (s : Fin 640) (j : Fin 4096) (hs : (s : ℕ) < 384) (hj : (j : ℕ) + 128 = 128 * g + s) (l : Fin 128) :
    k0_pay4 (F := Ideal) (iblk m c 2 t) (iblk m c 3 t) (iblk m c 4 t) (iblk m c 8 t) (ix2 s l) = A2 m c (ix3 b j l) := by
  pointwise [k0_pay4]
  blk_point [iblk, V, idx t]
  all_goals (exfalso; omega)

theorem ck_at (s : Fin 640) (j : Fin 256) (hj : (s : ℕ) = 384 + j) (l : Fin 128) :
    k0_pay4 (F := Ideal) (iblk m c 2 t) (iblk m c 3 t) (iblk m c 4 t) (iblk m c 8 t) (ix2 s l) = A4 m c (ix3 b j l) := by
  pointwise [k0_pay4]
  blk_point [iblk, V, idx t]
  all_goals (exfalso; omega)

theorem v_at (s : Fin 640) (j : Fin 4096) (hs : (s : ℕ) < 384) (hj : (j : ℕ) + 128 = 128 * g + s) (l : Fin 128) :
    k0_pay5 (F := Ideal) (iblk m c 5 t) (iblk m c 6 t) (iblk m c 7 t) (iblk m c 9 t) (ix2 s l) = A3 m c (ix3 b j l) := by
  pointwise [k0_pay5]
  blk_point [iblk, V, idx t]
  all_goals (exfalso; omega)

theorem cv_at (s : Fin 640) (j : Fin 256) (hj : (s : ℕ) = 384 + j) (l : Fin 128) :
    k0_pay5 (F := Ideal) (iblk m c 5 t) (iblk m c 6 t) (iblk m c 7 t) (iblk m c 9 t) (ix2 s l) = A5 m c (ix3 b j l) := by
  pointwise [k0_pay5]
  blk_point [iblk, V, idx t]
  all_goals (exfalso; omega)

theorem z_at (l : Fin 8) : (show FVec Ideal S8 .f32 from iblk m c 0 t) (ix1 l) = A0 m c (ix1 l) := by
  blk_point [iblk, V, idx t]

/-- An entry of the block is the attention's, where the scores are real. -/
theorem cell_eq (r : Fin 128) (i : Fin 4096) (hi : (i : ℕ) = 128 * g + r) (e : Fin 512)
    (h0 : Real (A0 m c)) (h1 : Real (A1 m c)) (h2 : Real (A2 m c)) (h4 : Real (A4 m c)) :
    cell (k0_pay3 (iblk m c 1 t)) (k0_pay4 (iblk m c 2 t) (iblk m c 3 t) (iblk m c 4 t) (iblk m c 8 t))
      (k0_pay5 (iblk m c 5 t) (iblk m c 6 t) (iblk m c 7 t) (iblk m c 9 t)) g
      ((show FVec Ideal S8 .f32 from iblk m c 0 t) (ix1 ⟨(e : ℕ) / 64, by omega⟩)) r e
      = entry (A0 m c) (A1 m c) (A2 m c) (A3 m c) (A4 m c) (A5 m c) b i e := by
  rw [z_at m c t b g hb hg]
  have hr := r.isLt
  refine late_eq_early (S := fun j => score (A1 m c) (A2 m c) b i e j) (V := fun j => A3 m c (ix3 b j ⟨(e : ℕ) / 256 * 64 + (e : ℕ) % 64, by omega⟩))
    (C := fun j => score (A1 m c) (A4 m c) b i e j) (U := fun j => A5 m c (ix3 b j ⟨(e : ℕ) / 256 * 64 + (e : ℕ) % 64, by omega⟩))
    (W := Near i) (base := 128 * g) ⟨?_, ?_, ?_, ?_⟩ _ (fun j h => if_pos h) (fun j h => if_neg h) _ (h0 _).1 (h0 _).2
    (fun j => score_ne_top h1 h2 _ _ _ _) (fun j => score_ne_top h1 h4 _ _ _ _)
  · intro j h; unfold Near at h; omega
  · intro s j hs h hj
    refine ⟨(if_pos ?_).trans (Finset.sum_congr rfl fun x _ => ?_), v_at m c t b g hb hg s j hs hj _⟩
    · unfold Near at h; unfold Reads; have := j.isLt; omega
    · rw [q_at m c t b g hb hg r i hi, k_at m c t b g hb hg s j hs hj]
  · intro s hs h
    refine if_neg fun hR => h ⟨⟨128 * g + s - 128, ?_⟩, ?_, ?_⟩
    · unfold Reads at hR; omega
    · unfold Reads at hR; unfold Near; simp only; omega
    · unfold Reads at hR; simp only; omega
  · intro s j hj
    refine ⟨(if_pos ?_).trans (Finset.sum_congr rfl fun x _ => ?_), cv_at m c t b g hb hg s j hj _⟩
    · unfold Reads; omega
    · rw [q_at m c t b g hb hg r i hi, ck_at m c t b g hb hg s j hj]

end Blocks

/-- The kernel's output array is the attention of its arguments. -/
theorem final (c : Dev nD) (h0 : Real (A0 m c)) (h1 : Real (A1 m c)) (h2 : Real (A2 m c)) (h4 : Real (A4 m c)) :
    (dats m 0 c).arrAt 10 cfg0.N = attn (A0 m c) (A1 m c) (A2 m c) (A3 m c) (A4 m c) (A5 m c) := by
  refine (dats m 0 c).arrAt_eq_of_covers 10 _ (by decide +kernel) fun t _ y => ?_
  have ht : t.val < 256 := lt_of_lt_of_eq t.isLt N_0
  blk_simp
  rw [after0_10]
  have y1 : (y 1 : ℕ) < 128 := (y 1).isLt
  have y2 : (y 2 : ℕ) < 512 := (y 2).isLt
  refine (outs_cell m c t y ⟨t.val % 32, by omega⟩ rfl ⟨(y 1 : ℕ), y1⟩ ⟨(y 2 : ℕ), y2⟩ rfl rfl).trans
    ((cell_eq m c t ⟨t.val / 32, by omega⟩ ⟨t.val % 32, by omega⟩ rfl rfl _ ⟨128 * (t.val % 32) + (y 1 : ℕ), by omega⟩ rfl _ h0 h1 h2 h4).trans ?_)
  unfold attn
  congr 1 <;> refine Fin.ext ?_ <;> blk_simp [idx t] <;> try (simp only; omega)

end Cert.AttnRow

end
-- ==== Proof.Attn.Ref.lean ====
/- The reference's value, entry by entry: the attention's. -/
module

public import proofs.«01_k».proof.Proof.Attn.Row
public import proofs.«01_k».proof.Proof.Attn.Mask
public import proofs.«01_k».proof.Proof.Gen.AttnRefIdeal.Read
public import Idealize.ShloMosaic.Lib.Pointwise
public import Idealize.ShloMosaic.Lib.Tactic.CleanTypes
public import Idealize.ShloMosaic.Lib.Pipeline.ValueKit

@[expose] public section

set_option maxRecDepth 16384

noncomputable section

namespace Cert.AttnRow.Ref

open Idealize.ShloMosaic Idealize.ShloMosaic.TcCoe Idealize.SL.Sem
open Cert.AttnRefIdeal Cert.AttnRefIdeal.Gen Cert.AttnRefIdeal.Read

theorem zero_bits : (FloatOps.ofBits .f32 0x00000000#32 : Ideal .f32) = (0 : EReal) := by
  show Ideal.ofBits .f32 0x00000000#32 = 0
  simp [Ideal.ofBits, Ideal.ieee]

/-- The row the reference normalises: the keys, the context, the sink. -/
theorem row_parts (f : Fin 4353 → EReal) (s : Fin 4096 → EReal) (u : Fin 256 → EReal) (z : EReal)
    (h1 : ∀ j : Fin 4096, f ⟨j, by omega⟩ = s j) (h2 : ∀ k : Fin 256, f ⟨4096 + k, by omega⟩ = u k) (h3 : f ⟨4352, by omega⟩ = z) :
    top f = shift s u z := by
  refine le_antisymm (top_le _ _ fun t => ?_) (max_le (max_le (top_le _ _ fun j => ?_) (top_le _ _ fun k => ?_)) ?_)
  · by_cases ht : (t : ℕ) < 4096
    · exact (h1 ⟨t, ht⟩).le.trans ((le_top s _).trans ((le_max_left _ _).trans (le_max_left _ _)))
    · by_cases ht' : (t : ℕ) < 4352
      · obtain ⟨k, hk⟩ : ∃ k : Fin 256, (t : ℕ) = 4096 + k := ⟨⟨(t : ℕ) - 4096, by omega⟩, (Nat.add_sub_cancel' (by omega)).symm⟩
        have ht'' : t = ⟨4096 + (k : ℕ), by omega⟩ := Fin.ext hk
        have : f t = u k := (congrArg f ht'').trans (h2 k)
        exact this.le.trans ((le_top u _).trans ((le_max_right _ _).trans (le_max_left _ _)))
      · have : f t = z := (congrArg f (Fin.ext (show (t : ℕ) = 4352 by omega))).trans h3
        exact this.le.trans (le_max_right _ _)
  · exact (h1 j).ge.trans (le_top f _)
  · exact (h2 k).ge.trans (le_top f _)
  · exact h3.ge.trans (le_top f _)

theorem sum_parts (f : Fin 4353 → EReal) : ∑ t, f t
    = ((∑ j : Fin 4096, f ⟨j, by omega⟩) + ∑ k : Fin 256, f ⟨4096 + k, by omega⟩) + f ⟨4352, by omega⟩ := by
  refine (Fin.sum_univ_add (a := 4352) (b := 1) f).trans ?_
  refine congrArg₂ (· + ·) ((Fin.sum_univ_add (a := 4096) (b := 256) fun i => f (Fin.castAdd 1 i)).trans rfl) (Fin.sum_univ_one _)

theorem select_near (P : Prop) [Decidable P] (a b : EReal) : Scalar.select (BitVec.ofBool (decide P)) a b = if P then a else b := by
  by_cases h : P <;> simp [h, Scalar.select]

theorem near_bit (i j : Fin 4096) :
    IntOp.cmpi .sle (IntOp.absi (IntOp.subi (BitVec.ofNat 32 j) (BitVec.ofNat 32 i))) 128#32 = BitVec.ofBool (decide (Near i j)) := by
  refine cmpi_sle_of_toInt _ _ _ ?_
  rw [dist_toInt i j (by omega) (by omega), show (128#32 : BitVec 32).toInt = 128 by decide]
  unfold Near
  omega

variable (x0 : FVec Ideal S8 .f32) (x1 : FVec Ideal S8x4096x512 .bf16) (x2 x3 : FVec Ideal S8x4096x128 .f32) (x4 x5 : FVec Ideal S8x256x128 .f32)
variable (b : Fin 8) (h : Fin 2) (g : Fin 4) (i : Fin 4096) (d : Fin 64) (e : Fin 512) (he : (e : ℕ) = (h * 4 + g) * 64 + d)
include he

theorem v15_at (j : Fin 4096) :
    val_main_v15 (F := Ideal) x1 x2 (ix5 b h g i j) = if Near i j then score x1 x2 b i e j else ⊥ := by
  rw [val_main_v15_apply, val_main_v13_apply, val_main_v12_apply]
  simp only [val_main_call0_v1_apply, val_main_call0_v2_apply, val_main_call0_v0_apply, val_main_cst_apply, val_main_v14_apply, val_main_v11_apply, val_main_v10_apply, val_main_v9_apply, val_main_v8_apply, val_main_v7_apply, val_main_v6_apply, val_main_c_apply, val_main_v2_apply, val_main_v1_apply, val_main_v0_apply]
  refine (congrArg (fun w => Scalar.select w _ _) (near_bit i j)).trans ((select_near _ _ _).trans ?_)
  refine if_congr Iff.rfl (Finset.sum_congr rfl fun x _ => ?_) rfl
  refine (mul_comm _ _).trans (congrArg₂ (· * ·) ?_ ?_)
  · pointwise
    blk_point []
  · pointwise
    blk_point []

theorem v17_at (j : Fin 256) :
    val_main_v17 (F := Ideal) x1 x4 (ix5 b h g i j) = score x1 x4 b i e j := by
  rw [val_main_v17_apply, val_main_v16_apply]
  simp only [val_main_v4_apply, val_main_v1_apply, val_main_v0_apply]
  refine Finset.sum_congr rfl fun x _ => ?_
  refine (mul_comm _ _).trans (congrArg₂ (· * ·) ?_ ?_)
  · pointwise
    blk_point []
  · pointwise
    blk_point []

theorem v20_at (o : Fin 1) :
    val_main_v20 (F := Ideal) x0 (ix5 b h g i o) = x0 (ix1 ⟨(e : ℕ) / 64, by omega⟩) := by
  rw [val_main_v20_apply, val_main_v19_apply, val_main_v18_apply]
  pointwise
  blk_point []

/-- The row of scores the reference normalises. -/
abbrev row (t : Fin 4353) : EReal := val_main_v21 (F := Ideal) x0 x1 x2 x4 (ix5 b h g i t)

theorem row_keys (j : Fin 4096) : row x0 x1 x2 x4 b h g i ⟨j, by omega⟩ = if Near i j then score x1 x2 b i e j else ⊥ := by
  rw [← v15_at x1 x2 b h g i d e he j]
  unfold row val_main_v21
  generalize val_main_v15 (F := Ideal) x1 x2 = y0
  generalize val_main_v17 (F := Ideal) x1 x4 = y1
  generalize val_main_v20 (F := Ideal) x0 = y2
  clean_types
  pointwise

theorem row_ctx (j : Fin 256) : row x0 x1 x2 x4 b h g i ⟨4096 + j, by omega⟩ = score x1 x4 b i e j := by
  rw [← v17_at x1 x4 b h g i d e he j]
  unfold row val_main_v21
  generalize val_main_v15 (F := Ideal) x1 x2 = y0
  generalize val_main_v17 (F := Ideal) x1 x4 = y1
  generalize val_main_v20 (F := Ideal) x0 = y2
  clean_types
  pointwise

theorem row_sink : row x0 x1 x2 x4 b h g i ⟨4352, by omega⟩ = x0 (ix1 ⟨(e : ℕ) / 64, by omega⟩) := by
  rw [← v20_at x0 b h g i d e he 0]
  unfold row val_main_v21
  generalize val_main_v15 (F := Ideal) x1 x2 = y0
  generalize val_main_v17 (F := Ideal) x1 x4 = y1
  generalize val_main_v20 (F := Ideal) x0 = y2
  clean_types
  pointwise

/-- The shift the reference takes. -/
theorem v24_at : val_main_v24 (F := Ideal) x0 x1 x2 x4 (ix4 b h g i)
    = shift (fun j => if Near i j then score x1 x2 b i e j else ⊥) (fun c => score x1 x4 b i e c) (x0 (ix1 ⟨(e : ℕ) / 64, by omega⟩)) := by
  rw [← row_parts (row x0 x1 x2 x4 b h g i) _ _ _ (row_keys x0 x1 x2 x4 b h g i d e he) (row_ctx x0 x1 x2 x4 b h g i d e he)
    (row_sink x0 x1 x2 x4 b h g i d e he)]
  rw [val_main_v24_apply, val_main_v23_apply, val_main_cst_1_apply]
  refine (max_eq_right (bot_le : (⊥ : EReal) ≤ _)).trans ?_
  unfold val_main_v22 row
  generalize val_main_v21 (F := Ideal) x0 x1 x2 x4 = y
  refine (Host.reduce_eq_fold_single _ _ _ _ (by decide) _ _).trans ?_
  refine congrArg (fun f => Finset.fold max ⊥ f Finset.univ) (funext fun t => congrArg y (funext fun a => Fin.ext ?_))
  match a with | ⟨0, _⟩ => rfl | ⟨1, _⟩ => rfl | ⟨2, _⟩ => rfl | ⟨3, _⟩ => rfl | ⟨4, _⟩ => rfl

theorem v28_at (t : Fin 4353) : val_main_v28 (F := Ideal) x0 x1 x2 x4 (ix5 b h g i t)
    = Ideal.exp (row x0 x1 x2 x4 b h g i t - shift (fun j => if Near i j then score x1 x2 b i e j else ⊥) (fun c => score x1 x4 b i e c) (x0 (ix1 ⟨(e : ℕ) / 64, by omega⟩))) := by
  rw [val_main_v28_apply, val_main_v27_apply, val_main_v26_apply, val_main_v25_apply,
    show idx_main_v25 (idx_main_v26 (ix5 b h g i t)) = ix4 b h g i from funext fun a => Fin.ext (by match a with | ⟨0, _⟩ => rfl | ⟨1, _⟩ => rfl | ⟨2, _⟩ => rfl | ⟨3, _⟩ => rfl),
    ← v24_at x0 x1 x2 x4 b h g i d e he]
  unfold row
  generalize val_main_v24 (F := Ideal) x0 x1 x2 x4 _ = y
  generalize val_main_v21 (F := Ideal) x0 x1 x2 x4 _ = y'
  rfl

theorem v32_at (t : Fin 4353) : val_main_v32 (F := Ideal) x0 x1 x2 x4 (ix5 b h g i t)
    = Ideal.div (Ideal.exp (row x0 x1 x2 x4 b h g i t - shift (fun j => if Near i j then score x1 x2 b i e j else ⊥) (fun c => score x1 x4 b i e c) (x0 (ix1 ⟨(e : ℕ) / 64, by omega⟩))))
      (denom (fun j => if Near i j then score x1 x2 b i e j else ⊥) (fun c => score x1 x4 b i e c) (x0 (ix1 ⟨(e : ℕ) / 64, by omega⟩))) := by
  rw [val_main_v32_apply, v28_at x0 x1 x2 x4 b h g i d e he, val_main_v31_apply, val_main_v30_apply,
    show idx_main_v30 (idx_main_v31 (ix5 b h g i t)) = ix4 b h g i from funext fun a => Fin.ext (by match a with | ⟨0, _⟩ => rfl | ⟨1, _⟩ => rfl | ⟨2, _⟩ => rfl | ⟨3, _⟩ => rfl),
    val_main_v29_apply]
  have hk : ∀ k : Fin 4353, idx_main_v29 (ix4 b h g i) k = ix5 b h g i k := fun k =>
    funext fun a => Fin.ext (by match a with | ⟨0, _⟩ => rfl | ⟨1, _⟩ => rfl | ⟨2, _⟩ => rfl | ⟨3, _⟩ => rfl | ⟨4, _⟩ => rfl)
  simp only [hk, v28_at x0 x1 x2 x4 b h g i d e he]
  rw [sum_parts, val_main_cst_2_apply]
  simp only [row_keys x0 x1 x2 x4 b h g i d e he, row_ctx x0 x1 x2 x4 b h g i d e he, row_sink x0 x1 x2 x4 b h g i d e he]
  rw [zero_bits]
  unfold denom
  generalize Ideal.exp _ = p
  generalize (∑ j : Fin 4096, Ideal.exp _) = p1
  generalize (∑ j : Fin 256, Ideal.exp _) = p2
  generalize Ideal.exp _ = p3
  exact congrArg (Ideal.div p) (zero_add (M := EReal) _)

set_option maxHeartbeats 1000000 in
theorem v39_at : val_main_v39 (F := Ideal) x0 x1 x2 x3 x4 x5 (ix5 b i h g d) = entry x0 x1 x2 x3 x4 x5 b i e := by
  rw [val_main_v39_apply, val_main_v35_apply, val_main_v34_apply, val_main_v38_apply, val_main_v37_apply]
  unfold entry early
  refine congrArg₂ (· + ·) (Finset.sum_congr rfl fun j _ => ?_) (Finset.sum_congr rfl fun j _ => ?_)
  · refine (mul_comm _ _).trans (congrArg₂ (· * ·) ?_ ?_)
    · rw [val_main_v33_apply]
      refine (congrArg (val_main_v32 (F := Ideal) x0 x1 x2 x4) (?_ : _ = ix5 b h g i ⟨(j : ℕ), by omega⟩)).trans ?_
      · exact funext fun a => Fin.ext (by match a with | ⟨0, _⟩ => rfl | ⟨1, _⟩ => rfl | ⟨2, _⟩ => rfl | ⟨3, _⟩ => rfl | ⟨4, _⟩ => rfl)
      rw [v32_at x0 x1 x2 x4 b h g i d e he]
      rw [row_keys x0 x1 x2 x4 b h g i d e he j]
    · rw [val_main_v3_apply]
      pointwise
      blk_point []
      have : ((((b : ℕ) * 4096 + j) * 2 + h) * 64 + d) / 128 = b * 4096 + j := by omega
      all_goals omega
  · refine (mul_comm _ _).trans (congrArg₂ (· * ·) ?_ ?_)
    · rw [val_main_v36_apply]
      refine (congrArg (val_main_v32 (F := Ideal) x0 x1 x2 x4) (?_ : _ = ix5 b h g i ⟨4096 + (j : ℕ), by omega⟩)).trans ?_
      · exact funext fun a => Fin.ext (by match a with | ⟨0, _⟩ => rfl | ⟨1, _⟩ => rfl | ⟨2, _⟩ => rfl | ⟨3, _⟩ => rfl | ⟨4, _⟩ => rfl)
      rw [v32_at x0 x1 x2 x4 b h g i d e he, row_ctx x0 x1 x2 x4 b h g i d e he j]
    · rw [val_main_v5_apply]
      pointwise
      blk_point []
      have : ((((b : ℕ) * 256 + j) * 2 + h) * 64 + d) / 128 = b * 256 + j := by omega
      all_goals omega

omit he in
/-- The reference's result is the attention of its arguments. -/
theorem value : val_main_v41 (F := Ideal) x0 x1 x2 x3 x4 x5 = attn x0 x1 x2 x3 x4 x5 := by
  funext j
  obtain ⟨b, i, e, rfl⟩ : ∃ b i e, j = ix3 b i e := ⟨j 0, j 1, j 2, eq_ix3 j⟩
  refine Eq.trans ?_ (v39_at x0 x1 x2 x3 x4 x5 b ⟨(e : ℕ) / 256, by omega⟩ ⟨(e : ℕ) / 64 % 4, by omega⟩ i ⟨(e : ℕ) % 64, by omega⟩ e (by simp only; omega))
  rw [val_main_v41_apply, val_main_v40_apply]
  generalize val_main_v39 (F := Ideal) x0 x1 x2 x3 x4 x5 = y
  pointwise
  blk_point []

end Cert.AttnRow.Ref

end
-- ==== Proof.Attn.Claim.lean ====
/- The attention's claims: the reference's frame, and that kernel and reference agree. -/
module

public import proofs.«01_k».proof.Defs
public import proofs.«01_k».proof.Proof.Attn.Kernel
public import proofs.«01_k».proof.Proof.Attn.Ref
public import proofs.«01_k».proof.Proof.Gen.AttnRefIdeal.Run
public import proofs.«01_k».proof.Proof.Gen.Pre_scores_finite
public import Idealize.ShloMosaic.Lib.Claim
public import Idealize.ShloMosaic.Lib.Quiescent

@[expose] public section

set_option maxRecDepth 16384

noncomputable section

namespace Cert.AttnRow

open Idealize.ShloMosaic Idealize.SL.Sem

theorem real_of (a : EReal) (h : Ideal.cmp .olt (max a (-a)) (Ideal.ofBits .f32 0x7F800000#32) = 1#1) : a ≠ ⊤ ∧ a ≠ ⊥ := by
  have hb : Ideal.ofBits .f32 0x7F800000#32 = ⊤ := by simp [Ideal.ofBits, Ideal.ieee]
  rw [hb] at h
  constructor <;> rintro rfl <;> simp [Ideal.cmp] at h

theorem real_args (m : (ℓ : Loc Cert.AttnIdeal.nD Cert.AttnIdeal.τ Cert.AttnIdeal.sig) → Buf (Elt Ideal) ℓ)
    (hpre : Cert.Pre_AttnIdeal_scores_finite m) (c : Dev Cert.AttnIdeal.nD) :
    Real (A0 m c) ∧ Real (A1 m c) ∧ Real (A2 m c) ∧ Real (A4 m c) := by
  obtain ⟨h0, h1, h2, h4⟩ := hpre c
  exact ⟨fun i => real_of _ (congrFun h0 i), fun i => real_of _ (congrFun h1 i), fun i => real_of _ (congrFun h2 i), fun i => real_of _ (congrFun h4 i)⟩

theorem quiet : Cert.quiescent_AttnRefIdeal := by
  intro m g _
  exact (θ_run _ _ _).mono (fun r h => ⟨fun c => (h c).2, sem_eq_zero_of_no_sems rfl _⟩) (Cert.AttnRefIdeal.Value.run m g)

theorem quiet_pre : Cert.quiescent_AttnRefIdeal_pre_scores_finite := fun m g _ => quiet m g trivial

theorem algebraic : Cert.algebraic_AttnIdeal_AttnRefIdeal_pre_scores_finite := by
  pair_intro
  · run_from Cert.AttnIdeal.Value.run_blocks m g
  · run_from Cert.AttnRefIdeal.Value.run m' g'
    obtain ⟨h0, h1, h2, h4⟩ := real_args m hpre c
    rw [final m c h0 h1 h2 h4]
    refine (Cert.AttnRefIdeal.Read.val_main_v41_eq m' c).trans ?_
    obtain ⟨e0, e1, e2, e3, e4, e5⟩ := hagree c
    rw [e0, e1, e2, e3, e4, e5]
    exact Ref.value _ _ _ _ _ _

end Cert.AttnRow

end
-- ==== Proof.In.Payload.lean ====
/- The projection in front of the mixers: what each stored value is, entry by entry. -/
module

public import Idealize.ShloMosaic.Lib.Pointwise
public import proofs.«01_k».proof.Proof.Gen.InIdeal.Skeleton

@[expose] public section

set_option maxRecDepth 16384

noncomputable section

namespace Cert.InRow

open Idealize.ShloMosaic Idealize.ShloMosaic.TcCoe Idealize.SL.Sem
open Cert.InIdeal Cert.InIdeal.Gen

/-- A value scaled by the root mean square of its row. -/
def normed (X : Fin 1024 → EReal) (d : Fin 1024) : EReal :=
  X d * Ideal.rsqrt (Ideal.div (∑ x, X x * X x) (Ideal.ofBits .f32 0x44800000#32) + Ideal.ofBits .f32 0x358637BD#32)

theorem pay2_at (v0 : Vec Ideal S1x1x6144 .f32) (v4 : Vec Ideal S256x1024 .f32) (v5 : Vec Ideal S1x1024 .f32) (v25 : Vec Ideal S1024x1280 .bf16) (r : Fin 256) (n : Fin 1280) :
    k0_pay2 (F := Ideal) v0 v4 v5 v25 (ix2 r n) = ∑ d : Fin 1024,
      (normed (fun x => v4 (ix2 r x)) d * v5 (ix2 0 d) * (1 + v0 (ix3 0 0 ⟨1024 + d, by omega⟩)) + v0 (ix3 0 0 ⟨d, by omega⟩)) * v25 (ix2 d n) := by
  pointwise [k0_pay2]
  rfl

theorem pay3_at (v0 : Vec Ideal S1x1x6144 .f32) (v4 : Vec Ideal S256x1024 .f32) (v5 : Vec Ideal S1x1024 .f32) (v25 : Vec Ideal S1024x1280 .bf16) (r n : Fin 256) :
    k0_pay3 (F := Ideal) v0 v4 v5 v25 (ix2 r n) = k0_pay2 (F := Ideal) v0 v4 v5 v25 (ix2 r ⟨n, by omega⟩) := by
  unfold k0_pay3
  generalize k0_pay2 (F := Ideal) v0 v4 v5 v25 = P
  pointwise

theorem pay4_at (v0 : Vec Ideal S1x1x6144 .f32) (v4 : Vec Ideal S256x1024 .f32) (v5 : Vec Ideal S1x1024 .f32) (v25 : Vec Ideal S1024x1280 .bf16) (v32 : Vec Ideal S256x512 .bf16) (r : Fin 256) (n : Fin 512) :
    k0_pay4 (F := Ideal) v0 v4 v5 v25 v32 (ix2 r n) = ∑ j : Fin 256, k0_pay2 (F := Ideal) v0 v4 v5 v25 (ix2 r ⟨256 + j, by omega⟩) * v32 (ix2 j n) := by
  unfold k0_pay4
  generalize k0_pay2 (F := Ideal) v0 v4 v5 v25 = P
  pointwise

theorem pay1_at (P : FVec Ideal S256x1280 .f32) (r : Fin 256) (n : Fin 128) : k0_pay1 (F := Ideal) P (ix2 r n) = P (ix2 r ⟨1152 + n, by omega⟩) := by
  pointwise [k0_pay1]

/-- The lanes of the first half of their pair: those whose number leaves less than 16 by 32. -/
theorem pay9_at (r : Fin 256) (l : Fin 128) : k0_pay9 (ix2 r l) = if (l : ℕ) % 32 < 16 then 1#1 else 0#1 := by
  pointwise [k0_pay9]
  revert l
  decide +kernel

/-- One lane of a rotated group: itself against the cosine, its partner against the signed sine. -/
theorem lane_at (y C S : FVec Ideal S256x128 .f32) (r : Fin 256) (l : Fin 128) :
    k0_pay14 (F := Ideal) y C S (ix2 r l) = y (ix2 r l) * C (ix2 r l)
      + (if h : (l : ℕ) % 32 < 16 then y (ix2 r ⟨l + 16, by omega⟩) else y (ix2 r ⟨l - 16, by omega⟩)) * S (ix2 r l) := by
  have h9 := pay9_at r l
  have e : k0_pay14 (F := Ideal) y C S (ix2 r l) = y (ix2 r l) * C (ix2 r l) + Scalar.select (k0_pay9 (ix2 r l)) (y (ix2 r ⟨(↑l + 128 - 112) % 128, by omega⟩)) (y (ix2 r ⟨(↑l + 128 - 16) % 128, by omega⟩)) * S (ix2 r l) := by
    pointwise [k0_pay14, k0_pay9]
  rw [e, h9]
  split_ifs with h
  · rw [show (⟨(↑l + 128 - 112) % 128, by omega⟩ : Fin 128) = ⟨l + 16, by omega⟩ from Fin.ext (by simp only; omega)]
    rfl
  · rw [show (⟨(↑l + 128 - 16) % 128, by omega⟩ : Fin 128) = ⟨l - 16, by omega⟩ from Fin.ext (by simp only; omega)]
    rfl

theorem pay6_at (P : FVec Ideal S256x1280 .f32) (r : Fin 256) (n : Fin 128) : k0_pay6 (F := Ideal) P (ix2 r n) = P (ix2 r ⟨1024 + n, by omega⟩) := by
  pointwise [k0_pay6]

/-- One of the four groups of query lanes. -/
def group (P : FVec Ideal S256x1280 .f32) (g : Fin 4) : FVec Ideal S256x128 .f32 := fun i => P (ix2 (i 0) ⟨512 + (128 * g + (i 1 : ℕ)), by have h : (i 1 : ℕ) < 128 := (i 1).isLt; omega⟩)

section Groups

variable (P : FVec Ideal S256x1280 .f32) (C S : FVec Ideal S256x128 .f32) (r : Fin 256) (l : Fin 128)

theorem group0_at : k0_pay10 (F := Ideal) P C S (ix2 r l) = k0_pay14 (F := Ideal) (group P 0) C S (ix2 r l) := by
  pointwise [k0_pay10, k0_pay14, k0_pay5, k0_pay7, k0_pay8, k0_pay9, group]

theorem group1_at : k0_pay11 (F := Ideal) P C S (ix2 r l) = k0_pay14 (F := Ideal) (group P 1) C S (ix2 r l) := by
  pointwise [k0_pay11, k0_pay14, k0_pay5, k0_pay7, k0_pay8, k0_pay9, group]

theorem group2_at : k0_pay12 (F := Ideal) P (ix2 r l) * k0_pay7 (F := Ideal) C (ix2 r l) + k0_pay13 (F := Ideal) P (ix2 r l) * k0_pay8 (F := Ideal) S (ix2 r l)
    = k0_pay14 (F := Ideal) (group P 2) C S (ix2 r l) := by
  pointwise [k0_pay12, k0_pay13, k0_pay14, k0_pay5, k0_pay7, k0_pay8, k0_pay9, group]

variable (v36 : FVec Ideal S256x512 .f32) (c s q0 q1 v75 v78 : FVec Ideal S256x128 .f32) (z : IVec S256x128 1)

theorem pay15_0 : k0_pay15 (F := Ideal) v36 c s z q0 q1 v75 v78 (ix2 r ⟨l, by omega⟩) = q0 (ix2 r l) * Ideal.ofBits .f32 0x3E000000#32 := by
  pointwise [k0_pay15]

theorem pay15_1 : k0_pay15 (F := Ideal) v36 c s z q0 q1 v75 v78 (ix2 r ⟨128 + l, by omega⟩) = q1 (ix2 r l) * Ideal.ofBits .f32 0x3E000000#32 := by
  pointwise [k0_pay15]

theorem pay15_2 : k0_pay15 (F := Ideal) v36 c s z q0 q1 v75 v78 (ix2 r ⟨256 + l, by omega⟩)
    = (v75 (ix2 r l) * c (ix2 r l) + v78 (ix2 r l) * s (ix2 r l)) * Ideal.ofBits .f32 0x3E000000#32 := by
  pointwise [k0_pay15]
  rw [dif_neg (by omega), dif_neg (by omega), dif_pos (by omega), show (⟨256 + (l : ℕ) - 128 - 128, by omega⟩ : Fin 128) = l from Fin.ext (by simp only; omega)]

theorem pay15_3 : k0_pay15 (F := Ideal) (k0_pay5 P) (k0_pay7 c) (k0_pay8 s) k0_pay9 q0 q1 v75 v78 (ix2 r ⟨384 + l, by omega⟩)
    = k0_pay14 (F := Ideal) (group P 3) c s (ix2 r l) * Ideal.ofBits .f32 0x3E000000#32 := by
  pointwise [k0_pay15, k0_pay14, k0_pay5, k0_pay7, k0_pay8, k0_pay9, group]
  rw [dif_neg (by omega), dif_neg (by omega), dif_neg (by omega)]
  have e : 384 + (l : ℕ) - 128 - 128 - 128 = l := by omega
  simp [e]

end Groups

theorem pay15_at (P : FVec Ideal S256x1280 .f32) (C S : FVec Ideal S256x128 .f32) (r : Fin 256) (g : Fin 4) (l : Fin 128) :
    k0_pay15 (F := Ideal) (k0_pay5 P) (k0_pay7 C) (k0_pay8 S) k0_pay9 (k0_pay10 P C S) (k0_pay11 P C S) (k0_pay12 P) (k0_pay13 P) (ix2 r ⟨128 * g + l, by omega⟩)
      = k0_pay14 (F := Ideal) (group P g) C S (ix2 r l) * Ideal.ofBits .f32 0x3E000000#32 := by
  have h0 := group0_at P C S r l
  have h1 := group1_at P C S r l
  have h2 := group2_at P C S r l
  fin_cases g
  · refine Eq.trans (congrArg (fun k => k0_pay15 (F := Ideal) _ _ _ _ _ _ _ _ (ix2 r k)) (Fin.ext (show 128 * 0 + (l : ℕ) = l by omega)))
      ((pay15_0 r l (k0_pay5 P) (k0_pay7 C) (k0_pay8 S) (k0_pay10 P C S) (k0_pay11 P C S) (k0_pay12 P) (k0_pay13 P) k0_pay9).trans (congrArg (· * _) h0))
  · exact (pay15_1 r l _ _ _ _ _ _ _ _).trans (congrArg (· * _) h1)
  · exact (pay15_2 r l _ _ _ _ _ _ _ _).trans (congrArg (· * _) h2)
  · exact pay15_3 P r l C S _ _ _ _

end Cert.InRow

end
-- ==== Proof.In.Row.lean ====
/- One row of the projection, in plain sums: its normed columns and its rotated ones. -/
module

public import proofs.«01_k».proof.Proof.In.Payload

@[expose] public section

set_option maxRecDepth 16384

noncomputable section

namespace Cert.InRow

open Idealize.ShloMosaic Idealize.ShloMosaic.TcCoe Idealize.SL.Sem
open Cert.InIdeal Cert.InIdeal.Gen

variable (x : FVec Ideal S32768x1024 .f32) (md : FVec Ideal S16x1x6144 .f32) (ln : FVec Ideal S1x1024 .f32) (w : FVec Ideal S1024x1280 .f32)
  (cs : FVec Ideal S256x512 .bf16) (co si : FVec Ideal S64x16 .f32)

/-- Row `t` after the modulated norm. -/
def ready (t : Fin 32768) (d : Fin 1024) : EReal :=
  normed (fun j => x (ix2 t j)) d * ln (ix2 0 d) * (1 + md (ix3 ⟨1 + (t : ℕ) / 4096, by omega⟩ 0 ⟨1024 + d, by omega⟩))
    + md (ix3 ⟨1 + (t : ℕ) / 4096, by omega⟩ 0 ⟨d, by omega⟩)

/-- Row `t` of the projection. -/
def proj (t : Fin 32768) (n : Fin 1280) : EReal := ∑ d : Fin 1024, ready x md ln t d * w (ix2 d n)

/-- The place on the grid that turns column `n`: the token's row for the first half of a head, its column for the second. -/
def place (t : Fin 32768) (n : ℕ) : Fin 64 :=
  if n / 32 % 2 = 0 then ⟨(t : ℕ) % 4096 / 64, by omega⟩ else ⟨(t : ℕ) % 64, by omega⟩

/-- A rotated column: each pair of columns 16 apart turned by its angle. -/
def turned (Y : Fin 1280 → EReal) (t : Fin 32768) (n : Fin 1152) : EReal :=
  if h : (n : ℕ) % 32 < 16 then
    Y ⟨n, by omega⟩ * co (ix2 (place t n) ⟨(n : ℕ) % 16, by omega⟩) - Y ⟨n + 16, by omega⟩ * si (ix2 (place t n) ⟨(n : ℕ) % 16, by omega⟩)
  else
    Y ⟨n, by omega⟩ * co (ix2 (place t n) ⟨(n : ℕ) % 16, by omega⟩) + Y ⟨n - 16, by omega⟩ * si (ix2 (place t n) ⟨(n : ℕ) % 16, by omega⟩)

def out0 : FVec Ideal S32768x256 .f32 := fun i => proj x md ln w (i 0) ⟨(i 1 : ℕ), by have h : (i 1 : ℕ) < 256 := (i 1).isLt; omega⟩
def out1 : FVec Ideal S32768x512 .bf16 := fun i => ∑ j : Fin 256, proj x md ln w (i 0) ⟨256 + j, by omega⟩ * cs (ix2 j (i 1))
def out2 : FVec Ideal S32768x512 .bf16 := fun i =>
  turned co si (proj x md ln w (i 0)) (i 0) ⟨512 + (i 1 : ℕ), by have h : (i 1 : ℕ) < 512 := (i 1).isLt; omega⟩ * Ideal.ofBits .f32 0x3E000000#32
def out3 : FVec Ideal S32768x128 .f32 := fun i =>
  turned co si (proj x md ln w (i 0)) (i 0) ⟨1024 + (i 1 : ℕ), by have h : (i 1 : ℕ) < 128 := (i 1).isLt; omega⟩
def out4 : FVec Ideal S32768x128 .f32 := fun i => proj x md ln w (i 0) ⟨1152 + (i 1 : ℕ), by have h : (i 1 : ℕ) < 128 := (i 1).isLt; omega⟩

end Cert.InRow

end
-- ==== Proof.In.Kernel.lean ====
/- The projection's output arrays: block by block, every entry is the row's. -/
module

public import proofs.«01_k».proof.Proof.In.Row
public import proofs.«01_k».proof.Proof.Gen.InIdeal.Frame
public import Idealize.ShloMosaic.Lib.Pipeline.Value
public import Idealize.ShloMosaic.Lib.Pipeline.ValueKit

@[expose] public section

set_option maxRecDepth 16384

noncomputable section

namespace Cert.InRow

open Idealize.ShloMosaic Idealize.ShloMosaic.TcCoe Idealize.SL.Sem
open Idealize.ShloMosaic.Pipeline (Dat)
open Cert.InIdeal Cert.InIdeal.Gen

variable (m : (ℓ : Loc nD τ sig) → Buf (Elt Ideal) ℓ)

theorem idx : ∀ t : Fin cfg0.N, win0_0.index t = ![t.val, 0] ∧ win0_1.index t = ![1 + t.val / 16, 0, 0] ∧ win0_2.index t = ![0, 0]
    ∧ win0_3.index t = ![0, 0] ∧ win0_4.index t = ![0, 0] ∧ win0_5.index t = ![t.val % 16, 0] ∧ win0_6.index t = ![t.val % 16, 0]
    ∧ win0_7.index t = ![t.val, 0] ∧ win0_8.index t = ![t.val, 0] ∧ win0_9.index t = ![t.val, 0] ∧ win0_10.index t = ![t.val, 0]
    ∧ win0_11.index t = ![t.val, 0] :=
  (by decide +kernel : ∀ t : Fin grid0.N, _)

abbrev A0 (c : Dev nD) : FVec Ideal S32768x1024 .f32 := m ((c : Thread nD τ).loc main_arg0)
abbrev A1 (c : Dev nD) : FVec Ideal S16x1x6144 .f32 := m ((c : Thread nD τ).loc main_arg1)
abbrev A2 (c : Dev nD) : FVec Ideal S1x1024 .f32 := m ((c : Thread nD τ).loc main_arg2)
abbrev A3 (c : Dev nD) : FVec Ideal S1024x1280 .f32 := m ((c : Thread nD τ).loc main_arg3)
abbrev A4 (c : Dev nD) : FVec Ideal S256x512 .bf16 := m ((c : Thread nD τ).loc main_arg4)
abbrev A5 (c : Dev nD) : FVec Ideal S64x16 .f32 := m ((c : Thread nD τ).loc main_arg5)
abbrev A6 (c : Dev nD) : FVec Ideal S64x16 .f32 := m ((c : Thread nD τ).loc main_arg6)

section Blocks

variable (c : Dev nD) (t : Fin cfg0.N) (r : Fin 256) (i : Fin 32768) (hi : (i : ℕ) = 256 * t.val + r)
include hi

theorem b0 (j : Fin 1024) : (show FVec Ideal S256x1024 .f32 from iblk m c 0 t) (ix2 r j) = A0 m c (ix2 i j) := by blk_point [iblk, V, idx t]
theorem b1 (j : Fin 6144) : (show FVec Ideal S1x1x6144 .f32 from iblk m c 1 t) (ix3 0 0 j) = A1 m c (ix3 ⟨1 + (i : ℕ) / 4096, by omega⟩ 0 j) := by
  blk_point [iblk, V, idx t]
theorem b2 (j : Fin 1024) : (show FVec Ideal S1x1024 .f32 from iblk m c 2 t) (ix2 0 j) = A2 m c (ix2 0 j) := by blk_point [iblk, V, idx t]
theorem b3 (k : Fin 1024) (j : Fin 1280) : (show FVec Ideal S1024x1280 .bf16 from iblk m c 3 t) (ix2 k j) = A3 m c (ix2 k j) := by blk_point [iblk, V, idx t]
theorem b4 (k : Fin 256) (j : Fin 512) : (show FVec Ideal S256x512 .bf16 from iblk m c 4 t) (ix2 k j) = A4 m c (ix2 k j) := by blk_point [iblk, V, idx t]
theorem tab5 (l : Fin 128) : (show FVec Ideal S256x128 .f32 from iblk m c 5 t) (ix2 r l) = (show FVec Ideal S4096x128 .f32 from V m c main_v27) (ix2 ⟨(i : ℕ) % 4096, by omega⟩ l) := by
  blk_point [iblk, idx t]
theorem tab6 (l : Fin 128) : (show FVec Ideal S256x128 .f32 from iblk m c 6 t) (ix2 r l) = (show FVec Ideal S4096x128 .f32 from V m c main_v28) (ix2 ⟨(i : ℕ) % 4096, by omega⟩ l) := by
  blk_point [iblk, idx t]
end Blocks

def rowOf (T : FVec Ideal S64x16 .f32) : FVec Ideal S4096x16 .f32 := shapeCast _ (broadcastInDim S64x64x16 ![0, 1, 2] bcast_S64x1x16_S64x64x16_0_1_2 (broadcastInDim S64x1x16 ![0, 2] bcast_S64x16_S64x1x16_0_2 T)) shapeCasts_S64x64x16_S4096x16
def colOf (T : FVec Ideal S64x16 .f32) : FVec Ideal S4096x16 .f32 := shapeCast _ (broadcastInDim S64x64x16 ![0, 1, 2] bcast_S1x64x16_S64x64x16_0_1_2 (broadcastInDim S1x64x16 ![1, 2] bcast_S64x16_S1x64x16_1_2 T)) shapeCasts_S64x64x16_S4096x16

theorem cos_eq (c : Dev nD) : V m c main_v27 = concatenate S4096x128 1 [⟨S4096x16, rowOf (A5 m c)⟩, ⟨S4096x16, rowOf (A5 m c)⟩, ⟨S4096x16, colOf (A5 m c)⟩, ⟨S4096x16, colOf (A5 m c)⟩,
    ⟨S4096x16, rowOf (A5 m c)⟩, ⟨S4096x16, rowOf (A5 m c)⟩, ⟨S4096x16, colOf (A5 m c)⟩, ⟨S4096x16, colOf (A5 m c)⟩] concatenates_S4096x16_S4096x16_S4096x16_S4096x16_S4096x16_S4096x16_S4096x16_S4096x16_S4096x128_d1 := by
  unfold V hostOps0
  after_results_simp <;> rfl

theorem sin_eq (c : Dev nD) : V m c main_v28 = concatenate S4096x128 1 [⟨S4096x16, negf (rowOf (A6 m c))⟩, ⟨S4096x16, rowOf (A6 m c)⟩, ⟨S4096x16, negf (colOf (A6 m c))⟩, ⟨S4096x16, colOf (A6 m c)⟩,
    ⟨S4096x16, negf (rowOf (A6 m c))⟩, ⟨S4096x16, rowOf (A6 m c)⟩, ⟨S4096x16, negf (colOf (A6 m c))⟩, ⟨S4096x16, colOf (A6 m c)⟩] concatenates_S4096x16_S4096x16_S4096x16_S4096x16_S4096x16_S4096x16_S4096x16_S4096x16_S4096x128_d1 := by
  unfold V hostOps0
  after_results_simp <;> rfl

theorem rowOf_at (T : FVec Ideal S64x16 .f32) (s : Fin 4096) (f : Fin 16) : rowOf T (ix2 s f) = T (ix2 ⟨(s : ℕ) / 64, by omega⟩ f) := by
  pointwise [rowOf]
theorem colOf_at (T : FVec Ideal S64x16 .f32) (s : Fin 4096) (f : Fin 16) : colOf T (ix2 s f) = T (ix2 ⟨(s : ℕ) % 64, by omega⟩ f) := by
  pointwise [colOf]

/-- A 128-lane table out of four parts of sixteen lanes, twice over. -/
theorem eight_at (a b e f : FVec Ideal S4096x16 .f32) (s : Fin 4096) (l : Fin 128) :
    concatenate S4096x128 1 [⟨S4096x16, a⟩, ⟨S4096x16, b⟩, ⟨S4096x16, e⟩, ⟨S4096x16, f⟩, ⟨S4096x16, a⟩, ⟨S4096x16, b⟩, ⟨S4096x16, e⟩, ⟨S4096x16, f⟩]
      concatenates_S4096x16_S4096x16_S4096x16_S4096x16_S4096x16_S4096x16_S4096x16_S4096x16_S4096x128_d1 (ix2 s l)
    = if (l : ℕ) / 32 % 2 = 0 then (if (l : ℕ) % 32 < 16 then a (ix2 s ⟨(l : ℕ) % 16, by omega⟩) else b (ix2 s ⟨(l : ℕ) % 16, by omega⟩))
      else (if (l : ℕ) % 32 < 16 then e (ix2 s ⟨(l : ℕ) % 16, by omega⟩) else f (ix2 s ⟨(l : ℕ) % 16, by omega⟩)) := by
  pointwise
  have g : ∀ (z : FVec Ideal S4096x16 .f32) (k : Fin 16), (k : ℕ) = (l : ℕ) % 16 → z (ix2 s k) = z (ix2 s ⟨(l : ℕ) % 16, by omega⟩) := fun z k hk =>
    congrArg (fun q => z (ix2 s q)) (Fin.ext hk)
  by_cases h1 : (l : ℕ) / 32 % 2 = 0 <;> by_cases h2 : (l : ℕ) % 32 < 16 <;> simp only [h1, h2, ↓reduceIte] <;> split_ifs
  all_goals first
    | exact absurd rfl ‹¬_ = _›
    | (exfalso; omega)
    | (refine g _ _ ?_; show _ = _; simp only []; omega)
    | (refine g _ _ ?_; show (_ : ℕ) = _; omega)

section Tables

variable (c : Dev nD) (t : Fin cfg0.N) (r : Fin 256) (i : Fin 32768) (hi : (i : ℕ) = 256 * t.val + r) (l : Fin 128)
include hi

theorem b5 : (show FVec Ideal S256x128 .f32 from iblk m c 5 t) (ix2 r l) = A5 m c (ix2 (place i l) ⟨(l : ℕ) % 16, by omega⟩) := by
  refine (tab5 m c t r i hi l).trans ?_
  refine ((congrFun (cos_eq m c) _).trans (eight_at _ _ _ _ _ l)).trans ?_
  rw [rowOf_at, colOf_at]
  unfold place
  split_ifs
  all_goals first | rfl | exact congrArg (fun q => A5 m c (ix2 q _)) (Fin.ext (by first | omega | (simp only; omega)))

theorem b6 : (show FVec Ideal S256x128 .f32 from iblk m c 6 t) (ix2 r l)
    = if (l : ℕ) % 32 < 16 then -A6 m c (ix2 (place i l) ⟨(l : ℕ) % 16, by omega⟩) else A6 m c (ix2 (place i l) ⟨(l : ℕ) % 16, by omega⟩) := by
  refine (tab6 m c t r i hi l).trans ?_
  have n : ∀ (z : FVec Ideal S4096x16 .f32) j, negf z j = -z j := fun _ _ => rfl
  refine ((congrFun (sin_eq m c) _).trans (eight_at _ _ _ _ _ l)).trans ?_
  rw [n, n, rowOf_at, colOf_at]
  unfold place
  split_ifs
  all_goals first | rfl | exact congrArg (fun q => A6 m c (ix2 q _)) (Fin.ext (by first | omega | (simp only; omega))) | exact congrArg (fun q => -A6 m c (ix2 q _)) (Fin.ext (by first | omega | (simp only; omega)))

end Tables

section Entries

variable (c : Dev nD) (t : Fin cfg0.N) (r : Fin 256) (i : Fin 32768) (hi : (i : ℕ) = 256 * t.val + r)
include hi

theorem proj_at (n : Fin 1280) : k0_pay2 (F := Ideal) (iblk m c 1 t) (iblk m c 0 t) (iblk m c 2 t) (iblk m c 3 t) (ix2 r n) = proj (A0 m c) (A1 m c) (A2 m c) (A3 m c) i n := by
  refine (pay2_at _ _ _ _ r n).trans (Finset.sum_congr rfl fun d _ => ?_)
  exact congrArg₂ (· * ·) (congrArg₂ (· + ·) (congrArg₂ (· * ·) (congrArg₂ (· * ·) (congrArg (fun X => normed X d) (funext fun x => b0 m c t r i hi x))
    (b2 m c t r i hi d)) (congrArg₂ (· + ·) rfl (b1 m c t r i hi _))) (b1 m c t r i hi _)) (b3 m c t r i hi d n)

omit hi in
theorem pay16_eq : k0_pay16 (F := Ideal) (iblk m c 0 t) (iblk m c 1 t) (iblk m c 2 t) (iblk m c 3 t) (iblk m c 4 t) (iblk m c 5 t) (iblk m c 6 t)
    = k0_pay2 (F := Ideal) (iblk m c 1 t) (iblk m c 0 t) (iblk m c 2 t) (iblk m c 3 t) := by
  unfold k0_pay16
  frame_out

/-- A rotated lane of a group that starts at column `o` of the projection. -/
theorem turn_at (y : FVec Ideal S256x128 .f32) (o : ℕ) (ho : o % 64 = 0) (hb : o ≤ 1024) (l : Fin 128)
    (hy : ∀ k : Fin 128, y (ix2 r k) = proj (A0 m c) (A1 m c) (A2 m c) (A3 m c) i ⟨o + k, by omega⟩) :
    k0_pay14 (F := Ideal) y (iblk m c 5 t) (iblk m c 6 t) (ix2 r l)
      = turned (A5 m c) (A6 m c) (proj (A0 m c) (A1 m c) (A2 m c) (A3 m c) i) i ⟨o + l, by omega⟩ := by
  refine (lane_at y _ _ r l).trans ?_
  refine (congrArg₂ (· + ·) (congrArg₂ (· * ·) rfl (b5 m c t r i hi l)) (congrArg₂ (· * ·) rfl (b6 m c t r i hi l))).trans ?_
  simp only [hy]
  have e1 : (o + (l : ℕ)) % 32 = (l : ℕ) % 32 := by omega
  have e2 : (⟨(o + (l : ℕ)) % 16, by omega⟩ : Fin 16) = ⟨(l : ℕ) % 16, by omega⟩ := Fin.ext (by first | omega | (simp only; omega))
  have e3 : place i (o + (l : ℕ)) = place i l := by
    unfold place
    rw [show (o + (l : ℕ)) / 32 % 2 = (l : ℕ) / 32 % 2 by omega]
  unfold turned
  simp only [e1, e2, e3]
  split_ifs with h
  · rw [mul_neg, ← sub_eq_add_neg]
    rfl
  · refine congrArg₂ (· + ·) rfl (congrArg₂ (· * ·) (congrArg _ (Fin.ext ?_)) rfl)
    simp only
    omega

theorem out7 (n : Fin 256) : out0_7 (iblk m c 0 t) (iblk m c 1 t) (iblk m c 2 t) (iblk m c 3 t) (iblk m c 4 t) (iblk m c 5 t) (iblk m c 6 t) (ix2 r n)
      = proj (A0 m c) (A1 m c) (A2 m c) (A3 m c) i ⟨n, by omega⟩ := by
  unfold out0_7
  frame_out
  exact (pay3_at _ _ _ _ r n).trans (proj_at m c t r i hi _)

theorem out8 (n : Fin 512) : out0_8 (iblk m c 0 t) (iblk m c 1 t) (iblk m c 2 t) (iblk m c 3 t) (iblk m c 4 t) (iblk m c 5 t) (iblk m c 6 t) (ix2 r n)
      = ∑ j : Fin 256, proj (A0 m c) (A1 m c) (A2 m c) (A3 m c) i ⟨256 + j, by omega⟩ * A4 m c (ix2 j n) := by
  unfold out0_8
  frame_out
  exact (pay4_at _ _ _ _ _ r n).trans (Finset.sum_congr rfl fun j _ => congrArg₂ (· * ·) (proj_at m c t r i hi _) (b4 m c t r i hi j n))

theorem out9 (n : Fin 512) : out0_9 (iblk m c 0 t) (iblk m c 1 t) (iblk m c 2 t) (iblk m c 3 t) (iblk m c 4 t) (iblk m c 5 t) (iblk m c 6 t) (ix2 r n)
      = turned (A5 m c) (A6 m c) (proj (A0 m c) (A1 m c) (A2 m c) (A3 m c) i) i ⟨512 + n, by omega⟩ * Ideal.ofBits .f32 0x3E000000#32 := by
  unfold out0_9
  frame_out
  rw [pay16_eq]
  have hn : n = ⟨128 * ((⟨(n : ℕ) / 128, by omega⟩ : Fin 4) : ℕ) + ((⟨(n : ℕ) % 128, by omega⟩ : Fin 128) : ℕ), by first | omega | (simp only; omega)⟩ := Fin.ext (by first | omega | (simp only; omega))
  rw [hn]
  refine (pay15_at _ _ _ r ⟨(n : ℕ) / 128, by omega⟩ ⟨(n : ℕ) % 128, by omega⟩).trans (congrArg (· * _) ?_)
  refine (turn_at m c t r i hi _ (512 + 128 * ((n : ℕ) / 128)) (by omega) (by omega) ⟨(n : ℕ) % 128, by omega⟩ fun k => ?_).trans ?_
  · refine (proj_at m c t r i hi _).trans (congrArg _ (Fin.ext ?_))
    show 512 + (128 * ((n : ℕ) / 128) + (k : ℕ)) = 512 + 128 * ((n : ℕ) / 128) + k
    omega
  · refine congrArg _ (Fin.ext ?_)
    simp only
    omega

theorem out10 (n : Fin 128) : out0_10 (iblk m c 0 t) (iblk m c 1 t) (iblk m c 2 t) (iblk m c 3 t) (iblk m c 4 t) (iblk m c 5 t) (iblk m c 6 t) (ix2 r n)
      = turned (A5 m c) (A6 m c) (proj (A0 m c) (A1 m c) (A2 m c) (A3 m c) i) i ⟨1024 + n, by omega⟩ := by
  unfold out0_10
  frame_out
  rw [pay16_eq]
  exact turn_at m c t r i hi _ 1024 (by omega) (by omega) n fun k => (pay6_at _ r k).trans (proj_at m c t r i hi _)

theorem out11 (n : Fin 128) : out0_11 (iblk m c 0 t) (iblk m c 1 t) (iblk m c 2 t) (iblk m c 3 t) (iblk m c 4 t) (iblk m c 5 t) (iblk m c 6 t) (ix2 r n)
      = proj (A0 m c) (A1 m c) (A2 m c) (A3 m c) i ⟨1152 + n, by omega⟩ := by
  unfold out0_11
  frame_out
  rw [pay16_eq]
  exact (pay1_at _ r n).trans (proj_at m c t r i hi _)

end Entries

end Cert.InRow

end
-- ==== Proof.In.Final.lean ====
/- The projection's arrays after the run. -/
module

public import proofs.«01_k».proof.Proof.In.Kernel

@[expose] public section

set_option maxRecDepth 16384

noncomputable section

namespace Cert.InRow

open Idealize.ShloMosaic Idealize.ShloMosaic.TcCoe Idealize.SL.Sem
open Idealize.ShloMosaic.Pipeline (Dat)
open Cert.InIdeal Cert.InIdeal.Gen

variable (m : (ℓ : Loc nD τ sig) → Buf (Elt Ideal) ℓ)

theorem final7 (c : Dev nD) : (dats m 0 c).arrAt 7 cfg0.N = out0 (A0 m c) (A1 m c) (A2 m c) (A3 m c) := by
  refine (dats m 0 c).arrAt_eq_of_covers 7 _ (by decide +kernel) fun t _ y => ?_
  have ht : t.val < 128 := lt_of_lt_of_eq t.isLt N_0
  blk_simp
  rw [after0_7]
  have y0 : (y 0 : ℕ) < 256 := (y 0).isLt
  have y1 : (y 1 : ℕ) < 256 := (y 1).isLt
  refine (congrArg _ (eq_ix2 y)).trans ((out7 m c t (y 0) ⟨256 * t.val + (y 0 : ℕ), by omega⟩ rfl (y 1)).trans ?_)
  have e0 : (⟨256 * t.val + (y 0 : ℕ), by omega⟩ : Fin 32768) = (((cfg0.win 7).blk t).view.emb y) 0 := Fin.ext (by blk_simp [idx t] <;> try (simp only; omega))
  have e1 : (y 1 : Fin 256) = (((cfg0.win 7).blk t).view.emb y) 1 := Fin.ext (by blk_simp [idx t] <;> try (simp only; omega))
  exact congrArg₂ (fun (T : Fin 32768) (N : Fin 256) => out0 (A0 m c) (A1 m c) (A2 m c) (A3 m c) (ix2 T N)) e0 e1

theorem final8 (c : Dev nD) : (dats m 0 c).arrAt 8 cfg0.N = out1 (A0 m c) (A1 m c) (A2 m c) (A3 m c) (A4 m c) := by
  refine (dats m 0 c).arrAt_eq_of_covers 8 _ (by decide +kernel) fun t _ y => ?_
  have ht : t.val < 128 := lt_of_lt_of_eq t.isLt N_0
  blk_simp
  rw [after0_8]
  have y0 : (y 0 : ℕ) < 256 := (y 0).isLt
  have y1 : (y 1 : ℕ) < 512 := (y 1).isLt
  refine (congrArg _ (eq_ix2 y)).trans ((out8 m c t (y 0) ⟨256 * t.val + (y 0 : ℕ), by omega⟩ rfl (y 1)).trans ?_)
  have e0 : (⟨256 * t.val + (y 0 : ℕ), by omega⟩ : Fin 32768) = (((cfg0.win 8).blk t).view.emb y) 0 := Fin.ext (by blk_simp [idx t] <;> try (simp only; omega))
  have e1 : (y 1 : Fin 512) = (((cfg0.win 8).blk t).view.emb y) 1 := Fin.ext (by blk_simp [idx t] <;> try (simp only; omega))
  exact congrArg₂ (fun (T : Fin 32768) (N : Fin 512) => out1 (A0 m c) (A1 m c) (A2 m c) (A3 m c) (A4 m c) (ix2 T N)) e0 e1

theorem final9 (c : Dev nD) : (dats m 0 c).arrAt 9 cfg0.N = out2 (A0 m c) (A1 m c) (A2 m c) (A3 m c) (A5 m c) (A6 m c) := by
  refine (dats m 0 c).arrAt_eq_of_covers 9 _ (by decide +kernel) fun t _ y => ?_
  have ht : t.val < 128 := lt_of_lt_of_eq t.isLt N_0
  blk_simp
  rw [after0_9]
  have y0 : (y 0 : ℕ) < 256 := (y 0).isLt
  have y1 : (y 1 : ℕ) < 512 := (y 1).isLt
  refine (congrArg _ (eq_ix2 y)).trans ((out9 m c t (y 0) ⟨256 * t.val + (y 0 : ℕ), by omega⟩ rfl (y 1)).trans ?_)
  have e0 : (⟨256 * t.val + (y 0 : ℕ), by omega⟩ : Fin 32768) = (((cfg0.win 9).blk t).view.emb y) 0 := Fin.ext (by blk_simp [idx t] <;> try (simp only; omega))
  have e1 : (y 1 : Fin 512) = (((cfg0.win 9).blk t).view.emb y) 1 := Fin.ext (by blk_simp [idx t] <;> try (simp only; omega))
  exact congrArg₂ (fun (T : Fin 32768) (N : Fin 512) => out2 (A0 m c) (A1 m c) (A2 m c) (A3 m c) (A5 m c) (A6 m c) (ix2 T N)) e0 e1

theorem final10 (c : Dev nD) : (dats m 0 c).arrAt 10 cfg0.N = out3 (A0 m c) (A1 m c) (A2 m c) (A3 m c) (A5 m c) (A6 m c) := by
  refine (dats m 0 c).arrAt_eq_of_covers 10 _ (by decide +kernel) fun t _ y => ?_
  have ht : t.val < 128 := lt_of_lt_of_eq t.isLt N_0
  blk_simp
  rw [after0_10]
  have y0 : (y 0 : ℕ) < 256 := (y 0).isLt
  have y1 : (y 1 : ℕ) < 128 := (y 1).isLt
  refine (congrArg _ (eq_ix2 y)).trans ((out10 m c t (y 0) ⟨256 * t.val + (y 0 : ℕ), by omega⟩ rfl (y 1)).trans ?_)
  have e0 : (⟨256 * t.val + (y 0 : ℕ), by omega⟩ : Fin 32768) = (((cfg0.win 10).blk t).view.emb y) 0 := Fin.ext (by blk_simp [idx t] <;> try (simp only; omega))
  have e1 : (y 1 : Fin 128) = (((cfg0.win 10).blk t).view.emb y) 1 := Fin.ext (by blk_simp [idx t] <;> try (simp only; omega))
  exact congrArg₂ (fun (T : Fin 32768) (N : Fin 128) => out3 (A0 m c) (A1 m c) (A2 m c) (A3 m c) (A5 m c) (A6 m c) (ix2 T N)) e0 e1

theorem final11 (c : Dev nD) : (dats m 0 c).arrAt 11 cfg0.N = out4 (A0 m c) (A1 m c) (A2 m c) (A3 m c) := by
  refine (dats m 0 c).arrAt_eq_of_covers 11 _ (by decide +kernel) fun t _ y => ?_
  have ht : t.val < 128 := lt_of_lt_of_eq t.isLt N_0
  blk_simp
  rw [after0_11]
  have y0 : (y 0 : ℕ) < 256 := (y 0).isLt
  have y1 : (y 1 : ℕ) < 128 := (y 1).isLt
  refine (congrArg _ (eq_ix2 y)).trans ((out11 m c t (y 0) ⟨256 * t.val + (y 0 : ℕ), by omega⟩ rfl (y 1)).trans ?_)
  have e0 : (⟨256 * t.val + (y 0 : ℕ), by omega⟩ : Fin 32768) = (((cfg0.win 11).blk t).view.emb y) 0 := Fin.ext (by blk_simp [idx t] <;> try (simp only; omega))
  have e1 : (y 1 : Fin 128) = (((cfg0.win 11).blk t).view.emb y) 1 := Fin.ext (by blk_simp [idx t] <;> try (simp only; omega))
  exact congrArg₂ (fun (T : Fin 32768) (N : Fin 128) => out4 (A0 m c) (A1 m c) (A2 m c) (A3 m c) (ix2 T N)) e0 e1

/-- What the run leaves: the five arrays, and the arguments as they were. -/
theorem run (g : Dev nD → PrngReg) : θ_run defs (onTc (τ := τ) (main (F := Ideal))) ⟨m, fun _ => 0, g⟩ fun r => ∀ c : Dev nD,
    r.2.mem ((c : Thread nD τ).loc main_v29_0) = out0 (A0 m c) (A1 m c) (A2 m c) (A3 m c)
    ∧ r.2.mem ((c : Thread nD τ).loc main_v29_1) = out1 (A0 m c) (A1 m c) (A2 m c) (A3 m c) (A4 m c)
    ∧ r.2.mem ((c : Thread nD τ).loc main_v29_2) = out2 (A0 m c) (A1 m c) (A2 m c) (A3 m c) (A5 m c) (A6 m c)
    ∧ r.2.mem ((c : Thread nD τ).loc main_v29_3) = out3 (A0 m c) (A1 m c) (A2 m c) (A3 m c) (A5 m c) (A6 m c)
    ∧ r.2.mem ((c : Thread nD τ).loc main_v29_4) = out4 (A0 m c) (A1 m c) (A2 m c) (A3 m c)
    ∧ r.2.mem ((c : Thread nD τ).loc main_arg0) = m ((c : Thread nD τ).loc main_arg0)
    ∧ r.2.mem ((c : Thread nD τ).loc main_arg1) = m ((c : Thread nD τ).loc main_arg1)
    ∧ r.2.mem ((c : Thread nD τ).loc main_arg2) = m ((c : Thread nD τ).loc main_arg2)
    ∧ r.2.mem ((c : Thread nD τ).loc main_arg3) = m ((c : Thread nD τ).loc main_arg3)
    ∧ r.2.mem ((c : Thread nD τ).loc main_arg4) = m ((c : Thread nD τ).loc main_arg4)
    ∧ r.2.mem ((c : Thread nD τ).loc main_arg5) = m ((c : Thread nD τ).loc main_arg5)
    ∧ r.2.mem ((c : Thread nD τ).loc main_arg6) = m ((c : Thread nD τ).loc main_arg6) := by
  exact (θ_run defs _ _).mono (fun r h c => ⟨((h.2 c).1 7).trans (final7 m c), ((h.2 c).1 8).trans (final8 m c), ((h.2 c).1 9).trans (final9 m c),
      ((h.2 c).1 10).trans (final10 m c), ((h.2 c).1 11).trans (final11 m c), h.1 c⟩)
    (θ_run_and (unchanged m g) (run_main m g))

end Cert.InRow

end
-- ==== Proof.In.Ref.lean ====
/- The reference's value, entry by entry: the row's. -/
module

public import proofs.«01_k».proof.Proof.In.Row
public import proofs.«01_k».proof.Proof.Gen.InRefIdeal.Read
public import Idealize.ShloMosaic.Lib.Pointwise
public import Idealize.ShloMosaic.Lib.Tactic.CleanTypes
public import Idealize.ShloMosaic.Lib.Pipeline.ValueKit

@[expose] public section

set_option maxRecDepth 16384

noncomputable section

namespace Cert.InRow.Ref

open Idealize.ShloMosaic Idealize.ShloMosaic.TcCoe Idealize.SL.Sem
open Cert.InRefIdeal Cert.InRefIdeal.Gen Cert.InRefIdeal.Read

variable (x0 : FVec Ideal S32768x1024 .f32) (x1 : FVec Ideal S16x1x6144 .f32) (x2 : FVec Ideal S1x1024 .f32) (x3 : FVec Ideal S1024x1280 .f32)
  (x4 : FVec Ideal S256x512 .bf16) (x5 x6 : FVec Ideal S64x16 .f32)

theorem v22_at (b : Fin 8) (s : Fin 4096) (t : Fin 32768) (ht : (t : ℕ) = 4096 * b + s) (d : Fin 1024) :
    val_main_v22 (F := Ideal) x0 x1 x2 (ix3 b s d) = ready x0 x1 x2 t d := by
  unfold val_main_v22 val_main_v21 val_main_v20 val_main_v19 val_main_v18 val_main_v17 val_main_v16 val_main_v15 val_main_v14 val_main_v13 val_main_v12
    val_main_v11 val_main_v10 val_main_v9 val_main_v8 val_main_v7 val_main_v6 val_main_v5 val_main_v4 val_main_v3 val_main_v2 val_main_v1 val_main_v0
  pointwise [val_main_cst, val_main_cst_0, val_main_cst_1, val_main_cst_2]
  have hT : (⟨(b : ℕ) * 4096 + s, by omega⟩ : Fin 32768) = t := Fin.ext (show (b : ℕ) * 4096 + s = t by omega)
  have hq : (⟨1 + (b : ℕ), by omega⟩ : Fin 16) = ⟨1 + (t : ℕ) / 4096, by omega⟩ := Fin.ext (show 1 + (b : ℕ) = 1 + (t : ℕ) / 4096 by omega)
  simp only [hT]
  rw [hq]
  rfl

theorem v23_at (b : Fin 8) (s : Fin 4096) (t : Fin 32768) (ht : (t : ℕ) = 4096 * b + s) (n : Fin 1280) :
    val_main_v23 (F := Ideal) x0 x1 x2 x3 (ix3 b s n) = proj x0 x1 x2 x3 t n := by
  unfold val_main_v23
  have h := v22_at x0 x1 x2 b s t ht
  generalize val_main_v22 (F := Ideal) x0 x1 x2 = y at h
  pointwise
  simp only [h]
  rfl

theorem value0 : val_main_v100 (F := Ideal) x0 x1 x2 x3 = out0 x0 x1 x2 x3 := by
  funext i
  rw [eq_ix2 i]
  generalize i 0 = t
  generalize i 1 = d
  have h := fun b s ht => v23_at x0 x1 x2 x3 b s t ht
  unfold val_main_v100 val_main_v99
  generalize val_main_v23 (F := Ideal) x0 x1 x2 x3 = y at h
  pointwise
  have ht : (t : ℕ) < 32768 := t.isLt
  exact h ⟨(t : ℕ) / 4096, by omega⟩ ⟨(t : ℕ) % 4096, by omega⟩ (by simp only; omega) _

section Turned

variable (co si : FVec Ideal Cert.InIdeal.S64x16 .f32) (Y : Fin 1280 → EReal) (t : Fin 32768) (n : Fin 1152) (a b : Fin 1280) (p : Fin 64) (f : Fin 16)
  (ha : (a : ℕ) = n) (hf : (f : ℕ) = n % 16)
  (hp : (n : ℕ) / 32 % 2 = 0 ∧ (p : ℕ) = (t : ℕ) % 4096 / 64 ∨ ¬ (n : ℕ) / 32 % 2 = 0 ∧ (p : ℕ) = (t : ℕ) % 64)
include ha hf hp

theorem turned_lo (h : (n : ℕ) % 32 < 16) (hb : (b : ℕ) = n + 16) : turned co si Y t n = Y a * co (ix2 p f) - Y b * si (ix2 p f) := by
  have e : place t n = p := by
    unfold place
    rcases hp with ⟨h0, h1⟩ | ⟨h0, h1⟩
    · rw [if_pos h0]
      exact Fin.ext h1.symm
    · rw [if_neg h0]
      exact Fin.ext h1.symm
  have ea : a = ⟨n, by omega⟩ := Fin.ext ha
  have eb : b = ⟨n + 16, by omega⟩ := Fin.ext hb
  have ef : f = ⟨(n : ℕ) % 16, by omega⟩ := Fin.ext hf
  unfold turned
  rw [dif_pos h, e]
  exact congrArg₂ (· - ·) (congrArg₂ (· * ·) (congrArg Y ea.symm) (congrArg (fun k => co (ix2 p k)) ef.symm)) (congrArg₂ (· * ·) (congrArg Y eb.symm) (congrArg (fun k => si (ix2 p k)) ef.symm))

theorem turned_hi (h : ¬ (n : ℕ) % 32 < 16) (hb : (b : ℕ) = n - 16) : turned co si Y t n = Y a * co (ix2 p f) + Y b * si (ix2 p f) := by
  have e : place t n = p := by
    unfold place
    rcases hp with ⟨h0, h1⟩ | ⟨h0, h1⟩
    · rw [if_pos h0]
      exact Fin.ext h1.symm
    · rw [if_neg h0]
      exact Fin.ext h1.symm
  have ea : a = ⟨n, by omega⟩ := Fin.ext ha
  have eb : b = ⟨n - 16, by omega⟩ := Fin.ext hb
  have ef : f = ⟨(n : ℕ) % 16, by omega⟩ := Fin.ext hf
  unfold turned
  rw [dif_neg h, e]
  exact congrArg₂ (· + ·) (congrArg₂ (· * ·) (congrArg Y ea.symm) (congrArg (fun k => co (ix2 p k)) ef.symm)) (congrArg₂ (· * ·) (congrArg Y eb.symm) (congrArg (fun k => si (ix2 p k)) ef.symm))

end Turned

theorem value3_at (t : Fin 32768) (d : Fin 128) : val_main_v98 (F := Ideal) x0 x1 x2 x3 x5 x6 (ix2 t d) = turned x5 x6 (proj x0 x1 x2 x3 t) t ⟨1024 + d, by omega⟩ := by
  have h := fun b s ht => v23_at x0 x1 x2 x3 b s t ht
  generalize proj x0 x1 x2 x3 = Y at h
  unfold val_main_v98 val_main_v97 val_main_v96 val_main_v95 val_main_v94 val_main_v93 val_main_v92 val_main_v91 val_main_v90 val_main_v89 val_main_v88 val_main_v87 val_main_v86 val_main_v85 val_main_v84 val_main_v83 val_main_v82 val_main_v81 val_main_v80 val_main_v79 val_main_v78 val_main_v77 val_main_v76 val_main_v75 val_main_v74 val_main_v73 val_main_v72 val_main_v71 val_main_v70 val_main_v69 val_main_v68 val_main_v67 val_main_v66 val_main_v65 val_main_v64 val_main_v63
  generalize val_main_v23 (F := Ideal) x0 x1 x2 x3 = y at h
  pointwise
  have ht : (t : ℕ) < 32768 := t.isLt
  have h' : ∀ n, y (ix3 ⟨(t : ℕ) / 4096, by omega⟩ ⟨(t : ℕ) / 64 % 64 * 64 + (t : ℕ) % 64, by omega⟩ n) = Y t n := h _ _ (by simp only; omega)
  simp only [h']
  clear h h'
  have ht' : (t : ℕ) / 64 % 64 = (t : ℕ) % 4096 / 64 := by omega
  by_cases p : (d : ℕ) % 64 < 32
  · rw [dif_pos p]
    by_cases q : (d : ℕ) % 64 < 16
    · rw [dif_pos q]
      exact (turned_lo x5 x6 (Y t) t _ _ _ _ _ (by first | rfl | omega | (simp only; omega)) (by first | rfl | omega | (simp only; omega)) (by first | rfl | omega | (simp only; omega)) (by first | rfl | omega | (simp only; omega)) (by first | rfl | omega | (simp only; omega))).symm
    · rw [dif_neg q]
      exact (turned_hi x5 x6 (Y t) t _ _ _ _ _ (by first | rfl | omega | (simp only; omega)) (by first | rfl | omega | (simp only; omega)) (by first | rfl | omega | (simp only; omega)) (by first | rfl | omega | (simp only; omega)) (by first | rfl | omega | (simp only; omega))).symm
  · rw [dif_neg p]
    have hk : (1024 + (d : ℕ)) / 32 = 33 + 2 * ((d : ℕ) / 64) := by omega
    by_cases q : (d : ℕ) % 64 - 32 < 16
    · rw [dif_pos q]
      exact (turned_lo x5 x6 (Y t) t _ _ _ _ _ (by first | rfl | omega | (simp only; omega)) (by first | rfl | omega | (simp only; omega)) (.inr ⟨(by show ¬ (1024 + (d : ℕ)) / 32 % 2 = 0; rw [hk]; omega), rfl⟩) (by first | rfl | omega | (simp only; omega)) (by first | rfl | omega | (simp only; omega))).symm
    · rw [dif_neg q]
      exact (turned_hi x5 x6 (Y t) t _ _ _ _ _ (by first | rfl | omega | (simp only; omega)) (by first | rfl | omega | (simp only; omega)) (.inr ⟨(by show ¬ (1024 + (d : ℕ)) / 32 % 2 = 0; rw [hk]; omega), rfl⟩) (by first | rfl | omega | (simp only; omega)) (by first | rfl | omega | (simp only; omega))).symm

theorem value3 : val_main_v98 (F := Ideal) x0 x1 x2 x3 x5 x6 = out3 x0 x1 x2 x3 x5 x6 := by
  funext i
  exact (congrArg _ (eq_ix2 i)).trans (value3_at x0 x1 x2 x3 x5 x6 (i 0) (i 1))

theorem value2_at (t : Fin 32768) (d : Fin 512) : val_main_v105 (F := Ideal) x0 x1 x2 x3 x5 x6 (ix2 t d) = turned x5 x6 (proj x0 x1 x2 x3 t) t ⟨512 + d, by omega⟩ * Ideal.ofBits .f32 0x3E000000#32 := by
  have h := fun b s ht => v23_at x0 x1 x2 x3 b s t ht
  generalize proj x0 x1 x2 x3 = Y at h
  unfold val_main_v105 val_main_v104 val_main_v103 val_main_v62 val_main_v61 val_main_v60 val_main_v59 val_main_v58 val_main_v57 val_main_v56 val_main_v55 val_main_v54 val_main_v53 val_main_v52 val_main_v51 val_main_v50 val_main_v49 val_main_v48 val_main_v47 val_main_v46 val_main_v45 val_main_v44 val_main_v43 val_main_v42 val_main_v41 val_main_v40 val_main_v39 val_main_v38 val_main_v37 val_main_v36 val_main_v35 val_main_v34 val_main_v33 val_main_v32 val_main_v31 val_main_v30 val_main_v29 val_main_v28 val_main_v27
  generalize val_main_v23 (F := Ideal) x0 x1 x2 x3 = y at h
  pointwise [val_main_cst_3]
  have ht : (t : ℕ) < 32768 := t.isLt
  have h' : ∀ n, y (ix3 ⟨(t : ℕ) / 4096, by omega⟩ ⟨(t : ℕ) / 64 % 64 * 64 + (t : ℕ) % 64, by omega⟩ n) = Y t n := h _ _ (by simp only; omega)
  simp only [h']
  refine congrArg (· * _) ?_
  clear h h'
  have ht' : (t : ℕ) / 64 % 64 = (t : ℕ) % 4096 / 64 := by omega
  by_cases p : (d : ℕ) % 64 < 32
  · rw [dif_pos p]
    by_cases q : (d : ℕ) % 64 < 16
    · rw [dif_pos q]
      exact (turned_lo x5 x6 (Y t) t _ _ _ _ _ (by first | rfl | omega | (simp only; omega)) (by first | rfl | omega | (simp only; omega)) (by first | rfl | omega | (simp only; omega)) (by first | rfl | omega | (simp only; omega)) (by first | rfl | omega | (simp only; omega))).symm
    · rw [dif_neg q]
      exact (turned_hi x5 x6 (Y t) t _ _ _ _ _ (by first | rfl | omega | (simp only; omega)) (by first | rfl | omega | (simp only; omega)) (by first | rfl | omega | (simp only; omega)) (by first | rfl | omega | (simp only; omega)) (by first | rfl | omega | (simp only; omega))).symm
  · rw [dif_neg p]
    have hk : (512 + (d : ℕ)) / 32 = 17 + 2 * ((d : ℕ) / 64) := by omega
    by_cases q : (d : ℕ) % 64 - 32 < 16
    · rw [dif_pos q]
      exact (turned_lo x5 x6 (Y t) t _ _ _ _ _ (by first | rfl | omega | (simp only; omega)) (by first | rfl | omega | (simp only; omega)) (.inr ⟨(by show ¬ (512 + (d : ℕ)) / 32 % 2 = 0; rw [hk]; omega), rfl⟩) (by first | rfl | omega | (simp only; omega)) (by first | rfl | omega | (simp only; omega))).symm
    · rw [dif_neg q]
      exact (turned_hi x5 x6 (Y t) t _ _ _ _ _ (by first | rfl | omega | (simp only; omega)) (by first | rfl | omega | (simp only; omega)) (.inr ⟨(by show ¬ (512 + (d : ℕ)) / 32 % 2 = 0; rw [hk]; omega), rfl⟩) (by first | rfl | omega | (simp only; omega)) (by first | rfl | omega | (simp only; omega))).symm

theorem value2 : val_main_v105 (F := Ideal) x0 x1 x2 x3 x5 x6 = out2 x0 x1 x2 x3 x5 x6 := by
  funext i
  exact (congrArg _ (eq_ix2 i)).trans (value2_at x0 x1 x2 x3 x5 x6 (i 0) (i 1))

theorem value1 : val_main_v102 (F := Ideal) x0 x1 x2 x3 x4 = out1 x0 x1 x2 x3 x4 := by
  funext i
  rw [eq_ix2 i]
  generalize i 0 = t
  generalize i 1 = d
  have h := fun b s ht => v23_at x0 x1 x2 x3 b s t ht
  unfold val_main_v102 val_main_v101 val_main_v26 val_main_v25 val_main_v24
  generalize val_main_v23 (F := Ideal) x0 x1 x2 x3 = y at h
  pointwise
  have ht : (t : ℕ) < 32768 := t.isLt
  exact Finset.sum_congr rfl fun j _ => congrArg₂ (· * ·) (h ⟨(t : ℕ) / 4096, by omega⟩ ⟨(t : ℕ) % 4096, by omega⟩ (by simp only; omega) _) rfl

theorem value4 : val_main_v107 (F := Ideal) x0 x1 x2 x3 = out4 x0 x1 x2 x3 := by
  funext i
  rw [eq_ix2 i]
  generalize i 0 = t
  generalize i 1 = d
  have h := fun b s ht => v23_at x0 x1 x2 x3 b s t ht
  unfold val_main_v107 val_main_v106
  generalize val_main_v23 (F := Ideal) x0 x1 x2 x3 = y at h
  pointwise
  have ht : (t : ℕ) < 32768 := t.isLt
  exact h ⟨(t : ℕ) / 4096, by omega⟩ ⟨(t : ℕ) % 4096, by omega⟩ (by simp only; omega) _

end Cert.InRow.Ref

end
-- ==== Proof.In.Claim.lean ====
/- The projection's claims: the reference's frame, and that kernel and reference agree. -/
module

public import proofs.«01_k».proof.Defs
public import proofs.«01_k».proof.Proof.In.Final
public import proofs.«01_k».proof.Proof.In.Ref
public import proofs.«01_k».proof.Proof.Gen.InRefIdeal.Run
public import Idealize.ShloMosaic.Lib.Claim
public import Idealize.ShloMosaic.Lib.Quiescent

@[expose] public section

set_option maxRecDepth 16384

noncomputable section

namespace Cert.InRow

open Idealize.ShloMosaic Idealize.SL.Sem

theorem quiet : Cert.quiescent_InRefIdeal := by
  intro m g _
  exact (θ_run _ _ _).mono (fun r h => ⟨fun c => (h c).2.2.2.2.2, sem_eq_zero_of_no_sems rfl _⟩) (Cert.InRefIdeal.Value.run m g)

theorem algebraic : Cert.algebraic_InIdeal_InRefIdeal := by
  pair_intro
  · run_from run m g
  · run_from Cert.InRefIdeal.Value.run m' g'
    · exact (Cert.InRefIdeal.Read.val_main_v100_eq (F := Ideal) _ _ _ _).trans (Ref.value0 _ _ _ _)
    · exact (Cert.InRefIdeal.Read.val_main_v102_eq (F := Ideal) _ _ _ _ _).trans (Ref.value1 _ _ _ _ _)
    · obtain ⟨e0, e1, e2, e3, e4, e5, e6⟩ := hagree c
      refine (Cert.InRefIdeal.Read.val_main_v105_eq m' c).trans ?_
      rw [e0, e1, e2, e3, e5, e6]
      exact Ref.value2 _ _ _ _ _ _
    · obtain ⟨e0, e1, e2, e3, e4, e5, e6⟩ := hagree c
      refine (Cert.InRefIdeal.Read.val_main_v98_eq m' c).trans ?_
      rw [e0, e1, e2, e3, e5, e6]
      exact Ref.value3 _ _ _ _ _ _
    · exact (Cert.InRefIdeal.Read.val_main_v107_eq (F := Ideal) _ _ _ _).trans (Ref.value4 _ _ _ _)

end Cert.InRow

end
-- ==== Proof.Out.Payload.lean ====
/- The projection behind the mixers: what each stored value is, entry by entry. -/
module

public import Idealize.ShloMosaic.Lib.Pointwise
public import proofs.«01_k».proof.Proof.Gen.OutIdeal.Skeleton

@[expose] public section

set_option maxRecDepth 16384

noncomputable section

namespace Cert.OutRow

open Idealize.ShloMosaic Idealize.ShloMosaic.TcCoe Idealize.SL.Sem
open Cert.OutIdeal Cert.OutIdeal.Gen

/-- A value scaled by the root mean square of its row. -/
def normed (X : Fin 1024 → EReal) (d : Fin 1024) : EReal :=
  X d * Ideal.rsqrt (Ideal.div (∑ x, X x * X x) (Ideal.ofBits .f32 0x44800000#32) + Ideal.ofBits .f32 0x358637BD#32)

theorem pay5_at (v0 : Vec Ideal S256x256 .bf16) (v1 : Vec Ideal S256x1024 .bf16) (v4 : Vec Ideal S256x256 .bf16) (v5 : Vec Ideal S256x1024 .bf16)
    (v9 : Vec Ideal S256x512 .bf16) (v10 : Vec Ideal S512x1024 .bf16) (v14 : Vec Ideal S1x1x6144 .f32) (v19 : Vec Ideal S256x1024 .f32) (r : Fin 256) (d : Fin 1024) :
    k0_pay5 (F := Ideal) v0 v1 v4 v5 v9 v10 v14 v19 (ix2 r d)
      = v19 (ix2 r d) + v14 (ix3 0 0 ⟨2048 + d, by omega⟩) * ((∑ j : Fin 256, v0 (ix2 r j) * v1 (ix2 j d)) + (∑ j : Fin 256, v4 (ix2 r j) * v5 (ix2 j d))
        + ∑ j : Fin 512, v9 (ix2 r j) * v10 (ix2 j d)) := by
  pointwise [k0_pay5, k0_pay2]

theorem pay6_at (v0 : Vec Ideal S256x256 .bf16) (v1 : Vec Ideal S256x1024 .bf16) (v4 : Vec Ideal S256x256 .bf16) (v5 : Vec Ideal S256x1024 .bf16)
    (v9 : Vec Ideal S256x512 .bf16) (v10 : Vec Ideal S512x1024 .bf16) (v14 : Vec Ideal S1x1x6144 .f32) (v19 : Vec Ideal S256x1024 .f32) (r : Fin 256) (d : Fin 1024) :
    k0_pay6 (F := Ideal) v0 v1 v4 v5 v9 v10 v14 v19 (ix2 r d) = normed (fun x => k0_pay5 (F := Ideal) v0 v1 v4 v5 v9 v10 v14 v19 (ix2 r x)) d := by
  unfold k0_pay6
  generalize k0_pay5 (F := Ideal) v0 v1 v4 v5 v9 v10 v14 v19 = P
  pointwise
  rfl

theorem pay1_at (v17 : FVec Ideal S1x1024 .f32) (v18 : FVec Ideal S1x1024 .f32) (v23 : Vec Ideal S1x1024 .f32) (v33 : FVec Ideal S256x1024 .f32) (r : Fin 256) (d : Fin 1024) :
    k0_pay1 (F := Ideal) v17 v18 v23 v33 (ix2 d r) = v33 (ix2 r d) * v23 (ix2 0 d) * (1 + v18 (ix2 0 d)) + v17 (ix2 0 d) := by
  pointwise [k0_pay1]

theorem pay3_at (v14 : Vec Ideal S1x1x6144 .f32) (d : Fin 1024) : k0_pay3 (F := Ideal) v14 (ix2 0 d) = v14 (ix3 0 0 ⟨3072 + d, by omega⟩) := by
  pointwise [k0_pay3, k0_pay2]

theorem pay4_at (v14 : Vec Ideal S1x1x6144 .f32) (d : Fin 1024) : k0_pay4 (F := Ideal) v14 (ix2 0 d) = v14 (ix3 0 0 ⟨4096 + d, by omega⟩) := by
  pointwise [k0_pay4, k0_pay2]

end Cert.OutRow

end
-- ==== Proof.Out.Row.lean ====
/- The layer behind the mixers, row by row: the projected mix, the residual, and the modulated norm. -/
module

public import proofs.«01_k».proof.Proof.Out.Payload

@[expose] public section

set_option maxRecDepth 16384

noncomputable section

namespace Cert.OutRow

open Idealize.ShloMosaic Idealize.ShloMosaic.TcCoe Idealize.SL.Sem
open Cert.OutIdeal Cert.OutIdeal.Gen

variable (p f : FVec Ideal S32768x256 .bf16) (a : FVec Ideal S32768x512 .bf16) (x : FVec Ideal S32768x1024 .f32)
  (md : FVec Ideal S16x1x6144 .f32) (ln : FVec Ideal S1x1024 .f32) (w : FVec Ideal S1024x1024 .f32)

/-- Row `t` of the three mixers' outputs through the projection. -/
def mixed (t : Fin 32768) (d : Fin 1024) : EReal :=
  (∑ j : Fin 256, p (ix2 t j) * w (ix2 ⟨j, by omega⟩ d)) + (∑ j : Fin 256, f (ix2 t j) * w (ix2 ⟨256 + j, by omega⟩ d))
    + ∑ j : Fin 512, a (ix2 t j) * w (ix2 ⟨512 + j, by omega⟩ d)

/-- The residual row: the layer's input plus the gated mix. -/
def resid (t : Fin 32768) (d : Fin 1024) : EReal :=
  x (ix2 t d) + md (ix3 ⟨1 + (t : ℕ) / 4096, by omega⟩ 0 ⟨2048 + d, by omega⟩) * mixed p f a w t d

/-- What the expert layer reads of row `t`. -/
def ready (t : Fin 32768) (d : Fin 1024) : EReal :=
  normed (resid p f a x md w t) d * ln (ix2 0 d) * (1 + md (ix3 ⟨1 + (t : ℕ) / 4096, by omega⟩ 0 ⟨4096 + d, by omega⟩))
    + md (ix3 ⟨1 + (t : ℕ) / 4096, by omega⟩ 0 ⟨3072 + d, by omega⟩)

def out0 : FVec Ideal S32768x1024 .f32 := fun i => resid p f a x md w (i 0) (i 1)
def out1 : FVec Ideal S1024x32768 .bf16 := fun i => ready p f a x md ln w (i 1) (i 0)

end Cert.OutRow

end
-- ==== Proof.Out.Kernel.lean ====
/- The projection's output arrays: block by block, every entry is the row's. -/
module

public import proofs.«01_k».proof.Proof.Out.Row
public import proofs.«01_k».proof.Proof.Gen.OutIdeal.Frame
public import Idealize.ShloMosaic.Lib.Pipeline.Value
public import Idealize.ShloMosaic.Lib.Pipeline.ValueKit

@[expose] public section

set_option maxRecDepth 16384

noncomputable section

namespace Cert.OutRow

open Idealize.ShloMosaic Idealize.ShloMosaic.TcCoe Idealize.SL.Sem
open Idealize.ShloMosaic.Pipeline (Dat)
open Cert.OutIdeal Cert.OutIdeal.Gen

variable (m : (ℓ : Loc nD τ sig) → Buf (Elt Ideal) ℓ)

theorem idx : ∀ t : Fin cfg0.N, win0_0.index t = ![t.val, 0] ∧ win0_1.index t = ![t.val, 0] ∧ win0_2.index t = ![t.val, 0]
    ∧ win0_3.index t = ![t.val, 0] ∧ win0_4.index t = ![1 + t.val / 16, 0, 0] ∧ win0_5.index t = ![0, 0] ∧ win0_6.index t = ![0, 0]
    ∧ win0_7.index t = ![t.val, 0] ∧ win0_8.index t = ![0, t.val] :=
  (by decide +kernel : ∀ t : Fin grid0.N, _)

abbrev A0 (c : Dev nD) : FVec Ideal S32768x256 .bf16 := m ((c : Thread nD τ).loc main_arg0)
abbrev A1 (c : Dev nD) : FVec Ideal S32768x256 .bf16 := m ((c : Thread nD τ).loc main_arg1)
abbrev A2 (c : Dev nD) : FVec Ideal S32768x512 .bf16 := m ((c : Thread nD τ).loc main_arg2)
abbrev A3 (c : Dev nD) : FVec Ideal S32768x1024 .f32 := m ((c : Thread nD τ).loc main_arg3)
abbrev A4 (c : Dev nD) : FVec Ideal S16x1x6144 .f32 := m ((c : Thread nD τ).loc main_arg4)
abbrev A5 (c : Dev nD) : FVec Ideal S1x1024 .f32 := m ((c : Thread nD τ).loc main_arg5)
abbrev A6 (c : Dev nD) : FVec Ideal S1024x1024 .f32 := m ((c : Thread nD τ).loc main_arg6)

section Blocks

variable (c : Dev nD) (t : Fin cfg0.N) (r : Fin 256) (i : Fin 32768) (hi : (i : ℕ) = 256 * t.val + r)
include hi

theorem b0 (j : Fin 256) : (show FVec Ideal S256x256 .bf16 from iblk m c 0 t) (ix2 r j) = A0 m c (ix2 i j) := by blk_point [iblk, V, idx t]
theorem b1 (j : Fin 256) : (show FVec Ideal S256x256 .bf16 from iblk m c 1 t) (ix2 r j) = A1 m c (ix2 i j) := by blk_point [iblk, V, idx t]
theorem b2 (j : Fin 512) : (show FVec Ideal S256x512 .bf16 from iblk m c 2 t) (ix2 r j) = A2 m c (ix2 i j) := by blk_point [iblk, V, idx t]
theorem b3 (j : Fin 1024) : (show FVec Ideal S256x1024 .f32 from iblk m c 3 t) (ix2 r j) = A3 m c (ix2 i j) := by blk_point [iblk, V, idx t]
theorem b4 (j : Fin 6144) : (show FVec Ideal S1x1x6144 .f32 from iblk m c 4 t) (ix3 0 0 j) = A4 m c (ix3 ⟨1 + (i : ℕ) / 4096, by omega⟩ 0 j) := by
  blk_point [iblk, V, idx t]
theorem b5 (j : Fin 1024) : (show FVec Ideal S1x1024 .f32 from iblk m c 5 t) (ix2 0 j) = A5 m c (ix2 0 j) := by blk_point [iblk, V, idx t]
theorem b6 (k j : Fin 1024) : (show FVec Ideal S1024x1024 .bf16 from iblk m c 6 t) (ix2 k j) = A6 m c (ix2 k j) := by blk_point [iblk, V, idx t]

end Blocks

section Entries

variable (c : Dev nD) (t : Fin cfg0.N) (r : Fin 256) (i : Fin 32768) (hi : (i : ℕ) = 256 * t.val + r)
include hi

theorem w0 (k : Fin 256) (d : Fin 1024) : (View.ld (iblk m c 6 t) r0_1 : Vec Ideal S256x1024 .bf16) (ix2 k d) = A6 m c (ix2 ⟨k, by omega⟩ d) := by
  blk_point [iblk, V, idx t]
theorem w1 (k : Fin 256) (d : Fin 1024) : (View.ld (iblk m c 6 t) r0_2 : Vec Ideal S256x1024 .bf16) (ix2 k d) = A6 m c (ix2 ⟨256 + k, by omega⟩ d) := by
  blk_point [iblk, V, idx t]
theorem w2 (k : Fin 512) (d : Fin 1024) : (View.ld (iblk m c 6 t) r0_4 : Vec Ideal S512x1024 .bf16) (ix2 k d) = A6 m c (ix2 ⟨512 + k, by omega⟩ d) := by
  blk_point [iblk, V, idx t]

theorem resid_at (d : Fin 1024) :
    k0_pay5 (F := Ideal) (iblk m c 0 t) (View.ld (iblk m c 6 t) r0_1) (iblk m c 1 t) (View.ld (iblk m c 6 t) r0_2) (iblk m c 2 t)
      (View.ld (iblk m c 6 t) r0_4) (iblk m c 4 t) (iblk m c 3 t) (ix2 r d) = resid (A0 m c) (A1 m c) (A2 m c) (A3 m c) (A4 m c) (A6 m c) i d := by
  refine (pay5_at _ _ _ _ _ _ _ _ r d).trans ?_
  refine congrArg₂ (· + ·) (b3 m c t r i hi d) (congrArg₂ (· * ·) (b4 m c t r i hi _) (congrArg₂ (· + ·) (congrArg₂ (· + ·)
    (Finset.sum_congr rfl fun j _ => ?_) (Finset.sum_congr rfl fun j _ => ?_)) (Finset.sum_congr rfl fun j _ => ?_)))
  · exact congrArg₂ (· * ·) (b0 m c t r i hi j) (w0 m c t r i hi j d)
  · exact congrArg₂ (· * ·) (b1 m c t r i hi j) (w1 m c t r i hi j d)
  · exact congrArg₂ (· * ·) (b2 m c t r i hi j) (w2 m c t r i hi j d)

theorem out7 (d : Fin 1024) :
    out0_7 (iblk m c 0 t) (iblk m c 1 t) (iblk m c 2 t) (iblk m c 3 t) (iblk m c 4 t) (iblk m c 5 t) (iblk m c 6 t) (ix2 r d)
      = resid (A0 m c) (A1 m c) (A2 m c) (A3 m c) (A4 m c) (A6 m c) i d := by
  unfold out0_7
  frame_out
  exact resid_at m c t r i hi d

theorem out8 (d : Fin 1024) :
    out0_8 (iblk m c 0 t) (iblk m c 1 t) (iblk m c 2 t) (iblk m c 3 t) (iblk m c 4 t) (iblk m c 5 t) (iblk m c 6 t) (ix2 d r)
      = ready (A0 m c) (A1 m c) (A2 m c) (A3 m c) (A4 m c) (A5 m c) (A6 m c) i d := by
  unfold out0_8
  frame_out
  rw [pay1_at, pay3_at, pay4_at, pay6_at]
  exact congrArg₂ (· + ·) (congrArg₂ (· * ·) (congrArg₂ (· * ·) (congrArg (fun X => normed X d) (funext fun x => resid_at m c t r i hi x)) (b5 m c t r i hi d)) (congrArg₂ (· + ·) rfl (b4 m c t r i hi _))) (b4 m c t r i hi _)

end Entries

theorem final7 (c : Dev nD) : (dats m 0 c).arrAt 7 cfg0.N = out0 (A0 m c) (A1 m c) (A2 m c) (A3 m c) (A4 m c) (A6 m c) := by
  refine (dats m 0 c).arrAt_eq_of_covers 7 _ (by decide +kernel) fun t _ y => ?_
  have ht : t.val < 128 := lt_of_lt_of_eq t.isLt N_0
  blk_simp
  rw [after0_7]
  have y0 : (y 0 : ℕ) < 256 := (y 0).isLt
  have y1 : (y 1 : ℕ) < 1024 := (y 1).isLt
  refine (congrArg _ (eq_ix2 y)).trans ((out7 m c t (y 0) ⟨256 * t.val + (y 0 : ℕ), by omega⟩ rfl (y 1)).trans ?_)
  unfold out0
  congr 1 <;> refine Fin.ext ?_ <;> blk_simp [idx t] <;> try (simp only; omega)

theorem final8 (c : Dev nD) : (dats m 0 c).arrAt 8 cfg0.N = out1 (A0 m c) (A1 m c) (A2 m c) (A3 m c) (A4 m c) (A5 m c) (A6 m c) := by
  refine (dats m 0 c).arrAt_eq_of_covers 8 _ (by decide +kernel) fun t _ y => ?_
  have ht : t.val < 128 := lt_of_lt_of_eq t.isLt N_0
  blk_simp
  rw [after0_8]
  have y0 : (y 0 : ℕ) < 1024 := (y 0).isLt
  have y1 : (y 1 : ℕ) < 256 := (y 1).isLt
  refine (congrArg _ (eq_ix2 y)).trans ((out8 m c t (y 1) ⟨256 * t.val + (y 1 : ℕ), by omega⟩ rfl (y 0)).trans ?_)
  unfold out1
  congr 1 <;> refine Fin.ext ?_ <;> blk_simp [idx t] <;> try (simp only; omega)

/-- What the run leaves: both arrays, and the arguments as they were. -/
theorem run (g : Dev nD → PrngReg) : θ_run defs (onTc (τ := τ) (main (F := Ideal))) ⟨m, fun _ => 0, g⟩ fun r => ∀ c : Dev nD,
    r.2.mem ((c : Thread nD τ).loc main_v1_0) = out0 (A0 m c) (A1 m c) (A2 m c) (A3 m c) (A4 m c) (A6 m c)
    ∧ r.2.mem ((c : Thread nD τ).loc main_v1_1) = out1 (A0 m c) (A1 m c) (A2 m c) (A3 m c) (A4 m c) (A5 m c) (A6 m c)
    ∧ r.2.mem ((c : Thread nD τ).loc main_arg0) = m ((c : Thread nD τ).loc main_arg0)
    ∧ r.2.mem ((c : Thread nD τ).loc main_arg1) = m ((c : Thread nD τ).loc main_arg1)
    ∧ r.2.mem ((c : Thread nD τ).loc main_arg2) = m ((c : Thread nD τ).loc main_arg2)
    ∧ r.2.mem ((c : Thread nD τ).loc main_arg3) = m ((c : Thread nD τ).loc main_arg3)
    ∧ r.2.mem ((c : Thread nD τ).loc main_arg4) = m ((c : Thread nD τ).loc main_arg4)
    ∧ r.2.mem ((c : Thread nD τ).loc main_arg5) = m ((c : Thread nD τ).loc main_arg5)
    ∧ r.2.mem ((c : Thread nD τ).loc main_arg6) = m ((c : Thread nD τ).loc main_arg6) := by
  exact (θ_run defs _ _).mono (fun r h c => ⟨((h.2 c).1 7).trans (final7 m c), ((h.2 c).1 8).trans (final8 m c), h.1 c⟩)
    (θ_run_and (unchanged m g) (run_main m g))

end Cert.OutRow

end
-- ==== Proof.Out.Ref.lean ====
/- The reference's value, entry by entry: the row's. -/
module

public import proofs.«01_k».proof.Proof.Out.Row
public import proofs.«01_k».proof.Proof.Gen.OutRefIdeal.Read
public import Idealize.ShloMosaic.Lib.Pointwise
public import Idealize.ShloMosaic.Lib.Tactic.CleanTypes
public import Idealize.ShloMosaic.Lib.Pipeline.ValueKit

@[expose] public section

set_option maxRecDepth 16384

noncomputable section

namespace Cert.OutRow.Ref

open Idealize.ShloMosaic Idealize.ShloMosaic.TcCoe Idealize.SL.Sem
open Cert.OutRefIdeal Cert.OutRefIdeal.Gen Cert.OutRefIdeal.Read

variable (x0 x1 : FVec Ideal S32768x256 .bf16) (x2 : FVec Ideal S32768x512 .bf16) (x3 : FVec Ideal S32768x1024 .f32)
  (x4 : FVec Ideal S16x1x6144 .f32) (x5 : FVec Ideal S1x1024 .f32) (x6 : FVec Ideal S1024x1024 .f32)

theorem v8_at (t : Fin 32768) (d : Fin 1024) : val_main_v8 (F := Ideal) x0 x1 x2 x6 (ix2 t d) = mixed x0 x1 x2 x6 t d := by
  unfold val_main_v8 val_main_v7 val_main_v6 val_main_v5 val_main_v4
  pointwise
  refine (Fin.sum_univ_add (a := 512) (b := 512) _).trans ?_
  refine congrArg₂ (· + ·) ((Fin.sum_univ_add (a := 256) (b := 256) _).trans
    (congrArg₂ (· + ·) (Finset.sum_congr rfl fun j _ => ?_) (Finset.sum_congr rfl fun j _ => ?_))) (Finset.sum_congr rfl fun j _ => ?_)
  · refine congrArg₂ (· * ·) (dif_pos j.isLt) rfl
  · refine congrArg₂ (· * ·) ((dif_neg (show ¬ 256 + (j : ℕ) < 256 by omega)).trans ((dif_pos (show 256 + (j : ℕ) - 256 < 256 by omega)).trans
      (congrArg (fun k => x1 (ix2 t k)) (Fin.ext (show 256 + (j : ℕ) - 256 = j by omega))))) rfl
  · refine congrArg₂ (· * ·) ((dif_neg (show ¬ 512 + (j : ℕ) < 256 by omega)).trans ((dif_neg (show ¬ 512 + (j : ℕ) - 256 < 256 by omega)).trans
      (congrArg (fun k => x2 (ix2 t k)) (Fin.ext (show 512 + (j : ℕ) - 256 - 256 = j by omega))))) rfl

theorem v13_at (b : Fin 8) (s : Fin 4096) (t : Fin 32768) (ht : (t : ℕ) = 4096 * b + s) (d : Fin 1024) :
    val_main_v13 (F := Ideal) x0 x1 x2 x3 x4 x6 (ix3 b s d) = resid x0 x1 x2 x3 x4 x6 t d := by
  unfold val_main_v13 val_main_v12 val_main_v11 val_main_v10 val_main_v9 val_main_v1 val_main_v0
  have h := v8_at x0 x1 x2 x6
  generalize val_main_v8 (F := Ideal) x0 x1 x2 x6 = y at h
  pointwise
  have hT : (⟨(b : ℕ) * 4096 + s, by omega⟩ : Fin 32768) = t := Fin.ext (show (b : ℕ) * 4096 + s = t by omega)
  have hq : (⟨1 + (b : ℕ), by omega⟩ : Fin 16) = ⟨1 + (t : ℕ) / 4096, by omega⟩ := Fin.ext (show 1 + (b : ℕ) = 1 + (t : ℕ) / 4096 by omega)
  rw [hT, h, hq]
  rfl

theorem v32_at (b : Fin 8) (s : Fin 4096) (t : Fin 32768) (ht : (t : ℕ) = 4096 * b + s) (d : Fin 1024) :
    val_main_v32 (F := Ideal) x0 x1 x2 x3 x4 x5 x6 (ix3 b s d) = ready x0 x1 x2 x3 x4 x5 x6 t d := by
  unfold val_main_v32 val_main_v31 val_main_v30 val_main_v29 val_main_v28 val_main_v27 val_main_v26 val_main_v25 val_main_v24 val_main_v23 val_main_v22
    val_main_v21 val_main_v20 val_main_v19 val_main_v18 val_main_v17 val_main_v16 val_main_v15 val_main_v14 val_main_v2 val_main_v3 val_main_v0
  have h := fun d => v13_at x0 x1 x2 x3 x4 x6 b s t ht d
  generalize val_main_v13 (F := Ideal) x0 x1 x2 x3 x4 x6 = y at h
  pointwise [val_main_cst, val_main_cst_0, val_main_cst_1, val_main_cst_2]
  have hT : (⟨(b : ℕ) * 4096 + s, by omega⟩ : Fin 32768) = t := Fin.ext (show (b : ℕ) * 4096 + s = t by omega)
  have hq : (⟨1 + (b : ℕ), by omega⟩ : Fin 16) = ⟨1 + (t : ℕ) / 4096, by omega⟩ := Fin.ext (show 1 + (b : ℕ) = 1 + (t : ℕ) / 4096 by omega)
  simp only [h]
  rw [hq]
  rfl

theorem value0 : val_main_v33 (F := Ideal) x0 x1 x2 x3 x4 x6 = out0 x0 x1 x2 x3 x4 x6 := by
  funext i
  rw [eq_ix2 i]
  generalize i 0 = t
  generalize i 1 = d
  have h := fun b s ht => v13_at x0 x1 x2 x3 x4 x6 b s t ht d
  unfold val_main_v33
  generalize val_main_v13 (F := Ideal) x0 x1 x2 x3 x4 x6 = y at h
  pointwise
  have ht : (t : ℕ) < 32768 := t.isLt
  exact h ⟨(t : ℕ) / 4096, by omega⟩ ⟨(t : ℕ) % 4096, by omega⟩ (by simp only; omega)

theorem value1 : val_main_v36 (F := Ideal) x0 x1 x2 x3 x4 x5 x6 = out1 x0 x1 x2 x3 x4 x5 x6 := by
  funext i
  rw [eq_ix2 i]
  generalize i 0 = d
  generalize i 1 = t
  have h := fun b s ht => v32_at x0 x1 x2 x3 x4 x5 x6 b s t ht d
  unfold val_main_v36 val_main_v35 val_main_v34
  generalize val_main_v32 (F := Ideal) x0 x1 x2 x3 x4 x5 x6 = y at h
  pointwise
  have ht : (t : ℕ) < 32768 := t.isLt
  exact h ⟨(t : ℕ) / 4096, by omega⟩ ⟨(t : ℕ) % 4096, by omega⟩ (by simp only; omega)

end Cert.OutRow.Ref

end
-- ==== Proof.Out.Claim.lean ====
/- The projection's claims: the reference's frame, and that kernel and reference agree. -/
module

public import proofs.«01_k».proof.Defs
public import proofs.«01_k».proof.Proof.Out.Kernel
public import proofs.«01_k».proof.Proof.Out.Ref
public import proofs.«01_k».proof.Proof.Gen.OutRefIdeal.Run
public import Idealize.ShloMosaic.Lib.Claim
public import Idealize.ShloMosaic.Lib.Quiescent

@[expose] public section

set_option maxRecDepth 16384

noncomputable section

namespace Cert.OutRow

open Idealize.ShloMosaic Idealize.SL.Sem

theorem quiet : Cert.quiescent_OutRefIdeal := by
  intro m g _
  exact (θ_run _ _ _).mono (fun r h => ⟨fun c => (h c).2.2, sem_eq_zero_of_no_sems rfl _⟩) (Cert.OutRefIdeal.Value.run m g)

theorem algebraic : Cert.algebraic_OutIdeal_OutRefIdeal := by
  pair_intro
  · run_from run m g
  · run_from Cert.OutRefIdeal.Value.run m' g'
    · exact (Cert.OutRefIdeal.Read.val_main_v33_eq (F := Ideal) _ _ _ _ _ _).trans (Ref.value0 _ _ _ _ _ _)
    · obtain ⟨e0, e1, e2, e3, e4, e5, e6⟩ := hagree c
      refine (Cert.OutRefIdeal.Read.val_main_v36_eq m' c).trans ?_
      rw [e0, e1, e2, e3, e4, e5, e6]
      exact Ref.value1 _ _ _ _ _ _ _

end Cert.OutRow

end
-- ==== Proof.Peer.Spec.lean ====
/- The largest of a family of extended reals, one after another, every copy of a value going at once; that the 16
   largest sums of two such lists are found among 50 of the 256 pairs of places; and the smallest second value that
   still reaches the 16th sum. -/
module

public import Idealize.ShloMosaic.Lib.Pointwise

@[expose] public section

noncomputable section

namespace Cert.PeerSpec

open Idealize.ShloMosaic

variable {ι κ : Type} [Fintype ι] [Fintype κ]

def big (s : ι → EReal) : EReal := Finset.univ.fold max ⊥ s

def left (s : ι → EReal) : ℕ → ι → EReal
  | 0 => s
  | r + 1 => fun k => if left s r k = big (left s r) then ⊥ else left s r k

/-- The `r`-th largest value, `r` from 0. -/
def pick (s : ι → EReal) (r : ℕ) : EReal := big (left s r)

theorem le_big (s : ι → EReal) (k : ι) : s k ≤ big s :=
  Finset.le_fold_max _ |>.2 (.inr ⟨k, Finset.mem_univ _, le_rfl⟩)

theorem big_le (s : ι → EReal) (b : EReal) (h : ∀ k, s k ≤ b) : big s ≤ b :=
  Finset.fold_max_le _ |>.2 ⟨bot_le, fun k _ => h k⟩

theorem left_eq (s : ι → EReal) (r : ℕ) (k : ι) : left s r k = if ∃ q < r, s k = pick s q then ⊥ else s k := by
  induction r with
  | zero => rw [if_neg (by rintro ⟨q, hq, _⟩; omega)]; rfl
  | succ r ih =>
    show (if left s r k = pick s r then ⊥ else left s r k) = _
    by_cases h : ∃ q < r, s k = pick s q
    · rw [if_pos h] at ih
      rw [if_pos (show ∃ q < r + 1, s k = pick s q from let ⟨q, hq, e⟩ := h; ⟨q, by omega, e⟩), ih, ite_self]
    · rw [if_neg h] at ih
      rw [ih]
      by_cases e : s k = pick s r
      · rw [if_pos e, if_pos ⟨r, by omega, e⟩]
      · rw [if_neg e, if_neg]
        rintro ⟨q, hq, e'⟩
        rcases Nat.lt_succ_iff_lt_or_eq.1 hq with h' | rfl
        · exact h ⟨q, h', e'⟩
        · exact e e'

theorem left_le (s : ι → EReal) (r : ℕ) (k : ι) : left s r k ≤ s k := by
  rw [left_eq]; split
  · exact bot_le
  · exact le_rfl

theorem pick_step (s : ι → EReal) (r : ℕ) : pick s (r + 1) ≤ pick s r := by
  refine big_le _ _ fun k => ?_
  show (if left s r k = pick s r then ⊥ else left s r k) ≤ _
  split
  · exact bot_le
  · exact le_big _ k

theorem pick_anti (s : ι → EReal) {a b : ℕ} (h : a ≤ b) : pick s b ≤ pick s a := antitone_nat_of_succ_le (pick_step s) h

/-- A value not below the `m`-th largest is one of the largest. -/
theorem found (s : ι → EReal) (m : ℕ) (k : ι) (h : pick s m ≤ s k) : ∃ q ≤ m, s k = pick s q := by
  by_contra hn
  have h1 : left s m k = s k := by
    rw [left_eq, if_neg]
    rintro ⟨q, hq, e⟩
    exact hn ⟨q, by omega, e⟩
  exact hn ⟨m, le_rfl, le_antisymm (h1 ▸ le_big (left s m) k) h⟩

/-- Of more than `r` places holding different values, one is still there after `r` steps. -/
theorem remains (C : κ → EReal) (r : ℕ) (S : Finset κ) (hS : r < S.card) (hi : Set.InjOn C S) : ∃ n ∈ S, left C r n = C n := by
  classical
  have hc : ((Finset.range r).image (pick C)).card < (S.image C).card := by
    rw [Finset.card_image_of_injOn hi]
    exact lt_of_le_of_lt Finset.card_image_le (by simpa using hS)
  obtain ⟨v, hv, hv'⟩ := Finset.exists_mem_notMem_of_card_lt_card hc
  obtain ⟨n, hn, rfl⟩ := Finset.mem_image.1 hv
  refine ⟨n, hn, ?_⟩
  rw [left_eq, if_neg]
  rintro ⟨q, hq, e⟩
  exact hv' (Finset.mem_image.2 ⟨q, Finset.mem_range.2 hq, e.symm⟩)

theorem pick_prune (C : κ → EReal) (T : ι → EReal) (m : ℕ) (hC : ∀ n, C n = ⊥ ∨ ∃ t, C n = T t)
    (hT : ∀ t, (∃ n, C n = T t) ∨ ∃ S : Finset κ, m ≤ S.card ∧ Set.InjOn C S ∧ ∀ n ∈ S, T t ≤ C n) :
    ∀ r < m, pick C r = pick T r := by
  intro r
  induction r using Nat.strong_induction_on with
  | _ r ih =>
  intro hr
  have same : ∀ n t, C n = T t → left C r n = left T r t := by
    intro n t e
    rw [left_eq, left_eq, e]
    refine if_congr ⟨?_, ?_⟩ rfl rfl <;> rintro ⟨q, hq, h⟩ <;> refine ⟨q, hq, ?_⟩
    · rw [h, ih q hq (by omega)]
    · rw [h, ih q hq (by omega)]
  refine le_antisymm (big_le _ _ fun n => ?_) (big_le _ _ fun t => ?_)
  · rcases hC n with h | ⟨t, h⟩
    · exact (left_le C r n).trans (h.le.trans bot_le)
    · exact (same n t h).le.trans (le_big _ t)
  · rcases hT t with ⟨n, h⟩ | ⟨S, hS, hi, hle⟩
    · exact (same n t h).symm.le.trans (le_big _ n)
    · obtain ⟨n, hn, e⟩ := remains C r S (by omega) hi
      exact (left_le T r t).trans ((hle n hn).trans (e ▸ le_big (left C r) n))

/-! ## The 50 pairs -/

/-- The pairs of places, counted from 0, whose product of places counted from 1 is at most 16. -/
def pairs : List (ℕ × ℕ) := (List.range 16).flatMap fun i => (List.range (16 / (i + 1))).map fun j => (i, j)

def one (n : ℕ) : ℕ := (pairs.getD n (0, 0)).1
def two (n : ℕ) : ℕ := (pairs.getD n (0, 0)).2

theorem pairs_small : ∀ n < 56, one n < 16 ∧ two n < 16 := by decide +kernel
theorem pairs_inj : ∀ n < 50, ∀ n' < 50, one n = one n' → two n = two n' → n = n' := by decide +kernel
theorem pairs_in : ∀ i < 16, ∀ j < 16 / (i + 1), ∃ n < 50, one n = i ∧ two n = j := by decide +kernel
theorem pairs_out : ∀ i : Fin 16, ∀ j : Fin 16, 16 / (i.val + 1) ≤ j.val →
    16 ≤ ((Finset.univ : Finset (Fin 56)).filter fun n : Fin 56 => n.val < 50 ∧ one n ≤ i ∧ two n ≤ j).card := by decide +kernel

section Table

variable (a b : ℕ → EReal) (C : Fin 56 → EReal)

theorem table_inj (hT : Function.Injective fun p : Fin 16 × Fin 16 => a p.1 + b p.2)
    (hC : ∀ n : Fin 56, C n = if n.val < 50 then a (one n) + b (two n) else ⊥) :
    Set.InjOn C {n : Fin 56 | n.val < 50} := by
  intro n hn n' hn' e
  have hn : n.val < 50 := hn
  have hn' : n'.val < 50 := hn'
  rw [hC, hC, if_pos hn, if_pos hn'] at e
  have := @hT (⟨one n, (pairs_small n n.isLt).1⟩, ⟨two n, (pairs_small n n.isLt).2⟩) (⟨one n', (pairs_small n' n'.isLt).1⟩, ⟨two n', (pairs_small n' n'.isLt).2⟩) e
  rw [Prod.mk.injEq, Fin.mk.injEq, Fin.mk.injEq] at this
  exact Fin.ext (pairs_inj n hn n' hn' this.1 this.2)

variable (ha : ∀ {i j : ℕ}, i ≤ j → a j ≤ a i) (hb : ∀ {i j : ℕ}, i ≤ j → b j ≤ b i)
include ha hb

theorem pick_table (hT : Function.Injective fun p : Fin 16 × Fin 16 => a p.1 + b p.2)
    (hC : ∀ n : Fin 56, C n = if n.val < 50 then a (one n) + b (two n) else ⊥) (r : ℕ) (hr : r < 16) :
    pick C r = pick (fun p : Fin 16 × Fin 16 => a p.1 + b p.2) r := by
  refine pick_prune C _ 16 (fun n => ?_) (fun p => ?_) r hr
  · rw [hC]
    by_cases hn : n.val < 50
    · exact .inr ⟨(⟨one n, (pairs_small n n.isLt).1⟩, ⟨two n, (pairs_small n n.isLt).2⟩), if_pos hn⟩
    · exact .inl (if_neg hn)
  · obtain ⟨i, j⟩ := p
    by_cases h : j.val < 16 / (i.val + 1)
    · obtain ⟨n, hn, h1, h2⟩ := pairs_in i i.isLt j h
      refine .inl ⟨⟨n, by omega⟩, ?_⟩
      rw [hC, if_pos hn]
      show a (one n) + b (two n) = a i + b j
      rw [h1, h2]
    · refine .inr ⟨_, pairs_out i j (not_lt.1 h), ?_, ?_⟩
      · refine (table_inj a b C hT hC).mono fun n hn => ?_
        exact (Finset.mem_filter.1 (Finset.mem_coe.1 hn)).2.1
      · intro n hn
        obtain ⟨_, h0, h1, h2⟩ := Finset.mem_filter.1 hn
        rw [hC, if_pos h0]
        exact add_le_add (ha h1) (hb h2)

/-- A sum outside the 50 is below the 16th largest. -/
theorem below_table (hT : Function.Injective fun p : Fin 16 × Fin 16 => a p.1 + b p.2)
    (hC : ∀ n : Fin 56, C n = if n.val < 50 then a (one n) + b (two n) else ⊥) (i j : ℕ) (hi : i < 16) (hj : j < 16)
    (h : 16 / (i + 1) ≤ j) : a i + b j < pick C 15 := by
  have hcard := pairs_out ⟨i, hi⟩ ⟨j, hj⟩ h
  obtain ⟨n, hn, e⟩ := remains C 15 ((Finset.univ : Finset (Fin 56)).filter fun n : Fin 56 => n.val < 50 ∧ one n ≤ i ∧ two n ≤ j) hcard ((table_inj a b C hT hC).mono fun n hn =>
    (Finset.mem_filter.1 (Finset.mem_coe.1 hn)).2.1)
  obtain ⟨_, h0, h1, h2⟩ := Finset.mem_filter.1 hn
  have hle : C n ≤ pick C 15 := e ▸ le_big (left C 15) n
  rw [hC, if_pos h0] at hle
  refine lt_of_lt_of_le (lt_of_le_of_ne (add_le_add (ha h1) (hb h2)) fun he => ?_) hle
  have := @hT (⟨i, hi⟩, ⟨j, hj⟩) (⟨one n, (pairs_small n n.isLt).1⟩, ⟨two n, (pairs_small n n.isLt).2⟩) he
  rw [Prod.mk.injEq, Fin.mk.injEq, Fin.mk.injEq] at this
  have hlist : ∀ n < 50, two n < 16 / (one n + 1) := by decide +kernel
  have := hlist n h0
  rw [← (show i = one n from ‹_ ∧ _›.1), ← (show j = two n from ‹_ ∧ _›.2)] at this
  omega

end Table

/-! ## The cut -/

/-- The smallest of the first `m` second values whose sum with `x` reaches `θ`. -/
def least (x θ : EReal) (b : ℕ → EReal) : ℕ → EReal
  | 0 => ⊤
  | j + 1 => min (least x θ b j) (if θ ≤ x + b j then b j else ⊤)

theorem least_more (x θ : EReal) (b : ℕ → EReal) (m : ℕ) (h : ∀ j, m ≤ j → j < 16 → x + b j < θ) :
    ∀ n, m ≤ n → n ≤ 16 → least x θ b n = least x θ b m := by
  intro n hmn
  induction n, hmn using Nat.le_induction with
  | base => exact fun _ => rfl
  | succ n hn ih =>
    intro h16
    show min (least x θ b n) (if θ ≤ x + b n then b n else ⊤) = _
    rw [if_neg (not_le.2 (h n hn (by omega))), ih (by omega)]
    exact min_eq_left le_top

/-- The cut of the value `x`, looked up among the largest values `a`, the last fit winning. -/
def lookup (x : EReal) (a : ℕ → EReal) (w : ℕ → EReal) : ℕ → EReal
  | 0 => ⊤
  | i + 1 => if x = a i then w i else lookup x a w i

theorem lookup_none (x : EReal) (a w : ℕ → EReal) (m : ℕ) (h : ∀ i < m, x ≠ a i) : lookup x a w m = ⊤ := by
  induction m with
  | zero => rfl
  | succ m ih =>
    show (if x = a m then w m else lookup x a w m) = ⊤
    rw [if_neg (h m (by omega)), ih fun i hi => h i (by omega)]

theorem lookup_some (x : EReal) (a w : ℕ → EReal) (v : EReal) (m : ℕ) (hw : ∀ i < m, x = a i → w i = v) (h : ∃ i < m, x = a i) :
    lookup x a w m = v := by
  induction m with
  | zero => obtain ⟨i, hi, _⟩ := h; omega
  | succ m ih =>
    show (if x = a m then w m else lookup x a w m) = v
    by_cases e : x = a m
    · rw [if_pos e, hw m (by omega) e]
    · rw [if_neg e]
      refine ih (fun i hi => hw i (by omega)) ?_
      obtain ⟨i, hi, e'⟩ := h
      rcases Nat.lt_succ_iff_lt_or_eq.1 hi with h' | rfl
      · exact ⟨i, h', e'⟩
      · exact absurd e' e

theorem least_16 (x θ : EReal) (b : ℕ → EReal) :
    least x θ b 16 = Finset.univ.fold min ⊤ (fun j : Fin 16 => if θ ≤ x + b j then b j else ⊤) := by
  have gen : ∀ (n : ℕ), least x θ b n = (Finset.univ : Finset (Fin n)).fold min ⊤ (fun j : Fin n => if θ ≤ x + b j then b j else ⊤) := by
    intro n
    induction n with
    | zero => rfl
    | succ n ih =>
      show min (least x θ b n) _ = _
      rw [Fin.univ_castSuccEmb, Finset.fold_cons, Finset.fold_map, ih, min_comm]
      rfl
  exact gen 16

/-- The smallest second value that brings `x` to the 16th sum `θ`, if `x` is not below the 16th first value `v`. -/
def cut (x v θ : EReal) (b : ℕ → EReal) : EReal :=
  if v ≤ x then Finset.univ.fold min ⊤ (fun j : Fin 16 => if θ ≤ x + b j then b j else ⊤) else ⊤

/-- The kernel's cut is the plain one. -/
theorem cut_eq (s : ι → EReal) (b : ℕ → EReal) (C : Fin 56 → EReal) (hb : ∀ {i j : ℕ}, i ≤ j → b j ≤ b i)
    (hT : Function.Injective fun p : Fin 16 × Fin 16 => pick s p.1 + b p.2)
    (hC : ∀ n : Fin 56, C n = if n.val < 50 then pick s (one n) + b (two n) else ⊥) (k : ι) :
    lookup (s k) (pick s) (fun i => least (pick s i) (pick C 15) b (16 / (i + 1))) 16
      = cut (s k) (pick s 15) (pick C 15) b := by
  unfold cut
  by_cases h : pick s 15 ≤ s k
  · rw [if_pos h, ← least_16]
    obtain ⟨q, hq, e⟩ := found s 15 k h
    refine lookup_some _ _ _ _ 16 (fun i hi he => ?_) ⟨q, by omega, e⟩
    rw [he]
    refine (least_more _ _ _ _ (fun j hj hj' => ?_) 16 (Nat.div_le_self _ _) le_rfl).symm
    exact below_table (pick s) b C (fun h => pick_anti s h) hb hT hC i j hi hj' hj
  · rw [if_neg h]
    exact lookup_none _ _ _ 16 fun i hi he => h (he ▸ pick_anti s (by omega))

/-! ## The weights -/

/-- The exponentials of `p 0 … p n` above `p 0`, added up from the left. -/
def total (p : ℕ → EReal) : ℕ → EReal
  | 0 => Ideal.exp (p 0 - p 0)
  | r + 1 => total p r + Ideal.exp (p (r + 1) - p 0)

theorem exp_nonneg (x : EReal) : 0 ≤ Ideal.exp x := by
  induction x using EReal.rec with
  | bot => exact le_rfl
  | coe x => exact EReal.coe_nonneg.2 (Real.exp_pos x).le
  | top => exact le_top

theorem total_pos (p : ℕ → EReal) (h : p 0 ≠ ⊤) (h' : p 0 ≠ ⊥) (n : ℕ) : 0 < total p n := by
  induction n with
  | zero =>
    show 0 < Ideal.exp (p 0 - p 0)
    rw [EReal.sub_self h h']
    show (0 : EReal) < ((Real.exp 0 : ℝ) : EReal)
    exact EReal.coe_pos.2 (Real.exp_pos 0)
  | succ n ih => exact lt_of_lt_of_le ih (le_add_of_nonneg_right (exp_nonneg _))

theorem times_inverse (x z : EReal) (hz : z ≠ 0) : x * Ideal.div 1 z = Ideal.div x z := by
  unfold Ideal.div
  rw [if_neg hz, if_neg hz, one_mul]

/-- With different sums every first value is a real. -/
theorem first_real (a b : ℕ → EReal) (hT : Function.Injective fun p : Fin 16 × Fin 16 => a p.1 + b p.2) : a 0 ≠ ⊤ ∧ a 0 ≠ ⊥ := by
  have hne : ∀ i j : Fin 16, i ≠ j → a 0 + b i ≠ a 0 + b j := fun i j hij e => hij (by
    have := @hT (0, i) (0, j) e
    exact (Prod.mk.injEq _ _ _ _ ▸ this).2)
  constructor
  · intro h
    have h01 := hne 0 1 (by decide)
    have h02 := hne 0 2 (by decide)
    have h12 := hne 1 2 (by decide)
    rw [h] at h01 h02 h12
    have val : ∀ x : EReal, ⊤ + x = ⊤ ∨ ⊤ + x = ⊥ := fun x => by
      induction x using EReal.rec with
      | bot => exact .inr rfl
      | coe x => exact .inl rfl
      | top => exact .inl rfl
    rcases val (b (0 : Fin 16)) with h0 | h0 <;> rcases val (b (1 : Fin 16)) with h1 | h1 <;> rcases val (b (2 : Fin 16)) with h2 | h2 <;>
      first | exact h01 (h0.trans h1.symm) | exact h02 (h0.trans h2.symm) | exact h12 (h1.trans h2.symm)
  · intro h
    have h01 := hne 0 1 (by decide)
    rw [h, EReal.bot_add, EReal.bot_add] at h01
    exact h01 rfl

theorem swap_inj (a b : ℕ → EReal) (hT : Function.Injective fun p : Fin 16 × Fin 16 => a p.1 + b p.2) :
    Function.Injective fun p : Fin 16 × Fin 16 => b p.1 + a p.2 := by
  intro p q e
  have := @hT (p.2, p.1) (q.2, q.1) (by
    show a p.2 + b p.1 = a q.2 + b q.1
    rw [add_comm, add_comm (a q.2)]
    exact e)
  rw [Prod.mk.injEq] at this
  exact Prod.ext this.2 this.1

/-- The largest sum is that of the largest values. -/
theorem pick_zero (a b : ℕ → EReal) (ha : ∀ {i j : ℕ}, i ≤ j → a j ≤ a i) (hb : ∀ {i j : ℕ}, i ≤ j → b j ≤ b i) :
    pick (fun p : Fin 16 × Fin 16 => a p.1 + b p.2) 0 = a 0 + b 0 :=
  le_antisymm (big_le _ _ fun p => add_le_add (ha (Nat.zero_le _)) (hb (Nat.zero_le _)))
    (le_big (fun p : Fin 16 × Fin 16 => a p.1 + b p.2) (0, 0))

theorem total_ne (a b : ℕ → EReal) (ha : ∀ {i j : ℕ}, i ≤ j → a j ≤ a i) (hb : ∀ {i j : ℕ}, i ≤ j → b j ≤ b i)
    (hT : Function.Injective fun p : Fin 16 × Fin 16 => a p.1 + b p.2) (n : ℕ) :
    total (pick fun p : Fin 16 × Fin 16 => a p.1 + b p.2) n ≠ 0 := by
  obtain ⟨h1, h2⟩ := first_real a b hT
  obtain ⟨h3, h4⟩ := first_real b a (swap_inj a b hT)
  refine (total_pos _ ?_ ?_ n).ne'
  · rw [pick_zero a b ha hb]
    exact EReal.add_ne_top h1 h3
  · rw [pick_zero a b ha hb]
    exact fun h => (EReal.add_eq_bot_iff.1 h).elim h2 h4

theorem total_congr (p q : ℕ → EReal) (n : ℕ) (h : ∀ r ≤ n, p r = q r) : total p n = total q n := by
  induction n with
  | zero => unfold total; rw [h 0 le_rfl]
  | succ n ih => unfold total; rw [ih fun r hr => h r (by omega), h _ le_rfl, h 0 (by omega)]

/-- A table in another order has the same largest values. -/
theorem pick_comp (e : κ → ι) (e' : ι → κ) (he : ∀ t, e (e' t) = t) (s : ι → EReal) (r : ℕ) : pick (fun n => s (e n)) r = pick s r :=
  pick_prune _ _ (r + 1) (fun n => .inr ⟨e n, rfl⟩) (fun t => .inl ⟨e' t, congrArg s (he t)⟩) r (Nat.lt_succ_self r)

end Cert.PeerSpec

end
-- ==== Proof.Peer.Steps.lean ====
/- The choice of one head as the kernel takes it, whole vectors at a time: the largest values one after another, the
   table of sums row by row, the denominators, the thresholds. -/
module

public import proofs.«01_k».proof.Proof.Gen.PeerIdeal.Frame
public import proofs.«01_k».proof.Proof.Peer.Spec

@[expose] public section

set_option maxRecDepth 65536

noncomputable section

namespace Cert.PeerRow

open Idealize.ShloMosaic Idealize.ShloMosaic.TcCoe Idealize.SL.Sem
open Cert.PeerIdeal Cert.PeerIdeal.Gen
open Cert.PeerSpec (one two)

variable {F : FTy → Type} [FloatOps F]

/-! ## The largest values of each column of 128 and of 56 -/

def peak (s : FVec F S128x256 .f32) : FVec F S1x256 .f32 :=
  shapeCast S1x256 (multiReduction .maximumf [0] S256 s 0xFF800000#32 reduces_S128x256_S256 (.inl rfl) rfl) shapeCasts_S256_S1x256

def without (s : FVec F S128x256 .f32) : FVec F S128x256 .f32 :=
  select (cmpf .oeq s (broadcastTo S128x256 (peak s) broadcasts_S1x256_S128x256))
    (broadcast S128x256 (Scalar.ofBits .f32 0xFF800000#32)) s

def after (s : FVec F S128x256 .f32) : ℕ → FVec F S128x256 .f32
  | 0 => s
  | r + 1 => without (after s r)

def nth (s : FVec F S128x256 .f32) (r : ℕ) : FVec F S1x256 .f32 := peak (after s r)

def peak' (s : FVec F S56x256 .f32) : FVec F S1x256 .f32 :=
  shapeCast S1x256 (multiReduction .maximumf [0] S256 s 0xFF800000#32 reduces_S56x256_S256 (.inl rfl) rfl) shapeCasts_S256_S1x256

def without' (s : FVec F S56x256 .f32) : FVec F S56x256 .f32 :=
  select (cmpf .oeq s (broadcastTo S56x256 (peak' s) broadcasts_S1x256_S56x256))
    (broadcast S56x256 (Scalar.ofBits .f32 0xFF800000#32)) s

def after' (s : FVec F S56x256 .f32) : ℕ → FVec F S56x256 .f32
  | 0 => s
  | r + 1 => without' (after' s r)

def nth' (s : FVec F S56x256 .f32) (r : ℕ) : FVec F S1x256 .f32 := peak' (after' s r)

/-! ## The half scores, the table of sums -/

def half (w : Vec F S1x1x128x128 .bf16) (q : Vec F S128x256 .bf16) : FVec F S128x256 .f32 :=
  matmul dot_S128x128_S128x256_S128x256_1_0_0_1_n_n none (shapeCast S128x128 w shapeCasts_S1x1x128x128_S128x128) q
    (constant S128x256 .f32 0x00000000#32)

def sumRow (s1 s2 : FVec F S128x256 .f32) (n : ℕ) : FVec F S1x256 .f32 :=
  shapeCast S1x256 (addf (nth s1 (one n)) (nth s2 (two n))) shapeCasts_S1x256_S1x256

theorem row_inb (n : ℕ) (h : n < 56) : ∀ a : Fin 2, (![n, 0] : Fin 2 → ℕ) a + S1x256.size a ≤ S56x256.size a := by
  intro a
  match a with
  | 0 => show n + 1 ≤ 56; omega
  | 1 => show 0 + 256 ≤ 256; omega

def rowPiece (n : ℕ) (h : n < 56) (v : FVec F S1x256 .f32) : View.Piece (Elt F) S56x256 .f32 :=
  ⟨Rect.unit ![n, 0] S1x256.size (row_inb n h), v⟩

/-- The table after its first `n` rows are written over `L`. -/
def rowsOver (L : List (View.Piece (Elt F) S56x256 .f32)) (w : ℕ → FVec F S1x256 .f32) : (n : ℕ) → n ≤ 56 → List (View.Piece (Elt F) S56x256 .f32)
  | 0, _ => L
  | n + 1, h => rowPiece n h (w n) :: rowsOver L w n (Nat.le_of_succ_le h)

def fill : List (View.Piece (Elt F) S56x256 .f32) :=
  [⟨Rect.unit ![0, 0] S56x256.size inb_S56x256_S56x256_0_0, k0_pay4 (F := F)⟩]

/-! ## The four results of a head -/

def den (b : FVec F S56x256 .f32) : ℕ → FVec F S1x256 .f32
  | 0 => exp (subf (nth' b 0) (nth' b 0))
  | r + 1 => addf (den b r) (exp (subf (nth' b (r + 1)) (nth' b 0)))

def least (s1 s2 : FVec F S128x256 .f32) (b : FVec F S56x256 .f32) (i : ℕ) : ℕ → FVec F S1x256 .f32
  | 0 => broadcast S1x256 (Scalar.ofBits .f32 0x7F800000#32)
  | j + 1 => minimumf (least s1 s2 b i j) (select (cmpf .oge (addf (nth s1 i) (nth s2 j)) (nth' b 15)) (nth s2 j)
      (broadcast S1x256 (Scalar.ofBits .f32 0x7F800000#32)))

def cuts (s1 s2 : FVec F S128x256 .f32) (b : FVec F S56x256 .f32) : ℕ → FVec F S128x256 .f32
  | 0 => broadcast S128x256 (Scalar.ofBits .f32 0x7F800000#32)
  | i + 1 => select (cmpf .oeq s1 (broadcastTo S128x256 (nth s1 i) broadcasts_S1x256_S128x256))
      (broadcastTo S128x256 (shapeCast S1x256 (least s1 s2 b i (16 / (i + 1))) shapeCasts_S1x256_S1x256) broadcasts_S1x256_S128x256) (cuts s1 s2 b i)

def lift (v : FVec F S128x256 .f32) : FVec F S1x128x256 .f32 := shapeCast S1x128x256 v shapeCasts_S128x256_S1x128x256

def weight2 (s2 : FVec F S128x256 .f32) : FVec F S128x256 .f32 :=
  exp (subf s2 (broadcastTo S128x256 (nth s2 0) broadcasts_S1x256_S128x256))

def weight1 (s1 : FVec F S128x256 .f32) (b : FVec F S56x256 .f32) : FVec F S128x256 .f32 :=
  mulf (exp (subf s1 (broadcastTo S128x256 (nth s1 0) broadcasts_S1x256_S128x256)))
    (broadcastTo S128x256 (divf (broadcast S1x256 (Scalar.ofBits .f32 0x3F800000#32)) (den b 15)) broadcasts_S1x256_S128x256)

/-! ## All heads -/

theorem head_inb (h : ℕ) (hh : h < 8) : ∀ a : Fin 3, (![h, 0, 0] : Fin 3 → ℕ) a + S1x128x256.size a ≤ S8x128x256.size a := by
  intro a
  match a with
  | 0 => show h + 1 ≤ 8; omega
  | 1 => show 0 + 128 ≤ 128; omega
  | 2 => show 0 + 256 ≤ 256; omega

theorem keys_inb (h p : ℕ) (hh : h < 8) (hp : p < 2) :
    ∀ a : Fin 4, (![h, p, 0, 0] : Fin 4 → ℕ) a + S1x1x128x128.size a ≤ S8x2x128x128.size a := by
  intro a
  match a with
  | 0 => show h + 1 ≤ 8; omega
  | 1 => show p + 1 ≤ 2; omega
  | 2 => show 0 + 128 ≤ 128; omega
  | 3 => show 0 + 128 ≤ 128; omega

theorem query_inb (h p : ℕ) (hh : h < 8) (hp : p < 2) :
    ∀ a : Fin 2, (![(2 * h + p) * 128, 0] : Fin 2 → ℕ) a + S128x256.size a ≤ S2048x256.size a := by
  intro a
  match a with
  | 0 => show (2 * h + p) * 128 + 128 ≤ 2048; omega
  | 1 => show 0 + 256 ≤ 256; omega

def headPiece (h : ℕ) (hh : h < 8) (v : FVec F S128x256 .f32) : View.Piece (Elt F) S8x128x256 .f32 :=
  ⟨Rect.unit ![h, 0, 0] S1x128x256.size (head_inb h hh), lift v⟩

/-- What the first `n` heads write. -/
def headsOver (w : (h : ℕ) → h < 8 → FVec F S128x256 .f32) : (n : ℕ) → n ≤ 8 → List (View.Piece (Elt F) S8x128x256 .f32)
  | 0, _ => []
  | n + 1, h => headPiece n h (w n h) :: headsOver w n (Nat.le_of_succ_le h)

/-- The scores of half `p` of head `h`, from all queries and all keys. -/
def scoresOf (q : Vec F S2048x256 .bf16) (k : Vec F S8x2x128x128 .bf16) (h p : ℕ) (hh : h < 8) (hp : p < 2) : FVec F S128x256 .f32 :=
  half (fun y => k ((Rect.unit (s := S8x2x128x128) ![h, p, 0, 0] S1x1x128x128.size (keys_inb h p hh hp)).idx y))
    (fun y => q ((Rect.unit (s := S2048x256) ![(2 * h + p) * 128, 0] S128x256.size (query_inb h p hh hp)).idx y))

end Cert.PeerRow

end
-- ==== Proof.Peer.Row.lean ====
/- The steps of one head read at one token. -/
module

public import proofs.«01_k».proof.Proof.Peer.Steps
public import Idealize.ShloMosaic.Lib.Pointwise
public import Idealize.ShloMosaic.Lib.Pipeline.Value
public import Idealize.ShloMosaic.Lib.Pipeline.ValueKit

@[expose] public section

set_option maxRecDepth 65536

noncomputable section

namespace Cert.PeerRow

open Idealize.ShloMosaic Idealize.ShloMosaic.TcCoe Idealize.SL.Sem
open Cert.PeerIdeal Cert.PeerIdeal.Gen
open Cert.PeerSpec (one two big left pick total lookup cut)

theorem bits_bot : Ideal.ofBits .f32 0xFF800000#32 = ⊥ := by simp [Ideal.ofBits, Ideal.ieee]
theorem bits_top : Ideal.ofBits .f32 0x7F800000#32 = ⊤ := by simp [Ideal.ofBits, Ideal.ieee]

/-- The column of token `t`. -/
def col {n : ℕ} (s : (⟨2, ![n, 256]⟩ : Shape).Idx → EReal) (t : Fin 256) (k : Fin n) : EReal := s (ix2 k t)

theorem peak_at (s : FVec Ideal S128x256 .f32) (t : Fin 256) : peak s (ix2 0 t) = big (col s t) := by
  unfold peak
  pointwise
  rw [bits_bot]
  rfl

theorem peak'_at (s : FVec Ideal S56x256 .f32) (t : Fin 256) : peak' s (ix2 0 t) = big (col s t) := by
  unfold peak'
  pointwise
  rw [bits_bot]
  rfl

theorem without_at (s : FVec Ideal S128x256 .f32) (k : Fin 128) (t : Fin 256) :
    without s (ix2 k t) = if s (ix2 k t) = peak s (ix2 0 t) then ⊥ else s (ix2 k t) := by
  unfold without
  generalize peak s = p
  pointwise
  rw [bits_bot]

theorem without'_at (s : FVec Ideal S56x256 .f32) (k : Fin 56) (t : Fin 256) :
    without' s (ix2 k t) = if s (ix2 k t) = peak' s (ix2 0 t) then ⊥ else s (ix2 k t) := by
  unfold without'
  generalize peak' s = p
  pointwise
  rw [bits_bot]

theorem after_col (s : FVec Ideal S128x256 .f32) (t : Fin 256) (r : ℕ) : col (after s r) t = left (col s t) r := by
  induction r with
  | zero => rfl
  | succ r ih =>
    funext k
    refine (without_at (after s r) k t).trans ?_
    rw [peak_at, ih]
    exact if_congr (by rw [← ih]; rfl) rfl (by rw [← ih]; rfl)

theorem after'_col (s : FVec Ideal S56x256 .f32) (t : Fin 256) (r : ℕ) : col (after' s r) t = left (col s t) r := by
  induction r with
  | zero => rfl
  | succ r ih =>
    funext k
    refine (without'_at (after' s r) k t).trans ?_
    rw [peak'_at, ih]
    exact if_congr (by rw [← ih]; rfl) rfl (by rw [← ih]; rfl)

theorem nth_at (s : FVec Ideal S128x256 .f32) (r : ℕ) (t : Fin 256) : nth s r (ix2 0 t) = pick (col s t) r := by
  unfold nth
  rw [peak_at, after_col]
  rfl

theorem nth'_at (s : FVec Ideal S56x256 .f32) (r : ℕ) (t : Fin 256) : nth' s r (ix2 0 t) = pick (col s t) r := by
  unfold nth'
  rw [peak'_at, after'_col]
  rfl

theorem half_at (w : Vec Ideal S1x1x128x128 .bf16) (q : Vec Ideal S128x256 .bf16) (k : Fin 128) (t : Fin 256) :
    half w q (ix2 k t) = ∑ x : Fin 128, w (ix4 0 0 k x) * q (ix2 x t) := by
  unfold half
  pointwise

theorem sumRow_at (s1 s2 : FVec Ideal S128x256 .f32) (n : ℕ) (t : Fin 256) :
    sumRow s1 s2 n (ix2 0 t) = pick (col s1 t) (one n) + pick (col s2 t) (two n) := by
  rw [← nth_at, ← nth_at]
  unfold sumRow
  generalize nth s1 _ = a
  generalize nth s2 _ = b
  pointwise

theorem den_at (b : FVec Ideal S56x256 .f32) (r : ℕ) (t : Fin 256) : den b r (ix2 0 t) = total (pick (col b t)) r := by
  induction r with
  | zero =>
    unfold den total
    rw [← nth'_at]
    generalize nth' b _ = p
    pointwise
  | succ r ih =>
    unfold den total
    rw [← ih, ← nth'_at, ← nth'_at]
    generalize nth' b (r + 1) = p
    generalize nth' b 0 = p'
    generalize den b r = p''
    pointwise

theorem least_at (s1 s2 : FVec Ideal S128x256 .f32) (b : FVec Ideal S56x256 .f32) (i j : ℕ) (t : Fin 256) :
    least s1 s2 b i j (ix2 0 t) = PeerSpec.least (pick (col s1 t) i) (pick (col b t) 15) (pick (col s2 t)) j := by
  induction j with
  | zero =>
    unfold least PeerSpec.least
    pointwise
    exact bits_top
  | succ j ih =>
    unfold least PeerSpec.least
    rw [← ih, ← nth'_at, ← nth_at, ← nth_at]
    generalize nth' b _ = p
    generalize nth s1 _ = p'
    generalize nth s2 _ = p''
    generalize least s1 s2 b i j = p'''
    pointwise
    rw [bits_top]

theorem cuts_at (s1 s2 : FVec Ideal S128x256 .f32) (b : FVec Ideal S56x256 .f32) (m : ℕ) (k : Fin 128) (t : Fin 256) :
    cuts s1 s2 b m (ix2 k t) = lookup (col s1 t k) (pick (col s1 t))
      (fun i => PeerSpec.least (pick (col s1 t) i) (pick (col b t) 15) (pick (col s2 t)) (16 / (i + 1))) m := by
  induction m with
  | zero =>
    unfold cuts lookup
    pointwise
    exact bits_top
  | succ m ih =>
    unfold cuts lookup
    rw [← ih, ← least_at, ← nth_at]
    generalize least s1 s2 b m _ = p
    generalize nth s1 m = p'
    generalize cuts s1 s2 b m = p''
    unfold col
    pointwise

theorem weight2_at (s2 : FVec Ideal S128x256 .f32) (k : Fin 128) (t : Fin 256) :
    weight2 s2 (ix2 k t) = Ideal.exp (col s2 t k - pick (col s2 t) 0) := by
  rw [← nth_at]
  unfold weight2 col
  generalize nth s2 0 = p
  pointwise

theorem weight1_at (s1 : FVec Ideal S128x256 .f32) (b : FVec Ideal S56x256 .f32) (k : Fin 128) (t : Fin 256) :
    weight1 s1 b (ix2 k t) = Ideal.exp (col s1 t k - pick (col s1 t) 0) * Ideal.div 1 (total (pick (col b t)) 15) := by
  rw [← nth_at, ← den_at]
  unfold weight1 col
  generalize nth s1 0 = p
  generalize den b 15 = p'
  pointwise

theorem lift_at (v : FVec Ideal S128x256 .f32) (k : Fin 128) (t : Fin 256) : lift v (ix3 0 k t) = v (ix2 k t) := by
  unfold lift
  pointwise

/-! ## The table, row by row -/

theorem rows_at (L : List (View.Piece (Elt Ideal) S56x256 .f32)) (w : ℕ → FVec Ideal S1x256 .f32) (m : ℕ) (hm : m ≤ 56) (n : Fin 56) (t : Fin 256) :
    View.canon (rowsOver L w m hm) (ix2 n t) = if n.val < m then w n (ix2 0 t) else View.canon L (ix2 n t) := by
  induction m with
  | zero => rfl
  | succ m ih =>
    unfold rowsOver rowPiece
    by_cases h : n.val = m
    · rw [if_pos (by omega)]
      have e : (ix2 n t : S56x256.Idx) = (Rect.unit (s := S56x256) ![m, 0] S1x256.size (row_inb m hm)).emb (ix2 0 t) := by
        funext a
        refine Fin.ext ?_
        match a with
        | 0 => show n.val = m + 1 * 0; omega
        | 1 => show t.val = 0 + 1 * t.val; omega
      rw [e, View.canon_cons_emb, ← h]
    · rw [View.canon_cons_of_not_mem, ih (Nat.le_of_succ_le hm)]
      · exact if_congr (by omega) rfl rfl
      · intro hmem
        have := (Rect.mem_set_unit (inb := row_inb m hm)).1 hmem 0
        have h1 : m ≤ n.val := this.1
        have h2 : n.val < m + 1 := this.2
        omega

theorem fill_at (y : S56x256.Idx) : View.canon (fill (F := Ideal)) y = ⊥ := by
  unfold fill
  rw [View.canon_cons_unit_lit _ _ _ (by decide)]
  unfold k0_pay4
  rw [eq_ix2 y]
  pointwise
  exact bits_bot

/-! ## All heads' results in one array -/

theorem heads_at (w : (h : ℕ) → h < 8 → FVec Ideal S128x256 .f32) (n : ℕ) (hn : n ≤ 8) (h : Fin 8) (hh : h.val < n) (k : Fin 128) (t : Fin 256) :
    View.canon (headsOver w n hn) (ix3 h k t) = w h h.isLt (ix2 k t) := by
  induction n with
  | zero => omega
  | succ n ih =>
    unfold headsOver headPiece
    by_cases e : h.val = n
    · have e' : (ix3 h k t : S8x128x256.Idx) = (Rect.unit (s := S8x128x256) ![n, 0, 0] S1x128x256.size (head_inb n hn)).emb (ix3 0 k t) := by
        funext a
        refine Fin.ext ?_
        match a with
        | 0 => show h.val = n + 1 * 0; omega
        | 1 => show k.val = 0 + 1 * k.val; omega
        | 2 => show t.val = 0 + 1 * t.val; omega
      rw [e', View.canon_cons_emb, lift_at]
      subst e
      rfl
    · rw [View.canon_cons_of_not_mem, ih (Nat.le_of_succ_le hn) (by omega)]
      intro hmem
      have := (Rect.mem_set_unit (inb := head_inb n hn)).1 hmem 0
      have h1 : n ≤ h.val := this.1
      have h2 : h.val < n + 1 := this.2
      omega

end Cert.PeerRow

end
-- ==== Proof.Peer.Heads.lean ====
/- What the kernel's stores are, head by head, in terms of the steps of one head. -/
module
public import proofs.«01_k».proof.Proof.Peer.Steps
@[expose] public section

set_option maxRecDepth 65536
noncomputable section
namespace Cert.PeerRow
open Idealize.ShloMosaic Idealize.ShloMosaic.TcCoe Idealize.SL.Sem
open Cert.PeerIdeal Cert.PeerIdeal.Gen
variable {F : FTy → Type} [FloatOps F]

variable (c : Dev nD) (i : grid0.Coords) (arg1 : Memref sig .tc .vmem S1024x256 .bf16) (harg1 : arg1.IsWhole) (arg2 : Memref sig .tc .vmem S2048x1024 .bf16) (harg2 : arg2.IsWhole) (arg3 : Memref sig .tc .vmem S8x2x128x128 .bf16) (harg3 : arg3.IsWhole) (arg4 : Memref sig .tc .vmem S8x128x256 .f32) (harg4 : arg4.IsWhole) (arg5 : Memref sig .tc .vmem S8x128x256 .f32) (harg5 : arg5.IsWhole) (arg6 : Memref sig .tc .vmem S8x128x256 .f32) (harg6 : arg6.IsWhole) (arg7 : Memref sig .tc .vmem S8x128x256 .f32) (harg7 : arg7.IsWhole) (arg8 : Memref sig .tc .vmem S2048x256 .bf16) (harg8 : arg8.IsWhole) (arg9 : Memref sig .tc .vmem S56x256 .f32) (harg9 : arg9.IsWhole)
    (x0 : Vec F S1024x256 .bf16) (x1 : Vec F S2048x1024 .bf16) (x2 : Vec F S8x2x128x128 .bf16)

/-- The scores of half `p` of head `h` as they are read. -/
def sc (h p : ℕ) (hh : h < 8) (hp : p < 2) : FVec F S128x256 .f32 :=
  half (View.readAt (Elt F) arg3.view (Rect.unit (s := S8x2x128x128) ![h, p, 0, 0] S1x1x128x128.size (keys_inb h p hh hp)).toLoadRect (harg3.unread x2))
    (arg8.view.readCov (kernelRun0_A.sl.HS0_1 c arg1 harg1 arg2 harg2 x0 x1)
      (Rect.unit (s := S2048x256) ![(2 * h + p) * 128, 0] S128x256.size (query_inb h p hh hp)).toLoadRect)

/-- The table after the first `n` heads. -/
def tables : (n : ℕ) → n ≤ 8 → List (View.Piece (Elt F) S56x256 .f32)
  | 0, _ => fill
  | n + 1, h => rowsOver (tables n (Nat.le_of_succ_le h))
      (sumRow (sc c arg1 harg1 arg2 harg2 arg3 harg3 arg8 x0 x1 x2 n 0 h (by decide)) (sc c arg1 harg1 arg2 harg2 arg3 harg3 arg8 x0 x1 x2 n 1 h (by decide))) 50 (by decide)

def tbl (h : ℕ) (hh : h < 8) : FVec F S56x256 .f32 :=
  arg9.view.readCov (tables c arg1 harg1 arg2 harg2 arg3 harg3 arg8 x0 x1 x2 (h + 1) hh) (Rect.unit ![0, 0] S56x256.size inb_S56x256_S56x256_0_0).toLoadRect

theorem pieces6 : (kernelRun0_A c i arg1 harg1 arg2 harg2 arg3 harg3 arg4 harg4 arg5 harg5 arg6 harg6 arg7 harg7 arg8 harg8 arg9 harg9 x0 x1 x2).2.2.2.1 =
    headsOver (fun h hh => sc c arg1 harg1 arg2 harg2 arg3 harg3 arg8 x0 x1 x2 h 1 hh (by decide)) 8 (by decide) := by
  unfold kernelRun0_A
  dsimp only
  rfl
theorem pieces5 : (kernelRun0_A c i arg1 harg1 arg2 harg2 arg3 harg3 arg4 harg4 arg5 harg5 arg6 harg6 arg7 harg7 arg8 harg8 arg9 harg9 x0 x1 x2).2.2.1 =
    headsOver (fun h hh => weight2 (sc c arg1 harg1 arg2 harg2 arg3 harg3 arg8 x0 x1 x2 h 1 hh (by decide))) 8 (by decide) := by
  unfold kernelRun0_A
  dsimp only
  rfl
theorem pieces4 : (kernelRun0_A c i arg1 harg1 arg2 harg2 arg3 harg3 arg4 harg4 arg5 harg5 arg6 harg6 arg7 harg7 arg8 harg8 arg9 harg9 x0 x1 x2).2.1 =
    headsOver (fun h hh => cuts (sc c arg1 harg1 arg2 harg2 arg3 harg3 arg8 x0 x1 x2 h 0 hh (by decide)) (sc c arg1 harg1 arg2 harg2 arg3 harg3 arg8 x0 x1 x2 h 1 hh (by decide))
      (tbl c arg1 harg1 arg2 harg2 arg3 harg3 arg8 arg9 x0 x1 x2 h hh) 16) 8 (by decide) := by
  unfold kernelRun0_A
  dsimp only
  rfl
theorem pieces3 : (kernelRun0_A c i arg1 harg1 arg2 harg2 arg3 harg3 arg4 harg4 arg5 harg5 arg6 harg6 arg7 harg7 arg8 harg8 arg9 harg9 x0 x1 x2).1 =
    headsOver (fun h hh => weight1 (sc c arg1 harg1 arg2 harg2 arg3 harg3 arg8 x0 x1 x2 h 0 hh (by decide))
      (tbl c arg1 harg1 arg2 harg2 arg3 harg3 arg8 arg9 x0 x1 x2 h hh)) 8 (by decide) := by
  unfold kernelRun0_A
  dsimp only
  rfl

end Cert.PeerRow

end
-- ==== Proof.Peer.Kernel.lean ====
/- The scores' four arrays: block by block, every entry is the token's. -/
module

public import proofs.«01_k».proof.Proof.Peer.Row
public import proofs.«01_k».proof.Proof.Peer.Heads
public import Idealize.ShloMosaic.Lib.VecWindow

@[expose] public section

set_option maxRecDepth 65536

noncomputable section

namespace Cert.PeerRow

open Idealize.ShloMosaic Idealize.ShloMosaic.TcCoe Idealize.SL.Sem
open Idealize.ShloMosaic.Pipeline (Dat)
open Cert.PeerIdeal Cert.PeerIdeal.Gen
open Cert.PeerSpec (one two big left pick total lookup cut)

/-- The score of key `k` in half `p` of head `h` for one token: its latent `H`, all queries `W`, all keys `K`. -/
def score (W : (⟨2, ![2048, 1024]⟩ : Shape).Idx → EReal) (K : (⟨4, ![8, 2, 128, 128]⟩ : Shape).Idx → EReal) (H : Fin 1024 → EReal)
    (h : Fin 8) (p : Fin 2) (k : Fin 128) : EReal :=
  ∑ x : Fin 128, K (ix4 h p k x) * ∑ d : Fin 1024, W (ix2 ⟨(2 * h.val + p) * 128 + x, by omega⟩ d) * H d

section Body

variable (c : Dev nD) (i : grid0.Coords) (arg1 : Memref sig .tc .vmem S1024x256 .bf16) (harg1 : arg1.IsWhole) (arg2 : Memref sig .tc .vmem S2048x1024 .bf16) (harg2 : arg2.IsWhole) (arg3 : Memref sig .tc .vmem S8x2x128x128 .bf16) (harg3 : arg3.IsWhole) (arg4 : Memref sig .tc .vmem S8x128x256 .f32) (harg4 : arg4.IsWhole) (arg5 : Memref sig .tc .vmem S8x128x256 .f32) (harg5 : arg5.IsWhole) (arg6 : Memref sig .tc .vmem S8x128x256 .f32) (harg6 : arg6.IsWhole) (arg7 : Memref sig .tc .vmem S8x128x256 .f32) (harg7 : arg7.IsWhole) (arg8 : Memref sig .tc .vmem S2048x256 .bf16) (harg8 : arg8.IsWhole) (arg9 : Memref sig .tc .vmem S56x256 .f32) (harg9 : arg9.IsWhole)
    (x0 : Vec Ideal S1024x256 .bf16) (x1 : Vec Ideal S2048x1024 .bf16) (x2 : Vec Ideal S8x2x128x128 .bf16)

theorem pay3_at (w : Vec Ideal S2048x1024 .bf16) (x : Vec Ideal S1024x256 .bf16) (e : Fin 2048) (t : Fin 256) :
    k0_pay3 w x (ix2 e t) = ∑ d : Fin 1024, w (ix2 e d) * x (ix2 d t) := by
  unfold k0_pay3
  pointwise

theorem sc_col (h : Fin 8) (p : Fin 2) (t : Fin 256) :
    col (sc c arg1 harg1 arg2 harg2 arg3 harg3 arg8 x0 x1 x2 h p h.isLt p.isLt) t = score x1 x2 (fun d => x0 (ix2 d t)) h p := by
  funext k
  unfold col sc score
  rw [half_at]
  refine Finset.sum_congr rfl fun x _ => congrArg₂ (· * ·) ?_ ?_
  · rw [View.readAt_apply, harg3.read_unread]
    refine congrArg x2 (funext fun a => Fin.ext ?_)
    match a with
    | 0 => show h.val + 1 * 0 = h.val; omega
    | 1 => show p.val + 1 * 0 = p.val; omega
    | 2 => show 0 + 1 * k.val = k.val; omega
    | 3 => show 0 + 1 * x.val = x.val; omega
  · rw [View.readCov_eq_canon']
    unfold kernelRun0_A.sl.HS0_1
    rw [View.canon_cons_unit_lit _ _ _ (by decide), View.readAt_full, View.readAt_full, harg1.read_unread, harg2.read_unread, ← pay3_at]
    refine congrArg (k0_pay3 x1 x0) (funext fun a => Fin.ext ?_)
    match a with
    | 0 => show (2 * h.val + p.val) * 128 + 1 * x.val = (2 * h.val + p.val) * 128 + x.val; omega
    | 1 => show 0 + 1 * t.val = t.val; omega

theorem tables_low (n : ℕ) (hn : n ≤ 8) (r : Fin 56) (hr : 50 ≤ r.val) (t : Fin 256) :
    View.canon (tables c arg1 harg1 arg2 harg2 arg3 harg3 arg8 x0 x1 x2 n hn) (ix2 r t) = ⊥ := by
  induction n with
  | zero => exact fill_at _
  | succ n ih =>
    unfold tables
    rw [rows_at, if_neg (by omega)]
    exact ih _

theorem tbl_at (h : Fin 8) (n : Fin 56) (t : Fin 256) :
    col (tbl c arg1 harg1 arg2 harg2 arg3 harg3 arg8 arg9 x0 x1 x2 h h.isLt) t n
      = if n.val < 50 then pick (score x1 x2 (fun d => x0 (ix2 d t)) h 0) (one n) + pick (score x1 x2 (fun d => x0 (ix2 d t)) h 1) (two n) else ⊥ := by
  unfold col tbl
  rw [View.readCov_eq_canon']
  have e : (Rect.unit (s := S56x256) ![0, 0] S56x256.size inb_S56x256_S56x256_0_0).toLoadRect.idx (ix2 n t) = ix2 n t := by
    refine funext fun a => Fin.ext ?_
    match a with
    | 0 => show 0 + 1 * n.val = n.val; omega
    | 1 => show 0 + 1 * t.val = t.val; omega
  refine (congrArg _ e).trans ?_
  unfold tables
  rw [rows_at]
  by_cases hn : n.val < 50
  · rw [if_pos hn, if_pos hn, sumRow_at]
    exact congrArg₂ (· + ·) (congrArg (fun f => pick f _) (sc_col c arg1 harg1 arg2 harg2 arg3 harg3 arg8 x0 x1 x2 h 0 t))
      (congrArg (fun f => pick f _) (sc_col c arg1 harg1 arg2 harg2 arg3 harg3 arg8 x0 x1 x2 h 1 t))
  · rw [if_neg hn, if_neg hn]
    exact tables_low c arg1 harg1 arg2 harg2 arg3 harg3 arg8 x0 x1 x2 h.val (by omega) n (by omega) t

end Body

/-! ## The results of a token -/

/-- All 256 sums of the largest values of both halves. -/
def sums (s1 s2 : Fin 128 → EReal) (p : Fin 16 × Fin 16) : EReal := pick s1 p.1.val + pick s2 p.2.val

def res1 (s1 s2 : Fin 128 → EReal) (k : Fin 128) : EReal := Ideal.div (Ideal.exp (s1 k - pick s1 0)) (total (pick (sums s1 s2)) 15)
def resCut (s1 s2 : Fin 128 → EReal) (k : Fin 128) : EReal := cut (s1 k) (pick s1 15) (pick (sums s1 s2) 15) (pick s2)
def res2 (s2 : Fin 128 → EReal) (k : Fin 128) : EReal := Ideal.exp (s2 k - pick s2 0)

section Token

variable (s1 s2 : Fin 128 → EReal) (hT : Function.Injective (sums s1 s2)) (C : Fin 56 → EReal)
    (hC : ∀ n : Fin 56, C n = if n.val < 50 then pick s1 (one n) + pick s2 (two n) else ⊥) (k : Fin 128)
include hT hC

theorem pick_C (r : ℕ) (hr : r < 16) : pick C r = pick (sums s1 s2) r :=
  PeerSpec.pick_table (pick s1) (pick s2) C (fun h => PeerSpec.pick_anti s1 h) (fun h => PeerSpec.pick_anti s2 h) hT hC r hr

theorem res1_eq : Ideal.exp (s1 k - pick s1 0) * Ideal.div 1 (total (pick C) 15) = res1 s1 s2 k := by
  unfold res1
  rw [PeerSpec.total_congr _ _ 15 fun r hr => pick_C s1 s2 hT C hC r (by omega)]
  exact PeerSpec.times_inverse _ _ (PeerSpec.total_ne (pick s1) (pick s2) (fun h => PeerSpec.pick_anti s1 h) (fun h => PeerSpec.pick_anti s2 h) hT 15)

theorem resCut_eq : lookup (s1 k) (pick s1) (fun i => PeerSpec.least (pick s1 i) (pick C 15) (pick s2) (16 / (i + 1))) 16 = resCut s1 s2 k := by
  rw [PeerSpec.cut_eq s1 (pick s2) C (fun h => PeerSpec.pick_anti s2 h) hT hC k, pick_C s1 s2 hT C hC 15 (by decide)]
  rfl

theorem weight1_res (u : FVec Ideal S128x256 .f32) (B : FVec Ideal S56x256 .f32) (t : Fin 256) (hu : col u t = s1) (hB : col B t = C) :
    weight1 u B (ix2 k t) = res1 s1 s2 k := by
  rw [weight1_at, hu, hB]
  exact res1_eq s1 s2 hT C hC k

theorem cuts_res (u v : FVec Ideal S128x256 .f32) (B : FVec Ideal S56x256 .f32) (t : Fin 256) (hu : col u t = s1) (hv : col v t = s2)
    (hB : col B t = C) : cuts u v B 16 (ix2 k t) = resCut s1 s2 k := by
  rw [cuts_at, hu, hv, hB]
  exact resCut_eq s1 s2 hT C hC k

end Token

section Stores

variable (c : Dev nD) (i : grid0.Coords) (arg1 : Memref sig .tc .vmem S1024x256 .bf16) (harg1 : arg1.IsWhole) (arg2 : Memref sig .tc .vmem S2048x1024 .bf16) (harg2 : arg2.IsWhole) (arg3 : Memref sig .tc .vmem S8x2x128x128 .bf16) (harg3 : arg3.IsWhole) (arg4 : Memref sig .tc .vmem S8x128x256 .f32) (harg4 : arg4.IsWhole) (arg5 : Memref sig .tc .vmem S8x128x256 .f32) (harg5 : arg5.IsWhole) (arg6 : Memref sig .tc .vmem S8x128x256 .f32) (harg6 : arg6.IsWhole) (arg7 : Memref sig .tc .vmem S8x128x256 .f32) (harg7 : arg7.IsWhole) (arg8 : Memref sig .tc .vmem S2048x256 .bf16) (harg8 : arg8.IsWhole) (arg9 : Memref sig .tc .vmem S56x256 .f32) (harg9 : arg9.IsWhole)
    (x0 : Vec Ideal S1024x256 .bf16) (x1 : Vec Ideal S2048x1024 .bf16) (x2 : Vec Ideal S8x2x128x128 .bf16) (h : Fin 8) (k : Fin 128) (t : Fin 256)
    (hT : Function.Injective (sums (score x1 x2 (fun d => x0 (ix2 d t)) h 0) (score x1 x2 (fun d => x0 (ix2 d t)) h 1)))
include hT

theorem store3 : View.canon (kernelRun0_A c i arg1 harg1 arg2 harg2 arg3 harg3 arg4 harg4 arg5 harg5 arg6 harg6 arg7 harg7 arg8 harg8 arg9 harg9 x0 x1 x2).1 (ix3 h k t)
    = res1 (score x1 x2 (fun d => x0 (ix2 d t)) h 0) (score x1 x2 (fun d => x0 (ix2 d t)) h 1) k := by
  rw [pieces3, heads_at _ 8 _ h h.isLt]
  exact weight1_res _ _ hT _ (fun n => tbl_at c arg1 harg1 arg2 harg2 arg3 harg3 arg8 arg9 x0 x1 x2 h n t) k _ _ t
    (sc_col c arg1 harg1 arg2 harg2 arg3 harg3 arg8 x0 x1 x2 h 0 t) rfl

theorem store4 : View.canon (kernelRun0_A c i arg1 harg1 arg2 harg2 arg3 harg3 arg4 harg4 arg5 harg5 arg6 harg6 arg7 harg7 arg8 harg8 arg9 harg9 x0 x1 x2).2.1 (ix3 h k t)
    = resCut (score x1 x2 (fun d => x0 (ix2 d t)) h 0) (score x1 x2 (fun d => x0 (ix2 d t)) h 1) k := by
  rw [pieces4, heads_at _ 8 _ h h.isLt]
  exact cuts_res _ _ hT _ (fun n => tbl_at c arg1 harg1 arg2 harg2 arg3 harg3 arg8 arg9 x0 x1 x2 h n t) k _ _ _ t
    (sc_col c arg1 harg1 arg2 harg2 arg3 harg3 arg8 x0 x1 x2 h 0 t) (sc_col c arg1 harg1 arg2 harg2 arg3 harg3 arg8 x0 x1 x2 h 1 t) rfl

end Stores

variable (m : (ℓ : Loc nD τ sig) → Buf (Elt Ideal) ℓ)

theorem idx : ∀ t : Fin cfg0.N, win0_0.index t = ![0, t.val] ∧ win0_1.index t = ![0, 0] ∧ win0_2.index t = ![0, 0, 0, 0]
    ∧ win0_3.index t = ![0, 0, t.val] ∧ win0_4.index t = ![0, 0, t.val] ∧ win0_5.index t = ![0, 0, t.val] ∧ win0_6.index t = ![0, 0, t.val] :=
  (by decide +kernel : ∀ t : Fin grid0.N, _)

abbrev A0 (c : Dev nD) : FVec Ideal S1024x32768 .bf16 := m ((c : Thread nD τ).loc main_arg0)
abbrev A1 (c : Dev nD) : FVec Ideal S2048x1024 .bf16 := m ((c : Thread nD τ).loc main_arg1)
abbrev A2 (c : Dev nD) : FVec Ideal S8x2x128x128 .bf16 := m ((c : Thread nD τ).loc main_arg2)

/-- The scores of token `t` in half `p` of head `h`. -/
abbrev sco (H : (⟨2, ![1024, 32768]⟩ : Shape).Idx → EReal) (W : (⟨2, ![2048, 1024]⟩ : Shape).Idx → EReal)
    (K : (⟨4, ![8, 2, 128, 128]⟩ : Shape).Idx → EReal) (t : Fin 32768) (h : Fin 8) (p : Fin 2) : Fin 128 → EReal :=
  score W K (fun d => H (ix2 d t)) h p

section Blocks

variable (c : Dev nD) (t : Fin cfg0.N) (r : Fin 256) (i : Fin 32768) (hi : (i : ℕ) = 256 * t.val + r)

include hi in
theorem b0 (d : Fin 1024) : (show FVec Ideal S1024x256 .bf16 from iblk m c 0 t) (ix2 d r) = A0 m c (ix2 d i) := by blk_point [iblk, V, idx t]
theorem b1 : (show FVec Ideal S2048x1024 .bf16 from iblk m c 1 t) = A1 m c := by
  funext y
  rw [eq_ix2 y]
  blk_point [iblk, V, idx t]
theorem b2 : (show FVec Ideal S8x2x128x128 .bf16 from iblk m c 2 t) = A2 m c := by
  funext y
  rw [eq_ix4 y]
  blk_point [iblk, V, idx t]

include hi in
theorem score_blk (h : Fin 8) (p : Fin 2) :
    score (show FVec Ideal S2048x1024 .bf16 from iblk m c 1 t) (show FVec Ideal S8x2x128x128 .bf16 from iblk m c 2 t)
      (fun d => (show FVec Ideal S1024x256 .bf16 from iblk m c 0 t) (ix2 d r)) h p = sco (A0 m c) (A1 m c) (A2 m c) i h p := by
  rw [b1, b2]
  exact congrArg (fun H => score (A1 m c) (A2 m c) H h p) (funext fun d => b0 m c t r i hi d)

include hi in
theorem out6 (h : Fin 8) (k : Fin 128) : (outsAt0 m c t).2.2.2 (ix3 h k r) = sco (A0 m c) (A1 m c) (A2 m c) i h 1 k := by
  unfold outsAt0 out0_A_6
  dsimp only
  rw [View.read_writes_junk_eq_canon, pieces6, heads_at _ 8 _ h h.isLt, ← score_blk m c t r i hi]
  exact congrFun (sc_col _ _ _ _ _ _ _ _ _ _ _ h 1 r) k

include hi in
theorem out5 (h : Fin 8) (k : Fin 128) : (outsAt0 m c t).2.2.1 (ix3 h k r) = res2 (sco (A0 m c) (A1 m c) (A2 m c) i h 1) k := by
  unfold outsAt0 out0_A_5
  dsimp only
  rw [View.read_writes_junk_eq_canon, pieces5, heads_at _ 8 _ h h.isLt, ← score_blk m c t r i hi, weight2_at]
  refine (congrArg (fun s : Fin 128 → EReal => res2 s k) (sc_col _ _ _ _ _ _ _ _ _ _ _ h 1 r))

variable (hT : ∀ h, Function.Injective (sums (sco (A0 m c) (A1 m c) (A2 m c) i h 0) (sco (A0 m c) (A1 m c) (A2 m c) i h 1)))
include hi hT

theorem out4 (h : Fin 8) (k : Fin 128) : (outsAt0 m c t).2.1 (ix3 h k r)
    = resCut (sco (A0 m c) (A1 m c) (A2 m c) i h 0) (sco (A0 m c) (A1 m c) (A2 m c) i h 1) k := by
  have hT := hT h
  rw [← score_blk m c t r i hi, ← score_blk m c t r i hi] at hT ⊢
  unfold outsAt0 out0_A_4
  dsimp only
  rw [View.read_writes_junk_eq_canon]
  exact store4 _ _ _ _ _ _ _ _ _ _ _ _ _ _ _ _ _ _ _ _ _ _ _ h k r hT

theorem out3 (h : Fin 8) (k : Fin 128) : (outsAt0 m c t).1 (ix3 h k r)
    = res1 (sco (A0 m c) (A1 m c) (A2 m c) i h 0) (sco (A0 m c) (A1 m c) (A2 m c) i h 1) k := by
  have hT := hT h
  rw [← score_blk m c t r i hi, ← score_blk m c t r i hi] at hT ⊢
  unfold outsAt0 out0_A_3
  dsimp only
  rw [View.read_writes_junk_eq_canon]
  exact store3 _ _ _ _ _ _ _ _ _ _ _ _ _ _ _ _ _ _ _ _ _ _ _ h k r hT

end Blocks

/-! ## The arrays -/

section Arrays

variable (H : (⟨2, ![1024, 32768]⟩ : Shape).Idx → EReal) (W : (⟨2, ![2048, 1024]⟩ : Shape).Idx → EReal)
    (K : (⟨4, ![8, 2, 128, 128]⟩ : Shape).Idx → EReal)

def ent3 (h : Fin 8) (k : Fin 128) (i : Fin 32768) : EReal := res1 (sco H W K i h 0) (sco H W K i h 1) k
def ent4 (h : Fin 8) (k : Fin 128) (i : Fin 32768) : EReal := resCut (sco H W K i h 0) (sco H W K i h 1) k
def ent5 (h : Fin 8) (k : Fin 128) (i : Fin 32768) : EReal := res2 (sco H W K i h 1) k
def ent6 (h : Fin 8) (k : Fin 128) (i : Fin 32768) : EReal := sco H W K i h 1 k

def arr3 : (⟨3, ![8, 128, 32768]⟩ : Shape).Idx → EReal := fun y => ent3 H W K (y 0) (y 1) (y 2)
def arr4 : (⟨3, ![8, 128, 32768]⟩ : Shape).Idx → EReal := fun y => ent4 H W K (y 0) (y 1) (y 2)
def arr5 : (⟨3, ![8, 128, 32768]⟩ : Shape).Idx → EReal := fun y => ent5 H W K (y 0) (y 1) (y 2)
def arr6 : (⟨3, ![8, 128, 32768]⟩ : Shape).Idx → EReal := fun y => ent6 H W K (y 0) (y 1) (y 2)

/-- In no head two of a token's sums are equal. -/
def Differ : Prop := ∀ i h, Function.Injective (sums (sco H W K i h 0) (sco H W K i h 1))

end Arrays

section Final

variable (c : Dev nD)

theorem final3 (hT : Differ (A0 m c) (A1 m c) (A2 m c)) : (dats m 0 c).arrAt 3 cfg0.N = arr3 (A0 m c) (A1 m c) (A2 m c) := by
  refine (dats m 0 c).arrAt_eq_of_covers 3 _ (by decide +kernel) fun t _ y => ?_
  have ht : t.val < 128 := lt_of_lt_of_eq t.isLt N_0
  blk_simp
  rw [after0_3]
  have y0 : (y 0 : ℕ) < 8 := (y 0).isLt
  have y1 : (y 1 : ℕ) < 128 := (y 1).isLt
  have y2 : (y 2 : ℕ) < 256 := (y 2).isLt
  refine (congrArg _ (eq_ix3 y)).trans ((out3 m c t (y 2) ⟨256 * t.val + (y 2 : ℕ), by omega⟩ rfl (fun h => hT _ h) (y 0) (y 1)).trans ?_)
  unfold arr3
  refine Eq.trans (Eq.refl (ent3 (A0 m c) (A1 m c) (A2 m c) (y 0) (y 1) _)) ?_
  congr 1 <;> refine Fin.ext ?_ <;> blk_simp [idx t] <;> try (simp only; omega)

theorem final4 (hT : Differ (A0 m c) (A1 m c) (A2 m c)) : (dats m 0 c).arrAt 4 cfg0.N = arr4 (A0 m c) (A1 m c) (A2 m c) := by
  refine (dats m 0 c).arrAt_eq_of_covers 4 _ (by decide +kernel) fun t _ y => ?_
  have ht : t.val < 128 := lt_of_lt_of_eq t.isLt N_0
  blk_simp
  rw [after0_4]
  have y0 : (y 0 : ℕ) < 8 := (y 0).isLt
  have y1 : (y 1 : ℕ) < 128 := (y 1).isLt
  have y2 : (y 2 : ℕ) < 256 := (y 2).isLt
  refine (congrArg _ (eq_ix3 y)).trans ((out4 m c t (y 2) ⟨256 * t.val + (y 2 : ℕ), by omega⟩ rfl (fun h => hT _ h) (y 0) (y 1)).trans ?_)
  unfold arr4
  refine Eq.trans (Eq.refl (ent4 (A0 m c) (A1 m c) (A2 m c) (y 0) (y 1) _)) ?_
  congr 1 <;> refine Fin.ext ?_ <;> blk_simp [idx t] <;> try (simp only; omega)

theorem final5 : (dats m 0 c).arrAt 5 cfg0.N = arr5 (A0 m c) (A1 m c) (A2 m c) := by
  refine (dats m 0 c).arrAt_eq_of_covers 5 _ (by decide +kernel) fun t _ y => ?_
  have ht : t.val < 128 := lt_of_lt_of_eq t.isLt N_0
  blk_simp
  rw [after0_5]
  have y0 : (y 0 : ℕ) < 8 := (y 0).isLt
  have y1 : (y 1 : ℕ) < 128 := (y 1).isLt
  have y2 : (y 2 : ℕ) < 256 := (y 2).isLt
  refine (congrArg _ (eq_ix3 y)).trans ((out5 m c t (y 2) ⟨256 * t.val + (y 2 : ℕ), by omega⟩ rfl (y 0) (y 1)).trans ?_)
  unfold arr5
  refine Eq.trans (Eq.refl (ent5 (A0 m c) (A1 m c) (A2 m c) (y 0) (y 1) _)) ?_
  congr 1 <;> refine Fin.ext ?_ <;> blk_simp [idx t] <;> try (simp only; omega)

theorem final6 : (dats m 0 c).arrAt 6 cfg0.N = arr6 (A0 m c) (A1 m c) (A2 m c) := by
  refine (dats m 0 c).arrAt_eq_of_covers 6 _ (by decide +kernel) fun t _ y => ?_
  have ht : t.val < 128 := lt_of_lt_of_eq t.isLt N_0
  blk_simp
  rw [after0_6]
  have y0 : (y 0 : ℕ) < 8 := (y 0).isLt
  have y1 : (y 1 : ℕ) < 128 := (y 1).isLt
  have y2 : (y 2 : ℕ) < 256 := (y 2).isLt
  refine (congrArg _ (eq_ix3 y)).trans ((out6 m c t (y 2) ⟨256 * t.val + (y 2 : ℕ), by omega⟩ rfl (y 0) (y 1)).trans ?_)
  unfold arr6
  refine Eq.trans (Eq.refl (ent6 (A0 m c) (A1 m c) (A2 m c) (y 0) (y 1) _)) ?_
  congr 1 <;> refine Fin.ext ?_ <;> blk_simp [idx t] <;> try (simp only; omega)

end Final

/-- What the run leaves: the four arrays, and the arguments as they were. -/
theorem run (g : Dev nD → PrngReg) (hT : ∀ c : Dev nD, Differ (A0 m c) (A1 m c) (A2 m c)) :
    θ_run defs (onTc (τ := τ) (main (F := Ideal))) ⟨m, fun _ => 0, g⟩ fun r => ∀ c : Dev nD,
    r.2.mem ((c : Thread nD τ).loc main_v0_0) = arr3 (A0 m c) (A1 m c) (A2 m c)
    ∧ r.2.mem ((c : Thread nD τ).loc main_v0_1) = arr4 (A0 m c) (A1 m c) (A2 m c)
    ∧ r.2.mem ((c : Thread nD τ).loc main_v0_2) = arr5 (A0 m c) (A1 m c) (A2 m c)
    ∧ r.2.mem ((c : Thread nD τ).loc main_v0_3) = arr6 (A0 m c) (A1 m c) (A2 m c)
    ∧ r.2.mem ((c : Thread nD τ).loc main_arg0) = m ((c : Thread nD τ).loc main_arg0)
    ∧ r.2.mem ((c : Thread nD τ).loc main_arg1) = m ((c : Thread nD τ).loc main_arg1)
    ∧ r.2.mem ((c : Thread nD τ).loc main_arg2) = m ((c : Thread nD τ).loc main_arg2) := by
  exact (θ_run defs _ _).mono (fun r h c => ⟨((h.2 c).1 3).trans (final3 m c (hT c)), ((h.2 c).1 4).trans (final4 m c (hT c)),
    ((h.2 c).1 5).trans (final5 m c), ((h.2 c).1 6).trans (final6 m c), h.1 c⟩)
    (θ_run_and (unchanged m g) (run_main m g))

end Cert.PeerRow

end
-- ==== Proof.Peer.Take.lean ====
/- The steps of the scores' reference: taking the largest of a row and dropping it, sixteen times over. -/
module

public import proofs.«01_k».proof.Proof.Peer.Kernel
public import proofs.«01_k».proof.Proof.Gen.PeerRefIdeal.Read
public import Idealize.ShloMosaic.Lib.Pointwise
public import Idealize.ShloMosaic.Lib.Tactic.CleanTypes
public import Idealize.ShloMosaic.Lib.Pointwise
public import Idealize.ShloMosaic.Lib.Tactic.CleanTypes

@[expose] public section

set_option maxRecDepth 16384

noncomputable section

namespace Cert.PeerRow.Ref

open Idealize.ShloMosaic Idealize.ShloMosaic.TcCoe
open Cert.PeerRefIdeal Cert.PeerRefIdeal.Gen Cert.PeerRefIdeal.Read
open Cert.PeerSpec (big left pick total cut)

variable {F : FTy → Type} [FloatOps F]

/-! ## The steps, whole arrays at a time -/

def peak (s : FVec F S32768x8x128 .f32) : FVec F S32768x8x1 .f32 :=
  broadcastInDim S32768x8x1 ![0, 1] bcast_S32768x8_S32768x8x1_0_1
    (Host.reduce FloatOps.maximumf s (constant S_ .f32 0xFF800000#32) reducesTo_S32768x8x128_S32768x8_d2 h_S_)

def without (s : FVec F S32768x8x128 .f32) : FVec F S32768x8x128 .f32 :=
  select (cmpf .olt s (broadcastInDim S32768x8x128 ![0, 1, 2] bcast_S32768x8x1_S32768x8x128_0_1_2 (peak s))) s
    (broadcastInDim S32768x8x128 ![] bcast_S_S32768x8x128 (constant S_ .f32 0xFF800000#32))

def after (s : FVec F S32768x8x128 .f32) : ℕ → FVec F S32768x8x128 .f32
  | 0 => s
  | r + 1 => without (after s r)

def nth (s : FVec F S32768x8x128 .f32) (r : ℕ) : FVec F S32768x8x1 .f32 := peak (after s r)

def peak' (s : FVec F S32768x8x256 .f32) : FVec F S32768x8x1 .f32 :=
  broadcastInDim S32768x8x1 ![0, 1] bcast_S32768x8_S32768x8x1_0_1
    (Host.reduce FloatOps.maximumf s (constant S_ .f32 0xFF800000#32) reducesTo_S32768x8x256_S32768x8_d2 h_S_)

def without' (s : FVec F S32768x8x256 .f32) : FVec F S32768x8x256 .f32 :=
  select (cmpf .olt s (broadcastInDim S32768x8x256 ![0, 1, 2] bcast_S32768x8x1_S32768x8x256_0_1_2 (peak' s))) s
    (broadcastInDim S32768x8x256 ![] bcast_S_S32768x8x256 (constant S_ .f32 0xFF800000#32))

def after' (s : FVec F S32768x8x256 .f32) : ℕ → FVec F S32768x8x256 .f32
  | 0 => s
  | r + 1 => without' (after' s r)

def nth' (s : FVec F S32768x8x256 .f32) (r : ℕ) : FVec F S32768x8x1 .f32 := peak' (after' s r)

/-- The 16 largest side by side. -/
def beside (f : ℕ → FVec F S32768x8x1 .f32) : FVec F S32768x8x16 .f32 :=
  concatenate S32768x8x16 2 [⟨S32768x8x1, f 0⟩, ⟨S32768x8x1, f 1⟩, ⟨S32768x8x1, f 2⟩, ⟨S32768x8x1, f 3⟩, ⟨S32768x8x1, f 4⟩, ⟨S32768x8x1, f 5⟩, ⟨S32768x8x1, f 6⟩, ⟨S32768x8x1, f 7⟩, ⟨S32768x8x1, f 8⟩, ⟨S32768x8x1, f 9⟩, ⟨S32768x8x1, f 10⟩, ⟨S32768x8x1, f 11⟩, ⟨S32768x8x1, f 12⟩, ⟨S32768x8x1, f 13⟩, ⟨S32768x8x1, f 14⟩, ⟨S32768x8x1, f 15⟩] concatenates_S32768x8x1_S32768x8x1_S32768x8x1_S32768x8x1_S32768x8x1_S32768x8x1_S32768x8x1_S32768x8x1_S32768x8x1_S32768x8x1_S32768x8x1_S32768x8x1_S32768x8x1_S32768x8x1_S32768x8x1_S32768x8x1_S32768x8x16_d2

/-- Every first value plus every second one. -/
def table (a b : FVec F S32768x8x16 .f32) : FVec F S32768x8x256 .f32 :=
  shapeCast S32768x8x256 (addf
    (broadcastInDim S32768x8x16x16 ![0, 1, 2, 3] bcast_S32768x8x16x1_S32768x8x16x16_0_1_2_3 (broadcastInDim S32768x8x16x1 ![0, 1, 2] bcast_S32768x8x16_S32768x8x16x1_0_1_2 a))
    (broadcastInDim S32768x8x16x16 ![0, 1, 2, 3] bcast_S32768x8x1x16_S32768x8x16x16_0_1_2_3 (broadcastInDim S32768x8x1x16 ![0, 1, 3] bcast_S32768x8x16_S32768x8x1x16_0_1_3 b)))
    shapeCasts_S32768x8x16x16_S32768x8x256

def den (t : FVec F S32768x8x256 .f32) : ℕ → FVec F S32768x8x1 .f32
  | 0 => addf (broadcastInDim S32768x8x1 ![] bcast_S_S32768x8x1 (constant S_ .f32 0x00000000#32)) (Host.exp (subf (nth' t 0) (nth' t 0)))
  | r + 1 => addf (den t r) (Host.exp (subf (nth' t (r + 1)) (nth' t 0)))

/-! ## Read at one token and head -/

def row {n : ℕ} (s : (⟨3, ![32768, 8, n]⟩ : Shape).Idx → EReal) (i : Fin 32768) (h : Fin 8) (k : Fin n) : EReal := s (ix3 i h k)

theorem keep (a b : EReal) (c : EReal) (h : a ≤ b) :
    Scalar.select (FloatOps.cmpf (F := Ideal) (φ := .f32) .olt a b) a c = if a = b then c else a := by
  pointwise
  rcases h.eq_or_lt with e | e
  · subst e
    rw [if_neg (lt_irrefl a), if_pos rfl]
  · rw [if_pos e, if_neg e.ne]

theorem peak_at (s : FVec Ideal S32768x8x128 .f32) (i : Fin 32768) (h : Fin 8) : peak s (ix3 i h 0) = big (row s i h) := by
  unfold peak
  pointwise
  rw [bits_bot]
  rfl

theorem spread_at (p : FVec Ideal S32768x8x1 .f32) (i : Fin 32768) (h : Fin 8) (k : Fin 128) :
    broadcastInDim S32768x8x128 ![0, 1, 2] bcast_S32768x8x1_S32768x8x128_0_1_2 p (ix3 i h k) = p (ix3 i h 0) :=
  broadcastInDim_apply _ _ p _ _ (fun a => match a with
    | ⟨0, _⟩ => by show i.val = if (32768 : Nat) = 1 then 0 else i.val; rw [if_neg (by decide)]
    | ⟨1, _⟩ => by show h.val = if (8 : Nat) = 1 then 0 else h.val; rw [if_neg (by decide)]
    | ⟨2, _⟩ => by show 0 = if (1 : Nat) = 1 then 0 else k.val; rw [if_pos rfl])

theorem fill_at (c : FVec Ideal S_ .f32) (y : S32768x8x128.Idx) :
    broadcastInDim S32768x8x128 ![] bcast_S_S32768x8x128 c y = c (fun a => a.elim0) :=
  broadcastInDim_apply _ _ c _ _ (fun a => a.elim0)

theorem drop_at (s p c : FVec Ideal S32768x8x128 .f32) (y : S32768x8x128.Idx) (u v : EReal) (hp : p y = u) (hc : c y = v) (hle : s y ≤ u) :
    select (cmpf .olt s p) s c y = if (s y : EReal) = u then v else (s y : EReal) := by
  subst hp
  subst hc
  exact (keep (s y) (p y) (c y) hle)

theorem without_at (s : FVec Ideal S32768x8x128 .f32) (i : Fin 32768) (h : Fin 8) (k : Fin 128) :
    without s (ix3 i h k) = if row s i h k = big (row s i h) then (⊥ : EReal) else row s i h k := by
  unfold without
  exact drop_at s _ _ (ix3 i h k) (big (row s i h)) ⊥ ((spread_at (peak s) i h k).trans (peak_at s i h)) ((fill_at _ _).trans bits_bot) (PeerSpec.le_big (row s i h) k)

theorem row_without (s : FVec Ideal S32768x8x128 .f32) (i : Fin 32768) (h : Fin 8) : row (without s) i h = fun k => if row s i h k = big (row s i h) then ⊥ else row s i h k :=
  funext fun k => without_at s i h k

theorem row_after (s : FVec Ideal S32768x8x128 .f32) (i : Fin 32768) (h : Fin 8) (r : ℕ) : row (after s r) i h = left (row s i h) r := by
  induction r with
  | zero => rfl
  | succ r ih =>
    refine (row_without (after s r) i h).trans ?_
    rw [ih]
    rfl

theorem nth_at (s : FVec Ideal S32768x8x128 .f32) (r : ℕ) (i : Fin 32768) (h : Fin 8) : nth s r (ix3 i h 0) = pick (row s i h) r :=
  (peak_at (after s r) i h).trans (congrArg big (row_after s i h r))

theorem peak'_at (s : FVec Ideal S32768x8x256 .f32) (i : Fin 32768) (h : Fin 8) : peak' s (ix3 i h 0) = big (row s i h) := by
  unfold peak'
  pointwise
  rw [bits_bot]
  rfl

theorem spread'_at (p : FVec Ideal S32768x8x1 .f32) (i : Fin 32768) (h : Fin 8) (k : Fin 256) :
    broadcastInDim S32768x8x256 ![0, 1, 2] bcast_S32768x8x1_S32768x8x256_0_1_2 p (ix3 i h k) = p (ix3 i h 0) :=
  broadcastInDim_apply _ _ p _ _ (fun a => match a with
    | ⟨0, _⟩ => by show i.val = if (32768 : Nat) = 1 then 0 else i.val; rw [if_neg (by decide)]
    | ⟨1, _⟩ => by show h.val = if (8 : Nat) = 1 then 0 else h.val; rw [if_neg (by decide)]
    | ⟨2, _⟩ => by show 0 = if (1 : Nat) = 1 then 0 else k.val; rw [if_pos rfl])

theorem fill'_at (c : FVec Ideal S_ .f32) (y : S32768x8x256.Idx) :
    broadcastInDim S32768x8x256 ![] bcast_S_S32768x8x256 c y = c (fun a => a.elim0) :=
  broadcastInDim_apply _ _ c _ _ (fun a => a.elim0)

theorem drop'_at (s p c : FVec Ideal S32768x8x256 .f32) (y : S32768x8x256.Idx) (u v : EReal) (hp : p y = u) (hc : c y = v) (hle : s y ≤ u) :
    select (cmpf .olt s p) s c y = if (s y : EReal) = u then v else (s y : EReal) := by
  subst hp
  subst hc
  exact (keep (s y) (p y) (c y) hle)

theorem without'_at (s : FVec Ideal S32768x8x256 .f32) (i : Fin 32768) (h : Fin 8) (k : Fin 256) :
    without' s (ix3 i h k) = if row s i h k = big (row s i h) then (⊥ : EReal) else row s i h k := by
  unfold without'
  exact drop'_at s _ _ (ix3 i h k) (big (row s i h)) ⊥ ((spread'_at (peak' s) i h k).trans (peak'_at s i h)) ((fill'_at _ _).trans bits_bot) (PeerSpec.le_big (row s i h) k)

theorem row'_without (s : FVec Ideal S32768x8x256 .f32) (i : Fin 32768) (h : Fin 8) : row (without' s) i h = fun k => if row s i h k = big (row s i h) then ⊥ else row s i h k :=
  funext fun k => without'_at s i h k

theorem row'_after (s : FVec Ideal S32768x8x256 .f32) (i : Fin 32768) (h : Fin 8) (r : ℕ) : row (after' s r) i h = left (row s i h) r := by
  induction r with
  | zero => rfl
  | succ r ih =>
    refine (row'_without (after' s r) i h).trans ?_
    rw [ih]
    rfl

theorem nth'_at (s : FVec Ideal S32768x8x256 .f32) (r : ℕ) (i : Fin 32768) (h : Fin 8) : nth' s r (ix3 i h 0) = pick (row s i h) r :=
  (peak'_at (after' s r) i h).trans (congrArg big (row'_after s i h r))

theorem beside_at (f : ℕ → FVec Ideal S32768x8x1 .f32) (i : Fin 32768) (h : Fin 8) (j : Fin 16) : beside f (ix3 i h j) = f j (ix3 i h 0) := by
  unfold beside
  clean_types
  fin_cases j
  all_goals
    pointwise

theorem table_at (a b : FVec Ideal S32768x8x16 .f32) (i : Fin 32768) (h : Fin 8) (n : Fin 256) :
    table a b (ix3 i h n) = a (ix3 i h ⟨n.val / 16, by omega⟩) + b (ix3 i h ⟨n.val % 16, by omega⟩) := by
  unfold table
  pointwise

end Cert.PeerRow.Ref

end
-- ==== Proof.Peer.Chain.lean ====
/- The reference's own values are those steps, one after another. -/
module

public import proofs.«01_k».proof.Proof.Peer.Take

@[expose] public section

set_option maxRecDepth 16384

noncomputable section

namespace Cert.PeerRow.Ref

open Idealize.ShloMosaic Idealize.ShloMosaic.TcCoe
open Cert.PeerRefIdeal Cert.PeerRefIdeal.Gen Cert.PeerRefIdeal.Read

variable {F : FTy → Type} [FloatOps F]
variable (x0 : (⟨S1024x32768, .bf16⟩ : BufTy).Contents (Elt F)) (x1 : (⟨S2048x1024, .bf16⟩ : BufTy).Contents (Elt F)) (x2 : (⟨S8x2x128x128, .bf16⟩ : BufTy).Contents (Elt F))

theorem a0 : val_main_v10 (F := F) x0 x1 x2 = after (val_main_v10 (F := F) x0 x1 x2) 0 := rfl
theorem an0_step : val_main_v19 (F := F) x0 x1 x2 = peak (val_main_v10 (F := F) x0 x1 x2) := rfl
theorem an0 : val_main_v19 (F := F) x0 x1 x2 = nth (val_main_v10 (F := F) x0 x1 x2) 0 := (an0_step x0 x1 x2).trans (congrArg peak (a0 x0 x1 x2))
theorem a1_step : val_main_v22 (F := F) x0 x1 x2 = without (val_main_v10 (F := F) x0 x1 x2) := rfl
theorem a1 : val_main_v22 (F := F) x0 x1 x2 = after (val_main_v10 (F := F) x0 x1 x2) 1 := (a1_step x0 x1 x2).trans (congrArg without (a0 x0 x1 x2))
theorem an1_step : val_main_v24 (F := F) x0 x1 x2 = peak (val_main_v22 (F := F) x0 x1 x2) := rfl
theorem an1 : val_main_v24 (F := F) x0 x1 x2 = nth (val_main_v10 (F := F) x0 x1 x2) 1 := (an1_step x0 x1 x2).trans (congrArg peak (a1 x0 x1 x2))
theorem a2_step : val_main_v27 (F := F) x0 x1 x2 = without (val_main_v22 (F := F) x0 x1 x2) := rfl
theorem a2 : val_main_v27 (F := F) x0 x1 x2 = after (val_main_v10 (F := F) x0 x1 x2) 2 := (a2_step x0 x1 x2).trans (congrArg without (a1 x0 x1 x2))
theorem an2_step : val_main_v29 (F := F) x0 x1 x2 = peak (val_main_v27 (F := F) x0 x1 x2) := rfl
theorem an2 : val_main_v29 (F := F) x0 x1 x2 = nth (val_main_v10 (F := F) x0 x1 x2) 2 := (an2_step x0 x1 x2).trans (congrArg peak (a2 x0 x1 x2))
theorem a3_step : val_main_v32 (F := F) x0 x1 x2 = without (val_main_v27 (F := F) x0 x1 x2) := rfl
theorem a3 : val_main_v32 (F := F) x0 x1 x2 = after (val_main_v10 (F := F) x0 x1 x2) 3 := (a3_step x0 x1 x2).trans (congrArg without (a2 x0 x1 x2))
theorem an3_step : val_main_v34 (F := F) x0 x1 x2 = peak (val_main_v32 (F := F) x0 x1 x2) := rfl
theorem an3 : val_main_v34 (F := F) x0 x1 x2 = nth (val_main_v10 (F := F) x0 x1 x2) 3 := (an3_step x0 x1 x2).trans (congrArg peak (a3 x0 x1 x2))
theorem a4_step : val_main_v37 (F := F) x0 x1 x2 = without (val_main_v32 (F := F) x0 x1 x2) := rfl
theorem a4 : val_main_v37 (F := F) x0 x1 x2 = after (val_main_v10 (F := F) x0 x1 x2) 4 := (a4_step x0 x1 x2).trans (congrArg without (a3 x0 x1 x2))
theorem an4_step : val_main_v39 (F := F) x0 x1 x2 = peak (val_main_v37 (F := F) x0 x1 x2) := rfl
theorem an4 : val_main_v39 (F := F) x0 x1 x2 = nth (val_main_v10 (F := F) x0 x1 x2) 4 := (an4_step x0 x1 x2).trans (congrArg peak (a4 x0 x1 x2))
theorem a5_step : val_main_v42 (F := F) x0 x1 x2 = without (val_main_v37 (F := F) x0 x1 x2) := rfl
theorem a5 : val_main_v42 (F := F) x0 x1 x2 = after (val_main_v10 (F := F) x0 x1 x2) 5 := (a5_step x0 x1 x2).trans (congrArg without (a4 x0 x1 x2))
theorem an5_step : val_main_v44 (F := F) x0 x1 x2 = peak (val_main_v42 (F := F) x0 x1 x2) := rfl
theorem an5 : val_main_v44 (F := F) x0 x1 x2 = nth (val_main_v10 (F := F) x0 x1 x2) 5 := (an5_step x0 x1 x2).trans (congrArg peak (a5 x0 x1 x2))
theorem a6_step : val_main_v47 (F := F) x0 x1 x2 = without (val_main_v42 (F := F) x0 x1 x2) := rfl
theorem a6 : val_main_v47 (F := F) x0 x1 x2 = after (val_main_v10 (F := F) x0 x1 x2) 6 := (a6_step x0 x1 x2).trans (congrArg without (a5 x0 x1 x2))
theorem an6_step : val_main_v49 (F := F) x0 x1 x2 = peak (val_main_v47 (F := F) x0 x1 x2) := rfl
theorem an6 : val_main_v49 (F := F) x0 x1 x2 = nth (val_main_v10 (F := F) x0 x1 x2) 6 := (an6_step x0 x1 x2).trans (congrArg peak (a6 x0 x1 x2))
theorem a7_step : val_main_v52 (F := F) x0 x1 x2 = without (val_main_v47 (F := F) x0 x1 x2) := rfl
theorem a7 : val_main_v52 (F := F) x0 x1 x2 = after (val_main_v10 (F := F) x0 x1 x2) 7 := (a7_step x0 x1 x2).trans (congrArg without (a6 x0 x1 x2))
theorem an7_step : val_main_v54 (F := F) x0 x1 x2 = peak (val_main_v52 (F := F) x0 x1 x2) := rfl
theorem an7 : val_main_v54 (F := F) x0 x1 x2 = nth (val_main_v10 (F := F) x0 x1 x2) 7 := (an7_step x0 x1 x2).trans (congrArg peak (a7 x0 x1 x2))
theorem a8_step : val_main_v57 (F := F) x0 x1 x2 = without (val_main_v52 (F := F) x0 x1 x2) := rfl
theorem a8 : val_main_v57 (F := F) x0 x1 x2 = after (val_main_v10 (F := F) x0 x1 x2) 8 := (a8_step x0 x1 x2).trans (congrArg without (a7 x0 x1 x2))
theorem an8_step : val_main_v59 (F := F) x0 x1 x2 = peak (val_main_v57 (F := F) x0 x1 x2) := rfl
theorem an8 : val_main_v59 (F := F) x0 x1 x2 = nth (val_main_v10 (F := F) x0 x1 x2) 8 := (an8_step x0 x1 x2).trans (congrArg peak (a8 x0 x1 x2))
theorem a9_step : val_main_v62 (F := F) x0 x1 x2 = without (val_main_v57 (F := F) x0 x1 x2) := rfl
theorem a9 : val_main_v62 (F := F) x0 x1 x2 = after (val_main_v10 (F := F) x0 x1 x2) 9 := (a9_step x0 x1 x2).trans (congrArg without (a8 x0 x1 x2))
theorem an9_step : val_main_v64 (F := F) x0 x1 x2 = peak (val_main_v62 (F := F) x0 x1 x2) := rfl
theorem an9 : val_main_v64 (F := F) x0 x1 x2 = nth (val_main_v10 (F := F) x0 x1 x2) 9 := (an9_step x0 x1 x2).trans (congrArg peak (a9 x0 x1 x2))
theorem a10_step : val_main_v67 (F := F) x0 x1 x2 = without (val_main_v62 (F := F) x0 x1 x2) := rfl
theorem a10 : val_main_v67 (F := F) x0 x1 x2 = after (val_main_v10 (F := F) x0 x1 x2) 10 := (a10_step x0 x1 x2).trans (congrArg without (a9 x0 x1 x2))
theorem an10_step : val_main_v69 (F := F) x0 x1 x2 = peak (val_main_v67 (F := F) x0 x1 x2) := rfl
theorem an10 : val_main_v69 (F := F) x0 x1 x2 = nth (val_main_v10 (F := F) x0 x1 x2) 10 := (an10_step x0 x1 x2).trans (congrArg peak (a10 x0 x1 x2))
theorem a11_step : val_main_v72 (F := F) x0 x1 x2 = without (val_main_v67 (F := F) x0 x1 x2) := rfl
theorem a11 : val_main_v72 (F := F) x0 x1 x2 = after (val_main_v10 (F := F) x0 x1 x2) 11 := (a11_step x0 x1 x2).trans (congrArg without (a10 x0 x1 x2))
theorem an11_step : val_main_v74 (F := F) x0 x1 x2 = peak (val_main_v72 (F := F) x0 x1 x2) := rfl
theorem an11 : val_main_v74 (F := F) x0 x1 x2 = nth (val_main_v10 (F := F) x0 x1 x2) 11 := (an11_step x0 x1 x2).trans (congrArg peak (a11 x0 x1 x2))
theorem a12_step : val_main_v77 (F := F) x0 x1 x2 = without (val_main_v72 (F := F) x0 x1 x2) := rfl
theorem a12 : val_main_v77 (F := F) x0 x1 x2 = after (val_main_v10 (F := F) x0 x1 x2) 12 := (a12_step x0 x1 x2).trans (congrArg without (a11 x0 x1 x2))
theorem an12_step : val_main_v79 (F := F) x0 x1 x2 = peak (val_main_v77 (F := F) x0 x1 x2) := rfl
theorem an12 : val_main_v79 (F := F) x0 x1 x2 = nth (val_main_v10 (F := F) x0 x1 x2) 12 := (an12_step x0 x1 x2).trans (congrArg peak (a12 x0 x1 x2))
theorem a13_step : val_main_v82 (F := F) x0 x1 x2 = without (val_main_v77 (F := F) x0 x1 x2) := rfl
theorem a13 : val_main_v82 (F := F) x0 x1 x2 = after (val_main_v10 (F := F) x0 x1 x2) 13 := (a13_step x0 x1 x2).trans (congrArg without (a12 x0 x1 x2))
theorem an13_step : val_main_v84 (F := F) x0 x1 x2 = peak (val_main_v82 (F := F) x0 x1 x2) := rfl
theorem an13 : val_main_v84 (F := F) x0 x1 x2 = nth (val_main_v10 (F := F) x0 x1 x2) 13 := (an13_step x0 x1 x2).trans (congrArg peak (a13 x0 x1 x2))
theorem a14_step : val_main_v87 (F := F) x0 x1 x2 = without (val_main_v82 (F := F) x0 x1 x2) := rfl
theorem a14 : val_main_v87 (F := F) x0 x1 x2 = after (val_main_v10 (F := F) x0 x1 x2) 14 := (a14_step x0 x1 x2).trans (congrArg without (a13 x0 x1 x2))
theorem an14_step : val_main_v89 (F := F) x0 x1 x2 = peak (val_main_v87 (F := F) x0 x1 x2) := rfl
theorem an14 : val_main_v89 (F := F) x0 x1 x2 = nth (val_main_v10 (F := F) x0 x1 x2) 14 := (an14_step x0 x1 x2).trans (congrArg peak (a14 x0 x1 x2))
theorem a15_step : val_main_v92 (F := F) x0 x1 x2 = without (val_main_v87 (F := F) x0 x1 x2) := rfl
theorem a15 : val_main_v92 (F := F) x0 x1 x2 = after (val_main_v10 (F := F) x0 x1 x2) 15 := (a15_step x0 x1 x2).trans (congrArg without (a14 x0 x1 x2))
theorem an15_step : val_main_v94 (F := F) x0 x1 x2 = peak (val_main_v92 (F := F) x0 x1 x2) := rfl
theorem an15 : val_main_v94 (F := F) x0 x1 x2 = nth (val_main_v10 (F := F) x0 x1 x2) 15 := (an15_step x0 x1 x2).trans (congrArg peak (a15 x0 x1 x2))

theorem b0 : val_main_v17 (F := F) x0 x1 x2 = after (val_main_v17 (F := F) x0 x1 x2) 0 := rfl
theorem bn0_step : val_main_v100 (F := F) x0 x1 x2 = peak (val_main_v17 (F := F) x0 x1 x2) := rfl
theorem bn0 : val_main_v100 (F := F) x0 x1 x2 = nth (val_main_v17 (F := F) x0 x1 x2) 0 := (bn0_step x0 x1 x2).trans (congrArg peak (b0 x0 x1 x2))
theorem b1_step : val_main_v103 (F := F) x0 x1 x2 = without (val_main_v17 (F := F) x0 x1 x2) := rfl
theorem b1 : val_main_v103 (F := F) x0 x1 x2 = after (val_main_v17 (F := F) x0 x1 x2) 1 := (b1_step x0 x1 x2).trans (congrArg without (b0 x0 x1 x2))
theorem bn1_step : val_main_v105 (F := F) x0 x1 x2 = peak (val_main_v103 (F := F) x0 x1 x2) := rfl
theorem bn1 : val_main_v105 (F := F) x0 x1 x2 = nth (val_main_v17 (F := F) x0 x1 x2) 1 := (bn1_step x0 x1 x2).trans (congrArg peak (b1 x0 x1 x2))
theorem b2_step : val_main_v108 (F := F) x0 x1 x2 = without (val_main_v103 (F := F) x0 x1 x2) := rfl
theorem b2 : val_main_v108 (F := F) x0 x1 x2 = after (val_main_v17 (F := F) x0 x1 x2) 2 := (b2_step x0 x1 x2).trans (congrArg without (b1 x0 x1 x2))
theorem bn2_step : val_main_v110 (F := F) x0 x1 x2 = peak (val_main_v108 (F := F) x0 x1 x2) := rfl
theorem bn2 : val_main_v110 (F := F) x0 x1 x2 = nth (val_main_v17 (F := F) x0 x1 x2) 2 := (bn2_step x0 x1 x2).trans (congrArg peak (b2 x0 x1 x2))
theorem b3_step : val_main_v113 (F := F) x0 x1 x2 = without (val_main_v108 (F := F) x0 x1 x2) := rfl
theorem b3 : val_main_v113 (F := F) x0 x1 x2 = after (val_main_v17 (F := F) x0 x1 x2) 3 := (b3_step x0 x1 x2).trans (congrArg without (b2 x0 x1 x2))
theorem bn3_step : val_main_v115 (F := F) x0 x1 x2 = peak (val_main_v113 (F := F) x0 x1 x2) := rfl
theorem bn3 : val_main_v115 (F := F) x0 x1 x2 = nth (val_main_v17 (F := F) x0 x1 x2) 3 := (bn3_step x0 x1 x2).trans (congrArg peak (b3 x0 x1 x2))
theorem b4_step : val_main_v118 (F := F) x0 x1 x2 = without (val_main_v113 (F := F) x0 x1 x2) := rfl
theorem b4 : val_main_v118 (F := F) x0 x1 x2 = after (val_main_v17 (F := F) x0 x1 x2) 4 := (b4_step x0 x1 x2).trans (congrArg without (b3 x0 x1 x2))
theorem bn4_step : val_main_v120 (F := F) x0 x1 x2 = peak (val_main_v118 (F := F) x0 x1 x2) := rfl
theorem bn4 : val_main_v120 (F := F) x0 x1 x2 = nth (val_main_v17 (F := F) x0 x1 x2) 4 := (bn4_step x0 x1 x2).trans (congrArg peak (b4 x0 x1 x2))
theorem b5_step : val_main_v123 (F := F) x0 x1 x2 = without (val_main_v118 (F := F) x0 x1 x2) := rfl
theorem b5 : val_main_v123 (F := F) x0 x1 x2 = after (val_main_v17 (F := F) x0 x1 x2) 5 := (b5_step x0 x1 x2).trans (congrArg without (b4 x0 x1 x2))
theorem bn5_step : val_main_v125 (F := F) x0 x1 x2 = peak (val_main_v123 (F := F) x0 x1 x2) := rfl
theorem bn5 : val_main_v125 (F := F) x0 x1 x2 = nth (val_main_v17 (F := F) x0 x1 x2) 5 := (bn5_step x0 x1 x2).trans (congrArg peak (b5 x0 x1 x2))
theorem b6_step : val_main_v128 (F := F) x0 x1 x2 = without (val_main_v123 (F := F) x0 x1 x2) := rfl
theorem b6 : val_main_v128 (F := F) x0 x1 x2 = after (val_main_v17 (F := F) x0 x1 x2) 6 := (b6_step x0 x1 x2).trans (congrArg without (b5 x0 x1 x2))
theorem bn6_step : val_main_v130 (F := F) x0 x1 x2 = peak (val_main_v128 (F := F) x0 x1 x2) := rfl
theorem bn6 : val_main_v130 (F := F) x0 x1 x2 = nth (val_main_v17 (F := F) x0 x1 x2) 6 := (bn6_step x0 x1 x2).trans (congrArg peak (b6 x0 x1 x2))
theorem b7_step : val_main_v133 (F := F) x0 x1 x2 = without (val_main_v128 (F := F) x0 x1 x2) := rfl
theorem b7 : val_main_v133 (F := F) x0 x1 x2 = after (val_main_v17 (F := F) x0 x1 x2) 7 := (b7_step x0 x1 x2).trans (congrArg without (b6 x0 x1 x2))
theorem bn7_step : val_main_v135 (F := F) x0 x1 x2 = peak (val_main_v133 (F := F) x0 x1 x2) := rfl
theorem bn7 : val_main_v135 (F := F) x0 x1 x2 = nth (val_main_v17 (F := F) x0 x1 x2) 7 := (bn7_step x0 x1 x2).trans (congrArg peak (b7 x0 x1 x2))
theorem b8_step : val_main_v138 (F := F) x0 x1 x2 = without (val_main_v133 (F := F) x0 x1 x2) := rfl
theorem b8 : val_main_v138 (F := F) x0 x1 x2 = after (val_main_v17 (F := F) x0 x1 x2) 8 := (b8_step x0 x1 x2).trans (congrArg without (b7 x0 x1 x2))
theorem bn8_step : val_main_v140 (F := F) x0 x1 x2 = peak (val_main_v138 (F := F) x0 x1 x2) := rfl
theorem bn8 : val_main_v140 (F := F) x0 x1 x2 = nth (val_main_v17 (F := F) x0 x1 x2) 8 := (bn8_step x0 x1 x2).trans (congrArg peak (b8 x0 x1 x2))
theorem b9_step : val_main_v143 (F := F) x0 x1 x2 = without (val_main_v138 (F := F) x0 x1 x2) := rfl
theorem b9 : val_main_v143 (F := F) x0 x1 x2 = after (val_main_v17 (F := F) x0 x1 x2) 9 := (b9_step x0 x1 x2).trans (congrArg without (b8 x0 x1 x2))
theorem bn9_step : val_main_v145 (F := F) x0 x1 x2 = peak (val_main_v143 (F := F) x0 x1 x2) := rfl
theorem bn9 : val_main_v145 (F := F) x0 x1 x2 = nth (val_main_v17 (F := F) x0 x1 x2) 9 := (bn9_step x0 x1 x2).trans (congrArg peak (b9 x0 x1 x2))
theorem b10_step : val_main_v148 (F := F) x0 x1 x2 = without (val_main_v143 (F := F) x0 x1 x2) := rfl
theorem b10 : val_main_v148 (F := F) x0 x1 x2 = after (val_main_v17 (F := F) x0 x1 x2) 10 := (b10_step x0 x1 x2).trans (congrArg without (b9 x0 x1 x2))
theorem bn10_step : val_main_v150 (F := F) x0 x1 x2 = peak (val_main_v148 (F := F) x0 x1 x2) := rfl
theorem bn10 : val_main_v150 (F := F) x0 x1 x2 = nth (val_main_v17 (F := F) x0 x1 x2) 10 := (bn10_step x0 x1 x2).trans (congrArg peak (b10 x0 x1 x2))
theorem b11_step : val_main_v153 (F := F) x0 x1 x2 = without (val_main_v148 (F := F) x0 x1 x2) := rfl
theorem b11 : val_main_v153 (F := F) x0 x1 x2 = after (val_main_v17 (F := F) x0 x1 x2) 11 := (b11_step x0 x1 x2).trans (congrArg without (b10 x0 x1 x2))
theorem bn11_step : val_main_v155 (F := F) x0 x1 x2 = peak (val_main_v153 (F := F) x0 x1 x2) := rfl
theorem bn11 : val_main_v155 (F := F) x0 x1 x2 = nth (val_main_v17 (F := F) x0 x1 x2) 11 := (bn11_step x0 x1 x2).trans (congrArg peak (b11 x0 x1 x2))
theorem b12_step : val_main_v158 (F := F) x0 x1 x2 = without (val_main_v153 (F := F) x0 x1 x2) := rfl
theorem b12 : val_main_v158 (F := F) x0 x1 x2 = after (val_main_v17 (F := F) x0 x1 x2) 12 := (b12_step x0 x1 x2).trans (congrArg without (b11 x0 x1 x2))
theorem bn12_step : val_main_v160 (F := F) x0 x1 x2 = peak (val_main_v158 (F := F) x0 x1 x2) := rfl
theorem bn12 : val_main_v160 (F := F) x0 x1 x2 = nth (val_main_v17 (F := F) x0 x1 x2) 12 := (bn12_step x0 x1 x2).trans (congrArg peak (b12 x0 x1 x2))
theorem b13_step : val_main_v163 (F := F) x0 x1 x2 = without (val_main_v158 (F := F) x0 x1 x2) := rfl
theorem b13 : val_main_v163 (F := F) x0 x1 x2 = after (val_main_v17 (F := F) x0 x1 x2) 13 := (b13_step x0 x1 x2).trans (congrArg without (b12 x0 x1 x2))
theorem bn13_step : val_main_v165 (F := F) x0 x1 x2 = peak (val_main_v163 (F := F) x0 x1 x2) := rfl
theorem bn13 : val_main_v165 (F := F) x0 x1 x2 = nth (val_main_v17 (F := F) x0 x1 x2) 13 := (bn13_step x0 x1 x2).trans (congrArg peak (b13 x0 x1 x2))
theorem b14_step : val_main_v168 (F := F) x0 x1 x2 = without (val_main_v163 (F := F) x0 x1 x2) := rfl
theorem b14 : val_main_v168 (F := F) x0 x1 x2 = after (val_main_v17 (F := F) x0 x1 x2) 14 := (b14_step x0 x1 x2).trans (congrArg without (b13 x0 x1 x2))
theorem bn14_step : val_main_v170 (F := F) x0 x1 x2 = peak (val_main_v168 (F := F) x0 x1 x2) := rfl
theorem bn14 : val_main_v170 (F := F) x0 x1 x2 = nth (val_main_v17 (F := F) x0 x1 x2) 14 := (bn14_step x0 x1 x2).trans (congrArg peak (b14 x0 x1 x2))
theorem b15_step : val_main_v173 (F := F) x0 x1 x2 = without (val_main_v168 (F := F) x0 x1 x2) := rfl
theorem b15 : val_main_v173 (F := F) x0 x1 x2 = after (val_main_v17 (F := F) x0 x1 x2) 15 := (b15_step x0 x1 x2).trans (congrArg without (b14 x0 x1 x2))
theorem bn15_step : val_main_v175 (F := F) x0 x1 x2 = peak (val_main_v173 (F := F) x0 x1 x2) := rfl
theorem bn15 : val_main_v175 (F := F) x0 x1 x2 = nth (val_main_v17 (F := F) x0 x1 x2) 15 := (bn15_step x0 x1 x2).trans (congrArg peak (b15 x0 x1 x2))

theorem a_beside : val_main_v98 (F := F) x0 x1 x2 = beside (nth (val_main_v10 (F := F) x0 x1 x2)) := by
  unfold val_main_v98 beside
  rw [an0 x0 x1 x2, an1 x0 x1 x2, an2 x0 x1 x2, an3 x0 x1 x2, an4 x0 x1 x2, an5 x0 x1 x2, an6 x0 x1 x2, an7 x0 x1 x2, an8 x0 x1 x2, an9 x0 x1 x2, an10 x0 x1 x2, an11 x0 x1 x2, an12 x0 x1 x2, an13 x0 x1 x2, an14 x0 x1 x2, an15 x0 x1 x2]

theorem b_beside : val_main_v179 (F := F) x0 x1 x2 = beside (nth (val_main_v17 (F := F) x0 x1 x2)) := by
  unfold val_main_v179 beside
  rw [bn0 x0 x1 x2, bn1 x0 x1 x2, bn2 x0 x1 x2, bn3 x0 x1 x2, bn4 x0 x1 x2, bn5 x0 x1 x2, bn6 x0 x1 x2, bn7 x0 x1 x2, bn8 x0 x1 x2, bn9 x0 x1 x2, bn10 x0 x1 x2, bn11 x0 x1 x2, bn12 x0 x1 x2, bn13 x0 x1 x2, bn14 x0 x1 x2, bn15 x0 x1 x2]

theorem sums_table : val_main_v185 (F := F) x0 x1 x2 = table (val_main_v98 (F := F) x0 x1 x2) (val_main_v179 (F := F) x0 x1 x2) := rfl

theorem t0 : val_main_v185 (F := F) x0 x1 x2 = after' (val_main_v185 (F := F) x0 x1 x2) 0 := rfl
theorem tn0_step : val_main_v187 (F := F) x0 x1 x2 = peak' (val_main_v185 (F := F) x0 x1 x2) := rfl
theorem tn0 : val_main_v187 (F := F) x0 x1 x2 = nth' (val_main_v185 (F := F) x0 x1 x2) 0 := (tn0_step x0 x1 x2).trans (congrArg peak' (t0 x0 x1 x2))
theorem t1_step : val_main_v190 (F := F) x0 x1 x2 = without' (val_main_v185 (F := F) x0 x1 x2) := rfl
theorem t1 : val_main_v190 (F := F) x0 x1 x2 = after' (val_main_v185 (F := F) x0 x1 x2) 1 := (t1_step x0 x1 x2).trans (congrArg without' (t0 x0 x1 x2))
theorem tn1_step : val_main_v192 (F := F) x0 x1 x2 = peak' (val_main_v190 (F := F) x0 x1 x2) := rfl
theorem tn1 : val_main_v192 (F := F) x0 x1 x2 = nth' (val_main_v185 (F := F) x0 x1 x2) 1 := (tn1_step x0 x1 x2).trans (congrArg peak' (t1 x0 x1 x2))
theorem t2_step : val_main_v195 (F := F) x0 x1 x2 = without' (val_main_v190 (F := F) x0 x1 x2) := rfl
theorem t2 : val_main_v195 (F := F) x0 x1 x2 = after' (val_main_v185 (F := F) x0 x1 x2) 2 := (t2_step x0 x1 x2).trans (congrArg without' (t1 x0 x1 x2))
theorem tn2_step : val_main_v197 (F := F) x0 x1 x2 = peak' (val_main_v195 (F := F) x0 x1 x2) := rfl
theorem tn2 : val_main_v197 (F := F) x0 x1 x2 = nth' (val_main_v185 (F := F) x0 x1 x2) 2 := (tn2_step x0 x1 x2).trans (congrArg peak' (t2 x0 x1 x2))
theorem t3_step : val_main_v200 (F := F) x0 x1 x2 = without' (val_main_v195 (F := F) x0 x1 x2) := rfl
theorem t3 : val_main_v200 (F := F) x0 x1 x2 = after' (val_main_v185 (F := F) x0 x1 x2) 3 := (t3_step x0 x1 x2).trans (congrArg without' (t2 x0 x1 x2))
theorem tn3_step : val_main_v202 (F := F) x0 x1 x2 = peak' (val_main_v200 (F := F) x0 x1 x2) := rfl
theorem tn3 : val_main_v202 (F := F) x0 x1 x2 = nth' (val_main_v185 (F := F) x0 x1 x2) 3 := (tn3_step x0 x1 x2).trans (congrArg peak' (t3 x0 x1 x2))
theorem t4_step : val_main_v205 (F := F) x0 x1 x2 = without' (val_main_v200 (F := F) x0 x1 x2) := rfl
theorem t4 : val_main_v205 (F := F) x0 x1 x2 = after' (val_main_v185 (F := F) x0 x1 x2) 4 := (t4_step x0 x1 x2).trans (congrArg without' (t3 x0 x1 x2))
theorem tn4_step : val_main_v207 (F := F) x0 x1 x2 = peak' (val_main_v205 (F := F) x0 x1 x2) := rfl
theorem tn4 : val_main_v207 (F := F) x0 x1 x2 = nth' (val_main_v185 (F := F) x0 x1 x2) 4 := (tn4_step x0 x1 x2).trans (congrArg peak' (t4 x0 x1 x2))
theorem t5_step : val_main_v210 (F := F) x0 x1 x2 = without' (val_main_v205 (F := F) x0 x1 x2) := rfl
theorem t5 : val_main_v210 (F := F) x0 x1 x2 = after' (val_main_v185 (F := F) x0 x1 x2) 5 := (t5_step x0 x1 x2).trans (congrArg without' (t4 x0 x1 x2))
theorem tn5_step : val_main_v212 (F := F) x0 x1 x2 = peak' (val_main_v210 (F := F) x0 x1 x2) := rfl
theorem tn5 : val_main_v212 (F := F) x0 x1 x2 = nth' (val_main_v185 (F := F) x0 x1 x2) 5 := (tn5_step x0 x1 x2).trans (congrArg peak' (t5 x0 x1 x2))
theorem t6_step : val_main_v215 (F := F) x0 x1 x2 = without' (val_main_v210 (F := F) x0 x1 x2) := rfl
theorem t6 : val_main_v215 (F := F) x0 x1 x2 = after' (val_main_v185 (F := F) x0 x1 x2) 6 := (t6_step x0 x1 x2).trans (congrArg without' (t5 x0 x1 x2))
theorem tn6_step : val_main_v217 (F := F) x0 x1 x2 = peak' (val_main_v215 (F := F) x0 x1 x2) := rfl
theorem tn6 : val_main_v217 (F := F) x0 x1 x2 = nth' (val_main_v185 (F := F) x0 x1 x2) 6 := (tn6_step x0 x1 x2).trans (congrArg peak' (t6 x0 x1 x2))
theorem t7_step : val_main_v220 (F := F) x0 x1 x2 = without' (val_main_v215 (F := F) x0 x1 x2) := rfl
theorem t7 : val_main_v220 (F := F) x0 x1 x2 = after' (val_main_v185 (F := F) x0 x1 x2) 7 := (t7_step x0 x1 x2).trans (congrArg without' (t6 x0 x1 x2))
theorem tn7_step : val_main_v222 (F := F) x0 x1 x2 = peak' (val_main_v220 (F := F) x0 x1 x2) := rfl
theorem tn7 : val_main_v222 (F := F) x0 x1 x2 = nth' (val_main_v185 (F := F) x0 x1 x2) 7 := (tn7_step x0 x1 x2).trans (congrArg peak' (t7 x0 x1 x2))
theorem t8_step : val_main_v225 (F := F) x0 x1 x2 = without' (val_main_v220 (F := F) x0 x1 x2) := rfl
theorem t8 : val_main_v225 (F := F) x0 x1 x2 = after' (val_main_v185 (F := F) x0 x1 x2) 8 := (t8_step x0 x1 x2).trans (congrArg without' (t7 x0 x1 x2))
theorem tn8_step : val_main_v227 (F := F) x0 x1 x2 = peak' (val_main_v225 (F := F) x0 x1 x2) := rfl
theorem tn8 : val_main_v227 (F := F) x0 x1 x2 = nth' (val_main_v185 (F := F) x0 x1 x2) 8 := (tn8_step x0 x1 x2).trans (congrArg peak' (t8 x0 x1 x2))
theorem t9_step : val_main_v230 (F := F) x0 x1 x2 = without' (val_main_v225 (F := F) x0 x1 x2) := rfl
theorem t9 : val_main_v230 (F := F) x0 x1 x2 = after' (val_main_v185 (F := F) x0 x1 x2) 9 := (t9_step x0 x1 x2).trans (congrArg without' (t8 x0 x1 x2))
theorem tn9_step : val_main_v232 (F := F) x0 x1 x2 = peak' (val_main_v230 (F := F) x0 x1 x2) := rfl
theorem tn9 : val_main_v232 (F := F) x0 x1 x2 = nth' (val_main_v185 (F := F) x0 x1 x2) 9 := (tn9_step x0 x1 x2).trans (congrArg peak' (t9 x0 x1 x2))
theorem t10_step : val_main_v235 (F := F) x0 x1 x2 = without' (val_main_v230 (F := F) x0 x1 x2) := rfl
theorem t10 : val_main_v235 (F := F) x0 x1 x2 = after' (val_main_v185 (F := F) x0 x1 x2) 10 := (t10_step x0 x1 x2).trans (congrArg without' (t9 x0 x1 x2))
theorem tn10_step : val_main_v237 (F := F) x0 x1 x2 = peak' (val_main_v235 (F := F) x0 x1 x2) := rfl
theorem tn10 : val_main_v237 (F := F) x0 x1 x2 = nth' (val_main_v185 (F := F) x0 x1 x2) 10 := (tn10_step x0 x1 x2).trans (congrArg peak' (t10 x0 x1 x2))
theorem t11_step : val_main_v240 (F := F) x0 x1 x2 = without' (val_main_v235 (F := F) x0 x1 x2) := rfl
theorem t11 : val_main_v240 (F := F) x0 x1 x2 = after' (val_main_v185 (F := F) x0 x1 x2) 11 := (t11_step x0 x1 x2).trans (congrArg without' (t10 x0 x1 x2))
theorem tn11_step : val_main_v242 (F := F) x0 x1 x2 = peak' (val_main_v240 (F := F) x0 x1 x2) := rfl
theorem tn11 : val_main_v242 (F := F) x0 x1 x2 = nth' (val_main_v185 (F := F) x0 x1 x2) 11 := (tn11_step x0 x1 x2).trans (congrArg peak' (t11 x0 x1 x2))
theorem t12_step : val_main_v245 (F := F) x0 x1 x2 = without' (val_main_v240 (F := F) x0 x1 x2) := rfl
theorem t12 : val_main_v245 (F := F) x0 x1 x2 = after' (val_main_v185 (F := F) x0 x1 x2) 12 := (t12_step x0 x1 x2).trans (congrArg without' (t11 x0 x1 x2))
theorem tn12_step : val_main_v247 (F := F) x0 x1 x2 = peak' (val_main_v245 (F := F) x0 x1 x2) := rfl
theorem tn12 : val_main_v247 (F := F) x0 x1 x2 = nth' (val_main_v185 (F := F) x0 x1 x2) 12 := (tn12_step x0 x1 x2).trans (congrArg peak' (t12 x0 x1 x2))
theorem t13_step : val_main_v250 (F := F) x0 x1 x2 = without' (val_main_v245 (F := F) x0 x1 x2) := rfl
theorem t13 : val_main_v250 (F := F) x0 x1 x2 = after' (val_main_v185 (F := F) x0 x1 x2) 13 := (t13_step x0 x1 x2).trans (congrArg without' (t12 x0 x1 x2))
theorem tn13_step : val_main_v252 (F := F) x0 x1 x2 = peak' (val_main_v250 (F := F) x0 x1 x2) := rfl
theorem tn13 : val_main_v252 (F := F) x0 x1 x2 = nth' (val_main_v185 (F := F) x0 x1 x2) 13 := (tn13_step x0 x1 x2).trans (congrArg peak' (t13 x0 x1 x2))
theorem t14_step : val_main_v255 (F := F) x0 x1 x2 = without' (val_main_v250 (F := F) x0 x1 x2) := rfl
theorem t14 : val_main_v255 (F := F) x0 x1 x2 = after' (val_main_v185 (F := F) x0 x1 x2) 14 := (t14_step x0 x1 x2).trans (congrArg without' (t13 x0 x1 x2))
theorem tn14_step : val_main_v257 (F := F) x0 x1 x2 = peak' (val_main_v255 (F := F) x0 x1 x2) := rfl
theorem tn14 : val_main_v257 (F := F) x0 x1 x2 = nth' (val_main_v185 (F := F) x0 x1 x2) 14 := (tn14_step x0 x1 x2).trans (congrArg peak' (t14 x0 x1 x2))
theorem t15_step : val_main_v260 (F := F) x0 x1 x2 = without' (val_main_v255 (F := F) x0 x1 x2) := rfl
theorem t15 : val_main_v260 (F := F) x0 x1 x2 = after' (val_main_v185 (F := F) x0 x1 x2) 15 := (t15_step x0 x1 x2).trans (congrArg without' (t14 x0 x1 x2))
theorem tn15_step : val_main_v262 (F := F) x0 x1 x2 = peak' (val_main_v260 (F := F) x0 x1 x2) := rfl
theorem tn15 : val_main_v262 (F := F) x0 x1 x2 = nth' (val_main_v185 (F := F) x0 x1 x2) 15 := (tn15_step x0 x1 x2).trans (congrArg peak' (t15 x0 x1 x2))

theorem d0_step : val_main_v269 (F := F) x0 x1 x2 = addf (broadcastInDim S32768x8x1 ![] bcast_S_S32768x8x1 (constant S_ .f32 0x00000000#32)) (Host.exp (subf (val_main_v187 (F := F) x0 x1 x2) (val_main_v187 (F := F) x0 x1 x2))) := rfl
theorem d0 : val_main_v269 (F := F) x0 x1 x2 = den (val_main_v185 (F := F) x0 x1 x2) 0 := by
  rw [d0_step, tn0]
  rfl
theorem d1_step : val_main_v272 (F := F) x0 x1 x2 = addf (val_main_v269 (F := F) x0 x1 x2) (Host.exp (subf (val_main_v192 (F := F) x0 x1 x2) (val_main_v187 (F := F) x0 x1 x2))) := rfl
theorem d1 : val_main_v272 (F := F) x0 x1 x2 = den (val_main_v185 (F := F) x0 x1 x2) 1 := by
  rw [d1_step, d0, tn1, tn0]
  rfl
theorem d2_step : val_main_v275 (F := F) x0 x1 x2 = addf (val_main_v272 (F := F) x0 x1 x2) (Host.exp (subf (val_main_v197 (F := F) x0 x1 x2) (val_main_v187 (F := F) x0 x1 x2))) := rfl
theorem d2 : val_main_v275 (F := F) x0 x1 x2 = den (val_main_v185 (F := F) x0 x1 x2) 2 := by
  rw [d2_step, d1, tn2, tn0]
  rfl
theorem d3_step : val_main_v278 (F := F) x0 x1 x2 = addf (val_main_v275 (F := F) x0 x1 x2) (Host.exp (subf (val_main_v202 (F := F) x0 x1 x2) (val_main_v187 (F := F) x0 x1 x2))) := rfl
theorem d3 : val_main_v278 (F := F) x0 x1 x2 = den (val_main_v185 (F := F) x0 x1 x2) 3 := by
  rw [d3_step, d2, tn3, tn0]
  rfl
theorem d4_step : val_main_v281 (F := F) x0 x1 x2 = addf (val_main_v278 (F := F) x0 x1 x2) (Host.exp (subf (val_main_v207 (F := F) x0 x1 x2) (val_main_v187 (F := F) x0 x1 x2))) := rfl
theorem d4 : val_main_v281 (F := F) x0 x1 x2 = den (val_main_v185 (F := F) x0 x1 x2) 4 := by
  rw [d4_step, d3, tn4, tn0]
  rfl
theorem d5_step : val_main_v284 (F := F) x0 x1 x2 = addf (val_main_v281 (F := F) x0 x1 x2) (Host.exp (subf (val_main_v212 (F := F) x0 x1 x2) (val_main_v187 (F := F) x0 x1 x2))) := rfl
theorem d5 : val_main_v284 (F := F) x0 x1 x2 = den (val_main_v185 (F := F) x0 x1 x2) 5 := by
  rw [d5_step, d4, tn5, tn0]
  rfl
theorem d6_step : val_main_v287 (F := F) x0 x1 x2 = addf (val_main_v284 (F := F) x0 x1 x2) (Host.exp (subf (val_main_v217 (F := F) x0 x1 x2) (val_main_v187 (F := F) x0 x1 x2))) := rfl
theorem d6 : val_main_v287 (F := F) x0 x1 x2 = den (val_main_v185 (F := F) x0 x1 x2) 6 := by
  rw [d6_step, d5, tn6, tn0]
  rfl
theorem d7_step : val_main_v290 (F := F) x0 x1 x2 = addf (val_main_v287 (F := F) x0 x1 x2) (Host.exp (subf (val_main_v222 (F := F) x0 x1 x2) (val_main_v187 (F := F) x0 x1 x2))) := rfl
theorem d7 : val_main_v290 (F := F) x0 x1 x2 = den (val_main_v185 (F := F) x0 x1 x2) 7 := by
  rw [d7_step, d6, tn7, tn0]
  rfl
theorem d8_step : val_main_v293 (F := F) x0 x1 x2 = addf (val_main_v290 (F := F) x0 x1 x2) (Host.exp (subf (val_main_v227 (F := F) x0 x1 x2) (val_main_v187 (F := F) x0 x1 x2))) := rfl
theorem d8 : val_main_v293 (F := F) x0 x1 x2 = den (val_main_v185 (F := F) x0 x1 x2) 8 := by
  rw [d8_step, d7, tn8, tn0]
  rfl
theorem d9_step : val_main_v296 (F := F) x0 x1 x2 = addf (val_main_v293 (F := F) x0 x1 x2) (Host.exp (subf (val_main_v232 (F := F) x0 x1 x2) (val_main_v187 (F := F) x0 x1 x2))) := rfl
theorem d9 : val_main_v296 (F := F) x0 x1 x2 = den (val_main_v185 (F := F) x0 x1 x2) 9 := by
  rw [d9_step, d8, tn9, tn0]
  rfl
theorem d10_step : val_main_v299 (F := F) x0 x1 x2 = addf (val_main_v296 (F := F) x0 x1 x2) (Host.exp (subf (val_main_v237 (F := F) x0 x1 x2) (val_main_v187 (F := F) x0 x1 x2))) := rfl
theorem d10 : val_main_v299 (F := F) x0 x1 x2 = den (val_main_v185 (F := F) x0 x1 x2) 10 := by
  rw [d10_step, d9, tn10, tn0]
  rfl
theorem d11_step : val_main_v302 (F := F) x0 x1 x2 = addf (val_main_v299 (F := F) x0 x1 x2) (Host.exp (subf (val_main_v242 (F := F) x0 x1 x2) (val_main_v187 (F := F) x0 x1 x2))) := rfl
theorem d11 : val_main_v302 (F := F) x0 x1 x2 = den (val_main_v185 (F := F) x0 x1 x2) 11 := by
  rw [d11_step, d10, tn11, tn0]
  rfl
theorem d12_step : val_main_v305 (F := F) x0 x1 x2 = addf (val_main_v302 (F := F) x0 x1 x2) (Host.exp (subf (val_main_v247 (F := F) x0 x1 x2) (val_main_v187 (F := F) x0 x1 x2))) := rfl
theorem d12 : val_main_v305 (F := F) x0 x1 x2 = den (val_main_v185 (F := F) x0 x1 x2) 12 := by
  rw [d12_step, d11, tn12, tn0]
  rfl
theorem d13_step : val_main_v308 (F := F) x0 x1 x2 = addf (val_main_v305 (F := F) x0 x1 x2) (Host.exp (subf (val_main_v252 (F := F) x0 x1 x2) (val_main_v187 (F := F) x0 x1 x2))) := rfl
theorem d13 : val_main_v308 (F := F) x0 x1 x2 = den (val_main_v185 (F := F) x0 x1 x2) 13 := by
  rw [d13_step, d12, tn13, tn0]
  rfl
theorem d14_step : val_main_v311 (F := F) x0 x1 x2 = addf (val_main_v308 (F := F) x0 x1 x2) (Host.exp (subf (val_main_v257 (F := F) x0 x1 x2) (val_main_v187 (F := F) x0 x1 x2))) := rfl
theorem d14 : val_main_v311 (F := F) x0 x1 x2 = den (val_main_v185 (F := F) x0 x1 x2) 14 := by
  rw [d14_step, d13, tn14, tn0]
  rfl
theorem d15_step : val_main_v314 (F := F) x0 x1 x2 = addf (val_main_v311 (F := F) x0 x1 x2) (Host.exp (subf (val_main_v262 (F := F) x0 x1 x2) (val_main_v187 (F := F) x0 x1 x2))) := rfl
theorem d15 : val_main_v314 (F := F) x0 x1 x2 = den (val_main_v185 (F := F) x0 x1 x2) 15 := by
  rw [d15_step, d14, tn15, tn0]
  rfl

end Cert.PeerRow.Ref

end
-- ==== Proof.Peer.Values.lean ====
/- The reference's four results, entry by entry. -/
module

public import proofs.«01_k».proof.Proof.Peer.Chain

@[expose] public section

set_option maxRecDepth 16384

noncomputable section

namespace Cert.PeerRow.Ref

open Idealize.ShloMosaic Idealize.ShloMosaic.TcCoe
open Cert.PeerRefIdeal Cert.PeerRefIdeal.Gen Cert.PeerRefIdeal.Read
open Cert.PeerSpec (big left pick total cut)

section Steps

variable {F : FTy → Type} [FloatOps F]

def spread (p : FVec F S32768x8x1 .f32) : FVec F S32768x8x128 .f32 :=
  broadcastInDim S32768x8x128 ![0, 1, 2] bcast_S32768x8x1_S32768x8x128_0_1_2 p

def first (a : FVec F S32768x8x16 .f32) : FVec F S32768x8x1 .f32 :=
  extractStridedSlice S32768x8x1 ![0, 0, 0] a slices_S32768x8x16_S32768x8x1_0_0_0

def last (a : FVec F S32768x8x16 .f32) : FVec F S32768x8x1 .f32 :=
  extractStridedSlice S32768x8x1 ![0, 0, 15] a slices_S32768x8x16_S32768x8x1_0_0_15

def above (s : FVec F S32768x8x128 .f32) (a : FVec F S32768x8x16 .f32) : FVec F S32768x8x128 .f32 :=
  Host.exp (subf s (spread (first a)))

def weigh (s : FVec F S32768x8x128 .f32) (a : FVec F S32768x8x16 .f32) (d : FVec F S32768x8x1 .f32) : FVec F S32768x8x128 .f32 :=
  Host.divf (above s a) (spread d)

def inf : FVec F S_ .f32 := constant S_ .f32 0x7F800000#32

def reach (s : FVec F S32768x8x128 .f32) (b : FVec F S32768x8x16 .f32) : FVec F S32768x8x128x16 .f32 :=
  addf (broadcastInDim S32768x8x128x16 ![0, 1, 2, 3] bcast_S32768x8x128x1_S32768x8x128x16_0_1_2_3 (broadcastInDim S32768x8x128x1 ![0, 1, 2] bcast_S32768x8x128_S32768x8x128x1_0_1_2 s))
    (broadcastInDim S32768x8x128x16 ![0, 1, 2, 3] bcast_S32768x8x1x16_S32768x8x128x16_0_1_2_3 (broadcastInDim S32768x8x1x16 ![0, 1, 3] bcast_S32768x8x16_S32768x8x1x16_0_1_3 b))

def wide (b : FVec F S32768x8x16 .f32) : FVec F S32768x8x128x16 .f32 :=
  broadcastInDim S32768x8x128x16 ![0, 1, 2, 3] bcast_S32768x8x1x16_S32768x8x128x16_0_1_2_3 (broadcastInDim S32768x8x1x16 ![0, 1, 3] bcast_S32768x8x16_S32768x8x1x16_0_1_3 b)

def bound (t : FVec F S32768x8x1 .f32) : FVec F S32768x8x128x16 .f32 :=
  broadcastInDim S32768x8x128x16 ![0, 1, 2, 3] bcast_S32768x8x1x1_S32768x8x128x16_0_1_2_3 (broadcastInDim S32768x8x1x1 ![0, 1, 2] bcast_S32768x8x1_S32768x8x1x1_0_1_2 t)

def kept (s : FVec F S32768x8x128 .f32) (b : FVec F S32768x8x16 .f32) (t : FVec F S32768x8x1 .f32) : FVec F S32768x8x128x16 .f32 :=
  select (cmpf .oge (reach s b) (bound t)) (wide b) (broadcastInDim S32768x8x128x16 ![] bcast_S_S32768x8x128x16 inf)

def low (g : FVec F S32768x8x128x16 .f32) : FVec F S32768x8x128 .f32 :=
  Host.reduce FloatOps.minimumf g inf reducesTo_S32768x8x128x16_S32768x8x128_d3 h_S_

def cuts (s : FVec F S32768x8x128 .f32) (a b : FVec F S32768x8x16 .f32) (t : FVec F S32768x8x1 .f32) : FVec F S32768x8x128 .f32 :=
  select (cmpf .oge s (spread (last a))) (low (kept s b t)) (broadcastInDim S32768x8x128 ![] bcast_S_S32768x8x128 inf)

variable (x0 : (⟨S1024x32768, .bf16⟩ : BufTy).Contents (Elt F)) (x1 : (⟨S2048x1024, .bf16⟩ : BufTy).Contents (Elt F)) (x2 : (⟨S8x2x128x128, .bf16⟩ : BufTy).Contents (Elt F))

theorem v335_eq : val_main_v335 (F := F) x0 x1 x2 = weigh (val_main_v10 (F := F) x0 x1 x2) (val_main_v98 (F := F) x0 x1 x2) (val_main_v314 (F := F) x0 x1 x2) := rfl
theorem v329_eq : val_main_v329 (F := F) x0 x1 x2 = cuts (val_main_v10 (F := F) x0 x1 x2) (val_main_v98 (F := F) x0 x1 x2) (val_main_v179 (F := F) x0 x1 x2) (val_main_v262 (F := F) x0 x1 x2) := rfl
theorem v339_eq : val_main_v339 (F := F) x0 x1 x2 = above (val_main_v17 (F := F) x0 x1 x2) (val_main_v179 (F := F) x0 x1 x2) := rfl

end Steps

theorem spr_at (p : FVec Ideal S32768x8x1 .f32) (i : Fin 32768) (h : Fin 8) (k : Fin 128) : spread p (ix3 i h k) = p (ix3 i h 0) := spread_at p i h k

theorem first_at (a : FVec Ideal S32768x8x16 .f32) (i : Fin 32768) (h : Fin 8) : first a (ix3 i h 0) = a (ix3 i h 0) := by
  unfold first
  pointwise

theorem last_at (a : FVec Ideal S32768x8x16 .f32) (i : Fin 32768) (h : Fin 8) : last a (ix3 i h 0) = a (ix3 i h 15) := by
  unfold last
  pointwise

theorem above_at (s : FVec Ideal S32768x8x128 .f32) (a : FVec Ideal S32768x8x16 .f32) (i : Fin 32768) (h : Fin 8) (k : Fin 128) :
    above s a (ix3 i h k) = Ideal.exp ((s (ix3 i h k) : EReal) - a (ix3 i h 0)) :=
  congrArg (fun z : EReal => Ideal.exp (s (ix3 i h k) - z)) ((spr_at (first a) i h k).trans (first_at a i h))

theorem weigh_at (s : FVec Ideal S32768x8x128 .f32) (a : FVec Ideal S32768x8x16 .f32) (d : FVec Ideal S32768x8x1 .f32) (i : Fin 32768) (h : Fin 8) (k : Fin 128) :
    weigh s a d (ix3 i h k) = Ideal.div (Ideal.exp ((s (ix3 i h k) : EReal) - a (ix3 i h 0))) (d (ix3 i h 0)) :=
  congrArg₂ Ideal.div (above_at s a i h k) (spr_at d i h k)

theorem reach_at (s : FVec Ideal S32768x8x128 .f32) (b : FVec Ideal S32768x8x16 .f32) (i : Fin 32768) (h : Fin 8) (k : Fin 128) (j : Fin 16) :
    reach s b (ix4 i h k j) = s (ix3 i h k) + b (ix3 i h j) := by
  unfold reach
  pointwise

theorem wide_at (b : FVec Ideal S32768x8x16 .f32) (i : Fin 32768) (h : Fin 8) (k : Fin 128) (j : Fin 16) : wide b (ix4 i h k j) = b (ix3 i h j) := by
  unfold wide
  pointwise

theorem bound_at (t : FVec Ideal S32768x8x1 .f32) (i : Fin 32768) (h : Fin 8) (k : Fin 128) (j : Fin 16) : bound t (ix4 i h k j) = t (ix3 i h 0) := by
  unfold bound
  pointwise

theorem low_at (g : FVec Ideal S32768x8x128x16 .f32) (i : Fin 32768) (h : Fin 8) (k : Fin 128) :
    low g (ix3 i h k) = Finset.univ.fold min (⊤ : EReal) (fun j : Fin 16 => (g (ix4 i h k j) : EReal)) := by
  unfold low inf
  pointwise
  rw [bits_top]

theorem some (a b : EReal) (x y : EReal) :
    Scalar.select (FloatOps.cmpf (F := Ideal) (φ := .f32) .oge a b) x y = if b ≤ a then x else y := by
  pointwise

theorem some3 (s p x z : FVec Ideal S32768x8x128 .f32) (y : S32768x8x128.Idx) (u v w : EReal) (hp : p y = u) (hx : x y = v) (hz : z y = w) :
    select (cmpf .oge s p) x z y = if u ≤ (s y : EReal) then v else w := by
  subst hp
  subst hx
  subst hz
  exact some (s y) (p y) (x y) (z y)

theorem some4 (s p x z : FVec Ideal S32768x8x128x16 .f32) (y : S32768x8x128x16.Idx) (r u v w : EReal) (hs : s y = r) (hp : p y = u) (hx : x y = v) (hz : z y = w) :
    select (cmpf .oge s p) x z y = if u ≤ r then v else w := by
  subst hs
  subst hp
  subst hx
  subst hz
  exact some (s y) (p y) (x y) (z y)

theorem inf3 (y : S32768x8x128.Idx) : broadcastInDim S32768x8x128 ![] bcast_S_S32768x8x128 (inf (F := Ideal)) y = (⊤ : EReal) :=
  (fill_at _ _).trans bits_top

theorem inf4 (y : S32768x8x128x16.Idx) : broadcastInDim S32768x8x128x16 ![] bcast_S_S32768x8x128x16 (inf (F := Ideal)) y = (⊤ : EReal) :=
  (broadcastInDim_apply _ _ inf y (fun a => a.elim0) (fun a => a.elim0)).trans bits_top

theorem kept_at (s : FVec Ideal S32768x8x128 .f32) (b : FVec Ideal S32768x8x16 .f32) (t : FVec Ideal S32768x8x1 .f32) (i : Fin 32768) (h : Fin 8) (k : Fin 128) (j : Fin 16) :
    kept s b t (ix4 i h k j) = if (t (ix3 i h 0) : EReal) ≤ row s i h k + row b i h j then row b i h j else ⊤ := by
  unfold kept
  exact some4 _ _ _ _ (ix4 i h k j) (row s i h k + row b i h j) (t (ix3 i h 0)) (row b i h j) ⊤ (reach_at s b i h k j) (bound_at t i h k j) (wide_at b i h k j) (inf4 _)

theorem cuts_at (s : FVec Ideal S32768x8x128 .f32) (a b : FVec Ideal S32768x8x16 .f32) (t : FVec Ideal S32768x8x1 .f32) (i : Fin 32768) (h : Fin 8) (k : Fin 128)
    (B : ℕ → EReal) (hB : ∀ j : Fin 16, row b i h j = B j.val) :
    cuts s a b t (ix3 i h k) = cut (row s i h k) (row a i h 15) (t (ix3 i h 0)) B := by
  have e : low (kept s b t) (ix3 i h k) = Finset.univ.fold min (⊤ : EReal) (fun j : Fin 16 => if (t (ix3 i h 0) : EReal) ≤ row s i h k + row b i h j then row b i h j else ⊤) :=
    (low_at _ i h k).trans (congrArg (fun f => Finset.fold min (⊤ : EReal) f Finset.univ) (funext fun j => kept_at s b t i h k j))
  have e' := some3 s (spread (last a)) (low (kept s b t)) (broadcastInDim S32768x8x128 ![] bcast_S_S32768x8x128 inf) (ix3 i h k) (row a i h 15) _ ⊤ ((spr_at _ i h k).trans (last_at a i h)) e (inf3 (ix3 i h k))
  unfold cuts
  refine e'.trans ?_
  unfold cut
  exact congrArg (fun f => if row a i h 15 ≤ row s i h k then Finset.fold min (⊤ : EReal) f Finset.univ else ⊤) (funext fun j => by rw [hB])

theorem nought : Ideal.ofBits .f32 0x00000000#32 = 0 := by simp [Ideal.ofBits, Ideal.ieee]

theorem nought_at (y : S32768x8x1.Idx) : broadcastInDim S32768x8x1 ![] bcast_S_S32768x8x1 (constant (F := Ideal) S_ .f32 0x00000000#32) y = (0 : EReal) :=
  (broadcastInDim_apply _ _ (constant (F := Ideal) S_ .f32 0x00000000#32) y (fun a => a.elim0) (fun a => a.elim0)).trans nought

theorem more_at (a n p : FVec Ideal S32768x8x1 .f32) (y : S32768x8x1.Idx) (u v w : EReal) (ha : a y = u) (hn : n y = v) (hp : p y = w) :
    addf a (Host.exp (subf n p)) y = u + Ideal.exp (v - w) := by
  subst ha
  subst hn
  subst hp
  rfl

theorem den_at (t : FVec Ideal S32768x8x256 .f32) (r : ℕ) (i : Fin 32768) (h : Fin 8) : den t r (ix3 i h 0) = total (pick (row t i h)) r := by
  induction r with
  | zero =>
    refine (more_at _ _ _ (ix3 i h 0) 0 _ _ (nought_at _) (nth'_at t 0 i h) (nth'_at t 0 i h)).trans ?_
    exact zero_add _
  | succ r ih => exact more_at _ _ _ (ix3 i h 0) _ _ _ ih (nth'_at t (r + 1) i h) (nth'_at t 0 i h)

variable (x0 : (⟨S1024x32768, .bf16⟩ : BufTy).Contents (Elt Ideal)) (x1 : (⟨S2048x1024, .bf16⟩ : BufTy).Contents (Elt Ideal)) (x2 : (⟨S8x2x128x128, .bf16⟩ : BufTy).Contents (Elt Ideal))

theorem query_at (i : Fin 32768) (e : Fin 2048) : val_main_v2 (F := Ideal) x0 x1 (ix2 i e) = ∑ d : Fin 1024, x1 (ix2 e d) * x0 (ix2 d i) := by
  unfold val_main_v2 val_main_v0 val_main_v1
  pointwise
  exact Finset.sum_congr rfl fun d _ => mul_comm _ _

theorem half0_at (i : Fin 32768) (h : Fin 8) (x : Fin 128) : val_main_v5 (F := Ideal) x0 x1 (ix3 i h x) = val_main_v2 (F := Ideal) x0 x1 (ix2 i ⟨(2 * h.val + 0) * 128 + x, by omega⟩) := by
  unfold val_main_v5 val_main_v4 val_main_v3
  generalize val_main_v2 (F := Ideal) x0 x1 = q
  pointwise
  exact congrArg (fun e => q (ix2 i e)) (Fin.ext (by show _ = _; dsimp only; omega))

theorem half1_at (i : Fin 32768) (h : Fin 8) (x : Fin 128) : val_main_v12 (F := Ideal) x0 x1 (ix3 i h x) = val_main_v2 (F := Ideal) x0 x1 (ix2 i ⟨(2 * h.val + 1) * 128 + x, by omega⟩) := by
  unfold val_main_v12 val_main_v11 val_main_v3
  generalize val_main_v2 (F := Ideal) x0 x1 = q
  pointwise
  exact congrArg (fun e => q (ix2 i e)) (Fin.ext (by show _ = _; dsimp only; omega))

theorem key0_at (h : Fin 8) (k x : Fin 128) : val_main_v8 (F := Ideal) x2 (ix3 h k x) = x2 (ix4 h 0 k x) := by
  unfold val_main_v8 val_main_v7 val_main_v6
  pointwise

theorem key1_at (h : Fin 8) (k x : Fin 128) : val_main_v15 (F := Ideal) x2 (ix3 h k x) = x2 (ix4 h 1 k x) := by
  unfold val_main_v15 val_main_v14 val_main_v13
  pointwise

theorem dot0_at (i : Fin 32768) (h : Fin 8) (k : Fin 128) : val_main_v10 (F := Ideal) x0 x1 x2 (ix3 i h k) = ∑ x : Fin 128, val_main_v8 (F := Ideal) x2 (ix3 h k x) * val_main_v5 (F := Ideal) x0 x1 (ix3 i h x) := by
  unfold val_main_v10 val_main_v9
  generalize val_main_v8 (F := Ideal) x2 = u
  generalize val_main_v5 (F := Ideal) x0 x1 = v
  pointwise

theorem dot1_at (i : Fin 32768) (h : Fin 8) (k : Fin 128) : val_main_v17 (F := Ideal) x0 x1 x2 (ix3 i h k) = ∑ x : Fin 128, val_main_v15 (F := Ideal) x2 (ix3 h k x) * val_main_v12 (F := Ideal) x0 x1 (ix3 i h x) := by
  unfold val_main_v17 val_main_v16
  generalize val_main_v15 (F := Ideal) x2 = u
  generalize val_main_v12 (F := Ideal) x0 x1 = v
  pointwise

theorem s1_at (i : Fin 32768) (h : Fin 8) : row (val_main_v10 (F := Ideal) x0 x1 x2) i h = sco x0 x1 x2 i h 0 :=
  funext fun k => (dot0_at x0 x1 x2 i h k).trans (Finset.sum_congr rfl fun x _ => congrArg₂ (fun u v : EReal => u * v) (key0_at x2 h k x) ((half0_at x0 x1 i h x).trans (query_at x0 x1 i _)))

theorem s2_at (i : Fin 32768) (h : Fin 8) : row (val_main_v17 (F := Ideal) x0 x1 x2) i h = sco x0 x1 x2 i h 1 :=
  funext fun k => (dot1_at x0 x1 x2 i h k).trans (Finset.sum_congr rfl fun x _ => congrArg₂ (fun u v : EReal => u * v) (key1_at x2 h k x) ((half1_at x0 x1 i h x).trans (query_at x0 x1 i _)))

theorem top1_at (i : Fin 32768) (h : Fin 8) (j : Fin 16) : row (val_main_v98 (F := Ideal) x0 x1 x2) i h j = pick (sco x0 x1 x2 i h 0) j.val := by
  rw [a_beside, ← s1_at]
  exact (beside_at _ i h j).trans (nth_at _ _ i h)

theorem top2_at (i : Fin 32768) (h : Fin 8) (j : Fin 16) : row (val_main_v179 (F := Ideal) x0 x1 x2) i h j = pick (sco x0 x1 x2 i h 1) j.val := by
  rw [b_beside, ← s2_at]
  exact (beside_at _ i h j).trans (nth_at _ _ i h)

/-- The pair a place of the table stands for, and the place of a pair. -/
def pair (n : Fin 256) : Fin 16 × Fin 16 := (⟨n.val / 16, by omega⟩, ⟨n.val % 16, by omega⟩)
def place (p : Fin 16 × Fin 16) : Fin 256 := ⟨16 * p.1.val + p.2.val, by omega⟩

theorem pair_place (p : Fin 16 × Fin 16) : pair (place p) = p :=
  Prod.ext (Fin.ext (by show (16 * p.1.val + p.2.val) / 16 = p.1.val; omega)) (Fin.ext (by show (16 * p.1.val + p.2.val) % 16 = p.2.val; omega))

theorem sums_at (i : Fin 32768) (h : Fin 8) : row (val_main_v185 (F := Ideal) x0 x1 x2) i h = fun n => sums (sco x0 x1 x2 i h 0) (sco x0 x1 x2 i h 1) (pair n) := by
  funext n
  rw [sums_table]
  exact (table_at _ _ i h n).trans (congrArg₂ (fun u v : EReal => u + v) (top1_at x0 x1 x2 i h _) (top2_at x0 x1 x2 i h _))

theorem picks_at (i : Fin 32768) (h : Fin 8) (r : ℕ) :
    pick (row (val_main_v185 (F := Ideal) x0 x1 x2) i h) r = pick (sums (sco x0 x1 x2 i h 0) (sco x0 x1 x2 i h 1)) r := by
  rw [sums_at]
  exact PeerSpec.pick_comp pair place pair_place _ r

theorem least_at (i : Fin 32768) (h : Fin 8) : val_main_v262 (F := Ideal) x0 x1 x2 (ix3 i h 0) = pick (sums (sco x0 x1 x2 i h 0) (sco x0 x1 x2 i h 1)) 15 := by
  rw [tn15, ← picks_at]
  exact nth'_at _ 15 i h

theorem total_at (i : Fin 32768) (h : Fin 8) : val_main_v314 (F := Ideal) x0 x1 x2 (ix3 i h 0) = total (pick (sums (sco x0 x1 x2 i h 0) (sco x0 x1 x2 i h 1))) 15 := by
  rw [d15]
  exact (den_at _ 15 i h).trans (congrArg (fun p => total p 15) (funext fun r => picks_at x0 x1 x2 i h r))

theorem value1 : val_main_v340 (F := Ideal) x0 x1 x2 = arr3 x0 x1 x2 := by
  funext y
  obtain ⟨h, k, i, rfl⟩ : ∃ h k i, y = ix3 h k i := ⟨y 0, y 1, y 2, eq_ix3 y⟩
  rw [val_main_v340_apply]
  refine (show _ = val_main_v335 (F := Ideal) x0 x1 x2 (ix3 i h k) from congrArg _ (funext fun a => by match a with | ⟨0, _⟩ => rfl | ⟨1, _⟩ => rfl | ⟨2, _⟩ => rfl)).trans ?_
  rw [v335_eq]
  refine (weigh_at _ _ _ i h k).trans ?_
  have e1 := congrFun (s1_at x0 x1 x2 i h) k
  have e2 := top1_at x0 x1 x2 i h 0
  exact congrArg₂ Ideal.div (congrArg₂ (fun u v : EReal => Ideal.exp (u - v)) e1 e2) (total_at x0 x1 x2 i h)

theorem value2 : val_main_v341 (F := Ideal) x0 x1 x2 = arr4 x0 x1 x2 := by
  funext y
  obtain ⟨h, k, i, rfl⟩ : ∃ h k i, y = ix3 h k i := ⟨y 0, y 1, y 2, eq_ix3 y⟩
  rw [val_main_v341_apply]
  refine (show _ = val_main_v329 (F := Ideal) x0 x1 x2 (ix3 i h k) from congrArg _ (funext fun a => by match a with | ⟨0, _⟩ => rfl | ⟨1, _⟩ => rfl | ⟨2, _⟩ => rfl)).trans ?_
  rw [v329_eq]
  refine (cuts_at _ _ _ _ i h k _ (top2_at x0 x1 x2 i h)).trans ?_
  rw [s1_at, top1_at, least_at]
  rfl

theorem value3 : val_main_v342 (F := Ideal) x0 x1 x2 = arr5 x0 x1 x2 := by
  funext y
  obtain ⟨h, k, i, rfl⟩ : ∃ h k i, y = ix3 h k i := ⟨y 0, y 1, y 2, eq_ix3 y⟩
  rw [val_main_v342_apply]
  refine (show _ = val_main_v339 (F := Ideal) x0 x1 x2 (ix3 i h k) from congrArg _ (funext fun a => by match a with | ⟨0, _⟩ => rfl | ⟨1, _⟩ => rfl | ⟨2, _⟩ => rfl)).trans ?_
  rw [v339_eq]
  refine (above_at _ _ i h k).trans ?_
  exact congrArg₂ (fun u v : EReal => Ideal.exp (u - v)) (congrFun (s2_at x0 x1 x2 i h) k) (top2_at x0 x1 x2 i h 0)

theorem value4 : val_main_v343 (F := Ideal) x0 x1 x2 = arr6 x0 x1 x2 := by
  funext y
  obtain ⟨h, k, i, rfl⟩ : ∃ h k i, y = ix3 h k i := ⟨y 0, y 1, y 2, eq_ix3 y⟩
  rw [val_main_v343_apply]
  refine (show _ = val_main_v17 (F := Ideal) x0 x1 x2 (ix3 i h k) from congrArg _ (funext fun a => by match a with | ⟨0, _⟩ => rfl | ⟨1, _⟩ => rfl | ⟨2, _⟩ => rfl)).trans ?_
  exact congrFun (s2_at x0 x1 x2 i h) k

end Cert.PeerRow.Ref

end
-- ==== Proof.Peer.Sums.lean ====
/- The precondition, read: all 256 sums of a token and head are different numbers. -/
module

public import proofs.«01_k».proof.Proof.Peer.Chain
public import proofs.«01_k».proof.Proof.Gen.Pre_sums_differ

@[expose] public section

set_option maxRecDepth 16384

noncomputable section

namespace Cert.PeerRow.Ref

open Idealize.ShloMosaic Idealize.ShloMosaic.TcCoe
open Cert.PeerRefIdeal.Read Cert.PeerRefIdeal.Gen
open Cert.Pre_sums_differ Cert.Pre_sums_differ.Gen

section Parts

variable {F : FTy → Type} [FloatOps F]

/-- Where are two of the sums equal? -/
def same (t : FVec F S32768x8x256 .f32) : IVec S32768x8x256x256 1 :=
  cmpf .oeq (broadcastInDim S32768x8x256x256 ![0, 1, 2, 3] Cert.Pre_sums_differ.Gen.bcast_S32768x8x256x1_S32768x8x256x256_0_1_2_3 (broadcastInDim S32768x8x256x1 ![0, 1, 2] Cert.Pre_sums_differ.Gen.bcast_S32768x8x256_S32768x8x256x1_0_1_2 t))
    (broadcastInDim S32768x8x256x256 ![0, 1, 2, 3] Cert.Pre_sums_differ.Gen.bcast_S32768x8x1x256_S32768x8x256x256_0_1_2_3 (broadcastInDim S32768x8x1x256 ![0, 1, 3] Cert.Pre_sums_differ.Gen.bcast_S32768x8x256_S32768x8x1x256_0_1_3 t))

/-- Where are two of the places equal? -/
def here : IVec S32768x8x256x256 1 :=
  broadcastInDim S32768x8x256x256 ![0, 1, 2, 3] Cert.Pre_sums_differ.Gen.bcast_S1x1x256x256_S32768x8x256x256_0_1_2_3 (broadcastInDim S1x1x256x256 ![2, 3] Cert.Pre_sums_differ.Gen.bcast_S256x256_S1x1x256x256_2_3
    (cmpi .eq (broadcastInDim S256x256 ![0, 1] Cert.Pre_sums_differ.Gen.bcast_S256x1_S256x256_0_1 (broadcastInDim S256x1 ![0] Cert.Pre_sums_differ.Gen.bcast_S256_S256x1_0 (iotaInDim S256 32 0)))
      (broadcastInDim S256x256 ![0, 1] Cert.Pre_sums_differ.Gen.bcast_S1x256_S256x256_0_1 (broadcastInDim S1x256 ![1] Cert.Pre_sums_differ.Gen.bcast_S256_S1x256_1 (iotaInDim S256 32 0)))))

variable (x0 : (⟨Cert.PeerRefIdeal.S1024x32768, .bf16⟩ : BufTy).Contents (Elt F)) (x1 : (⟨Cert.PeerRefIdeal.S2048x1024, .bf16⟩ : BufTy).Contents (Elt F)) (x2 : (⟨Cert.PeerRefIdeal.S8x2x128x128, .bf16⟩ : BufTy).Contents (Elt F))

theorem part1 : fn (F := F) x0 x1 x2
    = fn_part1 (F := F) (val_main_v10 (F := F) x0 x1 x2) (val_main_v17 (F := F) x0 x1 x2) (val_main_v19 (F := F) x0 x1 x2) (val_main_v21 (F := F) x0 x1 x2) (val_main_cst_0 (F := F)) := rfl

theorem part2 : fn_part1 (F := F) (val_main_v10 (F := F) x0 x1 x2) (val_main_v17 (F := F) x0 x1 x2) (val_main_v19 (F := F) x0 x1 x2) (val_main_v21 (F := F) x0 x1 x2) (val_main_cst_0 (F := F))
    = fn_part2 (F := F) (val_main_v17 (F := F) x0 x1 x2) (val_main_v19 (F := F) x0 x1 x2) (val_main_v24 (F := F) x0 x1 x2) (val_main_v29 (F := F) x0 x1 x2) (val_main_v34 (F := F) x0 x1 x2) (val_main_v37 (F := F) x0 x1 x2) (val_main_v38 (F := F) x0 x1 x2) := rfl

theorem part3 : fn_part2 (F := F) (val_main_v17 (F := F) x0 x1 x2) (val_main_v19 (F := F) x0 x1 x2) (val_main_v24 (F := F) x0 x1 x2) (val_main_v29 (F := F) x0 x1 x2) (val_main_v34 (F := F) x0 x1 x2) (val_main_v37 (F := F) x0 x1 x2) (val_main_v38 (F := F) x0 x1 x2)
    = fn_part3 (F := F) (val_main_v17 (F := F) x0 x1 x2) (val_main_v19 (F := F) x0 x1 x2) (val_main_v24 (F := F) x0 x1 x2) (val_main_v29 (F := F) x0 x1 x2) (val_main_v34 (F := F) x0 x1 x2) (val_main_v39 (F := F) x0 x1 x2) (val_main_v44 (F := F) x0 x1 x2) (val_main_v49 (F := F) x0 x1 x2) (val_main_v52 (F := F) x0 x1 x2) (val_main_v54 (F := F) x0 x1 x2) (val_main_v56 (F := F) x0 x1 x2) := rfl

theorem part4 : fn_part3 (F := F) (val_main_v17 (F := F) x0 x1 x2) (val_main_v19 (F := F) x0 x1 x2) (val_main_v24 (F := F) x0 x1 x2) (val_main_v29 (F := F) x0 x1 x2) (val_main_v34 (F := F) x0 x1 x2) (val_main_v39 (F := F) x0 x1 x2) (val_main_v44 (F := F) x0 x1 x2) (val_main_v49 (F := F) x0 x1 x2) (val_main_v52 (F := F) x0 x1 x2) (val_main_v54 (F := F) x0 x1 x2) (val_main_v56 (F := F) x0 x1 x2)
    = fn_part4 (F := F) (val_main_v17 (F := F) x0 x1 x2) (val_main_v19 (F := F) x0 x1 x2) (val_main_v24 (F := F) x0 x1 x2) (val_main_v29 (F := F) x0 x1 x2) (val_main_v34 (F := F) x0 x1 x2) (val_main_v39 (F := F) x0 x1 x2) (val_main_v44 (F := F) x0 x1 x2) (val_main_v49 (F := F) x0 x1 x2) (val_main_v54 (F := F) x0 x1 x2) (val_main_v59 (F := F) x0 x1 x2) (val_main_v64 (F := F) x0 x1 x2) (val_main_v69 (F := F) x0 x1 x2) (val_main_v72 (F := F) x0 x1 x2) (val_main_cst_21 (F := F)) := rfl

theorem part5 : fn_part4 (F := F) (val_main_v17 (F := F) x0 x1 x2) (val_main_v19 (F := F) x0 x1 x2) (val_main_v24 (F := F) x0 x1 x2) (val_main_v29 (F := F) x0 x1 x2) (val_main_v34 (F := F) x0 x1 x2) (val_main_v39 (F := F) x0 x1 x2) (val_main_v44 (F := F) x0 x1 x2) (val_main_v49 (F := F) x0 x1 x2) (val_main_v54 (F := F) x0 x1 x2) (val_main_v59 (F := F) x0 x1 x2) (val_main_v64 (F := F) x0 x1 x2) (val_main_v69 (F := F) x0 x1 x2) (val_main_v72 (F := F) x0 x1 x2) (val_main_cst_21 (F := F))
    = fn_part5 (F := F) (val_main_v17 (F := F) x0 x1 x2) (val_main_v19 (F := F) x0 x1 x2) (val_main_v24 (F := F) x0 x1 x2) (val_main_v29 (F := F) x0 x1 x2) (val_main_v34 (F := F) x0 x1 x2) (val_main_v39 (F := F) x0 x1 x2) (val_main_v44 (F := F) x0 x1 x2) (val_main_v49 (F := F) x0 x1 x2) (val_main_v54 (F := F) x0 x1 x2) (val_main_v59 (F := F) x0 x1 x2) (val_main_v64 (F := F) x0 x1 x2) (val_main_v69 (F := F) x0 x1 x2) (val_main_v74 (F := F) x0 x1 x2) (val_main_v79 (F := F) x0 x1 x2) (val_main_v84 (F := F) x0 x1 x2) (val_main_v87 (F := F) x0 x1 x2) (val_main_v89 (F := F) x0 x1 x2) (val_main_v90 (F := F) x0 x1 x2) := rfl

theorem part6 : fn_part5 (F := F) (val_main_v17 (F := F) x0 x1 x2) (val_main_v19 (F := F) x0 x1 x2) (val_main_v24 (F := F) x0 x1 x2) (val_main_v29 (F := F) x0 x1 x2) (val_main_v34 (F := F) x0 x1 x2) (val_main_v39 (F := F) x0 x1 x2) (val_main_v44 (F := F) x0 x1 x2) (val_main_v49 (F := F) x0 x1 x2) (val_main_v54 (F := F) x0 x1 x2) (val_main_v59 (F := F) x0 x1 x2) (val_main_v64 (F := F) x0 x1 x2) (val_main_v69 (F := F) x0 x1 x2) (val_main_v74 (F := F) x0 x1 x2) (val_main_v79 (F := F) x0 x1 x2) (val_main_v84 (F := F) x0 x1 x2) (val_main_v87 (F := F) x0 x1 x2) (val_main_v89 (F := F) x0 x1 x2) (val_main_v90 (F := F) x0 x1 x2)
    = fn_part6 (F := F) (val_main_v98 (F := F) x0 x1 x2) (val_main_v100 (F := F) x0 x1 x2) (val_main_v103 (F := F) x0 x1 x2) (val_main_v105 (F := F) x0 x1 x2) (val_main_v107 (F := F) x0 x1 x2) (val_main_cst_34 (F := F)) := rfl

theorem part7 : fn_part6 (F := F) (val_main_v98 (F := F) x0 x1 x2) (val_main_v100 (F := F) x0 x1 x2) (val_main_v103 (F := F) x0 x1 x2) (val_main_v105 (F := F) x0 x1 x2) (val_main_v107 (F := F) x0 x1 x2) (val_main_cst_34 (F := F))
    = fn_part7 (F := F) (val_main_v98 (F := F) x0 x1 x2) (val_main_v100 (F := F) x0 x1 x2) (val_main_v105 (F := F) x0 x1 x2) (val_main_v110 (F := F) x0 x1 x2) (val_main_v115 (F := F) x0 x1 x2) (val_main_v120 (F := F) x0 x1 x2) (val_main_v123 (F := F) x0 x1 x2) (val_main_v124 (F := F) x0 x1 x2) := rfl

theorem part8 : fn_part7 (F := F) (val_main_v98 (F := F) x0 x1 x2) (val_main_v100 (F := F) x0 x1 x2) (val_main_v105 (F := F) x0 x1 x2) (val_main_v110 (F := F) x0 x1 x2) (val_main_v115 (F := F) x0 x1 x2) (val_main_v120 (F := F) x0 x1 x2) (val_main_v123 (F := F) x0 x1 x2) (val_main_v124 (F := F) x0 x1 x2)
    = fn_part8 (F := F) (val_main_v98 (F := F) x0 x1 x2) (val_main_v100 (F := F) x0 x1 x2) (val_main_v105 (F := F) x0 x1 x2) (val_main_v110 (F := F) x0 x1 x2) (val_main_v115 (F := F) x0 x1 x2) (val_main_v120 (F := F) x0 x1 x2) (val_main_v125 (F := F) x0 x1 x2) (val_main_v130 (F := F) x0 x1 x2) (val_main_v135 (F := F) x0 x1 x2) (val_main_v138 (F := F) x0 x1 x2) (val_main_v140 (F := F) x0 x1 x2) (val_main_v142 (F := F) x0 x1 x2) := rfl

theorem part9 : fn_part8 (F := F) (val_main_v98 (F := F) x0 x1 x2) (val_main_v100 (F := F) x0 x1 x2) (val_main_v105 (F := F) x0 x1 x2) (val_main_v110 (F := F) x0 x1 x2) (val_main_v115 (F := F) x0 x1 x2) (val_main_v120 (F := F) x0 x1 x2) (val_main_v125 (F := F) x0 x1 x2) (val_main_v130 (F := F) x0 x1 x2) (val_main_v135 (F := F) x0 x1 x2) (val_main_v138 (F := F) x0 x1 x2) (val_main_v140 (F := F) x0 x1 x2) (val_main_v142 (F := F) x0 x1 x2)
    = fn_part9 (F := F) (val_main_v98 (F := F) x0 x1 x2) (val_main_v100 (F := F) x0 x1 x2) (val_main_v105 (F := F) x0 x1 x2) (val_main_v110 (F := F) x0 x1 x2) (val_main_v115 (F := F) x0 x1 x2) (val_main_v120 (F := F) x0 x1 x2) (val_main_v125 (F := F) x0 x1 x2) (val_main_v130 (F := F) x0 x1 x2) (val_main_v135 (F := F) x0 x1 x2) (val_main_v140 (F := F) x0 x1 x2) (val_main_v145 (F := F) x0 x1 x2) (val_main_v150 (F := F) x0 x1 x2) (val_main_v155 (F := F) x0 x1 x2) (val_main_v158 (F := F) x0 x1 x2) (val_main_cst_55 (F := F)) := rfl

theorem part10 : fn_part9 (F := F) (val_main_v98 (F := F) x0 x1 x2) (val_main_v100 (F := F) x0 x1 x2) (val_main_v105 (F := F) x0 x1 x2) (val_main_v110 (F := F) x0 x1 x2) (val_main_v115 (F := F) x0 x1 x2) (val_main_v120 (F := F) x0 x1 x2) (val_main_v125 (F := F) x0 x1 x2) (val_main_v130 (F := F) x0 x1 x2) (val_main_v135 (F := F) x0 x1 x2) (val_main_v140 (F := F) x0 x1 x2) (val_main_v145 (F := F) x0 x1 x2) (val_main_v150 (F := F) x0 x1 x2) (val_main_v155 (F := F) x0 x1 x2) (val_main_v158 (F := F) x0 x1 x2) (val_main_cst_55 (F := F))
    = fn_part10 (F := F) (val_main_v98 (F := F) x0 x1 x2) (val_main_v100 (F := F) x0 x1 x2) (val_main_v105 (F := F) x0 x1 x2) (val_main_v110 (F := F) x0 x1 x2) (val_main_v115 (F := F) x0 x1 x2) (val_main_v120 (F := F) x0 x1 x2) (val_main_v125 (F := F) x0 x1 x2) (val_main_v130 (F := F) x0 x1 x2) (val_main_v135 (F := F) x0 x1 x2) (val_main_v140 (F := F) x0 x1 x2) (val_main_v145 (F := F) x0 x1 x2) (val_main_v150 (F := F) x0 x1 x2) (val_main_v155 (F := F) x0 x1 x2) (val_main_v160 (F := F) x0 x1 x2) (val_main_v165 (F := F) x0 x1 x2) (val_main_v170 (F := F) x0 x1 x2) (val_main_v173 (F := F) x0 x1 x2) (val_main_v175 (F := F) x0 x1 x2) (val_main_v176 (F := F) x0 x1 x2) := rfl

theorem part11 : fn_part10 (F := F) (val_main_v98 (F := F) x0 x1 x2) (val_main_v100 (F := F) x0 x1 x2) (val_main_v105 (F := F) x0 x1 x2) (val_main_v110 (F := F) x0 x1 x2) (val_main_v115 (F := F) x0 x1 x2) (val_main_v120 (F := F) x0 x1 x2) (val_main_v125 (F := F) x0 x1 x2) (val_main_v130 (F := F) x0 x1 x2) (val_main_v135 (F := F) x0 x1 x2) (val_main_v140 (F := F) x0 x1 x2) (val_main_v145 (F := F) x0 x1 x2) (val_main_v150 (F := F) x0 x1 x2) (val_main_v155 (F := F) x0 x1 x2) (val_main_v160 (F := F) x0 x1 x2) (val_main_v165 (F := F) x0 x1 x2) (val_main_v170 (F := F) x0 x1 x2) (val_main_v173 (F := F) x0 x1 x2) (val_main_v175 (F := F) x0 x1 x2) (val_main_v176 (F := F) x0 x1 x2)
    = fn_part11 (F := F) (same (val_main_v185 (F := F) x0 x1 x2)) here := rfl

theorem parts : fn (F := F) x0 x1 x2 = cmpi .eq (same (val_main_v185 (F := F) x0 x1 x2)) here := by
  rw [part1, part2, part3, part4, part5, part6, part7, part8, part9, part10, part11]
  rfl

end Parts

theorem same_at (t : FVec Ideal S32768x8x256 .f32) (i : Fin 32768) (h : Fin 8) (a b : Fin 256) :
    same t (ix4 i h a b) = Ideal.cmp .oeq (t (ix3 i h a)) (t (ix3 i h b)) := by
  unfold same
  pointwise

theorem here_at (i : Fin 32768) (h : Fin 8) (a b : Fin 256) :
    here (ix4 i h a b) = if a = b then 1#1 else 0#1 := by
  unfold here
  pointwise
  show BitVec.ofBool (decide (BitVec.ofNat 32 a.val = BitVec.ofNat 32 b.val)) = _
  have ha := a.isLt
  have hb := b.isLt
  by_cases e : a = b
  · subst e
    rw [if_pos rfl, decide_eq_true rfl]
    rfl
  · rw [if_neg e, decide_eq_false]
    · rfl
    · intro h'
      refine e (Fin.ext ?_)
      have := congrArg BitVec.toNat h'
      rwa [BitVec.toNat_ofNat, BitVec.toNat_ofNat, Nat.mod_eq_of_lt (by omega), Nat.mod_eq_of_lt (by omega)] at this

theorem apart (t : FVec Ideal S32768x8x256 .f32) (i : Fin 32768) (h : Fin 8) (a b : Fin 256) (q : cmpi .eq (same t) here (ix4 i h a b) = 1#1)
    (e : row t i h a = row t i h b) : a = b := by
  replace q : IntOp.cmpi .eq (same t (ix4 i h a b)) (here (ix4 i h a b)) = 1#1 := q
  replace e : t (ix3 i h a) = t (ix3 i h b) := e
  rw [same_at, here_at, e] at q
  by_contra n
  rw [if_neg n] at q
  have one : Ideal.cmp .oeq (t (ix3 i h b)) (t (ix3 i h b)) = 1#1 := by simp [Ideal.cmp]
  rw [one] at q
  exact absurd q (by decide)

theorem differ (x0 : (⟨Cert.PeerRefIdeal.S1024x32768, .bf16⟩ : BufTy).Contents (Elt Ideal)) (x1 : (⟨Cert.PeerRefIdeal.S2048x1024, .bf16⟩ : BufTy).Contents (Elt Ideal)) (x2 : (⟨Cert.PeerRefIdeal.S8x2x128x128, .bf16⟩ : BufTy).Contents (Elt Ideal))
    (hfn : fn (F := Ideal) x0 x1 x2 = fun _ => 1#1) (i : Fin 32768) (h : Fin 8) (a b : Fin 256)
    (e : row (val_main_v185 (F := Ideal) x0 x1 x2) i h a = row (val_main_v185 (F := Ideal) x0 x1 x2) i h b) : a = b := by
  have q := congrFun ((parts (F := Ideal) x0 x1 x2).symm.trans hfn) (ix4 i h a b)
  revert e q
  generalize val_main_v185 (F := Ideal) x0 x1 x2 = t
  intro e q
  exact apart t i h a b q e

end Cert.PeerRow.Ref

end
-- ==== Proof.Peer.Claim.lean ====
/- The scores' claims: the reference's frame, and that kernel and reference agree. -/
module

public import proofs.«01_k».proof.Defs
public import proofs.«01_k».proof.Proof.Peer.Values
public import proofs.«01_k».proof.Proof.Peer.Sums
public import proofs.«01_k».proof.Proof.Gen.PeerRefIdeal.Run
public import Idealize.ShloMosaic.Lib.Claim
public import Idealize.ShloMosaic.Lib.Quiescent

@[expose] public section

set_option maxRecDepth 16384

noncomputable section

namespace Cert.PeerRow

open Idealize.ShloMosaic Idealize.SL.Sem

/-- The precondition says the table holds 256 different numbers, so the sums of two different pairs differ. -/
theorem differ (m : (ℓ : Loc Cert.PeerIdeal.nD Cert.PeerIdeal.τ Cert.PeerIdeal.sig) → Buf (Elt Ideal) ℓ)
    (hpre : Cert.Pre_PeerIdeal_sums_differ m) (c : Dev Cert.PeerIdeal.nD) : Differ (A0 m c) (A1 m c) (A2 m c) := by
  intro i h p q e
  have key := Ref.differ (A0 m c) (A1 m c) (A2 m c) (hpre c) i h (Ref.place p) (Ref.place q) (by
    rw [Ref.sums_at]
    show sums _ _ (Ref.pair (Ref.place p)) = sums _ _ (Ref.pair (Ref.place q))
    rw [Ref.pair_place, Ref.pair_place]
    exact e)
  have := congrArg Ref.pair key
  rwa [Ref.pair_place, Ref.pair_place] at this

theorem quiet : Cert.quiescent_PeerRefIdeal := by
  intro m g _
  exact (θ_run _ _ _).mono (fun r h => ⟨fun c => (h c).2.2.2.2, sem_eq_zero_of_no_sems rfl _⟩) (Cert.PeerRefIdeal.Value.run m g)

theorem quiet_pre : Cert.quiescent_PeerRefIdeal_pre_sums_differ := fun m g _ => quiet m g trivial

theorem algebraic : Cert.algebraic_PeerIdeal_PeerRefIdeal_pre_sums_differ := by
  pair_intro
  · run_from run m g (differ m hpre)
  · refine θ_run_mono (Cert.PeerRefIdeal.Value.run m' g') ?_
    intro r hr c
    obtain ⟨h1, h2, h3, h4, k⟩ := hr c
    obtain ⟨e0, e1, e2⟩ := hagree c
    refine ⟨(h1.trans (Cert.PeerRefIdeal.Read.val_main_v340_eq _)).trans ((Ref.value1 _ _ _).trans ?_),
      (h2.trans (Cert.PeerRefIdeal.Read.val_main_v341_eq _)).trans ((Ref.value2 _ _ _).trans ?_),
      (h3.trans (Cert.PeerRefIdeal.Read.val_main_v342_eq _)).trans ((Ref.value3 _ _ _).trans ?_),
      (h4.trans (Cert.PeerRefIdeal.Read.val_main_v343_eq _)).trans ((Ref.value4 _ _ _).trans ?_), k⟩
    · exact congr (congr (congrArg arr3 e0) e1) e2
    · exact congr (congr (congrArg arr4 e0) e1) e2
    · exact congr (congr (congrArg arr5 e0) e1) e2
    · exact congr (congr (congrArg arr6 e0) e1) e2

end Cert.PeerRow

end
-- ==== Proof.Four.Row.lean ====
/- The Fourier mixer behind its channel half, entry by entry: the transform over the positions and each group's map. -/
module

public import Idealize.ShloMosaic.Lib.Pointwise
public import proofs.«01_k».proof.Proof.Gen.FourIdeal.Skeleton
public import Idealize.ShloMosaic.Lib.Routing.OpsOne

@[expose] public section

set_option maxRecDepth 16384

noncomputable section

namespace Cert.FourRow

open Idealize.ShloMosaic Idealize.ShloMosaic.TcCoe Idealize.SL.Sem
open Cert.FourIdeal Cert.FourIdeal.Gen

variable (C S : FVec Ideal S4096x4096 .bf16) (x : FVec Ideal S8x4096x512 .bf16) (w : FVec Ideal S4x64x64 .f32)

/-- The real part of the transform over the positions, scaled. -/
def freq (b : Fin 8) (s : Fin 4096) (c : Fin 256) : EReal :=
  ((∑ t : Fin 4096, C (ix2 s t) * x (ix3 b t ⟨c, by omega⟩)) - ∑ t : Fin 4096, S (ix2 s t) * x (ix3 b t ⟨256 + c, by omega⟩))
    * Ideal.ofBits .f32 0x3B000000#32

/-- The mixer's entry: the group of channel `e` through the group's own map. -/
def entry (b : Fin 8) (s : Fin 4096) (e : Fin 256) : EReal :=
  ∑ c : Fin 64, freq C S x b s ⟨64 * ((e : ℕ) / 64) + c, by omega⟩ * w (ix3 ⟨(e : ℕ) / 64, by omega⟩ c ⟨(e : ℕ) % 64, by omega⟩)

def out : FVec Ideal S8x4096x256 .bf16 := fun i => entry C S x w (i 0) (i 1) (i 2)

/-- The four maps as one table: a group's block on the diagonal, zero elsewhere. -/
def spread (r c : Fin 256) : EReal :=
  if (r : ℕ) / 64 = (c : ℕ) / 64 then w (ix3 ⟨(r : ℕ) / 64, by omega⟩ ⟨(r : ℕ) % 64, by omega⟩ ⟨(c : ℕ) % 64, by omega⟩) else 0

theorem sum_groups (f : Fin 256 → EReal) : ∑ j, f j = ∑ g : Fin 4, ∑ c : Fin 64, f ⟨64 * (g : ℕ) + c, by omega⟩ := by
  rw [← Fintype.sum_prod_type' (fun (g : Fin 4) (c : Fin 64) => f ⟨64 * (g : ℕ) + c, by omega⟩)]
  refine ((finProdFinEquiv (m := 4) (n := 64)).sum_comp f).symm.trans (Finset.sum_congr rfl fun p _ => congrArg f (Fin.ext ?_))
  show (p.2 : ℕ) + 64 * p.1 = 64 * p.1 + p.2
  omega

/-- A row through the whole table is its group's part through the group's map. -/
theorem through (f : Fin 256 → EReal) (e : Fin 256) :
    ∑ j, f j * spread w j e
      = ∑ c : Fin 64, f ⟨64 * ((e : ℕ) / 64) + c, by omega⟩ * w (ix3 ⟨(e : ℕ) / 64, by omega⟩ c ⟨(e : ℕ) % 64, by omega⟩) := by
  rw [sum_groups]
  refine (Finset.sum_eq_single (⟨(e : ℕ) / 64, by omega⟩ : Fin 4) (fun g _ hg => Finset.sum_eq_zero fun c _ => ?_) (fun h => (h (Finset.mem_univ _)).elim)).trans
    (Finset.sum_congr rfl fun c _ => ?_)
  · have hne : (64 * (g : ℕ) + c) / 64 ≠ (e : ℕ) / 64 := fun h => hg (Fin.ext (show (g : ℕ) = (e : ℕ) / 64 by omega))
    unfold spread
    rw [if_neg hne, mul_zero]
  · have hc := c.isLt
    unfold spread
    rw [if_pos (show (64 * ((e : ℕ) / 64) + c) / 64 = (e : ℕ) / 64 by omega)]
    congr 2
    have h0 : (64 * ((e : ℕ) / 64) + c) / 64 = (e : ℕ) / 64 := by omega
    have h1 : (64 * ((e : ℕ) / 64) + c) % 64 = c := by omega
    simp only [h0, h1]

/-- The value a grid point stores. -/
theorem pay1_at (v0 : Vec Ideal S512x4096 .bf16) (v1 : Vec Ideal S1x4096x256 .bf16) (v4 : Vec Ideal S512x4096 .bf16) (v5 : Vec Ideal S1x4096x256 .bf16)
    (v12 : Vec Ideal S256x256 .bf16) (r : Fin 512) (e : Fin 256) :
    k0_pay1 (F := Ideal) v0 v1 v4 v5 v12 (ix3 0 r e)
      = ∑ j : Fin 256, ((∑ t : Fin 4096, v0 (ix2 r t) * v1 (ix3 0 t j)) - ∑ t : Fin 4096, v4 (ix2 r t) * v5 (ix3 0 t j))
          * Ideal.ofBits .f32 0x3B000000#32 * v12 (ix2 j e) := by
  pointwise [k0_pay1]

/-- One group's block written into a table. -/
theorem block_at (y : S256x256.Idx → EReal) (idx : IVec S2 32) (u : S64x64.Idx → EReal) (p : ℕ) (h0 : (idx (ix1 0)).toInt = p) (h1 : (idx (ix1 1)).toInt = p)
    (r c : Fin 256) :
    Host.scatter scatter_S256x256_S2_S64x64_01_n_01_0 (fun _ b => b) y idx u (ix2 r c)
      = if h : (p ≤ r ∧ (r : ℕ) < p + 64) ∧ p ≤ c ∧ (c : ℕ) < p + 64 then u (ix2 ⟨(r : ℕ) - p, by omega⟩ ⟨(c : ℕ) - p, by omega⟩) else y (ix2 r c) := by
  have lands : ∀ a b : Fin 64, scatter_S256x256_S2_S64x64_01_n_01_0.resultIdx? (ix2 a b) idx = some (ix2 r c) ↔ (p : ℤ) + (a : ℕ) = (r : ℕ) ∧ (p : ℤ) + (b : ℕ) = (c : ℕ) := by
    intro a b
    have w0 : scatter_S256x256_S2_S64x64_01_n_01_0.window (ix2 a b) 0 = a := rfl
    have w1 : scatter_S256x256_S2_S64x64_01_n_01_0.window (ix2 a b) 1 = b := rfl
    have s0 : scatter_S256x256_S2_S64x64_01_n_01_0.start (ix2 a b) idx 0 = p := (Routing.start_pair scatter_S256x256_S2_S64x64_01_n_01_0 rfl rfl idx (ix2 a b) 0).trans h0
    have s1 : scatter_S256x256_S2_S64x64_01_n_01_0.start (ix2 a b) idx 1 = p := (Routing.start_pair scatter_S256x256_S2_S64x64_01_n_01_0 rfl rfl idx (ix2 a b) 1).trans h1
    refine (Routing.resultIdx?_ix2 (R := 256) (C := 256) scatter_S256x256_S2_S64x64_01_n_01_0 (ix2 a b) idx r c).trans ?_
    rw [s0, s1, w0, w1]
  by_cases h : (p ≤ r ∧ (r : ℕ) < p + 64) ∧ p ≤ c ∧ (c : ℕ) < p + 64
  · rw [dif_pos h]
    refine Routing.scatter_set_hit _ y idx u _ _ (fun k hk => ?_) (ix2 ⟨(r : ℕ) - p, by omega⟩ ⟨(c : ℕ) - p, by omega⟩) ((lands _ _).2 ⟨?_, ?_⟩)
    · obtain ⟨a, b, rfl⟩ : ∃ a b : Fin 64, k = ix2 a b := ⟨k 0, k 1, eq_ix2 k⟩
      obtain ⟨q0, q1⟩ := (lands a b).1 hk
      exact congrArg u (congrArg₂ ix2 (Fin.ext (show (a : ℕ) = (r : ℕ) - p by omega)) (Fin.ext (show (b : ℕ) = (c : ℕ) - p by omega)))
    · simp only; omega
    · simp only; omega
  · rw [dif_neg h]
    refine Routing.scatter_set_miss _ y idx u _ fun k hk => h ?_
    obtain ⟨a, b, rfl⟩ : ∃ a b : Fin 64, k = ix2 a b := ⟨k 0, k 1, eq_ix2 k⟩
    obtain ⟨q0, q1⟩ := (lands a b).1 hk
    have ha := a.isLt
    have hb := b.isLt
    omega

end Cert.FourRow

end
-- ==== Proof.Four.Kernel.lean ====
/- The Fourier mixer's output array: block by block, every entry is the mixer's. -/
module

public import proofs.«01_k».proof.Proof.Four.Row
public import proofs.«01_k».proof.Proof.Gen.FourIdeal.Frame
public import Idealize.ShloMosaic.Lib.Pipeline.Value
public import Idealize.ShloMosaic.Lib.Pipeline.ValueKit

@[expose] public section

set_option maxRecDepth 16384

noncomputable section

namespace Cert.FourRow

open Idealize.ShloMosaic Idealize.ShloMosaic.TcCoe Idealize.SL.Sem
open Idealize.ShloMosaic.Pipeline (Dat)
open Cert.FourIdeal Cert.FourIdeal.Gen

variable (m : (ℓ : Loc nD τ sig) → Buf (Elt Ideal) ℓ)

theorem idx : ∀ t : Fin cfg0.N, win0_0.index t = ![t.val / 8, 0] ∧ win0_1.index t = ![t.val / 8, 0] ∧ win0_2.index t = ![t.val % 8, 0, 0]
    ∧ win0_3.index t = ![0, 0] ∧ win0_4.index t = ![t.val % 8, t.val / 8, 0] :=
  (by decide +kernel : ∀ t : Fin grid0.N, _)

abbrev A0 (c : Dev nD) : FVec Ideal S4096x4096 .bf16 := m ((c : Thread nD τ).loc main_arg0)
abbrev A1 (c : Dev nD) : FVec Ideal S4096x4096 .bf16 := m ((c : Thread nD τ).loc main_arg1)
abbrev A2 (c : Dev nD) : FVec Ideal S8x4096x512 .bf16 := m ((c : Thread nD τ).loc main_arg2)
abbrev A3 (c : Dev nD) : FVec Ideal S4x64x64 .f32 := m ((c : Thread nD τ).loc main_arg3)

/-- Both words of a block's place. -/
def place (k : BitVec 32) : IVec S2 32 :=
  concatenate S2 0 [⟨S1, broadcastInDim S1 ![] bcast_S_S1 (constantI S_ 32 k)⟩, ⟨S1, broadcastInDim S1 ![] bcast_S_S1 (constantI S_ 32 k)⟩] concatenates_S1_S1_S2_d0

theorem place0 (k : BitVec 32) : place k (ix1 0) = k := by pointwise [place]
theorem place1 (k : BitVec 32) : place k (ix1 1) = k := by pointwise [place]

/-- A table with one group's block written. -/
def put (y : FVec Ideal S256x256 .f32) (k : BitVec 32) (u : FVec Ideal S64x64 .f32) : FVec Ideal S256x256 .f32 :=
  Host.scatter scatter_S256x256_S2_S64x64_01_n_01_0 (fun _ b => b) y (place k) u

theorem put_at (y : FVec Ideal S256x256 .f32) (k : BitVec 32) (u : FVec Ideal S64x64 .f32) (p : ℕ) (hp : k.toInt = p) (r c : Fin 256) :
    put y k u (ix2 r c)
      = if h : (p ≤ r ∧ (r : ℕ) < p + 64) ∧ p ≤ c ∧ (c : ℕ) < p + 64 then u (ix2 ⟨(r : ℕ) - p, by omega⟩ ⟨(c : ℕ) - p, by omega⟩) else y (ix2 r c) :=
  block_at y (place k) u p ((congrArg BitVec.toInt (place0 k)).trans hp) ((congrArg BitVec.toInt (place1 k)).trans hp) r c

def part0 (w : FVec Ideal S4x64x64 .f32) : FVec Ideal S64x64 .f32 := shapeCast S64x64 (extractStridedSlice S1x64x64 ![0, 0, 0] w slices_S4x64x64_S1x64x64_0_0_0) shapeCasts_S1x64x64_S64x64
def part1 (w : FVec Ideal S4x64x64 .f32) : FVec Ideal S64x64 .f32 := shapeCast S64x64 (extractStridedSlice S1x64x64 ![1, 0, 0] w slices_S4x64x64_S1x64x64_1_0_0) shapeCasts_S1x64x64_S64x64
def part2 (w : FVec Ideal S4x64x64 .f32) : FVec Ideal S64x64 .f32 := shapeCast S64x64 (extractStridedSlice S1x64x64 ![2, 0, 0] w slices_S4x64x64_S1x64x64_2_0_0) shapeCasts_S1x64x64_S64x64
def part3 (w : FVec Ideal S4x64x64 .f32) : FVec Ideal S64x64 .f32 := shapeCast S64x64 (extractStridedSlice S1x64x64 ![3, 0, 0] w slices_S4x64x64_S1x64x64_3_0_0) shapeCasts_S1x64x64_S64x64

theorem part0_at (w : FVec Ideal S4x64x64 .f32) (a b : Fin 64) : part0 w (ix2 a b) = w (ix3 0 a b) := by pointwise [part0]
theorem part1_at (w : FVec Ideal S4x64x64 .f32) (a b : Fin 64) : part1 w (ix2 a b) = w (ix3 1 a b) := by pointwise [part1]
theorem part2_at (w : FVec Ideal S4x64x64 .f32) (a b : Fin 64) : part2 w (ix2 a b) = w (ix3 2 a b) := by pointwise [part2]
theorem part3_at (w : FVec Ideal S4x64x64 .f32) (a b : Fin 64) : part3 w (ix2 a b) = w (ix3 3 a b) := by pointwise [part3]

/-- The four blocks written one after the other. -/
def filled (w : FVec Ideal S4x64x64 .f32) : FVec Ideal S256x256 .f32 :=
  put (put (put (put (broadcastInDim S256x256 ![] bcast_S_S256x256 (constant S_ .f32 0x00000000#32)) 0#32 (part0 w)) 64#32 (part1 w)) 128#32 (part2 w)) 192#32 (part3 w)

/-- The table the host builds of the four maps. -/
def table (w : FVec Ideal S4x64x64 .f32) : FVec Ideal S256x256 .bf16 := truncf .bf16 (filled w) bitsLt_bf16_f32

theorem table_cast (w : FVec Ideal S4x64x64 .f32) (r c : Fin 256) : table w (ix2 r c) = filled w (ix2 r c) := by
  unfold table
  generalize filled w = y
  pointwise

theorem table_at (w : FVec Ideal S4x64x64 .f32) (r c : Fin 256) : table w (ix2 r c) = spread w r c := by
  have hr := r.isLt
  have hc := c.isLt
  rw [table_cast]
  unfold filled
  rw [put_at _ 192#32 _ 192 (by decide) r c, put_at _ 128#32 _ 128 (by decide) r c, put_at _ 64#32 _ 64 (by decide) r c, put_at _ 0#32 _ 0 (by decide) r c]
  unfold spread
  split_ifs with a3 g a2 g a1 g a0 g g
  all_goals first
    | (exfalso; omega)
    | (rw [part3_at]; congr 2 <;> first | exact Fin.ext (by simp only; omega) | omega)
    | (rw [part2_at]; congr 2 <;> first | exact Fin.ext (by simp only; omega) | omega)
    | (rw [part1_at]; congr 2 <;> first | exact Fin.ext (by simp only; omega) | omega)
    | (rw [part0_at]; congr 2 <;> first | exact Fin.ext (by simp only; omega) | omega)
    | pointwise

theorem V_table (c : Dev nD) : V m c main_v25 = table (A3 m c) := by
  unfold V hostOps0
  after_results_simp <;> rfl

section Blocks

variable (c : Dev nD) (t : Fin cfg0.N) (b : Fin 8) (g : Fin 8) (hb : t.val % 8 = b) (hg : t.val / 8 = g)
include hb hg

theorem b0 (r : Fin 512) (s : Fin 4096) (hs : (s : ℕ) = 512 * g + r) (j : Fin 4096) :
    (show FVec Ideal S512x4096 .bf16 from iblk m c 0 t) (ix2 r j) = A0 m c (ix2 s j) := by blk_point [iblk, V, idx t]
theorem b1 (r : Fin 512) (s : Fin 4096) (hs : (s : ℕ) = 512 * g + r) (j : Fin 4096) :
    (show FVec Ideal S512x4096 .bf16 from iblk m c 1 t) (ix2 r j) = A1 m c (ix2 s j) := by blk_point [iblk, V, idx t]
theorem b2 (t' : Fin 4096) (j : Fin 256) : (View.ld (iblk m c 2 t) r0_1 : Vec Ideal S1x4096x256 .bf16) (ix3 0 t' j) = A2 m c (ix3 b t' ⟨j, by omega⟩) := by
  blk_point [iblk, V, idx t]
theorem b2' (t' : Fin 4096) (j : Fin 256) : (View.ld (iblk m c 2 t) r0_2 : Vec Ideal S1x4096x256 .bf16) (ix3 0 t' j) = A2 m c (ix3 b t' ⟨256 + j, by omega⟩) := by
  blk_point [iblk, V, idx t]
theorem b3 (j e : Fin 256) : (show FVec Ideal S256x256 .bf16 from iblk m c 3 t) (ix2 j e) = spread (A3 m c) j e := by
  rw [← table_at, ← V_table]
  blk_point [iblk, idx t]

theorem out4 (r : Fin 512) (s : Fin 4096) (hs : (s : ℕ) = 512 * g + r) (e : Fin 256) :
    out0_4 (iblk m c 0 t) (iblk m c 1 t) (iblk m c 2 t) (iblk m c 3 t) (ix3 0 r e) = entry (A0 m c) (A1 m c) (A2 m c) (A3 m c) b s e := by
  unfold out0_4
  frame_out
  refine (pay1_at _ _ _ _ _ r e).trans ((Finset.sum_congr rfl fun j _ => ?_).trans (through (A3 m c) (freq (A0 m c) (A1 m c) (A2 m c) b s) e))
  refine congrArg₂ (· * ·) (congrArg (· * _) (congrArg₂ (· - ·) (Finset.sum_congr rfl fun x _ => ?_) (Finset.sum_congr rfl fun x _ => ?_))) (b3 m c t b g hb hg j e)
  · exact congrArg₂ (· * ·) (b0 m c t b g hb hg r s hs x) (b2 m c t b g hb hg x j)
  · exact congrArg₂ (· * ·) (b1 m c t b g hb hg r s hs x) (b2' m c t b g hb hg x j)

end Blocks

theorem final (c : Dev nD) : (dats m 0 c).arrAt 4 cfg0.N = out (A0 m c) (A1 m c) (A2 m c) (A3 m c) := by
  refine (dats m 0 c).arrAt_eq_of_covers 4 _ (by decide +kernel) fun t _ y => ?_
  have ht : t.val < 64 := lt_of_lt_of_eq t.isLt N_0
  blk_simp
  rw [after0_4]
  have y0 : (y 0 : ℕ) < 1 := (y 0).isLt
  have y1 : (y 1 : ℕ) < 512 := (y 1).isLt
  have y2 : (y 2 : ℕ) < 256 := (y 2).isLt
  have hy : y = ix3 0 (y 1) (y 2) := (eq_ix3 y).trans (congrArg (fun z => ix3 z (y 1) (y 2)) (Fin.ext (show (y 0 : ℕ) = 0 by omega)))
  refine (congrArg _ hy).trans ((out4 m c t ⟨t.val % 8, by omega⟩ ⟨t.val / 8, by omega⟩ rfl rfl (y 1) ⟨512 * (t.val / 8) + (y 1 : ℕ), by omega⟩ rfl (y 2)).trans ?_)
  unfold out
  congr 1 <;> refine Fin.ext ?_ <;> blk_simp [idx t] <;> try (simp only; omega)

/-- What the run leaves: the mixer's array, and the arguments as they were. -/
theorem run (g : Dev nD → PrngReg) : θ_run defs (onTc (τ := τ) (main (F := Ideal))) ⟨m, fun _ => 0, g⟩ fun r => ∀ c : Dev nD,
    r.2.mem ((c : Thread nD τ).loc main_v26) = out (A0 m c) (A1 m c) (A2 m c) (A3 m c)
    ∧ r.2.mem ((c : Thread nD τ).loc main_arg0) = m ((c : Thread nD τ).loc main_arg0)
    ∧ r.2.mem ((c : Thread nD τ).loc main_arg1) = m ((c : Thread nD τ).loc main_arg1)
    ∧ r.2.mem ((c : Thread nD τ).loc main_arg2) = m ((c : Thread nD τ).loc main_arg2)
    ∧ r.2.mem ((c : Thread nD τ).loc main_arg3) = m ((c : Thread nD τ).loc main_arg3) := by
  exact (θ_run defs _ _).mono (fun r h c => ⟨((h.2 c).1 4).trans (final m c), h.1 c⟩)
    (θ_run_and (unchanged m g) (run_main m g))

end Cert.FourRow

end
-- ==== Proof.Four.Ref.lean ====
/- The reference's value, entry by entry: the mixer's. -/
module

public import proofs.«01_k».proof.Proof.Four.Row
public import proofs.«01_k».proof.Proof.Gen.FourRefIdeal.Read
public import Idealize.ShloMosaic.Lib.Pointwise
public import Idealize.ShloMosaic.Lib.Tactic.CleanTypes
public import Idealize.ShloMosaic.Lib.Pipeline.ValueKit

@[expose] public section

set_option maxRecDepth 16384

noncomputable section

namespace Cert.FourRow.Ref

open Idealize.ShloMosaic Idealize.ShloMosaic.TcCoe Idealize.SL.Sem
open Cert.FourRefIdeal Cert.FourRefIdeal.Gen Cert.FourRefIdeal.Read

variable (x0 x1 : FVec Ideal S4096x4096 .bf16) (x2 : FVec Ideal S8x4096x512 .bf16) (x3 : FVec Ideal S4x64x64 .f32)

/-- Dividing by 512 is scaling by its inverse. -/
theorem scaled (a : EReal) : Ideal.div a (Ideal.ofBits .f32 0x44000000#32) = a * Ideal.ofBits .f32 0x3B000000#32 := by
  have h : Ideal.ofBits .f32 0x44000000#32 = ((512 : ℝ) : EReal) := by
    simp [Ideal.ofBits, Ideal.ieee]; rw [← EReal.coe_mul]; congr 1; norm_num
  have h' : Ideal.ofBits .f32 0x3B000000#32 = ((512⁻¹ : ℝ) : EReal) := by
    simp [Ideal.ofBits, Ideal.ieee]; rw [← EReal.coe_mul]; congr 1; norm_num
  rw [h, h']
  unfold Ideal.div
  rw [if_neg (by norm_num), ← EReal.coe_inv]

theorem v4_at (b : Fin 8) (t : Fin 4096) (g : Fin 4) (c : Fin 64) :
    val_main_v4 (F := Ideal) x2 (ix4 b t g c) = x2 (ix3 b t ⟨64 * (g : ℕ) + c, by omega⟩) := by
  unfold val_main_v4 val_main_v3 val_main_v1 val_main_v0
  pointwise
  blk_ext

theorem v9_at (b : Fin 8) (t : Fin 4096) (g : Fin 4) (c : Fin 64) :
    val_main_v9 (F := Ideal) x2 (ix4 b t g c) = x2 (ix3 b t ⟨256 + (64 * (g : ℕ) + c), by omega⟩) := by
  unfold val_main_v9 val_main_v8 val_main_v1 val_main_v0
  pointwise
  blk_ext

theorem v14_at (b : Fin 8) (s : Fin 4096) (g : Fin 4) (c : Fin 64) :
    val_main_v14 (F := Ideal) x0 x1 x2 (ix4 b s g c) = freq x0 x1 x2 b s ⟨64 * (g : ℕ) + c, by omega⟩ := by
  unfold val_main_v14 val_main_v13 val_main_v12 val_main_v11 val_main_v10 val_main_v7 val_main_v6 val_main_v5 val_main_v2
  have h4 := v4_at x2
  have h9 := v9_at x2
  generalize val_main_v4 (F := Ideal) x2 = y at h4
  generalize val_main_v9 (F := Ideal) x2 = z at h9
  pointwise [val_main_cst]
  refine (scaled _).trans ?_
  unfold freq
  refine congrArg (· * _) (congrArg₂ (· - ·) (Finset.sum_congr rfl fun t _ => ?_) (Finset.sum_congr rfl fun t _ => ?_))
  · rw [h4]; exact mul_comm _ _
  · rw [h9]; exact mul_comm _ _

theorem value : val_main_v18 (F := Ideal) x0 x1 x2 x3 = out x0 x1 x2 x3 := by
  funext i
  rw [eq_ix3 i]
  generalize i 0 = b
  generalize i 1 = s
  generalize i 2 = e
  have he : (e : ℕ) < 256 := e.isLt
  have h := v14_at x0 x1 x2
  unfold val_main_v18 val_main_v17 val_main_v16 val_main_v15
  generalize val_main_v14 (F := Ideal) x0 x1 x2 = y at h
  pointwise
  show _ = entry x0 x1 x2 x3 b s e
  unfold entry
  refine Finset.sum_congr rfl fun c _ => ?_
  exact (mul_comm _ _).trans (congrArg (· * _) (h b s ⟨(e : ℕ) / 64, by omega⟩ c))

end Cert.FourRow.Ref

end
-- ==== Proof.Four.Claim.lean ====
/- The Fourier mixer's claims: the reference's frame, and that kernel and reference agree. -/
module

public import proofs.«01_k».proof.Defs
public import proofs.«01_k».proof.Proof.Four.Kernel
public import proofs.«01_k».proof.Proof.Four.Ref
public import proofs.«01_k».proof.Proof.Gen.FourRefIdeal.Run
public import Idealize.ShloMosaic.Lib.Claim
public import Idealize.ShloMosaic.Lib.Quiescent

@[expose] public section

set_option maxRecDepth 16384

noncomputable section

namespace Cert.FourRow

open Idealize.ShloMosaic Idealize.SL.Sem

theorem quiet : Cert.quiescent_FourRefIdeal := by
  intro m g _
  exact (θ_run _ _ _).mono (fun r h => ⟨fun c => (h c).2, sem_eq_zero_of_no_sems rfl _⟩) (Cert.FourRefIdeal.Value.run m g)

theorem algebraic : Cert.algebraic_FourIdeal_FourRefIdeal := by
  pair_intro
  · run_from run m g
  · run_from Cert.FourRefIdeal.Value.run m' g'
    refine (Cert.FourRefIdeal.Read.val_main_v18_eq (F := Ideal) _ _ _ _).trans ?_
    exact Ref.value _ _ _ _

end Cert.FourRow

end
-- ==== Proof.lean ====
module

public import proofs.«01_k».proof.Defs
public import proofs.«01_k».proof.Proof.Gen.Attn
public import proofs.«01_k».proof.Proof.Gen.Attn.Skeleton
public import proofs.«01_k».proof.Proof.Gen.Attn.Launch
public import proofs.«01_k».proof.Proof.Gen.Attn.Points
public import proofs.«01_k».proof.Proof.Gen.Attn.Frame
public import proofs.«01_k».proof.Proof.Gen.AttnIdeal
public import proofs.«01_k».proof.Proof.Gen.AttnIdeal.Skeleton
public import proofs.«01_k».proof.Proof.Gen.AttnIdeal.Launch
public import proofs.«01_k».proof.Proof.Gen.AttnIdeal.Points
public import proofs.«01_k».proof.Proof.Gen.AttnIdeal.Frame
public import proofs.«01_k».proof.Proof.Gen.AttnRefIdeal
public import proofs.«01_k».proof.Proof.Gen.Pre_scores_finite
public import proofs.«01_k».proof.Proof.Gen.AttnIdeal.Value
public import proofs.«01_k».proof.Proof.Gen.AttnRefIdeal.Run
public import proofs.«01_k».proof.Proof.Gen.AttnRefIdeal.Read
public import proofs.«01_k».proof.Proof.Attn.Claim
public import proofs.«01_k».proof.Proof.In.Claim
public import proofs.«01_k».proof.Proof.Out.Claim
public import proofs.«01_k».proof.Proof.Gen.In
public import proofs.«01_k».proof.Proof.Gen.In.Skeleton
public import proofs.«01_k».proof.Proof.Gen.In.Launch
public import proofs.«01_k».proof.Proof.Gen.In.Points
public import proofs.«01_k».proof.Proof.Gen.In.Frame
public import proofs.«01_k».proof.Proof.Gen.InIdeal
public import proofs.«01_k».proof.Proof.Gen.InIdeal.Skeleton
public import proofs.«01_k».proof.Proof.Gen.InIdeal.Launch
public import proofs.«01_k».proof.Proof.Gen.InIdeal.Points
public import proofs.«01_k».proof.Proof.Gen.InIdeal.Frame
public import proofs.«01_k».proof.Proof.Gen.InRefIdeal
public import proofs.«01_k».proof.Proof.Gen.InRefIdeal.Run
public import proofs.«01_k».proof.Proof.Gen.InRefIdeal.Read
public import proofs.«01_k».proof.Proof.Gen.Out
public import proofs.«01_k».proof.Proof.Gen.Out.Skeleton
public import proofs.«01_k».proof.Proof.Gen.Out.Launch
public import proofs.«01_k».proof.Proof.Gen.Out.Points
public import proofs.«01_k».proof.Proof.Gen.Out.Frame
public import proofs.«01_k».proof.Proof.Gen.OutIdeal
public import proofs.«01_k».proof.Proof.Gen.OutIdeal.Skeleton
public import proofs.«01_k».proof.Proof.Gen.OutIdeal.Launch
public import proofs.«01_k».proof.Proof.Gen.OutIdeal.Points
public import proofs.«01_k».proof.Proof.Gen.OutIdeal.Frame
public import proofs.«01_k».proof.Proof.Gen.OutRefIdeal
public import proofs.«01_k».proof.Proof.Gen.OutRefIdeal.Run
public import proofs.«01_k».proof.Proof.Gen.OutRefIdeal.Read
public import proofs.«01_k».proof.Proof.Gen.Peer
public import proofs.«01_k».proof.Proof.Gen.Peer.Skeleton
public import proofs.«01_k».proof.Proof.Gen.Peer.Launch
public import proofs.«01_k».proof.Proof.Gen.Peer.Points
public import proofs.«01_k».proof.Proof.Gen.Peer.Frame
public import proofs.«01_k».proof.Proof.Gen.PeerIdeal
public import proofs.«01_k».proof.Proof.Gen.PeerIdeal.Skeleton
public import proofs.«01_k».proof.Proof.Gen.PeerIdeal.Launch
public import proofs.«01_k».proof.Proof.Gen.PeerIdeal.Points
public import proofs.«01_k».proof.Proof.Gen.PeerIdeal.Frame
public import proofs.«01_k».proof.Proof.Gen.PeerRefIdeal
public import proofs.«01_k».proof.Proof.Gen.PeerRefIdeal.Run
public import proofs.«01_k».proof.Proof.Gen.PeerRefIdeal.Read
public import proofs.«01_k».proof.Proof.Gen.Pre_sums_differ
public import proofs.«01_k».proof.Proof.Peer.Claim
public import proofs.«01_k».proof.Proof.Gen.Four
public import proofs.«01_k».proof.Proof.Gen.Four.Skeleton
public import proofs.«01_k».proof.Proof.Gen.Four.Launch
public import proofs.«01_k».proof.Proof.Gen.Four.Points
public import proofs.«01_k».proof.Proof.Gen.Four.Frame
public import proofs.«01_k».proof.Proof.Gen.FourIdeal
public import proofs.«01_k».proof.Proof.Gen.FourIdeal.Skeleton
public import proofs.«01_k».proof.Proof.Gen.FourIdeal.Launch
public import proofs.«01_k».proof.Proof.Gen.FourIdeal.Points
public import proofs.«01_k».proof.Proof.Gen.FourIdeal.Frame
public import proofs.«01_k».proof.Proof.Gen.FourRefIdeal
public import proofs.«01_k».proof.Proof.Gen.FourRefIdeal.Run
public import proofs.«01_k».proof.Proof.Gen.FourRefIdeal.Read
public import proofs.«01_k».proof.Proof.Four.Claim
public import Idealize.ShloMosaic.Adequacy
public import Idealize.ShloMosaic.Init

@[expose] public section

noncomputable section

namespace Cert.Proof

open Idealize.ShloMosaic Idealize.SL.Sem Cert.Attn

theorem claim : Cert.Claim := ⟨Cert.Attn.Gen.facts, Cert.AttnIdeal.Gen.facts, Cert.AttnRefIdeal.Gen.facts,
  Cert.In.Gen.facts, Cert.InIdeal.Gen.facts, Cert.InRefIdeal.Gen.facts, Cert.Out.Gen.facts, Cert.OutIdeal.Gen.facts, Cert.OutRefIdeal.Gen.facts,
  Cert.Peer.Gen.facts, Cert.PeerIdeal.Gen.facts, Cert.PeerRefIdeal.Gen.facts,
  Cert.Four.Gen.facts, Cert.FourIdeal.Gen.facts, Cert.FourRefIdeal.Gen.facts,
  Cert.Pre_scores_finite.Gen.facts, Cert.Pre_sums_differ.Gen.facts,
  fun m ρ _ => Cert.Attn.Gen.frame m ρ,
  fun m ρ _ => Cert.AttnIdeal.Gen.frame m ρ,
  fun m ρ _ => Cert.AttnIdeal.Gen.frame m ρ,
  Cert.AttnRow.quiet, Cert.AttnRow.quiet_pre,
  fun m ρ _ => Cert.In.Gen.frame m ρ,
  fun m ρ _ => Cert.InIdeal.Gen.frame m ρ,
  Cert.InRow.quiet,
  fun m ρ _ => Cert.Out.Gen.frame m ρ,
  fun m ρ _ => Cert.OutIdeal.Gen.frame m ρ,
  Cert.OutRow.quiet,
  fun m ρ _ => Cert.Peer.Gen.frame m ρ,
  fun m ρ _ => Cert.PeerIdeal.Gen.frame m ρ,
  fun m ρ _ => Cert.PeerIdeal.Gen.frame m ρ,
  Cert.PeerRow.quiet, Cert.PeerRow.quiet_pre,
  fun m ρ _ => Cert.Four.Gen.frame m ρ,
  fun m ρ _ => Cert.FourIdeal.Gen.frame m ρ,
  Cert.FourRow.quiet,
  IdealRules.named_const.statement Cert.AttnIdeal.κ "mask" .f32 0xF149F2CA#32 ⊥ rfl,
  Cert.AttnRow.algebraic,
  trivial,
  Cert.InRow.algebraic,
  trivial,
  Cert.OutRow.algebraic,
  trivial,
  Cert.PeerRow.algebraic,
  trivial,
  Cert.FourRow.algebraic⟩

end Cert.Proof

end
